-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite [hPre_finite : Cert.Pre_finite.Facts] (m : (ℓ : Loc Cert.TailIdeal.nD Cert.TailIdeal.τ Cert.TailIdeal.sig) → Buf (Elt Ideal) ℓ) : Prop :=
  ∀ c : Dev Cert.TailIdeal.nD,
    (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.1 = (fun _ => 1#1)
    ∧ (Cert.Pre_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite [hPre_finite : Cert.Pre_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.2.2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.2.2.2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.2.2.2.2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.2.2.2.2.2.1 = (fun _ => 1#1)
    ∧ (Cert.Pre_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8))).2.2.2.2.2.2.2.2 = (fun _ => 1#1)

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmIdeal_stable [hPre_stable : Cert.Pre_stable.Facts] (m : (ℓ : Loc Cert.SsmIdeal.nD Cert.SsmIdeal.τ Cert.SsmIdeal.sig) → Buf (Elt Ideal) ℓ) : Prop :=
  ∀ c : Dev Cert.SsmIdeal.nD,
    (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).1 = (fun _ => 1#1)
    ∧ (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).2.1 = (fun _ => 1#1)
    ∧ (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).2.2.1 = (fun _ => 1#1)
    ∧ (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).2.2.2.1 = (fun _ => 1#1)
    ∧ (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).2.2.2.2.1 = (fun _ => 1#1)
    ∧ (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).2.2.2.2.2.1 = (fun _ => 1#1)
    ∧ (Cert.Pre_stable.fn (F := Ideal) (m ((c.tc : Thread Cert.SsmIdeal.nD Cert.SsmIdeal.τ).loc Cert.SsmIdeal.main_arg0)) (m ((c.tc : Thread Cert.SsmIdeal.nD Cert.SsmIdeal.τ).loc Cert.SsmIdeal.main_arg1)) (m ((c.tc : Thread Cert.SsmIdeal.nD Cert.SsmIdeal.τ).loc Cert.SsmIdeal.main_arg2)) (m ((c.tc : Thread Cert.SsmIdeal.nD Cert.SsmIdeal.τ).loc Cert.SsmIdeal.main_arg3)) (m ((c.tc : Thread Cert.SsmIdeal.nD Cert.SsmIdeal.τ).loc Cert.SsmIdeal.main_arg4)) (m ((c.tc : Thread Cert.SsmIdeal.nD Cert.SsmIdeal.τ).loc Cert.SsmIdeal.main_arg5)) (m ((c.tc : Thread Cert.SsmIdeal.nD Cert.SsmIdeal.τ).loc Cert.SsmIdeal.main_arg6)) (m ((c.tc : Thread Cert.SsmIdeal.nD Cert.SsmIdeal.τ).loc Cert.SsmIdeal.main_arg7)) (m ((c.tc : Thread Cert.SsmIdeal.nD Cert.SsmIdeal.τ).loc Cert.SsmIdeal.main_arg8)) (m ((c.tc : Thread Cert.SsmIdeal.nD Cert.SsmIdeal.τ).loc Cert.SsmIdeal.main_arg9)) (m ((c.tc : Thread Cert.SsmIdeal.nD Cert.SsmIdeal.τ).loc Cert.SsmIdeal.main_arg10))).2.2.2.2.2.2 = (fun _ => 1#1)

def Pre_SsmRefIdeal (m : (ℓ : Loc Cert.SsmRefIdeal.nD Cert.SsmRefIdeal.τ Cert.SsmRefIdeal.sig) → Buf (Elt Ideal) ℓ) : Prop :=
  True

def Pre_SsmRefIdeal_stable [hPre_stable : Cert.Pre_stable.Facts] (m : (ℓ : Loc Cert.SsmRefIdeal.nD Cert.SsmRefIdeal.τ Cert.SsmRefIdeal.sig) → Buf (Elt Ideal) ℓ) : Prop :=
  ∀ c : Dev Cert.SsmRefIdeal.nD,
    (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).1 = (fun _ => 1#1)
    ∧ (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).2.1 = (fun _ => 1#1)
    ∧ (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).2.2.1 = (fun _ => 1#1)
    ∧ (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).2.2.2.1 = (fun _ => 1#1)
    ∧ (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).2.2.2.2.1 = (fun _ => 1#1)
    ∧ (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).2.2.2.2.2.1 = (fun _ => 1#1)
    ∧ (Cert.Pre_stable.fn (F := Ideal) (m ((c.tc : Thread Cert.SsmRefIdeal.nD Cert.SsmRefIdeal.τ).loc Cert.SsmRefIdeal.main_arg0)) (m ((c.tc : Thread Cert.SsmRefIdeal.nD Cert.SsmRefIdeal.τ).loc Cert.SsmRefIdeal.main_arg1)) (m ((c.tc : Thread Cert.SsmRefIdeal.nD Cert.SsmRefIdeal.τ).loc Cert.SsmRefIdeal.main_arg2)) (m ((c.tc : Thread Cert.SsmRefIdeal.nD Cert.SsmRefIdeal.τ).loc Cert.SsmRefIdeal.main_arg3)) (m ((c.tc : Thread Cert.SsmRefIdeal.nD Cert.SsmRefIdeal.τ).loc Cert.SsmRefIdeal.main_arg4)) (m ((c.tc : Thread Cert.SsmRefIdeal.nD Cert.SsmRefIdeal.τ).loc Cert.SsmRefIdeal.main_arg5)) (m ((c.tc : Thread Cert.SsmRefIdeal.nD Cert.SsmRefIdeal.τ).loc Cert.SsmRefIdeal.main_arg6)) (m ((c.tc : Thread Cert.SsmRefIdeal.nD Cert.SsmRefIdeal.τ).loc Cert.SsmRefIdeal.main_arg7)) (m ((c.tc : Thread Cert.SsmRefIdeal.nD Cert.SsmRefIdeal.τ).loc Cert.SsmRefIdeal.main_arg8)) (m ((c.tc : Thread Cert.SsmRefIdeal.nD Cert.SsmRefIdeal.τ).loc Cert.SsmRefIdeal.main_arg9)) (m ((c.tc : Thread Cert.SsmRefIdeal.nD Cert.SsmRefIdeal.τ).loc Cert.SsmRefIdeal.main_arg10))).2.2.2.2.2.2 = (fun _ => 1#1)

def Pre_XGrad (m : (ℓ : Loc Cert.XGrad.nD Cert.XGrad.τ Cert.XGrad.sig) → Buf (Elt Bits) ℓ) : Prop :=
  True

def Pre_XGradIdeal (m : (ℓ : Loc Cert.XGradIdeal.nD Cert.XGradIdeal.τ Cert.XGradIdeal.sig) → Buf (Elt Ideal) ℓ) : Prop :=
  True

def Pre_XGradIdeal_bounded [hPre_bounded : Cert.Pre_bounded.Facts] (m : (ℓ : Loc Cert.XGradIdeal.nD Cert.XGradIdeal.τ Cert.XGradIdeal.sig) → Buf (Elt Ideal) ℓ) : Prop :=
  ∀ c : Dev Cert.XGradIdeal.nD,
    (Cert.Pre_bounded.fn (F := Ideal) (m ((c.tc : Thread Cert.XGradIdeal.nD Cert.XGradIdeal.τ).loc Cert.XGradIdeal.main_arg0)) (m ((c.tc : Thread Cert.XGradIdeal.nD Cert.XGradIdeal.τ).loc Cert.XGradIdeal.main_arg1)) (m ((c.tc : Thread Cert.XGradIdeal.nD Cert.XGradIdeal.τ).loc Cert.XGradIdeal.main_arg2)) (m ((c.tc : Thread Cert.XGradIdeal.nD Cert.XGradIdeal.τ).loc Cert.XGradIdeal.main_arg3)) (m ((c.tc : Thread Cert.XGradIdeal.nD Cert.XGradIdeal.τ).loc Cert.XGradIdeal.main_arg4))).1 = (fun _ => 1#1)
    ∧ (Cert.Pre_bounded.fn (F := Ideal) (m ((c.tc : Thread Cert.XGradIdeal.nD Cert.XGradIdeal.τ).loc Cert.XGradIdeal.main_arg0)) (m ((c.tc : Thread Cert.XGradIdeal.nD Cert.XGradIdeal.τ).loc Cert.XGradIdeal.main_arg1)) (m ((c.tc : Thread Cert.XGradIdeal.nD Cert.XGradIdeal.τ).loc Cert.XGradIdeal.main_arg2)) (m ((c.tc : Thread Cert.XGradIdeal.nD Cert.XGradIdeal.τ).loc Cert.XGradIdeal.main_arg3)) (m ((c.tc : Thread Cert.XGradIdeal.nD Cert.XGradIdeal.τ).loc Cert.XGradIdeal.main_arg4))).2.1 = (fun _ => 1#1)
    ∧ (Cert.Pre_bounded.fn (F := Ideal) (m ((c.tc : Thread Cert.XGradIdeal.nD Cert.XGradIdeal.τ).loc Cert.XGradIdeal.main_arg0)) (m ((c.tc : Thread Cert.XGradIdeal.nD Cert.XGradIdeal.τ).loc Cert.XGradIdeal.main_arg1)) (m ((c.tc : Thread Cert.XGradIdeal.nD Cert.XGradIdeal.τ).loc Cert.XGradIdeal.main_arg2)) (m ((c.tc : Thread Cert.XGradIdeal.nD Cert.XGradIdeal.τ).loc Cert.XGradIdeal.main_arg3)) (m ((c.tc : Thread Cert.XGradIdeal.nD Cert.XGradIdeal.τ).loc Cert.XGradIdeal.main_arg4))).2.2.1 = (fun _ => 1#1)
    ∧ (Cert.Pre_bounded.fn (F := Ideal) (m ((c.tc : Thread Cert.XGradIdeal.nD Cert.XGradIdeal.τ).loc Cert.XGradIdeal.main_arg0)) (m ((c.tc : Thread Cert.XGradIdeal.nD Cert.XGradIdeal.τ).loc Cert.XGradIdeal.main_arg1)) (m ((c.tc : Thread Cert.XGradIdeal.nD Cert.XGradIdeal.τ).loc Cert.XGradIdeal.main_arg2)) (m ((c.tc : Thread Cert.XGradIdeal.nD Cert.XGradIdeal.τ).loc Cert.XGradIdeal.main_arg3)) (m ((c.tc : Thread Cert.XGradIdeal.nD Cert.XGradIdeal.τ).loc Cert.XGradIdeal.main_arg4))).2.2.2 = (fun _ => 1#1)

def Pre_XGradRefIdeal (m : (ℓ : Loc Cert.XGradRefIdeal.nD Cert.XGradRefIdeal.τ Cert.XGradRefIdeal.sig) → Buf (Elt Ideal) ℓ) : Prop :=
  True

def Pre_XGradRefIdeal_bounded [hPre_bounded : Cert.Pre_bounded.Facts] (m : (ℓ : Loc Cert.XGradRefIdeal.nD Cert.XGradRefIdeal.τ Cert.XGradRefIdeal.sig) → Buf (Elt Ideal) ℓ) : Prop :=
  ∀ c : Dev Cert.XGradRefIdeal.nD,
    (Cert.Pre_bounded.fn (F := Ideal) (m ((c.tc : Thread Cert.XGradRefIdeal.nD Cert.XGradRefIdeal.τ).loc Cert.XGradRefIdeal.main_arg0)) (m ((c.tc : Thread Cert.XGradRefIdeal.nD Cert.XGradRefIdeal.τ).loc Cert.XGradRefIdeal.main_arg1)) (m ((c.tc : Thread Cert.XGradRefIdeal.nD Cert.XGradRefIdeal.τ).loc Cert.XGradRefIdeal.main_arg2)) (m ((c.tc : Thread Cert.XGradRefIdeal.nD Cert.XGradRefIdeal.τ).loc Cert.XGradRefIdeal.main_arg3)) (m ((c.tc : Thread Cert.XGradRefIdeal.nD Cert.XGradRefIdeal.τ).loc Cert.XGradRefIdeal.main_arg4))).1 = (fun _ => 1#1)
    ∧ (Cert.Pre_bounded.fn (F := Ideal) (m ((c.tc : Thread Cert.XGradRefIdeal.nD Cert.XGradRefIdeal.τ).loc Cert.XGradRefIdeal.main_arg0)) (m ((c.tc : Thread Cert.XGradRefIdeal.nD Cert.XGradRefIdeal.τ).loc Cert.XGradRefIdeal.main_arg1)) (m ((c.tc : Thread Cert.XGradRefIdeal.nD Cert.XGradRefIdeal.τ).loc Cert.XGradRefIdeal.main_arg2)) (m ((c.tc : Thread Cert.XGradRefIdeal.nD Cert.XGradRefIdeal.τ).loc Cert.XGradRefIdeal.main_arg3)) (m ((c.tc : Thread Cert.XGradRefIdeal.nD Cert.XGradRefIdeal.τ).loc Cert.XGradRefIdeal.main_arg4))).2.1 = (fun _ => 1#1)
    ∧ (Cert.Pre_bounded.fn (F := Ideal) (m ((c.tc : Thread Cert.XGradRefIdeal.nD Cert.XGradRefIdeal.τ).loc Cert.XGradRefIdeal.main_arg0)) (m ((c.tc : Thread Cert.XGradRefIdeal.nD Cert.XGradRefIdeal.τ).loc Cert.XGradRefIdeal.main_arg1)) (m ((c.tc : Thread Cert.XGradRefIdeal.nD Cert.XGradRefIdeal.τ).loc Cert.XGradRefIdeal.main_arg2)) (m ((c.tc : Thread Cert.XGradRefIdeal.nD Cert.XGradRefIdeal.τ).loc Cert.XGradRefIdeal.main_arg3)) (m ((c.tc : Thread Cert.XGradRefIdeal.nD Cert.XGradRefIdeal.τ).loc Cert.XGradRefIdeal.main_arg4))).2.2.1 = (fun _ => 1#1)
    ∧ (Cert.Pre_bounded.fn (F := Ideal) (m ((c.tc : Thread Cert.XGradRefIdeal.nD Cert.XGradRefIdeal.τ).loc Cert.XGradRefIdeal.main_arg0)) (m ((c.tc : Thread Cert.XGradRefIdeal.nD Cert.XGradRefIdeal.τ).loc Cert.XGradRefIdeal.main_arg1)) (m ((c.tc : Thread Cert.XGradRefIdeal.nD Cert.XGradRefIdeal.τ).loc Cert.XGradRefIdeal.main_arg2)) (m ((c.tc : Thread Cert.XGradRefIdeal.nD Cert.XGradRefIdeal.τ).loc Cert.XGradRefIdeal.main_arg3)) (m ((c.tc : Thread Cert.XGradRefIdeal.nD Cert.XGradRefIdeal.τ).loc Cert.XGradRefIdeal.main_arg4))).2.2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_whole [hPre_whole : Cert.Pre_whole.Facts] (m : (ℓ : Loc Cert.PrepIdeal.nD Cert.PrepIdeal.τ Cert.PrepIdeal.sig) → Buf (Elt Ideal) ℓ) : Prop :=
  ∀ c : Dev Cert.PrepIdeal.nD,
    (Cert.Pre_whole.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).1 = (fun _ => 1#1)
    ∧ (Cert.Pre_whole.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_whole [hPre_whole : Cert.Pre_whole.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_whole.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))).1 = (fun _ => 1#1)
    ∧ (Cert.Pre_whole.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3))).2 = (fun _ => 1#1)

def Pre_WinGrad (m : (ℓ : Loc Cert.WinGrad.nD Cert.WinGrad.τ Cert.WinGrad.sig) → Buf (Elt Bits) ℓ) : Prop :=
  True

def Pre_WinGradIdeal (m : (ℓ : Loc Cert.WinGradIdeal.nD Cert.WinGradIdeal.τ Cert.WinGradIdeal.sig) → Buf (Elt Ideal) ℓ) : Prop :=
  True

def Pre_WinGradRefIdeal (m : (ℓ : Loc Cert.WinGradRefIdeal.nD Cert.WinGradRefIdeal.τ Cert.WinGradRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SsmBwd (m : (ℓ : Loc Cert.SsmBwd.nD Cert.SsmBwd.τ Cert.SsmBwd.sig) → Buf (Elt Bits) ℓ) : Prop :=
  True

def Pre_SsmBwdIdeal (m : (ℓ : Loc Cert.SsmBwdIdeal.nD Cert.SsmBwdIdeal.τ Cert.SsmBwdIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailIdeal_pre_finite [hTailIdeal : Cert.TailIdeal.Facts] [hPre_finite : Cert.Pre_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_TailRefIdeal_pre_finite [hTailRefIdeal : Cert.TailRefIdeal.Facts] [hPre_finite : Cert.Pre_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8)
      ∧ r.2.mem ((c.tc : Thread Cert.Ssm.nD Cert.Ssm.τ).loc Cert.Ssm.main_arg9) = m ((c.tc : Thread Cert.Ssm.nD Cert.Ssm.τ).loc Cert.Ssm.main_arg9)
      ∧ r.2.mem ((c.tc : Thread Cert.Ssm.nD Cert.Ssm.τ).loc Cert.Ssm.main_arg10) = m ((c.tc : Thread Cert.Ssm.nD Cert.Ssm.τ).loc Cert.Ssm.main_arg10))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
      ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ r.2.sem = fun _ => 0)

def quiescent_SsmIdeal_pre_stable [hSsmIdeal : Cert.SsmIdeal.Facts] [hPre_stable : Cert.Pre_stable.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal_stable m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
      ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9)
      ∧ r.2.mem ((c.tc : Thread Cert.SsmRefIdeal.nD Cert.SsmRefIdeal.τ).loc Cert.SsmRefIdeal.main_arg10) = m ((c.tc : Thread Cert.SsmRefIdeal.nD Cert.SsmRefIdeal.τ).loc Cert.SsmRefIdeal.main_arg10))
      ∧ r.2.sem = fun _ => 0)

def quiescent_SsmRefIdeal_pre_stable [hSsmRefIdeal : Cert.SsmRefIdeal.Facts] [hPre_stable : Cert.Pre_stable.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal_stable m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9)
      ∧ r.2.mem ((c.tc : Thread Cert.SsmRefIdeal.nD Cert.SsmRefIdeal.τ).loc Cert.SsmRefIdeal.main_arg10) = m ((c.tc : Thread Cert.SsmRefIdeal.nD Cert.SsmRefIdeal.τ).loc Cert.SsmRefIdeal.main_arg10))
      ∧ r.2.sem = fun _ => 0)

def quiescent_XGrad [hXGrad : Cert.XGrad.Facts] : Prop :=
  ∀ (m : (ℓ : Loc Cert.XGrad.nD Cert.XGrad.τ Cert.XGrad.sig) → Buf (Elt Bits) ℓ) (g : Dev Cert.XGrad.nD → PrngReg), Pre_XGrad m →
    θ_run (Cert.XGrad.defs (F := Bits)) (onTc (τ := Cert.XGrad.τ) (Cert.XGrad.main (F := Bits))) ⟨m, fun _ => 0, g⟩ (fun r => (∀ c : Dev Cert.XGrad.nD,
      r.2.mem ((c.tc : Thread Cert.XGrad.nD Cert.XGrad.τ).loc Cert.XGrad.main_arg0) = m ((c.tc : Thread Cert.XGrad.nD Cert.XGrad.τ).loc Cert.XGrad.main_arg0)
      ∧ r.2.mem ((c.tc : Thread Cert.XGrad.nD Cert.XGrad.τ).loc Cert.XGrad.main_arg1) = m ((c.tc : Thread Cert.XGrad.nD Cert.XGrad.τ).loc Cert.XGrad.main_arg1)
      ∧ r.2.mem ((c.tc : Thread Cert.XGrad.nD Cert.XGrad.τ).loc Cert.XGrad.main_arg2) = m ((c.tc : Thread Cert.XGrad.nD Cert.XGrad.τ).loc Cert.XGrad.main_arg2)
      ∧ r.2.mem ((c.tc : Thread Cert.XGrad.nD Cert.XGrad.τ).loc Cert.XGrad.main_arg3) = m ((c.tc : Thread Cert.XGrad.nD Cert.XGrad.τ).loc Cert.XGrad.main_arg3)
      ∧ r.2.mem ((c.tc : Thread Cert.XGrad.nD Cert.XGrad.τ).loc Cert.XGrad.main_arg4) = m ((c.tc : Thread Cert.XGrad.nD Cert.XGrad.τ).loc Cert.XGrad.main_arg4))
      ∧ r.2.sem = fun _ => 0)

def quiescent_XGradIdeal [hXGradIdeal : Cert.XGradIdeal.Facts] : Prop :=
  ∀ (m : (ℓ : Loc Cert.XGradIdeal.nD Cert.XGradIdeal.τ Cert.XGradIdeal.sig) → Buf (Elt Ideal) ℓ) (g : Dev Cert.XGradIdeal.nD → PrngReg), Pre_XGradIdeal m →
    θ_run (Cert.XGradIdeal.defs (F := Ideal)) (onTc (τ := Cert.XGradIdeal.τ) (Cert.XGradIdeal.main (F := Ideal))) ⟨m, fun _ => 0, g⟩ (fun r => (∀ c : Dev Cert.XGradIdeal.nD,
      r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
      ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
      ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
      ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
      ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4))
      ∧ r.2.sem = fun _ => 0)

def quiescent_XGradIdeal_pre_bounded [hXGradIdeal : Cert.XGradIdeal.Facts] [hPre_bounded : Cert.Pre_bounded.Facts] : Prop :=
  ∀ (m : (ℓ : Loc Cert.XGradIdeal.nD Cert.XGradIdeal.τ Cert.XGradIdeal.sig) → Buf (Elt Ideal) ℓ) (g : Dev Cert.XGradIdeal.nD → PrngReg), Pre_XGradIdeal_bounded m →
    θ_run (Cert.XGradIdeal.defs (F := Ideal)) (onTc (τ := Cert.XGradIdeal.τ) (Cert.XGradIdeal.main (F := Ideal))) ⟨m, fun _ => 0, g⟩ (fun r => (∀ c : Dev Cert.XGradIdeal.nD,
      r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
      ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
      ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
      ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
      ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4))
      ∧ r.2.sem = fun _ => 0)

def quiescent_XGradRefIdeal [hXGradRefIdeal : Cert.XGradRefIdeal.Facts] : Prop :=
  ∀ (m : (ℓ : Loc Cert.XGradRefIdeal.nD Cert.XGradRefIdeal.τ Cert.XGradRefIdeal.sig) → Buf (Elt Ideal) ℓ) (g : Dev Cert.XGradRefIdeal.nD → PrngReg), Pre_XGradRefIdeal m →
    θ_run (Cert.XGradRefIdeal.defs (F := Ideal)) (onTc (τ := Cert.XGradRefIdeal.τ) (Cert.XGradRefIdeal.main (F := Ideal))) ⟨m, fun _ => 0, g⟩ (fun r => (∀ c : Dev Cert.XGradRefIdeal.nD,
      r.2.mem ((c.tc : Thread Cert.XGradRefIdeal.nD Cert.XGradRefIdeal.τ).loc Cert.XGradRefIdeal.main_arg0) = m ((c.tc : Thread Cert.XGradRefIdeal.nD Cert.XGradRefIdeal.τ).loc Cert.XGradRefIdeal.main_arg0)
      ∧ r.2.mem ((c.tc : Thread Cert.XGradRefIdeal.nD Cert.XGradRefIdeal.τ).loc Cert.XGradRefIdeal.main_arg1) = m ((c.tc : Thread Cert.XGradRefIdeal.nD Cert.XGradRefIdeal.τ).loc Cert.XGradRefIdeal.main_arg1)
      ∧ r.2.mem ((c.tc : Thread Cert.XGradRefIdeal.nD Cert.XGradRefIdeal.τ).loc Cert.XGradRefIdeal.main_arg2) = m ((c.tc : Thread Cert.XGradRefIdeal.nD Cert.XGradRefIdeal.τ).loc Cert.XGradRefIdeal.main_arg2)
      ∧ r.2.mem ((c.tc : Thread Cert.XGradRefIdeal.nD Cert.XGradRefIdeal.τ).loc Cert.XGradRefIdeal.main_arg3) = m ((c.tc : Thread Cert.XGradRefIdeal.nD Cert.XGradRefIdeal.τ).loc Cert.XGradRefIdeal.main_arg3)
      ∧ r.2.mem ((c.tc : Thread Cert.XGradRefIdeal.nD Cert.XGradRefIdeal.τ).loc Cert.XGradRefIdeal.main_arg4) = m ((c.tc : Thread Cert.XGradRefIdeal.nD Cert.XGradRefIdeal.τ).loc Cert.XGradRefIdeal.main_arg4))
      ∧ r.2.sem = fun _ => 0)

def quiescent_XGradRefIdeal_pre_bounded [hXGradRefIdeal : Cert.XGradRefIdeal.Facts] [hPre_bounded : Cert.Pre_bounded.Facts] : Prop :=
  ∀ (m : (ℓ : Loc Cert.XGradRefIdeal.nD Cert.XGradRefIdeal.τ Cert.XGradRefIdeal.sig) → Buf (Elt Ideal) ℓ) (g : Dev Cert.XGradRefIdeal.nD → PrngReg), Pre_XGradRefIdeal_bounded m →
    θ_run (Cert.XGradRefIdeal.defs (F := Ideal)) (onTc (τ := Cert.XGradRefIdeal.τ) (Cert.XGradRefIdeal.main (F := Ideal))) ⟨m, fun _ => 0, g⟩ (fun r => (∀ c : Dev Cert.XGradRefIdeal.nD,
      r.2.mem ((c.tc : Thread Cert.XGradRefIdeal.nD Cert.XGradRefIdeal.τ).loc Cert.XGradRefIdeal.main_arg0) = m ((c.tc : Thread Cert.XGradRefIdeal.nD Cert.XGradRefIdeal.τ).loc Cert.XGradRefIdeal.main_arg0)
      ∧ r.2.mem ((c.tc : Thread Cert.XGradRefIdeal.nD Cert.XGradRefIdeal.τ).loc Cert.XGradRefIdeal.main_arg1) = m ((c.tc : Thread Cert.XGradRefIdeal.nD Cert.XGradRefIdeal.τ).loc Cert.XGradRefIdeal.main_arg1)
      ∧ r.2.mem ((c.tc : Thread Cert.XGradRefIdeal.nD Cert.XGradRefIdeal.τ).loc Cert.XGradRefIdeal.main_arg2) = m ((c.tc : Thread Cert.XGradRefIdeal.nD Cert.XGradRefIdeal.τ).loc Cert.XGradRefIdeal.main_arg2)
      ∧ r.2.mem ((c.tc : Thread Cert.XGradRefIdeal.nD Cert.XGradRefIdeal.τ).loc Cert.XGradRefIdeal.main_arg3) = m ((c.tc : Thread Cert.XGradRefIdeal.nD Cert.XGradRefIdeal.τ).loc Cert.XGradRefIdeal.main_arg3)
      ∧ r.2.mem ((c.tc : Thread Cert.XGradRefIdeal.nD Cert.XGradRefIdeal.τ).loc Cert.XGradRefIdeal.main_arg4) = m ((c.tc : Thread Cert.XGradRefIdeal.nD Cert.XGradRefIdeal.τ).loc Cert.XGradRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepIdeal_pre_whole [hPrepIdeal : Cert.PrepIdeal.Facts] [hPre_whole : Cert.Pre_whole.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_whole m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_PrepRefIdeal_pre_whole [hPrepRefIdeal : Cert.PrepRefIdeal.Facts] [hPre_whole : Cert.Pre_whole.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_whole m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_WinGrad [hWinGrad : Cert.WinGrad.Facts] : Prop :=
  ∀ (m : (ℓ : Loc Cert.WinGrad.nD Cert.WinGrad.τ Cert.WinGrad.sig) → Buf (Elt Bits) ℓ) (g : Dev Cert.WinGrad.nD → PrngReg), Pre_WinGrad m →
    θ_run (Cert.WinGrad.defs (F := Bits)) (onTc (τ := Cert.WinGrad.τ) (Cert.WinGrad.main (F := Bits))) ⟨m, fun _ => 0, g⟩ (fun r => (∀ c : Dev Cert.WinGrad.nD,
      r.2.mem ((c.tc : Thread Cert.WinGrad.nD Cert.WinGrad.τ).loc Cert.WinGrad.main_arg0) = m ((c.tc : Thread Cert.WinGrad.nD Cert.WinGrad.τ).loc Cert.WinGrad.main_arg0)
      ∧ r.2.mem ((c.tc : Thread Cert.WinGrad.nD Cert.WinGrad.τ).loc Cert.WinGrad.main_arg1) = m ((c.tc : Thread Cert.WinGrad.nD Cert.WinGrad.τ).loc Cert.WinGrad.main_arg1)
      ∧ r.2.mem ((c.tc : Thread Cert.WinGrad.nD Cert.WinGrad.τ).loc Cert.WinGrad.main_arg2) = m ((c.tc : Thread Cert.WinGrad.nD Cert.WinGrad.τ).loc Cert.WinGrad.main_arg2))
      ∧ r.2.sem = fun _ => 0)

def quiescent_WinGradIdeal [hWinGradIdeal : Cert.WinGradIdeal.Facts] : Prop :=
  ∀ (m : (ℓ : Loc Cert.WinGradIdeal.nD Cert.WinGradIdeal.τ Cert.WinGradIdeal.sig) → Buf (Elt Ideal) ℓ) (g : Dev Cert.WinGradIdeal.nD → PrngReg), Pre_WinGradIdeal m →
    θ_run (Cert.WinGradIdeal.defs (F := Ideal)) (onTc (τ := Cert.WinGradIdeal.τ) (Cert.WinGradIdeal.main (F := Ideal))) ⟨m, fun _ => 0, g⟩ (fun r => (∀ c : Dev Cert.WinGradIdeal.nD,
      r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
      ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1)
      ∧ r.2.mem ((c.tc : Thread Cert.WinGradIdeal.nD Cert.WinGradIdeal.τ).loc Cert.WinGradIdeal.main_arg2) = m ((c.tc : Thread Cert.WinGradIdeal.nD Cert.WinGradIdeal.τ).loc Cert.WinGradIdeal.main_arg2))
      ∧ r.2.sem = fun _ => 0)

def quiescent_WinGradRefIdeal [hWinGradRefIdeal : Cert.WinGradRefIdeal.Facts] : Prop :=
  ∀ (m : (ℓ : Loc Cert.WinGradRefIdeal.nD Cert.WinGradRefIdeal.τ Cert.WinGradRefIdeal.sig) → Buf (Elt Ideal) ℓ) (g : Dev Cert.WinGradRefIdeal.nD → PrngReg), Pre_WinGradRefIdeal m →
    θ_run (Cert.WinGradRefIdeal.defs (F := Ideal)) (onTc (τ := Cert.WinGradRefIdeal.τ) (Cert.WinGradRefIdeal.main (F := Ideal))) ⟨m, fun _ => 0, g⟩ (fun r => (∀ c : Dev Cert.WinGradRefIdeal.nD,
      r.2.mem ((c.tc : Thread Cert.WinGradRefIdeal.nD Cert.WinGradRefIdeal.τ).loc Cert.WinGradRefIdeal.main_arg0) = m ((c.tc : Thread Cert.WinGradRefIdeal.nD Cert.WinGradRefIdeal.τ).loc Cert.WinGradRefIdeal.main_arg0)
      ∧ r.2.mem ((c.tc : Thread Cert.WinGradRefIdeal.nD Cert.WinGradRefIdeal.τ).loc Cert.WinGradRefIdeal.main_arg1) = m ((c.tc : Thread Cert.WinGradRefIdeal.nD Cert.WinGradRefIdeal.τ).loc Cert.WinGradRefIdeal.main_arg1)
      ∧ r.2.mem ((c.tc : Thread Cert.WinGradRefIdeal.nD Cert.WinGradRefIdeal.τ).loc Cert.WinGradRefIdeal.main_arg2) = m ((c.tc : Thread Cert.WinGradRefIdeal.nD Cert.WinGradRefIdeal.τ).loc Cert.WinGradRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2)
      ∧ r.2.mem ((c.tc : Thread Cert.ChipSum.nD Cert.ChipSum.τ).loc Cert.ChipSum.main_arg3) = m ((c.tc : Thread Cert.ChipSum.nD Cert.ChipSum.τ).loc Cert.ChipSum.main_arg3)
      ∧ r.2.mem ((c.tc : Thread Cert.ChipSum.nD Cert.ChipSum.τ).loc Cert.ChipSum.main_arg4) = m ((c.tc : Thread Cert.ChipSum.nD Cert.ChipSum.τ).loc Cert.ChipSum.main_arg4)
      ∧ r.2.mem ((c.tc : Thread Cert.ChipSum.nD Cert.ChipSum.τ).loc Cert.ChipSum.main_arg5) = m ((c.tc : Thread Cert.ChipSum.nD Cert.ChipSum.τ).loc Cert.ChipSum.main_arg5)
      ∧ r.2.mem ((c.tc : Thread Cert.ChipSum.nD Cert.ChipSum.τ).loc Cert.ChipSum.main_arg6) = m ((c.tc : Thread Cert.ChipSum.nD Cert.ChipSum.τ).loc Cert.ChipSum.main_arg6))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
      ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3)
      ∧ r.2.mem ((c.tc : Thread Cert.ChipSumIdeal.nD Cert.ChipSumIdeal.τ).loc Cert.ChipSumIdeal.main_arg4) = m ((c.tc : Thread Cert.ChipSumIdeal.nD Cert.ChipSumIdeal.τ).loc Cert.ChipSumIdeal.main_arg4)
      ∧ r.2.mem ((c.tc : Thread Cert.ChipSumIdeal.nD Cert.ChipSumIdeal.τ).loc Cert.ChipSumIdeal.main_arg5) = m ((c.tc : Thread Cert.ChipSumIdeal.nD Cert.ChipSumIdeal.τ).loc Cert.ChipSumIdeal.main_arg5)
      ∧ r.2.mem ((c.tc : Thread Cert.ChipSumIdeal.nD Cert.ChipSumIdeal.τ).loc Cert.ChipSumIdeal.main_arg6) = m ((c.tc : Thread Cert.ChipSumIdeal.nD Cert.ChipSumIdeal.τ).loc Cert.ChipSumIdeal.main_arg6))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1)
      ∧ r.2.mem ((c.tc : Thread Cert.ChipSumRefIdeal.nD Cert.ChipSumRefIdeal.τ).loc Cert.ChipSumRefIdeal.main_arg2) = m ((c.tc : Thread Cert.ChipSumRefIdeal.nD Cert.ChipSumRefIdeal.τ).loc Cert.ChipSumRefIdeal.main_arg2)
      ∧ r.2.mem ((c.tc : Thread Cert.ChipSumRefIdeal.nD Cert.ChipSumRefIdeal.τ).loc Cert.ChipSumRefIdeal.main_arg3) = m ((c.tc : Thread Cert.ChipSumRefIdeal.nD Cert.ChipSumRefIdeal.τ).loc Cert.ChipSumRefIdeal.main_arg3)
      ∧ r.2.mem ((c.tc : Thread Cert.ChipSumRefIdeal.nD Cert.ChipSumRefIdeal.τ).loc Cert.ChipSumRefIdeal.main_arg4) = m ((c.tc : Thread Cert.ChipSumRefIdeal.nD Cert.ChipSumRefIdeal.τ).loc Cert.ChipSumRefIdeal.main_arg4)
      ∧ r.2.mem ((c.tc : Thread Cert.ChipSumRefIdeal.nD Cert.ChipSumRefIdeal.τ).loc Cert.ChipSumRefIdeal.main_arg5) = m ((c.tc : Thread Cert.ChipSumRefIdeal.nD Cert.ChipSumRefIdeal.τ).loc Cert.ChipSumRefIdeal.main_arg5)
      ∧ r.2.mem ((c.tc : Thread Cert.ChipSumRefIdeal.nD Cert.ChipSumRefIdeal.τ).loc Cert.ChipSumRefIdeal.main_arg6) = m ((c.tc : Thread Cert.ChipSumRefIdeal.nD Cert.ChipSumRefIdeal.τ).loc Cert.ChipSumRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_SsmBwd [hSsmBwd : Cert.SsmBwd.Facts] : Prop :=
  ∀ (m : (ℓ : Loc Cert.SsmBwd.nD Cert.SsmBwd.τ Cert.SsmBwd.sig) → Buf (Elt Bits) ℓ) (g : Dev Cert.SsmBwd.nD → PrngReg), Pre_SsmBwd m →
    θ_run (Cert.SsmBwd.defs (F := Bits)) (onTc (τ := Cert.SsmBwd.τ) (Cert.SsmBwd.main (F := Bits))) ⟨m, fun _ => 0, g⟩ (fun r => (∀ c : Dev Cert.SsmBwd.nD,
      r.2.mem ((c.tc : Thread Cert.SsmBwd.nD Cert.SsmBwd.τ).loc Cert.SsmBwd.main_arg0) = m ((c.tc : Thread Cert.SsmBwd.nD Cert.SsmBwd.τ).loc Cert.SsmBwd.main_arg0)
      ∧ r.2.mem ((c.tc : Thread Cert.SsmBwd.nD Cert.SsmBwd.τ).loc Cert.SsmBwd.main_arg1) = m ((c.tc : Thread Cert.SsmBwd.nD Cert.SsmBwd.τ).loc Cert.SsmBwd.main_arg1)
      ∧ r.2.mem ((c.tc : Thread Cert.SsmBwd.nD Cert.SsmBwd.τ).loc Cert.SsmBwd.main_arg2) = m ((c.tc : Thread Cert.SsmBwd.nD Cert.SsmBwd.τ).loc Cert.SsmBwd.main_arg2)
      ∧ r.2.mem ((c.tc : Thread Cert.SsmBwd.nD Cert.SsmBwd.τ).loc Cert.SsmBwd.main_arg3) = m ((c.tc : Thread Cert.SsmBwd.nD Cert.SsmBwd.τ).loc Cert.SsmBwd.main_arg3)
      ∧ r.2.mem ((c.tc : Thread Cert.SsmBwd.nD Cert.SsmBwd.τ).loc Cert.SsmBwd.main_arg4) = m ((c.tc : Thread Cert.SsmBwd.nD Cert.SsmBwd.τ).loc Cert.SsmBwd.main_arg4)
      ∧ r.2.mem ((c.tc : Thread Cert.SsmBwd.nD Cert.SsmBwd.τ).loc Cert.SsmBwd.main_arg5) = m ((c.tc : Thread Cert.SsmBwd.nD Cert.SsmBwd.τ).loc Cert.SsmBwd.main_arg5)
      ∧ r.2.mem ((c.tc : Thread Cert.SsmBwd.nD Cert.SsmBwd.τ).loc Cert.SsmBwd.main_arg6) = m ((c.tc : Thread Cert.SsmBwd.nD Cert.SsmBwd.τ).loc Cert.SsmBwd.main_arg6)
      ∧ r.2.mem ((c.tc : Thread Cert.SsmBwd.nD Cert.SsmBwd.τ).loc Cert.SsmBwd.main_arg7) = m ((c.tc : Thread Cert.SsmBwd.nD Cert.SsmBwd.τ).loc Cert.SsmBwd.main_arg7)
      ∧ r.2.mem ((c.tc : Thread Cert.SsmBwd.nD Cert.SsmBwd.τ).loc Cert.SsmBwd.main_arg8) = m ((c.tc : Thread Cert.SsmBwd.nD Cert.SsmBwd.τ).loc Cert.SsmBwd.main_arg8)
      ∧ r.2.mem ((c.tc : Thread Cert.SsmBwd.nD Cert.SsmBwd.τ).loc Cert.SsmBwd.main_arg9) = m ((c.tc : Thread Cert.SsmBwd.nD Cert.SsmBwd.τ).loc Cert.SsmBwd.main_arg9)
      ∧ r.2.mem ((c.tc : Thread Cert.SsmBwd.nD Cert.SsmBwd.τ).loc Cert.SsmBwd.main_arg10) = m ((c.tc : Thread Cert.SsmBwd.nD Cert.SsmBwd.τ).loc Cert.SsmBwd.main_arg10)
      ∧ r.2.mem ((c.tc : Thread Cert.SsmBwd.nD Cert.SsmBwd.τ).loc Cert.SsmBwd.main_arg11) = m ((c.tc : Thread Cert.SsmBwd.nD Cert.SsmBwd.τ).loc Cert.SsmBwd.main_arg11)
      ∧ r.2.mem ((c.tc : Thread Cert.SsmBwd.nD Cert.SsmBwd.τ).loc Cert.SsmBwd.main_arg12) = m ((c.tc : Thread Cert.SsmBwd.nD Cert.SsmBwd.τ).loc Cert.SsmBwd.main_arg12)
      ∧ r.2.mem ((c.tc : Thread Cert.SsmBwd.nD Cert.SsmBwd.τ).loc Cert.SsmBwd.main_arg13) = m ((c.tc : Thread Cert.SsmBwd.nD Cert.SsmBwd.τ).loc Cert.SsmBwd.main_arg13)
      ∧ r.2.mem ((c.tc : Thread Cert.SsmBwd.nD Cert.SsmBwd.τ).loc Cert.SsmBwd.main_arg14) = m ((c.tc : Thread Cert.SsmBwd.nD Cert.SsmBwd.τ).loc Cert.SsmBwd.main_arg14)
      ∧ r.2.mem ((c.tc : Thread Cert.SsmBwd.nD Cert.SsmBwd.τ).loc Cert.SsmBwd.main_arg15) = m ((c.tc : Thread Cert.SsmBwd.nD Cert.SsmBwd.τ).loc Cert.SsmBwd.main_arg15)
      ∧ r.2.mem ((c.tc : Thread Cert.SsmBwd.nD Cert.SsmBwd.τ).loc Cert.SsmBwd.main_arg16) = m ((c.tc : Thread Cert.SsmBwd.nD Cert.SsmBwd.τ).loc Cert.SsmBwd.main_arg16)
      ∧ r.2.mem ((c.tc : Thread Cert.SsmBwd.nD Cert.SsmBwd.τ).loc Cert.SsmBwd.main_arg17) = m ((c.tc : Thread Cert.SsmBwd.nD Cert.SsmBwd.τ).loc Cert.SsmBwd.main_arg17))
      ∧ r.2.sem = fun _ => 0)

def quiescent_SsmBwdIdeal [hSsmBwdIdeal : Cert.SsmBwdIdeal.Facts] : Prop :=
  ∀ (m : (ℓ : Loc Cert.SsmBwdIdeal.nD Cert.SsmBwdIdeal.τ Cert.SsmBwdIdeal.sig) → Buf (Elt Ideal) ℓ) (g : Dev Cert.SsmBwdIdeal.nD → PrngReg), Pre_SsmBwdIdeal m →
    θ_run (Cert.SsmBwdIdeal.defs (F := Ideal)) (onTc (τ := Cert.SsmBwdIdeal.τ) (Cert.SsmBwdIdeal.main (F := Ideal))) ⟨m, fun _ => 0, g⟩ (fun r => (∀ c : Dev Cert.SsmBwdIdeal.nD,
      r.2.mem ((c.tc : Thread Cert.SsmBwdIdeal.nD Cert.SsmBwdIdeal.τ).loc Cert.SsmBwdIdeal.main_arg0) = m ((c.tc : Thread Cert.SsmBwdIdeal.nD Cert.SsmBwdIdeal.τ).loc Cert.SsmBwdIdeal.main_arg0)
      ∧ r.2.mem ((c.tc : Thread Cert.SsmBwdIdeal.nD Cert.SsmBwdIdeal.τ).loc Cert.SsmBwdIdeal.main_arg1) = m ((c.tc : Thread Cert.SsmBwdIdeal.nD Cert.SsmBwdIdeal.τ).loc Cert.SsmBwdIdeal.main_arg1)
      ∧ r.2.mem ((c.tc : Thread Cert.SsmBwdIdeal.nD Cert.SsmBwdIdeal.τ).loc Cert.SsmBwdIdeal.main_arg2) = m ((c.tc : Thread Cert.SsmBwdIdeal.nD Cert.SsmBwdIdeal.τ).loc Cert.SsmBwdIdeal.main_arg2)
      ∧ r.2.mem ((c.tc : Thread Cert.SsmBwdIdeal.nD Cert.SsmBwdIdeal.τ).loc Cert.SsmBwdIdeal.main_arg3) = m ((c.tc : Thread Cert.SsmBwdIdeal.nD Cert.SsmBwdIdeal.τ).loc Cert.SsmBwdIdeal.main_arg3)
      ∧ r.2.mem ((c.tc : Thread Cert.SsmBwdIdeal.nD Cert.SsmBwdIdeal.τ).loc Cert.SsmBwdIdeal.main_arg4) = m ((c.tc : Thread Cert.SsmBwdIdeal.nD Cert.SsmBwdIdeal.τ).loc Cert.SsmBwdIdeal.main_arg4)
      ∧ r.2.mem ((c.tc : Thread Cert.SsmBwdIdeal.nD Cert.SsmBwdIdeal.τ).loc Cert.SsmBwdIdeal.main_arg5) = m ((c.tc : Thread Cert.SsmBwdIdeal.nD Cert.SsmBwdIdeal.τ).loc Cert.SsmBwdIdeal.main_arg5)
      ∧ r.2.mem ((c.tc : Thread Cert.SsmBwdIdeal.nD Cert.SsmBwdIdeal.τ).loc Cert.SsmBwdIdeal.main_arg6) = m ((c.tc : Thread Cert.SsmBwdIdeal.nD Cert.SsmBwdIdeal.τ).loc Cert.SsmBwdIdeal.main_arg6)
      ∧ r.2.mem ((c.tc : Thread Cert.SsmBwdIdeal.nD Cert.SsmBwdIdeal.τ).loc Cert.SsmBwdIdeal.main_arg7) = m ((c.tc : Thread Cert.SsmBwdIdeal.nD Cert.SsmBwdIdeal.τ).loc Cert.SsmBwdIdeal.main_arg7)
      ∧ r.2.mem ((c.tc : Thread Cert.SsmBwdIdeal.nD Cert.SsmBwdIdeal.τ).loc Cert.SsmBwdIdeal.main_arg8) = m ((c.tc : Thread Cert.SsmBwdIdeal.nD Cert.SsmBwdIdeal.τ).loc Cert.SsmBwdIdeal.main_arg8)
      ∧ r.2.mem ((c.tc : Thread Cert.SsmBwdIdeal.nD Cert.SsmBwdIdeal.τ).loc Cert.SsmBwdIdeal.main_arg9) = m ((c.tc : Thread Cert.SsmBwdIdeal.nD Cert.SsmBwdIdeal.τ).loc Cert.SsmBwdIdeal.main_arg9)
      ∧ r.2.mem ((c.tc : Thread Cert.SsmBwdIdeal.nD Cert.SsmBwdIdeal.τ).loc Cert.SsmBwdIdeal.main_arg10) = m ((c.tc : Thread Cert.SsmBwdIdeal.nD Cert.SsmBwdIdeal.τ).loc Cert.SsmBwdIdeal.main_arg10)
      ∧ r.2.mem ((c.tc : Thread Cert.SsmBwdIdeal.nD Cert.SsmBwdIdeal.τ).loc Cert.SsmBwdIdeal.main_arg11) = m ((c.tc : Thread Cert.SsmBwdIdeal.nD Cert.SsmBwdIdeal.τ).loc Cert.SsmBwdIdeal.main_arg11)
      ∧ r.2.mem ((c.tc : Thread Cert.SsmBwdIdeal.nD Cert.SsmBwdIdeal.τ).loc Cert.SsmBwdIdeal.main_arg12) = m ((c.tc : Thread Cert.SsmBwdIdeal.nD Cert.SsmBwdIdeal.τ).loc Cert.SsmBwdIdeal.main_arg12)
      ∧ r.2.mem ((c.tc : Thread Cert.SsmBwdIdeal.nD Cert.SsmBwdIdeal.τ).loc Cert.SsmBwdIdeal.main_arg13) = m ((c.tc : Thread Cert.SsmBwdIdeal.nD Cert.SsmBwdIdeal.τ).loc Cert.SsmBwdIdeal.main_arg13)
      ∧ r.2.mem ((c.tc : Thread Cert.SsmBwdIdeal.nD Cert.SsmBwdIdeal.τ).loc Cert.SsmBwdIdeal.main_arg14) = m ((c.tc : Thread Cert.SsmBwdIdeal.nD Cert.SsmBwdIdeal.τ).loc Cert.SsmBwdIdeal.main_arg14)
      ∧ r.2.mem ((c.tc : Thread Cert.SsmBwdIdeal.nD Cert.SsmBwdIdeal.τ).loc Cert.SsmBwdIdeal.main_arg15) = m ((c.tc : Thread Cert.SsmBwdIdeal.nD Cert.SsmBwdIdeal.τ).loc Cert.SsmBwdIdeal.main_arg15)
      ∧ r.2.mem ((c.tc : Thread Cert.SsmBwdIdeal.nD Cert.SsmBwdIdeal.τ).loc Cert.SsmBwdIdeal.main_arg16) = m ((c.tc : Thread Cert.SsmBwdIdeal.nD Cert.SsmBwdIdeal.τ).loc Cert.SsmBwdIdeal.main_arg16)
      ∧ r.2.mem ((c.tc : Thread Cert.SsmBwdIdeal.nD Cert.SsmBwdIdeal.τ).loc Cert.SsmBwdIdeal.main_arg17) = m ((c.tc : Thread Cert.SsmBwdIdeal.nD Cert.SsmBwdIdeal.τ).loc Cert.SsmBwdIdeal.main_arg17))
      ∧ r.2.sem = fun _ => 0)

def preserves_Tail_TailIdeal : Prop :=
  True

def algebraic_TailIdeal_TailRefIdeal_on_gates_pre_finite [hTailIdeal : Cert.TailIdeal.Facts] [hTailRefIdeal : Cert.TailRefIdeal.Facts] [hPre_finite : Cert.Pre_finite.Facts] [hOn_gates : Cert.On_gates.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v5_0)) (v1 : (c : Dev Cert.TailIdeal.nD) → Buf (Elt Ideal) ((c.tc : Thread Cert.TailIdeal.nD Cert.TailIdeal.τ).loc Cert.TailIdeal.main_v5_1)) (v2 : (c : Dev Cert.TailIdeal.nD) → Buf (Elt Ideal) ((c.tc : Thread Cert.TailIdeal.nD Cert.TailIdeal.τ).loc Cert.TailIdeal.main_v5_2)) (v3 : (c : Dev Cert.TailIdeal.nD) → Buf (Elt Ideal) ((c.tc : Thread Cert.TailIdeal.nD Cert.TailIdeal.τ).loc Cert.TailIdeal.main_v5_3)) (v4 : (c : Dev Cert.TailIdeal.nD) → Buf (Elt Ideal) ((c.tc : Thread Cert.TailIdeal.nD Cert.TailIdeal.τ).loc Cert.TailIdeal.main_v5_4)) (v5 : (c : Dev Cert.TailIdeal.nD) → Buf (Elt Ideal) ((c.tc : Thread Cert.TailIdeal.nD Cert.TailIdeal.τ).loc Cert.TailIdeal.main_v5_5)) (v6 : (c : Dev Cert.TailIdeal.nD) → Buf (Elt Ideal) ((c.tc : Thread Cert.TailIdeal.nD Cert.TailIdeal.τ).loc Cert.TailIdeal.main_v5_6)) (v7 : (c : Dev Cert.TailIdeal.nD) → Buf (Elt Ideal) ((c.tc : Thread Cert.TailIdeal.nD Cert.TailIdeal.τ).loc Cert.TailIdeal.main_v5_7)) (v8 : (c : Dev Cert.TailIdeal.nD) → Buf (Elt Ideal) ((c.tc : Thread Cert.TailIdeal.nD Cert.TailIdeal.τ).loc Cert.TailIdeal.main_v5_8)),
      θ_run (Cert.TailIdeal.defs (F := Ideal)) (onTc (τ := Cert.TailIdeal.τ) (Cert.TailIdeal.main (F := Ideal))) ⟨m, fun _ => 0, g⟩ (fun r => ∀ c : Dev Cert.TailIdeal.nD,
          (∀ i : (⟨2, ![8192, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).1 i = 1#1 → r.2.mem ((c.tc : Thread Cert.TailIdeal.nD Cert.TailIdeal.τ).loc Cert.TailIdeal.main_v5_0) i = v0 c i)
          ∧ (∀ i : (⟨2, ![8192, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.1 i = 1#1 → r.2.mem ((c.tc : Thread Cert.TailIdeal.nD Cert.TailIdeal.τ).loc Cert.TailIdeal.main_v5_1) i = v1 c i)
          ∧ (∀ i : (⟨2, ![8192, 512]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.1 i = 1#1 → r.2.mem ((c.tc : Thread Cert.TailIdeal.nD Cert.TailIdeal.τ).loc Cert.TailIdeal.main_v5_2) i = v2 c i)
          ∧ (∀ i : (⟨2, ![8192, 6144]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.1 i = 1#1 → r.2.mem ((c.tc : Thread Cert.TailIdeal.nD Cert.TailIdeal.τ).loc Cert.TailIdeal.main_v5_3) i = v3 c i)
          ∧ (∀ i : (⟨2, ![1024, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.1 i = 1#1 → r.2.mem ((c.tc : Thread Cert.TailIdeal.nD Cert.TailIdeal.τ).loc Cert.TailIdeal.main_v5_4) i = v4 c i)
          ∧ (∀ i : (⟨2, ![1024, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.1 i = 1#1 → r.2.mem ((c.tc : Thread Cert.TailIdeal.nD Cert.TailIdeal.τ).loc Cert.TailIdeal.main_v5_5) i = v5 c i)
          ∧ (∀ i : (⟨3, ![4, 512, 256]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.1 i = 1#1 → r.2.mem ((c.tc : Thread Cert.TailIdeal.nD Cert.TailIdeal.τ).loc Cert.TailIdeal.main_v5_6) i = v6 c i)
          ∧ (∀ i : (⟨2, ![1, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.1 i = 1#1 → r.2.mem ((c.tc : Thread Cert.TailIdeal.nD Cert.TailIdeal.τ).loc Cert.TailIdeal.main_v5_7) i = v7 c i)
          ∧ (∀ i : (⟨2, ![1, 128]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.2 i = 1#1 → r.2.mem ((c.tc : Thread Cert.TailIdeal.nD Cert.TailIdeal.τ).loc Cert.TailIdeal.main_v5_8) i = v8 c i)
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          (∀ i : (⟨2, ![8192, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).1 i = 1#1 → r.2.mem ((c.tc : Thread Cert.TailRefIdeal.nD Cert.TailRefIdeal.τ).loc Cert.TailRefIdeal.main_v60) i = v0 c i)
          ∧ (∀ i : (⟨2, ![8192, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.1 i = 1#1 → r.2.mem ((c.tc : Thread Cert.TailRefIdeal.nD Cert.TailRefIdeal.τ).loc Cert.TailRefIdeal.main_v97) i = v1 c i)
          ∧ (∀ i : (⟨2, ![8192, 512]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.1 i = 1#1 → r.2.mem ((c.tc : Thread Cert.TailRefIdeal.nD Cert.TailRefIdeal.τ).loc Cert.TailRefIdeal.main_v98) i = v2 c i)
          ∧ (∀ i : (⟨2, ![8192, 6144]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.1 i = 1#1 → r.2.mem ((c.tc : Thread Cert.TailRefIdeal.nD Cert.TailRefIdeal.τ).loc Cert.TailRefIdeal.main_v99) i = v3 c i)
          ∧ (∀ i : (⟨2, ![1024, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.1 i = 1#1 → r.2.mem ((c.tc : Thread Cert.TailRefIdeal.nD Cert.TailRefIdeal.τ).loc Cert.TailRefIdeal.main_v81) i = v4 c i)
          ∧ (∀ i : (⟨2, ![1024, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.1 i = 1#1 → r.2.mem ((c.tc : Thread Cert.TailRefIdeal.nD Cert.TailRefIdeal.τ).loc Cert.TailRefIdeal.main_v93) i = v5 c i)
          ∧ (∀ i : (⟨3, ![4, 512, 256]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.1 i = 1#1 → r.2.mem ((c.tc : Thread Cert.TailRefIdeal.nD Cert.TailRefIdeal.τ).loc Cert.TailRefIdeal.main_v101) i = v6 c i)
          ∧ (∀ i : (⟨2, ![1, 1024]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.1 i = 1#1 → r.2.mem ((c.tc : Thread Cert.TailRefIdeal.nD Cert.TailRefIdeal.τ).loc Cert.TailRefIdeal.main_v63) i = v7 c i)
          ∧ (∀ i : (⟨2, ![1, 128]⟩ : Shape).Idx, (Cert.On_gates.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))).2.2.2.2.2.2.2.2 i = 1#1 → r.2.mem ((c.tc : Thread Cert.TailRefIdeal.nD Cert.TailRefIdeal.τ).loc Cert.TailRefIdeal.main_v102) i = v8 c i)
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Ssm_SsmIdeal : Prop :=
  True

def algebraic_SsmIdeal_SsmRefIdeal_pre_stable [hSsmIdeal : Cert.SsmIdeal.Facts] [hSsmRefIdeal : Cert.SsmRefIdeal.Facts] [hPre_stable : Cert.Pre_stable.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal_stable m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
      ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)
      ∧ m' ((c.tc : Thread Cert.SsmRefIdeal.nD Cert.SsmRefIdeal.τ).loc Cert.SsmRefIdeal.main_arg10) = m ((c.tc : Thread Cert.SsmIdeal.nD Cert.SsmIdeal.τ).loc Cert.SsmIdeal.main_arg10)) →
    ∃ (v0 : (c : Dev Cert.SsmIdeal.nD) → Buf (Elt Ideal) ((c.tc : Thread Cert.SsmIdeal.nD Cert.SsmIdeal.τ).loc Cert.SsmIdeal.main_v123_0)) (v1 : (c : Dev Cert.SsmIdeal.nD) → Buf (Elt Ideal) ((c.tc : Thread Cert.SsmIdeal.nD Cert.SsmIdeal.τ).loc Cert.SsmIdeal.main_v123_1)) (v2 : (c : Dev Cert.SsmIdeal.nD) → Buf (Elt Ideal) ((c.tc : Thread Cert.SsmIdeal.nD Cert.SsmIdeal.τ).loc Cert.SsmIdeal.main_v123_2)) (v3 : (c : Dev Cert.SsmIdeal.nD) → Buf (Elt Ideal) ((c.tc : Thread Cert.SsmIdeal.nD Cert.SsmIdeal.τ).loc Cert.SsmIdeal.main_v123_3)) (v4 : (c : Dev Cert.SsmIdeal.nD) → Buf (Elt Ideal) ((c.tc : Thread Cert.SsmIdeal.nD Cert.SsmIdeal.τ).loc Cert.SsmIdeal.main_v123_4)) (v5 : (c : Dev Cert.SsmIdeal.nD) → Buf (Elt Ideal) ((c.tc : Thread Cert.SsmIdeal.nD Cert.SsmIdeal.τ).loc Cert.SsmIdeal.main_v123_5)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v123_0) = v0 c
          ∧ r.2.mem ((c.tc : Thread Cert.SsmIdeal.nD Cert.SsmIdeal.τ).loc Cert.SsmIdeal.main_v123_1) = v1 c
          ∧ r.2.mem ((c.tc : Thread Cert.SsmIdeal.nD Cert.SsmIdeal.τ).loc Cert.SsmIdeal.main_v123_2) = v2 c
          ∧ r.2.mem ((c.tc : Thread Cert.SsmIdeal.nD Cert.SsmIdeal.τ).loc Cert.SsmIdeal.main_v123_3) = v3 c
          ∧ r.2.mem ((c.tc : Thread Cert.SsmIdeal.nD Cert.SsmIdeal.τ).loc Cert.SsmIdeal.main_v123_4) = v4 c
          ∧ r.2.mem ((c.tc : Thread Cert.SsmIdeal.nD Cert.SsmIdeal.τ).loc Cert.SsmIdeal.main_v123_5) = v5 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
          ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
          ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v101) = v0 c
          ∧ r.2.mem ((c.tc : Thread Cert.SsmRefIdeal.nD Cert.SsmRefIdeal.τ).loc Cert.SsmRefIdeal.main_v104) = v1 c
          ∧ r.2.mem ((c.tc : Thread Cert.SsmRefIdeal.nD Cert.SsmRefIdeal.τ).loc Cert.SsmRefIdeal.main_v107) = v2 c
          ∧ r.2.mem ((c.tc : Thread Cert.SsmRefIdeal.nD Cert.SsmRefIdeal.τ).loc Cert.SsmRefIdeal.main_v110) = v3 c
          ∧ r.2.mem ((c.tc : Thread Cert.SsmRefIdeal.nD Cert.SsmRefIdeal.τ).loc Cert.SsmRefIdeal.main_v112) = v4 c
          ∧ r.2.mem ((c.tc : Thread Cert.SsmRefIdeal.nD Cert.SsmRefIdeal.τ).loc Cert.SsmRefIdeal.main_v114) = v5 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8)
          ∧ r.2.mem ((c.tc : Thread Cert.SsmRefIdeal.nD Cert.SsmRefIdeal.τ).loc Cert.SsmRefIdeal.main_arg9) = m' ((c.tc : Thread Cert.SsmRefIdeal.nD Cert.SsmRefIdeal.τ).loc Cert.SsmRefIdeal.main_arg9)
          ∧ r.2.mem ((c.tc : Thread Cert.SsmRefIdeal.nD Cert.SsmRefIdeal.τ).loc Cert.SsmRefIdeal.main_arg10) = m' ((c.tc : Thread Cert.SsmRefIdeal.nD Cert.SsmRefIdeal.τ).loc Cert.SsmRefIdeal.main_arg10))

def preserves_XGrad_XGradIdeal : Prop :=
  True

def algebraic_XGradIdeal_XGradRefIdeal_pre_bounded [hXGradIdeal : Cert.XGradIdeal.Facts] [hXGradRefIdeal : Cert.XGradRefIdeal.Facts] [hPre_bounded : Cert.Pre_bounded.Facts] : Prop :=
  ∀ (m : (ℓ : Loc Cert.XGradIdeal.nD Cert.XGradIdeal.τ Cert.XGradIdeal.sig) → Buf (Elt Ideal) ℓ) (g : Dev Cert.XGradIdeal.nD → PrngReg)
    (m' : (ℓ : Loc Cert.XGradRefIdeal.nD Cert.XGradRefIdeal.τ Cert.XGradRefIdeal.sig) → Buf (Elt Ideal) ℓ) (g' : Dev Cert.XGradRefIdeal.nD → PrngReg), Pre_XGradIdeal_bounded m →
    (∀ c : Dev Cert.XGradIdeal.nD,
      m' ((c.tc : Thread Cert.XGradRefIdeal.nD Cert.XGradRefIdeal.τ).loc Cert.XGradRefIdeal.main_arg0) = m ((c.tc : Thread Cert.XGradIdeal.nD Cert.XGradIdeal.τ).loc Cert.XGradIdeal.main_arg0)
      ∧ m' ((c.tc : Thread Cert.XGradRefIdeal.nD Cert.XGradRefIdeal.τ).loc Cert.XGradRefIdeal.main_arg1) = m ((c.tc : Thread Cert.XGradIdeal.nD Cert.XGradIdeal.τ).loc Cert.XGradIdeal.main_arg1)
      ∧ m' ((c.tc : Thread Cert.XGradRefIdeal.nD Cert.XGradRefIdeal.τ).loc Cert.XGradRefIdeal.main_arg2) = m ((c.tc : Thread Cert.XGradIdeal.nD Cert.XGradIdeal.τ).loc Cert.XGradIdeal.main_arg2)
      ∧ m' ((c.tc : Thread Cert.XGradRefIdeal.nD Cert.XGradRefIdeal.τ).loc Cert.XGradRefIdeal.main_arg3) = m ((c.tc : Thread Cert.XGradIdeal.nD Cert.XGradIdeal.τ).loc Cert.XGradIdeal.main_arg3)
      ∧ m' ((c.tc : Thread Cert.XGradRefIdeal.nD Cert.XGradRefIdeal.τ).loc Cert.XGradRefIdeal.main_arg4) = m ((c.tc : Thread Cert.XGradIdeal.nD Cert.XGradIdeal.τ).loc Cert.XGradIdeal.main_arg4)) →
    ∃ (v0 : (c : Dev Cert.XGradIdeal.nD) → Buf (Elt Ideal) ((c.tc : Thread Cert.XGradIdeal.nD Cert.XGradIdeal.τ).loc Cert.XGradIdeal.main_v12_0)) (v1 : (c : Dev Cert.XGradIdeal.nD) → Buf (Elt Ideal) ((c.tc : Thread Cert.XGradIdeal.nD Cert.XGradIdeal.τ).loc Cert.XGradIdeal.main_v12_1)),
      θ_run (Cert.XGradIdeal.defs (F := Ideal)) (onTc (τ := Cert.XGradIdeal.τ) (Cert.XGradIdeal.main (F := Ideal))) ⟨m, fun _ => 0, g⟩ (fun r => ∀ c : Dev Cert.XGradIdeal.nD,
          r.2.mem ((c.tc : Thread Cert.XGradIdeal.nD Cert.XGradIdeal.τ).loc Cert.XGradIdeal.main_v12_0) = v0 c
          ∧ r.2.mem ((c.tc : Thread Cert.XGradIdeal.nD Cert.XGradIdeal.τ).loc Cert.XGradIdeal.main_v12_1) = v1 c
          ∧ r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
          ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
          ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
          ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
          ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4))
      ∧ θ_run (Cert.XGradRefIdeal.defs (F := Ideal)) (onTc (τ := Cert.XGradRefIdeal.τ) (Cert.XGradRefIdeal.main (F := Ideal))) ⟨m', fun _ => 0, g'⟩ (fun r => ∀ c : Dev Cert.XGradRefIdeal.nD,
          r.2.mem ((c.tc : Thread Cert.XGradRefIdeal.nD Cert.XGradRefIdeal.τ).loc Cert.XGradRefIdeal.main_v42) = v0 c
          ∧ r.2.mem ((c.tc : Thread Cert.XGradRefIdeal.nD Cert.XGradRefIdeal.τ).loc Cert.XGradRefIdeal.main_v22) = v1 c
          ∧ r.2.mem ((c.tc : Thread Cert.XGradRefIdeal.nD Cert.XGradRefIdeal.τ).loc Cert.XGradRefIdeal.main_arg0) = m' ((c.tc : Thread Cert.XGradRefIdeal.nD Cert.XGradRefIdeal.τ).loc Cert.XGradRefIdeal.main_arg0)
          ∧ r.2.mem ((c.tc : Thread Cert.XGradRefIdeal.nD Cert.XGradRefIdeal.τ).loc Cert.XGradRefIdeal.main_arg1) = m' ((c.tc : Thread Cert.XGradRefIdeal.nD Cert.XGradRefIdeal.τ).loc Cert.XGradRefIdeal.main_arg1)
          ∧ r.2.mem ((c.tc : Thread Cert.XGradRefIdeal.nD Cert.XGradRefIdeal.τ).loc Cert.XGradRefIdeal.main_arg2) = m' ((c.tc : Thread Cert.XGradRefIdeal.nD Cert.XGradRefIdeal.τ).loc Cert.XGradRefIdeal.main_arg2)
          ∧ r.2.mem ((c.tc : Thread Cert.XGradRefIdeal.nD Cert.XGradRefIdeal.τ).loc Cert.XGradRefIdeal.main_arg3) = m' ((c.tc : Thread Cert.XGradRefIdeal.nD Cert.XGradRefIdeal.τ).loc Cert.XGradRefIdeal.main_arg3)
          ∧ r.2.mem ((c.tc : Thread Cert.XGradRefIdeal.nD Cert.XGradRefIdeal.τ).loc Cert.XGradRefIdeal.main_arg4) = m' ((c.tc : Thread Cert.XGradRefIdeal.nD Cert.XGradRefIdeal.τ).loc Cert.XGradRefIdeal.main_arg4))

def preserves_Prep_PrepIdeal : Prop :=
  True

def algebraic_PrepIdeal_PrepRefIdeal_on_own_columns_pre_whole [hPrepIdeal : Cert.PrepIdeal.Facts] [hPrepRefIdeal : Cert.PrepRefIdeal.Facts] [hPre_whole : Cert.Pre_whole.Facts] [hOn_own_columns : Cert.On_own_columns.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_whole m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v11_0)) (v1 : (c : Dev Cert.PrepIdeal.nD) → Buf (Elt Ideal) ((c.tc : Thread Cert.PrepIdeal.nD Cert.PrepIdeal.τ).loc Cert.PrepIdeal.main_v11_1)) (v2 : (c : Dev Cert.PrepIdeal.nD) → Buf (Elt Ideal) ((c.tc : Thread Cert.PrepIdeal.nD Cert.PrepIdeal.τ).loc Cert.PrepIdeal.main_v11_2)) (v3 : (c : Dev Cert.PrepIdeal.nD) → Buf (Elt Ideal) ((c.tc : Thread Cert.PrepIdeal.nD Cert.PrepIdeal.τ).loc Cert.PrepIdeal.main_v11_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          (∀ i : (⟨2, ![8192, 1024]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).1 i = 1#1 → r.2.mem ((c.tc : Thread Cert.PrepIdeal.nD Cert.PrepIdeal.τ).loc Cert.PrepIdeal.main_v11_0) i = v0 c i)
          ∧ (∀ i : (⟨2, ![8192, 1024]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2.1 i = 1#1 → r.2.mem ((c.tc : Thread Cert.PrepIdeal.nD Cert.PrepIdeal.τ).loc Cert.PrepIdeal.main_v11_1) i = v1 c i)
          ∧ (∀ i : (⟨2, ![8192, 1024]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2.2.1 i = 1#1 → r.2.mem ((c.tc : Thread Cert.PrepIdeal.nD Cert.PrepIdeal.τ).loc Cert.PrepIdeal.main_v11_2) i = v2 c i)
          ∧ (∀ i : (⟨2, ![8192, 6144]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2.2.2 i = 1#1 → r.2.mem ((c.tc : Thread Cert.PrepIdeal.nD Cert.PrepIdeal.τ).loc Cert.PrepIdeal.main_v11_3) i = v3 c i)
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          (∀ i : (⟨2, ![8192, 1024]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).1 i = 1#1 → r.2.mem ((c.tc : Thread Cert.PrepRefIdeal.nD Cert.PrepRefIdeal.τ).loc Cert.PrepRefIdeal.main_v16) i = v0 c i)
          ∧ (∀ i : (⟨2, ![8192, 1024]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2.1 i = 1#1 → r.2.mem ((c.tc : Thread Cert.PrepRefIdeal.nD Cert.PrepRefIdeal.τ).loc Cert.PrepRefIdeal.main_v19) i = v1 c i)
          ∧ (∀ i : (⟨2, ![8192, 1024]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2.2.1 i = 1#1 → r.2.mem ((c.tc : Thread Cert.PrepRefIdeal.nD Cert.PrepRefIdeal.τ).loc Cert.PrepRefIdeal.main_v22) i = v2 c i)
          ∧ (∀ i : (⟨2, ![8192, 6144]⟩ : Shape).Idx, (Cert.On_own_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))).2.2.2 i = 1#1 → r.2.mem ((c.tc : Thread Cert.PrepRefIdeal.nD Cert.PrepRefIdeal.τ).loc Cert.PrepRefIdeal.main_v27) i = v3 c i)
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_WinGrad_WinGradIdeal : Prop :=
  True

def algebraic_WinGradIdeal_WinGradRefIdeal [hWinGradIdeal : Cert.WinGradIdeal.Facts] [hWinGradRefIdeal : Cert.WinGradRefIdeal.Facts] : Prop :=
  ∀ (m : (ℓ : Loc Cert.WinGradIdeal.nD Cert.WinGradIdeal.τ Cert.WinGradIdeal.sig) → Buf (Elt Ideal) ℓ) (g : Dev Cert.WinGradIdeal.nD → PrngReg)
    (m' : (ℓ : Loc Cert.WinGradRefIdeal.nD Cert.WinGradRefIdeal.τ Cert.WinGradRefIdeal.sig) → Buf (Elt Ideal) ℓ) (g' : Dev Cert.WinGradRefIdeal.nD → PrngReg), Pre_WinGradIdeal m →
    (∀ c : Dev Cert.WinGradIdeal.nD,
      m' ((c.tc : Thread Cert.WinGradRefIdeal.nD Cert.WinGradRefIdeal.τ).loc Cert.WinGradRefIdeal.main_arg0) = m ((c.tc : Thread Cert.WinGradIdeal.nD Cert.WinGradIdeal.τ).loc Cert.WinGradIdeal.main_arg0)
      ∧ m' ((c.tc : Thread Cert.WinGradRefIdeal.nD Cert.WinGradRefIdeal.τ).loc Cert.WinGradRefIdeal.main_arg1) = m ((c.tc : Thread Cert.WinGradIdeal.nD Cert.WinGradIdeal.τ).loc Cert.WinGradIdeal.main_arg1)
      ∧ m' ((c.tc : Thread Cert.WinGradRefIdeal.nD Cert.WinGradRefIdeal.τ).loc Cert.WinGradRefIdeal.main_arg2) = m ((c.tc : Thread Cert.WinGradIdeal.nD Cert.WinGradIdeal.τ).loc Cert.WinGradIdeal.main_arg2)) →
    ∃ (v0 : (c : Dev Cert.WinGradIdeal.nD) → Buf (Elt Ideal) ((c.tc : Thread Cert.WinGradIdeal.nD Cert.WinGradIdeal.τ).loc Cert.WinGradIdeal.main_v19)),
      θ_run (Cert.WinGradIdeal.defs (F := Ideal)) (onTc (τ := Cert.WinGradIdeal.τ) (Cert.WinGradIdeal.main (F := Ideal))) ⟨m, fun _ => 0, g⟩ (fun r => ∀ c : Dev Cert.WinGradIdeal.nD,
          r.2.mem ((c.tc : Thread Cert.WinGradIdeal.nD Cert.WinGradIdeal.τ).loc Cert.WinGradIdeal.main_v19) = v0 c
          ∧ r.2.mem ((c.tc : Thread Cert.WinGradIdeal.nD Cert.WinGradIdeal.τ).loc Cert.WinGradIdeal.main_arg0) = m ((c.tc : Thread Cert.WinGradIdeal.nD Cert.WinGradIdeal.τ).loc Cert.WinGradIdeal.main_arg0)
          ∧ r.2.mem ((c.tc : Thread Cert.WinGradIdeal.nD Cert.WinGradIdeal.τ).loc Cert.WinGradIdeal.main_arg1) = m ((c.tc : Thread Cert.WinGradIdeal.nD Cert.WinGradIdeal.τ).loc Cert.WinGradIdeal.main_arg1)
          ∧ r.2.mem ((c.tc : Thread Cert.WinGradIdeal.nD Cert.WinGradIdeal.τ).loc Cert.WinGradIdeal.main_arg2) = m ((c.tc : Thread Cert.WinGradIdeal.nD Cert.WinGradIdeal.τ).loc Cert.WinGradIdeal.main_arg2))
      ∧ θ_run (Cert.WinGradRefIdeal.defs (F := Ideal)) (onTc (τ := Cert.WinGradRefIdeal.τ) (Cert.WinGradRefIdeal.main (F := Ideal))) ⟨m', fun _ => 0, g'⟩ (fun r => ∀ c : Dev Cert.WinGradRefIdeal.nD,
          r.2.mem ((c.tc : Thread Cert.WinGradRefIdeal.nD Cert.WinGradRefIdeal.τ).loc Cert.WinGradRefIdeal.main_v19) = v0 c
          ∧ r.2.mem ((c.tc : Thread Cert.WinGradRefIdeal.nD Cert.WinGradRefIdeal.τ).loc Cert.WinGradRefIdeal.main_arg0) = m' ((c.tc : Thread Cert.WinGradRefIdeal.nD Cert.WinGradRefIdeal.τ).loc Cert.WinGradRefIdeal.main_arg0)
          ∧ r.2.mem ((c.tc : Thread Cert.WinGradRefIdeal.nD Cert.WinGradRefIdeal.τ).loc Cert.WinGradRefIdeal.main_arg1) = m' ((c.tc : Thread Cert.WinGradRefIdeal.nD Cert.WinGradRefIdeal.τ).loc Cert.WinGradRefIdeal.main_arg1)
          ∧ r.2.mem ((c.tc : Thread Cert.WinGradRefIdeal.nD Cert.WinGradRefIdeal.τ).loc Cert.WinGradRefIdeal.main_arg2) = m' ((c.tc : Thread Cert.WinGradRefIdeal.nD Cert.WinGradRefIdeal.τ).loc Cert.WinGradRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)
      ∧ m' ((c.tc : Thread Cert.ChipSumRefIdeal.nD Cert.ChipSumRefIdeal.τ).loc Cert.ChipSumRefIdeal.main_arg2) = m ((c.tc : Thread Cert.ChipSumIdeal.nD Cert.ChipSumIdeal.τ).loc Cert.ChipSumIdeal.main_arg2)
      ∧ m' ((c.tc : Thread Cert.ChipSumRefIdeal.nD Cert.ChipSumRefIdeal.τ).loc Cert.ChipSumRefIdeal.main_arg3) = m ((c.tc : Thread Cert.ChipSumIdeal.nD Cert.ChipSumIdeal.τ).loc Cert.ChipSumIdeal.main_arg3)
      ∧ m' ((c.tc : Thread Cert.ChipSumRefIdeal.nD Cert.ChipSumRefIdeal.τ).loc Cert.ChipSumRefIdeal.main_arg4) = m ((c.tc : Thread Cert.ChipSumIdeal.nD Cert.ChipSumIdeal.τ).loc Cert.ChipSumIdeal.main_arg4)
      ∧ m' ((c.tc : Thread Cert.ChipSumRefIdeal.nD Cert.ChipSumRefIdeal.τ).loc Cert.ChipSumRefIdeal.main_arg5) = m ((c.tc : Thread Cert.ChipSumIdeal.nD Cert.ChipSumIdeal.τ).loc Cert.ChipSumIdeal.main_arg5)
      ∧ m' ((c.tc : Thread Cert.ChipSumRefIdeal.nD Cert.ChipSumRefIdeal.τ).loc Cert.ChipSumRefIdeal.main_arg6) = m ((c.tc : Thread Cert.ChipSumIdeal.nD Cert.ChipSumIdeal.τ).loc Cert.ChipSumIdeal.main_arg6)) →
    ∃ (v0 : (c : Dev Cert.ChipSumIdeal.nD) → Buf (Elt Ideal) ((c.tc : Thread Cert.ChipSumIdeal.nD Cert.ChipSumIdeal.τ).loc Cert.ChipSumIdeal.main_v0_0)) (v1 : (c : Dev Cert.ChipSumIdeal.nD) → Buf (Elt Ideal) ((c.tc : Thread Cert.ChipSumIdeal.nD Cert.ChipSumIdeal.τ).loc Cert.ChipSumIdeal.main_v0_1)) (v2 : (c : Dev Cert.ChipSumIdeal.nD) → Buf (Elt Ideal) ((c.tc : Thread Cert.ChipSumIdeal.nD Cert.ChipSumIdeal.τ).loc Cert.ChipSumIdeal.main_v0_2)) (v3 : (c : Dev Cert.ChipSumIdeal.nD) → Buf (Elt Ideal) ((c.tc : Thread Cert.ChipSumIdeal.nD Cert.ChipSumIdeal.τ).loc Cert.ChipSumIdeal.main_v0_3)) (v4 : (c : Dev Cert.ChipSumIdeal.nD) → Buf (Elt Ideal) ((c.tc : Thread Cert.ChipSumIdeal.nD Cert.ChipSumIdeal.τ).loc Cert.ChipSumIdeal.main_v0_4)) (v5 : (c : Dev Cert.ChipSumIdeal.nD) → Buf (Elt Ideal) ((c.tc : Thread Cert.ChipSumIdeal.nD Cert.ChipSumIdeal.τ).loc Cert.ChipSumIdeal.main_v0_5)) (v6 : (c : Dev Cert.ChipSumIdeal.nD) → Buf (Elt Ideal) ((c.tc : Thread Cert.ChipSumIdeal.nD Cert.ChipSumIdeal.τ).loc Cert.ChipSumIdeal.main_v0_6)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0_0) = v0 c
          ∧ r.2.mem ((c.tc : Thread Cert.ChipSumIdeal.nD Cert.ChipSumIdeal.τ).loc Cert.ChipSumIdeal.main_v0_1) = v1 c
          ∧ r.2.mem ((c.tc : Thread Cert.ChipSumIdeal.nD Cert.ChipSumIdeal.τ).loc Cert.ChipSumIdeal.main_v0_2) = v2 c
          ∧ r.2.mem ((c.tc : Thread Cert.ChipSumIdeal.nD Cert.ChipSumIdeal.τ).loc Cert.ChipSumIdeal.main_v0_3) = v3 c
          ∧ r.2.mem ((c.tc : Thread Cert.ChipSumIdeal.nD Cert.ChipSumIdeal.τ).loc Cert.ChipSumIdeal.main_v0_4) = v4 c
          ∧ r.2.mem ((c.tc : Thread Cert.ChipSumIdeal.nD Cert.ChipSumIdeal.τ).loc Cert.ChipSumIdeal.main_v0_5) = v5 c
          ∧ r.2.mem ((c.tc : Thread Cert.ChipSumIdeal.nD Cert.ChipSumIdeal.τ).loc Cert.ChipSumIdeal.main_v0_6) = v6 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
          ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3)
          ∧ r.2.mem ((c.tc : Thread Cert.ChipSumIdeal.nD Cert.ChipSumIdeal.τ).loc Cert.ChipSumIdeal.main_arg4) = m ((c.tc : Thread Cert.ChipSumIdeal.nD Cert.ChipSumIdeal.τ).loc Cert.ChipSumIdeal.main_arg4)
          ∧ r.2.mem ((c.tc : Thread Cert.ChipSumIdeal.nD Cert.ChipSumIdeal.τ).loc Cert.ChipSumIdeal.main_arg5) = m ((c.tc : Thread Cert.ChipSumIdeal.nD Cert.ChipSumIdeal.τ).loc Cert.ChipSumIdeal.main_arg5)
          ∧ r.2.mem ((c.tc : Thread Cert.ChipSumIdeal.nD Cert.ChipSumIdeal.τ).loc Cert.ChipSumIdeal.main_arg6) = m ((c.tc : Thread Cert.ChipSumIdeal.nD Cert.ChipSumIdeal.τ).loc Cert.ChipSumIdeal.main_arg6))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_v3) = v1 c
          ∧ r.2.mem ((c.tc : Thread Cert.ChipSumRefIdeal.nD Cert.ChipSumRefIdeal.τ).loc Cert.ChipSumRefIdeal.main_v5) = v2 c
          ∧ r.2.mem ((c.tc : Thread Cert.ChipSumRefIdeal.nD Cert.ChipSumRefIdeal.τ).loc Cert.ChipSumRefIdeal.main_v7) = v3 c
          ∧ r.2.mem ((c.tc : Thread Cert.ChipSumRefIdeal.nD Cert.ChipSumRefIdeal.τ).loc Cert.ChipSumRefIdeal.main_v9) = v4 c
          ∧ r.2.mem ((c.tc : Thread Cert.ChipSumRefIdeal.nD Cert.ChipSumRefIdeal.τ).loc Cert.ChipSumRefIdeal.main_v11) = v5 c
          ∧ r.2.mem ((c.tc : Thread Cert.ChipSumRefIdeal.nD Cert.ChipSumRefIdeal.τ).loc Cert.ChipSumRefIdeal.main_v12) = v6 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1)
          ∧ r.2.mem ((c.tc : Thread Cert.ChipSumRefIdeal.nD Cert.ChipSumRefIdeal.τ).loc Cert.ChipSumRefIdeal.main_arg2) = m' ((c.tc : Thread Cert.ChipSumRefIdeal.nD Cert.ChipSumRefIdeal.τ).loc Cert.ChipSumRefIdeal.main_arg2)
          ∧ r.2.mem ((c.tc : Thread Cert.ChipSumRefIdeal.nD Cert.ChipSumRefIdeal.τ).loc Cert.ChipSumRefIdeal.main_arg3) = m' ((c.tc : Thread Cert.ChipSumRefIdeal.nD Cert.ChipSumRefIdeal.τ).loc Cert.ChipSumRefIdeal.main_arg3)
          ∧ r.2.mem ((c.tc : Thread Cert.ChipSumRefIdeal.nD Cert.ChipSumRefIdeal.τ).loc Cert.ChipSumRefIdeal.main_arg4) = m' ((c.tc : Thread Cert.ChipSumRefIdeal.nD Cert.ChipSumRefIdeal.τ).loc Cert.ChipSumRefIdeal.main_arg4)
          ∧ r.2.mem ((c.tc : Thread Cert.ChipSumRefIdeal.nD Cert.ChipSumRefIdeal.τ).loc Cert.ChipSumRefIdeal.main_arg5) = m' ((c.tc : Thread Cert.ChipSumRefIdeal.nD Cert.ChipSumRefIdeal.τ).loc Cert.ChipSumRefIdeal.main_arg5)
          ∧ r.2.mem ((c.tc : Thread Cert.ChipSumRefIdeal.nD Cert.ChipSumRefIdeal.τ).loc Cert.ChipSumRefIdeal.main_arg6) = m' ((c.tc : Thread Cert.ChipSumRefIdeal.nD Cert.ChipSumRefIdeal.τ).loc Cert.ChipSumRefIdeal.main_arg6))

def preserves_Proj_ProjIdeal : Prop :=
  True

def algebraic_ProjIdeal_ProjRefIdeal_on_other_columns [hProjIdeal : Cert.ProjIdeal.Facts] [hProjRefIdeal : Cert.ProjRefIdeal.Facts] [hOn_other_columns : Cert.On_other_columns.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v19)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          (∀ i : (⟨2, ![8192, 6144]⟩ : Shape).Idx, (Cert.On_other_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))) i = 1#1 → r.2.mem ((c.tc : Thread Cert.ProjIdeal.nD Cert.ProjIdeal.τ).loc Cert.ProjIdeal.main_v19) i = v0 c i)
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          (∀ i : (⟨2, ![8192, 6144]⟩ : Shape).Idx, (Cert.On_other_columns.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3))) i = 1#1 → r.2.mem ((c.tc : Thread Cert.ProjRefIdeal.nD Cert.ProjRefIdeal.τ).loc Cert.ProjRefIdeal.main_v16) i = v0 c i)
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_SsmBwd_SsmBwdIdeal : Prop :=
  True

def Claim : Prop :=
  ∃ (hTail : Cert.Tail.Facts) (hTailIdeal : Cert.TailIdeal.Facts) (hTailRefIdeal : Cert.TailRefIdeal.Facts) (hSsm : Cert.Ssm.Facts) (hSsmIdeal : Cert.SsmIdeal.Facts) (hSsmRefIdeal : Cert.SsmRefIdeal.Facts) (hXGrad : Cert.XGrad.Facts) (hXGradIdeal : Cert.XGradIdeal.Facts) (hXGradRefIdeal : Cert.XGradRefIdeal.Facts) (hPrep : Cert.Prep.Facts) (hPrepIdeal : Cert.PrepIdeal.Facts) (hPrepRefIdeal : Cert.PrepRefIdeal.Facts) (hWinGrad : Cert.WinGrad.Facts) (hWinGradIdeal : Cert.WinGradIdeal.Facts) (hWinGradRefIdeal : Cert.WinGradRefIdeal.Facts) (hAdam : Cert.Adam.Facts) (hAdamIdeal : Cert.AdamIdeal.Facts) (hAdamRefIdeal : Cert.AdamRefIdeal.Facts) (hChipSum : Cert.ChipSum.Facts) (hChipSumIdeal : Cert.ChipSumIdeal.Facts) (hChipSumRefIdeal : Cert.ChipSumRefIdeal.Facts) (hProj : Cert.Proj.Facts) (hProjIdeal : Cert.ProjIdeal.Facts) (hProjRefIdeal : Cert.ProjRefIdeal.Facts) (hSsmBwd : Cert.SsmBwd.Facts) (hSsmBwdIdeal : Cert.SsmBwdIdeal.Facts) (hPre_finite : Cert.Pre_finite.Facts) (hPre_stable : Cert.Pre_stable.Facts) (hPre_bounded : Cert.Pre_bounded.Facts) (hPre_whole : Cert.Pre_whole.Facts) (hOn_gates : Cert.On_gates.Facts) (hOn_own_columns : Cert.On_own_columns.Facts) (hOn_other_columns : Cert.On_other_columns.Facts),
    quiescent_Tail (hTail := hTail)
    ∧ quiescent_TailIdeal (hTailIdeal := hTailIdeal)
    ∧ quiescent_TailIdeal_pre_finite (hTailIdeal := hTailIdeal) (hPre_finite := hPre_finite)
    ∧ quiescent_TailRefIdeal (hTailRefIdeal := hTailRefIdeal)
    ∧ quiescent_TailRefIdeal_pre_finite (hTailRefIdeal := hTailRefIdeal) (hPre_finite := hPre_finite)
    ∧ quiescent_Ssm (hSsm := hSsm)
    ∧ quiescent_SsmIdeal (hSsmIdeal := hSsmIdeal)
    ∧ quiescent_SsmIdeal_pre_stable (hSsmIdeal := hSsmIdeal) (hPre_stable := hPre_stable)
    ∧ quiescent_SsmRefIdeal (hSsmRefIdeal := hSsmRefIdeal)
    ∧ quiescent_SsmRefIdeal_pre_stable (hSsmRefIdeal := hSsmRefIdeal) (hPre_stable := hPre_stable)
    ∧ quiescent_XGrad (hXGrad := hXGrad)
    ∧ quiescent_XGradIdeal (hXGradIdeal := hXGradIdeal)
    ∧ quiescent_XGradIdeal_pre_bounded (hXGradIdeal := hXGradIdeal) (hPre_bounded := hPre_bounded)
    ∧ quiescent_XGradRefIdeal (hXGradRefIdeal := hXGradRefIdeal)
    ∧ quiescent_XGradRefIdeal_pre_bounded (hXGradRefIdeal := hXGradRefIdeal) (hPre_bounded := hPre_bounded)
    ∧ quiescent_Prep (hPrep := hPrep)
    ∧ quiescent_PrepIdeal (hPrepIdeal := hPrepIdeal)
    ∧ quiescent_PrepIdeal_pre_whole (hPrepIdeal := hPrepIdeal) (hPre_whole := hPre_whole)
    ∧ quiescent_PrepRefIdeal (hPrepRefIdeal := hPrepRefIdeal)
    ∧ quiescent_PrepRefIdeal_pre_whole (hPrepRefIdeal := hPrepRefIdeal) (hPre_whole := hPre_whole)
    ∧ quiescent_WinGrad (hWinGrad := hWinGrad)
    ∧ quiescent_WinGradIdeal (hWinGradIdeal := hWinGradIdeal)
    ∧ quiescent_WinGradRefIdeal (hWinGradRefIdeal := hWinGradRefIdeal)
    ∧ quiescent_Adam (hAdam := hAdam)
    ∧ quiescent_AdamIdeal (hAdamIdeal := hAdamIdeal)
    ∧ quiescent_AdamRefIdeal (hAdamRefIdeal := hAdamRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_Proj (hProj := hProj)
    ∧ quiescent_ProjIdeal (hProjIdeal := hProjIdeal)
    ∧ quiescent_ProjRefIdeal (hProjRefIdeal := hProjRefIdeal)
    ∧ quiescent_SsmBwd (hSsmBwd := hSsmBwd)
    ∧ quiescent_SsmBwdIdeal (hSsmBwdIdeal := hSsmBwdIdeal)
    ∧ preserves_Tail_TailIdeal
    ∧ algebraic_TailIdeal_TailRefIdeal_on_gates_pre_finite (hTailIdeal := hTailIdeal) (hTailRefIdeal := hTailRefIdeal) (hPre_finite := hPre_finite) (hOn_gates := hOn_gates)
    ∧ preserves_Ssm_SsmIdeal
    ∧ algebraic_SsmIdeal_SsmRefIdeal_pre_stable (hSsmIdeal := hSsmIdeal) (hSsmRefIdeal := hSsmRefIdeal) (hPre_stable := hPre_stable)
    ∧ preserves_XGrad_XGradIdeal
    ∧ algebraic_XGradIdeal_XGradRefIdeal_pre_bounded (hXGradIdeal := hXGradIdeal) (hXGradRefIdeal := hXGradRefIdeal) (hPre_bounded := hPre_bounded)
    ∧ preserves_Prep_PrepIdeal
    ∧ algebraic_PrepIdeal_PrepRefIdeal_on_own_columns_pre_whole (hPrepIdeal := hPrepIdeal) (hPrepRefIdeal := hPrepRefIdeal) (hPre_whole := hPre_whole) (hOn_own_columns := hOn_own_columns)
    ∧ preserves_WinGrad_WinGradIdeal
    ∧ algebraic_WinGradIdeal_WinGradRefIdeal (hWinGradIdeal := hWinGradIdeal) (hWinGradRefIdeal := hWinGradRefIdeal)
    ∧ preserves_Adam_AdamIdeal
    ∧ algebraic_AdamIdeal_AdamRefIdeal (hAdamIdeal := hAdamIdeal) (hAdamRefIdeal := hAdamRefIdeal)
    ∧ preserves_ChipSum_ChipSumIdeal
    ∧ algebraic_ChipSumIdeal_ChipSumRefIdeal (hChipSumIdeal := hChipSumIdeal) (hChipSumRefIdeal := hChipSumRefIdeal)
    ∧ preserves_Proj_ProjIdeal
    ∧ algebraic_ProjIdeal_ProjRefIdeal_on_other_columns (hProjIdeal := hProjIdeal) (hProjRefIdeal := hProjRefIdeal) (hOn_other_columns := hOn_other_columns)
    ∧ preserves_SsmBwd_SsmBwdIdeal
-- ==== On_gates.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S512x1024 : Shape := ⟨2, ![512, 1024]⟩
abbrev S1x1024 : Shape := ⟨2, ![1, 1024]⟩
abbrev S_ : Shape := ⟨0, ![]⟩
abbrev S4x512x256 : Shape := ⟨3, ![4, 512, 256]⟩
abbrev S1x128 : Shape := ⟨2, ![1, 128]⟩

class Facts : Prop where
  bcast_S_S8192x6144 : S_.BroadcastsInDim S8192x6144 (![] : Fin 0 → Fin S8192x6144.rank)
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S4x512x256 : S_.BroadcastsInDim S4x512x256 (![] : Fin 0 → Fin S4x512x256.rank)
  bcast_S_S1x1024 : S_.BroadcastsInDim S1x1024 (![] : Fin 0 → Fin S1x1024.rank)
  bcast_S_S1x128 : S_.BroadcastsInDim S1x128 (![] : Fin 0 → Fin S1x128.rank)

variable [Facts]

def fn {F : FTy → Type} [FloatOps F] (main_arg0 : FVec F S8192x1024 .bf16) (main_arg1 : FVec F S8192x512 .bf16) (main_arg2 : FVec F S8192x6144 .bf16) (main_arg3 : FVec F S8192x1024 .f32) (main_arg4 : FVec F S8192x1024 .f32) (main_arg5 : FVec F S1024x1024 .f32) (main_arg6 : FVec F S512x1024 .f32) (main_arg7 : FVec F S1024x1024 .f32) (main_arg8 : FVec F S1x1024 .f32) : IVec S8192x1024 1 × IVec S8192x1024 1 × IVec S8192x512 1 × IVec S8192x6144 1 × IVec S1024x1024 1 × IVec S1024x1024 1 × IVec S4x512x256 1 × IVec S1x1024 1 × IVec S1x128 1 :=
  let main_v0 : IVec S8192x6144 32 := iotaInDim S8192x6144 32 1
  let main_c : IVec S_ 32 := constantI S_ 32 4096#32
  let main_v1 : IVec S8192x6144 32 := broadcastInDim S8192x6144 ![] bcast_S_S8192x6144 main_c
  let main_v2 : IVec S8192x6144 1 := cmpi .sge main_v0 main_v1
  let main_c_0 : IVec S_ 1 := constantI S_ 1 1#1
  let main_v3 : IVec S8192x1024 1 := broadcastInDim S8192x1024 ![] bcast_S_S8192x1024 main_c_0
  let main_c_1 : IVec S_ 1 := constantI S_ 1 1#1
  let main_v4 : IVec S8192x1024 1 := broadcastInDim S8192x1024 ![] bcast_S_S8192x1024 main_c_1
  let main_c_2 : IVec S_ 1 := constantI S_ 1 1#1
  let main_v5 : IVec S8192x512 1 := broadcastInDim S8192x512 ![] bcast_S_S8192x512 main_c_2
  let main_c_3 : IVec S_ 1 := constantI S_ 1 1#1
  let main_v6 : IVec S1024x1024 1 := broadcastInDim S1024x1024 ![] bcast_S_S1024x1024 main_c_3
  let main_c_4 : IVec S_ 1 := constantI S_ 1 1#1
  let main_v7 : IVec S1024x1024 1 := broadcastInDim S1024x1024 ![] bcast_S_S1024x1024 main_c_4
  let main_c_5 : IVec S_ 1 := constantI S_ 1 1#1
  let main_v8 : IVec S4x512x256 1 := broadcastInDim S4x512x256 ![] bcast_S_S4x512x256 main_c_5
  let main_c_6 : IVec S_ 1 := constantI S_ 1 1#1
  let main_v9 : IVec S1x1024 1 := broadcastInDim S1x1024 ![] bcast_S_S1x1024 main_c_6
  let main_c_7 : IVec S_ 1 := constantI S_ 1 1#1
  let main_v10 : IVec S1x128 1 := broadcastInDim S1x128 ![] bcast_S_S1x128 main_c_7
  (main_v3, main_v4, main_v5, main_v2, main_v6, main_v7, main_v8, main_v9, main_v10)
-- ==== On_other_columns.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩

class Facts : Prop where
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S1x1024 .f32) (main_arg2 : FVec F S1024x6144 .f32) (main_arg3 : FVec F S8192x6144 .bf16) : IVec S8192x6144 1 :=
  let main_v0 : IVec S8192x6144 32 := iotaInDim S8192x6144 32 1
  let main_c : IVec S_ 32 := constantI S_ 32 1536#32
  let main_v1 : IVec S8192x6144 32 := broadcastInDim S8192x6144 ![] bcast_S_S8192x6144 main_c
  let main_v2 : IVec S8192x6144 1 := cmpi .sge main_v0 main_v1
  main_v2
-- ==== On_own_columns.lean ====
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩
abbrev S8192x6144 : Shape := ⟨2, ![8192, 6144]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S1x1024 .f32) (main_arg2 : FVec F S1024x1536 .f32) (main_arg3 : FVec F S8192x1024 .f32) : IVec S8192x1024 1 × IVec S8192x1024 1 × IVec S8192x1024 1 × IVec S8192x6144 1 :=
  let main_c : IVec S_ 1 := constantI S_ 1 1#1
  let main_v0 : IVec S8192x1024 1 := broadcastInDim S8192x1024 ![] bcast_S_S8192x1024 main_c
  let main_v1 : IVec S8192x6144 32 := iotaInDim S8192x6144 32 1
  let main_c_0 : IVec S_ 32 := constantI S_ 32 1536#32
  let main_v2 : IVec S8192x6144 32 := broadcastInDim S8192x6144 ![] bcast_S_S8192x6144 main_c_0
  let main_v3 : IVec S8192x6144 1 := cmpi .slt main_v1 main_v2
  (main_v0, main_v0, main_v0, main_v3)
-- ==== Pre_bounded.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x6144 : S_.BroadcastsInDim S1024x6144 (![] : Fin 0 → Fin S1024x6144.rank)
  bitsLt_bf16_f32 : FTy.bits .bf16 < FTy.bits .f32
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S1x1024 .f32) (main_arg2 : FVec F S1024x6144 .f32) (main_arg3 : FVec F S8192x1024 .f32) (main_arg4 : FVec F S8192x6144 .bf16) : IVec S8192x1024 1 × IVec S1x1024 1 × IVec S1024x6144 1 × IVec S8192x6144 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x6144 .f32 := Host.absf main_arg2
  let main_cst_1 : FVec F S_ .f32 := constant S_ .f32 0x7F800000#32
  let main_v7 : FVec F S1024x6144 .f32 := broadcastInDim S1024x6144 ![] bcast_S_S1024x6144 main_cst_1
  let main_v8 : IVec S1024x6144 1 := cmpf .olt main_v6 main_v7
  let main_v9 : FVec F S8192x6144 .f32 := (extf .f32 · bitsLt_bf16_f32) main_arg4
  let main_v10 : FVec F S8192x6144 .f32 := Host.absf main_v9
  let main_cst_2 : FVec F S_ .f32 := constant S_ .f32 0x7F800000#32
  let main_v11 : FVec F S8192x6144 .f32 := broadcastInDim S8192x6144 ![] bcast_S_S8192x6144 main_cst_2
  let main_v12 : IVec S8192x6144 1 := cmpf .olt main_v10 main_v11
  (main_v2, main_v5, main_v8, main_v12)
-- ==== Pre_finite.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S512x1024 : Shape := ⟨2, ![512, 1024]⟩
abbrev S1x1024 : Shape := ⟨2, ![1, 1024]⟩
abbrev S8192x2048 : Shape := ⟨2, ![8192, 2048]⟩
abbrev S_ : Shape := ⟨0, ![]⟩

class Facts : Prop where
  slices_S8192x6144_S8192x2048_0_4096 : S8192x6144.Slices ![0, 4096] S8192x2048
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x2048 : S_.BroadcastsInDim S8192x2048 (![] : Fin 0 → Fin S8192x2048.rank)
  bcast_S_S1024x1024 : S_.BroadcastsInDim S1024x1024 (![] : Fin 0 → Fin S1024x1024.rank)
  bcast_S_S512x1024 : S_.BroadcastsInDim S512x1024 (![] : Fin 0 → Fin S512x1024.rank)
  bcast_S_S1x1024 : S_.BroadcastsInDim S1x1024 (![] : Fin 0 → Fin S1x1024.rank)

variable [Facts]

def fn_part1 {F : FTy → Type} [FloatOps F] (main_arg5 : FVec F S1024x1024 .f32) (main_arg6 : FVec F S512x1024 .f32) (main_arg7 : FVec F S1024x1024 .f32) (main_arg8 : FVec F S1x1024 .f32) (main_v4 : IVec S8192x1024 1) (main_v8 : IVec S8192x512 1) (main_v12 : IVec S8192x2048 1) (main_v15 : IVec S8192x1024 1) (main_v18 : IVec S8192x1024 1) : IVec S8192x1024 1 × IVec S8192x512 1 × IVec S8192x2048 1 × IVec S8192x1024 1 × IVec S8192x1024 1 × IVec S1024x1024 1 × IVec S512x1024 1 × IVec S1024x1024 1 × IVec S1x1024 1 :=
  let main_v19 : FVec F S1024x1024 .f32 := Host.absf main_arg5
  let main_cst_4 : FVec F S_ .f32 := constant S_ .f32 0x7F800000#32
  let main_v20 : FVec F S1024x1024 .f32 := broadcastInDim S1024x1024 ![] bcast_S_S1024x1024 main_cst_4
  let main_v21 : IVec S1024x1024 1 := cmpf .olt main_v19 main_v20
  let main_v22 : FVec F S512x1024 .f32 := Host.absf main_arg6
  let main_cst_5 : FVec F S_ .f32 := constant S_ .f32 0x7F800000#32
  let main_v23 : FVec F S512x1024 .f32 := broadcastInDim S512x1024 ![] bcast_S_S512x1024 main_cst_5
  let main_v24 : IVec S512x1024 1 := cmpf .olt main_v22 main_v23
  let main_v25 : FVec F S1024x1024 .f32 := Host.absf main_arg7
  let main_cst_6 : FVec F S_ .f32 := constant S_ .f32 0x7F800000#32
  let main_v26 : FVec F S1024x1024 .f32 := broadcastInDim S1024x1024 ![] bcast_S_S1024x1024 main_cst_6
  let main_v27 : IVec S1024x1024 1 := cmpf .olt main_v25 main_v26
  let main_v28 : FVec F S1x1024 .f32 := Host.absf main_arg8
  let main_cst_7 : FVec F S_ .f32 := constant S_ .f32 0x7F800000#32
  let main_v29 : FVec F S1x1024 .f32 := broadcastInDim S1x1024 ![] bcast_S_S1x1024 main_cst_7
  let main_v30 : IVec S1x1024 1 := cmpf .olt main_v28 main_v29
  (main_v4, main_v8, main_v12, main_v15, main_v18, main_v21, main_v24, main_v27, main_v30)

def fn {F : FTy → Type} [FloatOps F] (main_arg0 : FVec F S8192x1024 .bf16) (main_arg1 : FVec F S8192x512 .bf16) (main_arg2 : FVec F S8192x6144 .bf16) (main_arg3 : FVec F S8192x1024 .f32) (main_arg4 : FVec F S8192x1024 .f32) (main_arg5 : FVec F S1024x1024 .f32) (main_arg6 : FVec F S512x1024 .f32) (main_arg7 : FVec F S1024x1024 .f32) (main_arg8 : FVec F S1x1024 .f32) : IVec S8192x1024 1 × IVec S8192x512 1 × IVec S8192x2048 1 × IVec S8192x1024 1 × IVec S8192x1024 1 × IVec S1024x1024 1 × IVec S512x1024 1 × IVec S1024x1024 1 × IVec S1x1024 1 :=
  let main_v0 : FVec F S8192x2048 .bf16 := (extractStridedSlice S8192x2048 ![0, 4096] · slices_S8192x6144_S8192x2048_0_4096) main_arg2
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_v9 : FVec F S8192x2048 .f32 := (extf .f32 · bitsLt_bf16_f32) main_v0
  let main_v10 : FVec F S8192x2048 .f32 := Host.absf main_v9
  let main_cst_1 : FVec F S_ .f32 := constant S_ .f32 0x7F800000#32
  let main_v11 : FVec F S8192x2048 .f32 := broadcastInDim S8192x2048 ![] bcast_S_S8192x2048 main_cst_1
  let main_v12 : IVec S8192x2048 1 := cmpf .olt main_v10 main_v11
  let main_v13 : FVec F S8192x1024 .f32 := Host.absf main_arg3
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : FVec F S8192x1024 .f32 := Host.absf main_arg4
  let main_cst_3 : FVec F S_ .f32 := constant S_ .f32 0x7F800000#32
  let main_v17 : FVec F S8192x1024 .f32 := broadcastInDim S8192x1024 ![] bcast_S_S8192x1024 main_cst_3
  let main_v18 : IVec S8192x1024 1 := cmpf .olt main_v16 main_v17
  fn_part1 (F := F) main_arg5 main_arg6 main_arg7 main_arg8 main_v4 main_v8 main_v12 main_v15 main_v18
-- ==== Pre_stable.lean ====
abbrev S8192x6144 : Shape := ⟨2, ![8192, 6144]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S1x512 : Shape := ⟨2, ![1, 512]⟩
abbrev S8192x512 : Shape := ⟨2, ![8192, 512]⟩
abbrev S32x1 : Shape := ⟨2, ![32, 1]⟩
abbrev S_ : Shape := ⟨0, ![]⟩

class Facts : Prop where
  slices_S8192x6144_S8192x512_0_3072 : S8192x6144.Slices ![0, 3072] S8192x512
  bcast_S32_S32x1_0 : S32.BroadcastsInDim S32x1 (![0] : Fin 1 → Fin S32x1.rank)
  bitsLt_bf16_f32 : FTy.bits .bf16 < FTy.bits .f32
  bcast_S_S8192x512 : S_.BroadcastsInDim S8192x512 (![] : Fin 0 → Fin S8192x512.rank)
  bcast_S_S32x64 : S_.BroadcastsInDim S32x64 (![] : Fin 0 → Fin S32x64.rank)
  bcast_S_S32x1 : S_.BroadcastsInDim S32x1 (![] : Fin 0 → Fin S32x1.rank)
  bcast_S_S32x64x16 : S_.BroadcastsInDim S32x64x16 (![] : Fin 0 → Fin S32x64x16.rank)

variable [Facts]

def fn_part1 {F : FTy → Type} [FloatOps F] (main_arg1 : FVec F S32x64 .f32) (main_arg2 : FVec F S32x64 .f32) (main_v5 : IVec S8192x512 1) (main_v8 : IVec S32x64 1) (main_v11 : IVec S32x64 1) (main_v14 : IVec S32x1 1) (main_v17 : IVec S32x64x16 1) (main_v18 : FVec F S32x64x16 .f32) : IVec S8192x512 1 × IVec S32x64 1 × IVec S32x64 1 × IVec S32x1 1 × IVec S32x64x16 1 × IVec S32x64x16 1 × IVec S32x64 1 :=
  let main_cst_4 : FVec F S_ .f32 := constant S_ .f32 0x7F800000#32
  let main_v19 : FVec F S32x64x16 .f32 := broadcastInDim S32x64x16 ![] bcast_S_S32x64x16 main_cst_4
  let main_v20 : IVec S32x64x16 1 := cmpf .olt main_v18 main_v19
  let main_v21 : FVec F S32x64 .f32 := mulf main_arg1 main_arg1
  let main_v22 : FVec F S32x64 .f32 := mulf main_arg2 main_arg2
  let main_v23 : FVec F S32x64 .f32 := addf main_v21 main_v22
  let main_cst_5 : FVec F S_ .f32 := constant S_ .f32 0x00000000#32
  let main_v24 : FVec F S32x64 .f32 := broadcastInDim S32x64 ![] bcast_S_S32x64 main_cst_5
  let main_v25 : IVec S32x64 1 := cmpf .ogt main_v23 main_v24
  (main_v5, main_v8, main_v11, main_v14, main_v17, main_v20, main_v25)

def fn {F : FTy → Type} [FloatOps F] (main_arg0 : FVec F S8192x6144 .bf16) (main_arg1 : FVec F S32x64 .f32) (main_arg2 : FVec F S32x64 .f32) (main_arg3 : FVec F S32 .f32) (main_arg4 : FVec F S32x64x16 .f32) (main_arg5 : FVec F S32x64x16 .f32) (main_arg6 : FVec F S32x16x64 .f32) (main_arg7 : FVec F S32x16x64 .f32) (main_arg8 : FVec F S32x16 .f32) (main_arg9 : FVec F S512x512 .f32) (main_arg10 : FVec F S1x512 .f32) : IVec S8192x512 1 × IVec S32x64 1 × IVec S32x64 1 × IVec S32x1 1 × IVec S32x64x16 1 × IVec S32x64x16 1 × IVec S32x64 1 :=
  let main_v0 : FVec F S8192x512 .bf16 := (extractStridedSlice S8192x512 ![0, 3072] · slices_S8192x6144_S8192x512_0_3072) main_arg0
  let main_v1 : FVec F S32x1 .f32 := broadcastInDim S32x1 ![0] bcast_S32_S32x1_0 main_arg3
  let main_v2 : FVec F S8192x512 .f32 := (extf .f32 · bitsLt_bf16_f32) main_v0
  let main_v3 : FVec F S8192x512 .f32 := Host.absf main_v2
  let main_cst : FVec F S_ .f32 := constant S_ .f32 0x7F800000#32
  let main_v4 : FVec F S8192x512 .f32 := broadcastInDim S8192x512 ![] bcast_S_S8192x512 main_cst
  let main_v5 : IVec S8192x512 1 := cmpf .olt main_v3 main_v4
  let main_v6 : FVec F S32x64 .f32 := Host.absf main_arg1
  let main_cst_0 : FVec F S_ .f32 := constant S_ .f32 0x7F800000#32
  let main_v7 : FVec F S32x64 .f32 := broadcastInDim S32x64 ![] bcast_S_S32x64 main_cst_0
  let main_v8 : IVec S32x64 1 := cmpf .olt main_v6 main_v7
  let main_v9 : FVec F S32x64 .f32 := Host.absf main_arg2
  let main_cst_1 : FVec F S_ .f32 := constant S_ .f32 0x7F800000#32
  let main_v10 : FVec F S32x64 .f32 := broadcastInDim S32x64 ![] bcast_S_S32x64 main_cst_1
  let main_v11 : IVec S32x64 1 := cmpf .olt main_v9 main_v10
  let main_v12 : FVec F S32x1 .f32 := Host.absf main_v1
  let main_cst_2 : FVec F S_ .f32 := constant S_ .f32 0x7F800000#32
  let main_v13 : FVec F S32x1 .f32 := broadcastInDim S32x1 ![] bcast_S_S32x1 main_cst_2
  let main_v14 : IVec S32x1 1 := cmpf .olt main_v12 main_v13
  let main_v15 : FVec F S32x64x16 .f32 := Host.absf main_arg4
  let main_cst_3 : FVec F S_ .f32 := constant S_ .f32 0x7F800000#32
  let main_v16 : FVec F S32x64x16 .f32 := broadcastInDim S32x64x16 ![] bcast_S_S32x64x16 main_cst_3
  let main_v17 : IVec S32x64x16 1 := cmpf .olt main_v15 main_v16
  let main_v18 : FVec F S32x64x16 .f32 := Host.absf main_arg5
  fn_part1 (F := F) main_arg1 main_arg2 main_v5 main_v8 main_v11 main_v14 main_v17 main_v18
-- ==== Pre_whole.lean ====
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S1x1024 .f32) (main_arg2 : FVec F S1024x1536 .f32) (main_arg3 : FVec F S8192x1024 .f32) : IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg3
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  (main_v2, main_v5)
-- ==== Tail.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S512x1024 : Shape := ⟨2, ![512, 1024]⟩
abbrev S1x1024 : Shape := ⟨2, ![1, 1024]⟩
abbrev S512x4x256 : Shape := ⟨3, ![512, 4, 256]⟩
abbrev S4x512x256 : Shape := ⟨3, ![4, 512, 256]⟩
abbrev S1x128 : Shape := ⟨2, ![1, 128]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 23
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x6144, .bf16⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .hbm, ⟨15, _⟩ => ⟨S8192x1024, .bf16⟩
  | .hbm, ⟨16, _⟩ => ⟨S8192x512, .bf16⟩
  | .hbm, ⟨17, _⟩ => ⟨S8192x6144, .bf16⟩
  | .hbm, ⟨18, _⟩ => ⟨S1024x1024, .f32⟩
  | .hbm, ⟨19, _⟩ => ⟨S1024x1024, .f32⟩
  | .hbm, ⟨20, _⟩ => ⟨S4x512x256, .f32⟩
  | .hbm, ⟨21, _⟩ => ⟨S1x1024, .f32⟩
  | .hbm, ⟨22, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S4x512x256, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x2048, .bf16⟩
  | .local _ .vmem, ⟨23, _⟩ => ⟨S512x2048, .bf16⟩
  | .local _ .vmem, ⟨24, _⟩ => ⟨S1024x1024, .f32⟩
  | .local _ .vmem, ⟨25, _⟩ => ⟨S1024x1024, .f32⟩
  | .local _ .vmem, ⟨26, _⟩ => ⟨S4x512x256, .f32⟩
  | .local _ .vmem, ⟨27, _⟩ => ⟨S1x1024, .f32⟩
  | .local _ .vmem, ⟨28, _⟩ => ⟨S1x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v5_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== TailRefIdeal.lean ====
abbrev S8192x1024 : Shape := ⟨2, ![8192, 1024]⟩
abbrev S8192x512 : Shape := ⟨2, ![8192, 512]⟩
abbrev S8192x6144 : Shape := ⟨2, ![8192, 6144]⟩
abbrev S1024x1024 : Shape := ⟨2, ![1024, 1024]⟩
abbrev S512x1024 : Shape := ⟨2, ![512, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S8192x2048 : Shape := ⟨2, ![8192, 2048]⟩
abbrev S512x4x256 : Shape := ⟨3, ![512, 4, 256]⟩
abbrev S4x512x256 : Shape := ⟨3, ![4, 512, 256]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S8192x1024, .bf16⟩
  | 1 => ⟨S8192x512, .bf16⟩
  | 2 => ⟨S8192x6144, .bf16⟩
  | 3 => ⟨S8192x1024, .f32⟩
  | 4 => ⟨S8192x1024, .f32⟩
  | 5 => ⟨S1024x1024, .f32⟩
  | 6 => ⟨S512x1024, .f32⟩
  | 7 => ⟨S1024x1024, .f32⟩
  | 8 => ⟨S1x1024, .f32⟩
  | 9 => ⟨S8192x1024, .bf16⟩
  | 10 => ⟨S8192x1024, .f32⟩
  | 11 => ⟨S8192x1024, .bf16⟩
  | 12 => ⟨S8192x1024, .f32⟩
  | 13 => ⟨S8192x1024, .f32⟩
  | 14 => ⟨S8192x512, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S8192x1024, .f32⟩
  | 99 => ⟨S8192x1024, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S1024x1024, .f32⟩
  | 112 => ⟨S1024x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S1024x512, .f32⟩
  | 121 => ⟨S512x1024, .f32⟩
  | 122 => ⟨S8192x512, .f32⟩
  | 123 => ⟨S1024x1024, .f32⟩
  | 124 => ⟨S1024x1024, .f32⟩
  | 125 => ⟨S8192x1024, .f32⟩
  | 126 => ⟨S8192x2048, .f32⟩
  | 127 => ⟨S_, .i32⟩
  | _ => ⟨S8192x1024, .bf16⟩

abbrev hbmTy0_1 (i : Nat) : BufTy := match i % 128 with
  | 0 => ⟨S_, .f32⟩
  | 1 => ⟨S8192x6144, .f32⟩
  | 2 => ⟨S8192x1024, .bf16⟩
  | 3 => ⟨S8192x512, .bf16⟩
  | 4 => ⟨S8192x6144, .bf16⟩
  | 5 => ⟨S512x4x256, .f32⟩
  | 6 => ⟨S4x512x256, .f32⟩
  | 7 => ⟨S1x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_cst_14 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_17 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_18 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_cst_20 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c : Ref sig .tc := ⟨.hbm, 127, rfl⟩
abbrev main_call0_v0 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]
-- ==== Ssm.lean ====
abbrev S8192x6144 : Shape := ⟨2, ![8192, 6144]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S1x512 : Shape := ⟨2, ![1, 512]⟩
abbrev S8x8 : Shape := ⟨2, ![8, 8]⟩
abbrev S1x8x1x8x1 : Shape := ⟨5, ![1, 8, 1, 8, 1]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩
abbrev S64 : Shape := ⟨1, ![64]⟩
abbrev S64x1x1 : Shape := ⟨3, ![64, 1, 1]⟩
abbrev S1x32x64 : Shape := ⟨3, ![1, 32, 64]⟩
abbrev S64x32x64 : Shape := ⟨3, ![64, 32, 64]⟩
abbrev S64x2048 : Shape := ⟨2, ![64, 2048]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S16x8x64x6144 : Shape := ⟨4, ![16, 8, 64, 6144]⟩
abbrev S16x64x8x6144 : Shape := ⟨4, ![16, 64, 8, 6144]⟩
abbrev S8192x512 : Shape := ⟨2, ![8192, 512]⟩
abbrev S8192x2048 : Shape := ⟨2, ![8192, 2048]⟩
abbrev S128x2048 : Shape := ⟨2, ![128, 2048]⟩
abbrev S512x2048 : Shape := ⟨2, ![512, 2048]⟩
abbrev S8x2048 : Shape := ⟨2, ![8, 2048]⟩
abbrev S512x128 : Shape := ⟨2, ![512, 128]⟩
abbrev S1x128x512 : Shape := ⟨3, ![1, 128, 512]⟩
abbrev S128x512 : Shape := ⟨2, ![128, 512]⟩
abbrev S1x1024 : Shape := ⟨2, ![1, 1024]⟩
abbrev S8x1024 : Shape := ⟨2, ![8, 1024]⟩
abbrev S1x512x128 : Shape := ⟨3, ![1, 512, 128]⟩

abbrev nBuf : Space → Nat
  | .hbm => 147
  | .vmem => 29
  | .smem => 0
  | _ => 0

abbrev hbmTy0_0 (i : Nat) : BufTy := match i % 128 with
  | 0 => ⟨S8192x6144, .bf16⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S512x512, .f32⟩
  | 10 => ⟨S1x512, .f32⟩
  | 11 => ⟨S8x8, .f32⟩
  | 12 => ⟨S1x8x1x8x1, .f32⟩
  | 13 => ⟨S8x8, .f32⟩
  | 14 => ⟨S1x8x1x8x1, .f32⟩
  | 15 => ⟨S8x8, .f32⟩
  | 16 => ⟨S1x8x1x8x1, .f32⟩
  | 17 => ⟨S8x8, .f32⟩
  | 18 => ⟨S1x8x1x8x1, .f32⟩
  | 19 => ⟨S32, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64x1, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x16, .f32⟩
  | 63 => ⟨S1x2048, .f32⟩
  | 64 => ⟨S1x2048, .f32⟩
  | 65 => ⟨S32, .f32⟩
  | 66 => ⟨S32x1, .f32⟩
  | 67 => ⟨S64, .f32⟩
  | 68 => ⟨S_, .f32⟩
  | 69 => ⟨S64, .f32⟩
  | 70 => ⟨S64, .f32⟩
  | 71 => ⟨S64x1x1, .f32⟩
  | 72 => ⟨S32x64, .f32⟩
  | 73 => ⟨S32x64, .f32⟩
  | 74 => ⟨S1x32x64, .f32⟩
  | 75 => ⟨S64x32x64, .f32⟩
  | 76 => ⟨S64x32x64, .f32⟩
  | 77 => ⟨S64x32x64, .f32⟩
  | 78 => ⟨S64x32x64, .f32⟩
  | 79 => ⟨S32x64, .f32⟩
  | 80 => ⟨S32x64, .f32⟩
  | 81 => ⟨S1x32x64, .f32⟩
  | 82 => ⟨S64x32x64, .f32⟩
  | 83 => ⟨S64x32x64, .f32⟩
  | 84 => ⟨S64x32x64, .f32⟩
  | 85 => ⟨S64x32x64, .f32⟩
  | 86 => ⟨S64x32x64, .f32⟩
  | 87 => ⟨S64x2048, .f32⟩
  | 88 => ⟨S32x64, .f32⟩
  | 89 => ⟨S32x64, .f32⟩
  | 90 => ⟨S1x32x64, .f32⟩
  | 91 => ⟨S64x32x64, .f32⟩
  | 92 => ⟨S64x32x64, .f32⟩
  | 93 => ⟨S64x32x64, .f32⟩
  | 94 => ⟨S64x32x64, .f32⟩
  | 95 => ⟨S32x64, .f32⟩
  | 96 => ⟨S32x64, .f32⟩
  | 97 => ⟨S1x32x64, .f32⟩
  | 98 => ⟨S64x32x64, .f32⟩
  | 99 => ⟨S64x32x64, .f32⟩
  | 100 => ⟨S64x32x64, .f32⟩
  | 101 => ⟨S64x32x64, .f32⟩
  | 102 => ⟨S64x32x64, .f32⟩
  | 103 => ⟨S64x2048, .f32⟩
  | 104 => ⟨S4x8x64x16, .f32⟩
  | 105 => ⟨S4x8x16x64, .f32⟩
  | 106 => ⟨S4x8x16x1x64, .f32⟩
  | 107 => ⟨S4x8x16x8x64, .f32⟩
  | 108 => ⟨S4x8x16x8x64, .f32⟩
  | 109 => ⟨S4x8x16x8x64, .f32⟩
  | 110 => ⟨S4x128x512, .f32⟩
  | 111 => ⟨S4x128x512, .bf16⟩
  | 112 => ⟨S4x8x64x16, .f32⟩
  | 113 => ⟨S4x8x16x64, .f32⟩
  | 114 => ⟨S4x8x16x1x64, .f32⟩
  | 115 => ⟨S4x8x16x8x64, .f32⟩
  | 116 => ⟨S4x8x16x8x64, .f32⟩
  | 117 => ⟨S4x8x16x8x64, .f32⟩
  | 118 => ⟨S4x128x512, .f32⟩
  | 119 => ⟨S4x128x512, .bf16⟩
  | 120 => ⟨S4x8x16x64, .f32⟩
  | 121 => ⟨S4x8x64x16, .f32⟩
  | 122 => ⟨S4x8x64x1x16, .f32⟩
  | 123 => ⟨S4x8x64x8x16, .f32⟩
  | 124 => ⟨S4x8x64x8x16, .f32⟩
  | 125 => ⟨S4x8x64x8x16, .f32⟩
  | 126 => ⟨S4x512x128, .f32⟩
  | 127 => ⟨S4x512x128, .bf16⟩
  | _ => ⟨S8192x6144, .bf16⟩

abbrev hbmTy0_1 (i : Nat) : BufTy := match i % 128 with
  | 0 => ⟨S4x8x16x64, .f32⟩
  | 1 => ⟨S4x8x64x16, .f32⟩
  | 2 => ⟨S4x8x64x1x16, .f32⟩
  | 3 => ⟨S4x8x64x8x16, .f32⟩
  | 4 => ⟨S4x8x64x8x16, .f32⟩
  | 5 => ⟨S4x8x64x8x16, .f32⟩
  | 6 => ⟨S4x512x128, .f32⟩
  | 7 => ⟨S4x512x128, .bf16⟩
  | 8 => ⟨S16x8x64x6144, .bf16⟩
  | 9 => ⟨S16x64x8x6144, .bf16⟩
  | 10 => ⟨S8192x6144, .bf16⟩
  | 11 => ⟨S1x512, .f32⟩
  | 12 => ⟨S512x512, .bf16⟩
  | 13 => ⟨S8192x512, .f32⟩
  | 14 => ⟨S8192x512, .bf16⟩
  | 15 => ⟨S8192x2048, .f32⟩
  | 16 => ⟨S8192x2048, .f32⟩
  | 17 => ⟨S128x2048, .f32⟩
  | 18 => ⟨S128x2048, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x128x512, .bf16⟩
  | .local _ .vmem, ⟨5, _⟩ => ⟨S4x128x512, .bf16⟩
  | .local _ .vmem, ⟨6, _⟩ => ⟨S4x512x128, .bf16⟩
  | .local _ .vmem, ⟨7, _⟩ => ⟨S4x512x128, .bf16⟩
  | .local _ .vmem, ⟨8, _⟩ => ⟨S1x2048, .f32⟩
  | .local _ .vmem, ⟨9, _⟩ => ⟨S1x2048, .f32⟩
  | .local _ .vmem, ⟨10, _⟩ => ⟨S64x2048, .f32⟩
  | .local _ .vmem, ⟨11, _⟩ => ⟨S64x2048, .f32⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S8x2048, .f32⟩
  | .local _ .vmem, ⟨24, _⟩ => ⟨S8x2048, .f32⟩
  | .local _ .vmem, ⟨25, _⟩ => ⟨S8x2048, .f32⟩
  | .local _ .vmem, ⟨26, _⟩ => ⟨S8x2048, .f32⟩
  | .local _ .vmem, ⟨27, _⟩ => ⟨S8x2048, .f32⟩
  | .local _ .vmem, ⟨28, _⟩ => ⟨S8x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123_0 : Ref sig .tc := ⟨.hbm, 141, rfl⟩
abbrev main_v123_1 : Ref sig .tc := ⟨.hbm, 142, rfl⟩
abbrev main_v123_2 : Ref sig .tc := ⟨.hbm, 143, rfl⟩
abbrev main_v123_3 : Ref sig .tc := ⟨.hbm, 144, rfl⟩
abbrev main_v123_4 : Ref sig .tc := ⟨.hbm, 145, rfl⟩
abbrev main_v123_5 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![16], ![false]⟩

@[reducible] def k0_t1_loop : Scf.Loop 32 :=
  let c1_i32 : BitVec 32 := 1#32
  let c63_i32 : BitVec 32 := 63#32
  let v53 : BitVec 32 := Scalar.addi c1_i32 c63_i32
  let c1_i32_51 : BitVec 32 := 1#32
  ⟨c1_i32, v53, c1_i32_51⟩
def k0_mult1 (k0_t1 : Fin k0_t1_loop.trips) : BitVec 32 :=
  let c1_i32 : BitVec 32 := 1#32
  let c1_i32_51 : BitVec 32 := 1#32
  let arg22 : BitVec 32 := Scf.iv c1_i32 c1_i32_51 k0_t1
  let c8_i32 : BitVec 32 := 8#32
  let v308 : BitVec 32 := Scalar.muli arg22 c8_i32
  v308
def k0_off1 (k0_t1 : Fin k0_t1_loop.trips) : Fin 2 → Nat :=
  let c1_i32 : BitVec 32 := 1#32
  let c1_i32_51 : BitVec 32 := 1#32
  let arg22 : BitVec 32 := Scf.iv c1_i32 c1_i32_51 k0_t1
  let c8_i32 : BitVec 32 := 8#32
  let v308 : BitVec 32 := Scalar.muli arg22 c8_i32
  let v309 : BitVec 32 := v308
  let v310 : Index := Scalar.indexCast v309
  let c0_214 : Index := 0#32
  ![v310.toNat, 0]
def k0_mult2 (k0_t1 : Fin k0_t1_loop.trips) : BitVec 32 :=
  let c1_i32 : BitVec 32 := 1#32
  let c1_i32_51 : BitVec 32 := 1#32
  let arg22 : BitVec 32 := Scf.iv c1_i32 c1_i32_51 k0_t1
  let c8_i32_215 : BitVec 32 := 8#32
  let v317 : BitVec 32 := Scalar.muli arg22 c8_i32_215
  v317
def k0_mult3 (k0_t1 : Fin k0_t1_loop.trips) : BitVec 32 :=
  let c1_i32 : BitVec 32 := 1#32
  let c1_i32_51 : BitVec 32 := 1#32
  let arg22 : BitVec 32 := Scf.iv c1_i32 c1_i32_51 k0_t1
  let c8_i32_217 : BitVec 32 := 8#32
  let v323 : BitVec 32 := Scalar.muli arg22 c8_i32_217
  v323
def k0_mult4 (k0_t1 : Fin k0_t1_loop.trips) : BitVec 32 :=
  let c1_i32 : BitVec 32 := 1#32
  let c1_i32_51 : BitVec 32 := 1#32
  let arg22 : BitVec 32 := Scf.iv c1_i32 c1_i32_51 k0_t1
  let c8_i32_219 : BitVec 32 := 8#32
  let v327 : BitVec 32 := Scalar.muli arg22 c8_i32_219
  v327
@[reducible] def k0_t2_loop : Scf.Loop 32 :=
  let c1_i32_61 : BitVec 32 := 1#32
  let c63_i32_62 : BitVec 32 := 63#32
  let v67 : BitVec 32 := Scalar.addi c1_i32_61 c63_i32_62
  let c1_i32_63 : BitVec 32 := 1#32
  ⟨c1_i32_61, v67, c1_i32_63⟩
def k0_mult5 (k0_t2 : Fin k0_t2_loop.trips) : BitVec 32 :=
  let c1_i32_61 : BitVec 32 := 1#32
  let c1_i32_63 : BitVec 32 := 1#32
  let arg22 : BitVec 32 := Scf.iv c1_i32_61 c1_i32_63 k0_t2
  let c8_i32 : BitVec 32 := 8#32
  let v308 : BitVec 32 := Scalar.muli arg22 c8_i32
  v308
def k0_off2 (k0_t2 : Fin k0_t2_loop.trips) : Fin 2 → Nat :=
  let c1_i32_61 : BitVec 32 := 1#32
  let c1_i32_63 : BitVec 32 := 1#32
  let arg22 : BitVec 32 := Scf.iv c1_i32_61 c1_i32_63 k0_t2
  let c8_i32 : BitVec 32 := 8#32
  let v308 : BitVec 32 := Scalar.muli arg22 c8_i32
  let v309 : BitVec 32 := v308
  let v310 : Index := Scalar.indexCast v309
  let c1024_214 : Index := 1024#32
  ![v310.toNat, 1024]
def k0_mult6 (k0_t2 : Fin k0_t2_loop.trips) : BitVec 32 :=
  let c1_i32_61 : BitVec 32 := 1#32
  let c1_i32_63 : BitVec 32 := 1#32
  let arg22 : BitVec 32 := Scf.iv c1_i32_61 c1_i32_63 k0_t2
  let c8_i32_215 : BitVec 32 := 8#32
  let v317 : BitVec 32 := Scalar.muli arg22 c8_i32_215
  v317
def k0_mult7 (k0_t2 : Fin k0_t2_loop.trips) : BitVec 32 :=
  let c1_i32_61 : BitVec 32 := 1#32
  let c1_i32_63 : BitVec 32 := 1#32
  let arg22 : BitVec 32 := Scf.iv c1_i32_61 c1_i32_63 k0_t2
  let c8_i32_217 : BitVec 32 := 8#32
  let v323 : BitVec 32 := Scalar.muli arg22 c8_i32_217
  v323
def k0_mult8 (k0_t2 : Fin k0_t2_loop.trips) : BitVec 32 :=
  let c1_i32_61 : BitVec 32 := 1#32
  let c1_i32_63 : BitVec 32 := 1#32
  let arg22 : BitVec 32 := Scf.iv c1_i32_61 c1_i32_63 k0_t2
  let c8_i32_219 : BitVec 32 := 8#32
  let v327 : BitVec 32 := Scalar.muli arg22 c8_i32_219
  v327
@[reducible] def k0_t3_loop : Scf.Loop 32 :=
  let c0_i32_132 : BitVec 32 := 0#32
  let c64_i32 : BitVec 32 := 64#32
  let v197 : BitVec 32 := Scalar.addi c0_i32_132 c64_i32
  let c1_i32_133 : BitVec 32 := 1#32
  ⟨c0_i32_132, v197, c1_i32_133⟩
def k0_off3 (k0_t3 : Fin k0_t3_loop.trips) : Fin 2 → Nat :=
  let c0_i32_132 : BitVec 32 := 0#32
  let c1_i32_133 : BitVec 32 := 1#32
  let arg22 : BitVec 32 := Scf.iv c0_i32_132 c1_i32_133 k0_t3
  let v305 : Index := Scalar.indexCast arg22
  let c0_214 : Index := 0#32
  ![v305.toNat, 0]
def k0_mult9 (k0_t3 : Fin k0_t3_loop.trips) : BitVec 32 :=
  let c0_i32_132 : BitVec 32 := 0#32
  let c1_i32_133 : BitVec 32 := 1#32
  let arg22 : BitVec 32 := Scf.iv c0_i32_132 c1_i32_133 k0_t3
  let c8_i32 : BitVec 32 := 8#32
  let v315 : BitVec 32 := Scalar.muli arg22 c8_i32
  v315
def k0_off4 (k0_t3 : Fin k0_t3_loop.trips) : Fin 2 → Nat :=
  let c0_i32_132 : BitVec 32 := 0#32
  let c1_i32_133 : BitVec 32 := 1#32
  let arg22 : BitVec 32 := Scf.iv c0_i32_132 c1_i32_133 k0_t3
  let c8_i32 : BitVec 32 := 8#32
  let v315 : BitVec 32 := Scalar.muli arg22 c8_i32
  let v316 : BitVec 32 := v315
  let v317 : Index := Scalar.indexCast v316
  let c0_216 : Index := 0#32
  ![v317.toNat, 0]
def k0_mult10 (k0_t3 : Fin k0_t3_loop.trips) : BitVec 32 :=
  let c0_i32_132 : BitVec 32 := 0#32
  let c1_i32_133 : BitVec 32 := 1#32
  let arg22 : BitVec 32 := Scf.iv c0_i32_132 c1_i32_133 k0_t3
  let c8_i32_217 : BitVec 32 := 8#32
  let v324 : BitVec 32 := Scalar.muli arg22 c8_i32_217
  v324
def k0_mult11 (k0_t3 : Fin k0_t3_loop.trips) : BitVec 32 :=
  let c0_i32_132 : BitVec 32 := 0#32
  let c1_i32_133 : BitVec 32 := 1#32
  let arg22 : BitVec 32 := Scf.iv c0_i32_132 c1_i32_133 k0_t3
  let c8_i32_219 : BitVec 32 := 8#32
  let v328 : BitVec 32 := Scalar.muli arg22 c8_i32_219
  v328
def k0_mult12 (k0_t3 : Fin k0_t3_loop.trips) : BitVec 32 :=
  let c0_i32_132 : BitVec 32 := 0#32
  let c1_i32_133 : BitVec 32 := 1#32
  let arg22 : BitVec 32 := Scf.iv c0_i32_132 c1_i32_133 k0_t3
  let c8_i32_221 : BitVec 32 := 8#32
  let v337 : BitVec 32 := Scalar.muli arg22 c8_i32_221
  v337
@[reducible] def k0_t4_loop : Scf.Loop 32 :=
  let c0_i32_139 : BitVec 32 := 0#32
  let c64_i32_140 : BitVec 32 := 64#32
  let v202 : BitVec 32 := Scalar.addi c0_i32_139 c64_i32_140
  let c1_i32_141 : BitVec 32 := 1#32
  ⟨c0_i32_139, v202, c1_i32_141⟩
def k0_off5 (k0_t4 : Fin k0_t4_loop.trips) : Fin 2 → Nat :=
  let c0_i32_139 : BitVec 32 := 0#32
  let c1_i32_141 : BitVec 32 := 1#32
  let arg22 : BitVec 32 := Scf.iv c0_i32_139 c1_i32_141 k0_t4
  let v305 : Index := Scalar.indexCast arg22
  let c1024_214 : Index := 1024#32
  ![v305.toNat, 1024]
def k0_mult13 (k0_t4 : Fin k0_t4_loop.trips) : BitVec 32 :=
  let c0_i32_139 : BitVec 32 := 0#32
  let c1_i32_141 : BitVec 32 := 1#32
  let arg22 : BitVec 32 := Scf.iv c0_i32_139 c1_i32_141 k0_t4
  let c8_i32 : BitVec 32 := 8#32
  let v315 : BitVec 32 := Scalar.muli arg22 c8_i32
  v315
def k0_off6 (k0_t4 : Fin k0_t4_loop.trips) : Fin 2 → Nat :=
  let c0_i32_139 : BitVec 32 := 0#32
  let c1_i32_141 : BitVec 32 := 1#32
  let arg22 : BitVec 32 := Scf.iv c0_i32_139 c1_i32_141 k0_t4
  let c8_i32 : BitVec 32 := 8#32
  let v315 : BitVec 32 := Scalar.muli arg22 c8_i32
  let v316 : BitVec 32 := v315
  let v317 : Index := Scalar.indexCast v316
  let c1024_216 : Index := 1024#32
  ![v317.toNat, 1024]
def k0_mult14 (k0_t4 : Fin k0_t4_loop.trips) : BitVec 32 :=
  let c0_i32_139 : BitVec 32 := 0#32
  let c1_i32_141 : BitVec 32 := 1#32
  let arg22 : BitVec 32 := Scf.iv c0_i32_139 c1_i32_141 k0_t4
  let c8_i32_217 : BitVec 32 := 8#32
  let v324 : BitVec 32 := Scalar.muli arg22 c8_i32_217
  v324
def k0_mult15 (k0_t4 : Fin k0_t4_loop.trips) : BitVec 32 :=
  let c0_i32_139 : BitVec 32 := 0#32
  let c1_i32_141 : BitVec 32 := 1#32
  let arg22 : BitVec 32 := Scf.iv c0_i32_139 c1_i32_141 k0_t4
  let c8_i32_219 : BitVec 32 := 8#32
  let v328 : BitVec 32 := Scalar.muli arg22 c8_i32_219
  v328
def k0_mult16 (k0_t4 : Fin k0_t4_loop.trips) : BitVec 32 :=
  let c0_i32_139 : BitVec 32 := 0#32
  let c1_i32_141 : BitVec 32 := 1#32
  let arg22 : BitVec 32 := Scf.iv c0_i32_139 c1_i32_141 k0_t4
  let c8_i32_221 : BitVec 32 := 8#32
  let v337 : BitVec 32 := Scalar.muli arg22 c8_i32_221
  v337
def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== SsmRefIdeal.lean ====
abbrev S8192x6144 : Shape := ⟨2, ![8192, 6144]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S1x512 : Shape := ⟨2, ![1, 512]⟩
abbrev S32x1 : Shape := ⟨2, ![32, 1]⟩
abbrev S_ : Shape := ⟨0, ![]⟩
abbrev S32x64x1 : Shape := ⟨3, ![32, 64, 1]⟩
abbrev S8192x512 : Shape := ⟨2, ![8192, 512]⟩
abbrev S8192x32x16 : Shape := ⟨3, ![8192, 32, 16]⟩
abbrev S32x64x8192 : Shape := ⟨3, ![32, 64, 8192]⟩
abbrev S8192x32x64 : Shape := ⟨3, ![8192, 32, 64]⟩
abbrev S1x32x64 : Shape := ⟨3, ![1, 32, 64]⟩
abbrev S32x16x8192 : Shape := ⟨3, ![32, 16, 8192]⟩
abbrev S1x32x16 : Shape := ⟨3, ![1, 32, 16]⟩
abbrev S8192x2048 : Shape := ⟨2, ![8192, 2048]⟩
abbrev S16x8x64x512 : Shape := ⟨4, ![16, 8, 64, 512]⟩
abbrev S16x64x8x512 : Shape := ⟨4, ![16, 64, 8, 512]⟩
abbrev S16x8x64x2048 : Shape := ⟨4, ![16, 8, 64, 2048]⟩
abbrev S16x64x8x2048 : Shape := ⟨4, ![16, 64, 8, 2048]⟩
abbrev S127x2048 : Shape := ⟨2, ![127, 2048]⟩
abbrev S128x2048 : Shape := ⟨2, ![128, 2048]⟩

abbrev nBuf : Space → Nat
  | .hbm => 186
  | .vmem => 0
  | .smem => 0
  | _ => 0

abbrev hbmTy0_0 (i : Nat) : BufTy := match i % 128 with
  | 0 => ⟨S8192x6144, .bf16⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S32x16, .f32⟩
  | 9 => ⟨S512x512, .f32⟩
  | 10 => ⟨S1x512, .f32⟩
  | 11 => ⟨S32, .f32⟩
  | 12 => ⟨S32x1, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64x1, .f32⟩
  | 42 => ⟨S32x64x16, .f32⟩
  | 43 => ⟨S32x64x16, .f32⟩
  | 44 => ⟨S32x64x1, .f32⟩
  | 45 => ⟨S32x64x16, .f32⟩
  | 46 => ⟨S32x64x16, .f32⟩
  | 47 => ⟨S32x64x16, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S8192x512, .bf16⟩
  | 56 => ⟨S8192x512, .f32⟩
  | 57 => ⟨S8192x32x16, .f32⟩
  | 58 => ⟨S32x64x8192, .f32⟩
  | 59 => ⟨S8192x32x64, .f32⟩
  | 60 => ⟨S8192x512, .bf16⟩
  | 61 => ⟨S8192x512, .f32⟩
  | 62 => ⟨S8192x32x16, .f32⟩
  | 63 => ⟨S32x64x8192, .f32⟩
  | 64 => ⟨S8192x32x64, .f32⟩
  | 65 => ⟨S_, .f32⟩
  | 66 => ⟨S32x64, .f32⟩
  | 67 => ⟨S_, .f32⟩
  | 68 => ⟨S8192x32x64, .f32⟩
  | 69 => ⟨S_, .f32⟩
  | 70 => ⟨S8192x32x64, .f32⟩
  | 71 => ⟨S_, .i32⟩
  | 72 => ⟨S8192x32x64, .f32⟩
  | 73 => ⟨S8192x32x64, .f32⟩
  | 74 => ⟨S32x64, .f32⟩
  | 75 => ⟨S32x64, .f32⟩
  | 76 => ⟨S_, .i32⟩
  | 77 => ⟨S32x64, .f32⟩
  | 78 => ⟨S32x64, .f32⟩
  | 79 => ⟨S8192x32x64, .f32⟩
  | 80 => ⟨S8192x32x64, .f32⟩
  | 81 => ⟨S_, .i32⟩
  | 82 => ⟨S_, .i1⟩
  | 83 => ⟨S_, .i32⟩
  | 84 => ⟨S_, .i32⟩
  | 85 => ⟨S1x32x64, .f32⟩
  | 86 => ⟨S32x64, .f32⟩
  | 87 => ⟨S_, .i32⟩
  | 88 => ⟨S_, .i32⟩
  | 89 => ⟨S1x32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S1x32x64, .f32⟩
  | 100 => ⟨S_, .i32⟩
  | 101 => ⟨S_, .i32⟩
  | 102 => ⟨S8192x32x64, .f32⟩
  | 103 => ⟨S1x32x64, .f32⟩
  | 104 => ⟨S_, .i32⟩
  | 105 => ⟨S_, .i32⟩
  | 106 => ⟨S8192x32x64, .f32⟩
  | 107 => ⟨S_, .i32⟩
  | 108 => ⟨S_, .i32⟩
  | 109 => ⟨S32x16x8192, .f32⟩
  | 110 => ⟨S8192x32x16, .f32⟩
  | 111 => ⟨S32x16x8192, .f32⟩
  | 112 => ⟨S8192x32x16, .f32⟩
  | 113 => ⟨S8192x32x16, .f32⟩
  | 114 => ⟨S8192x512, .bf16⟩
  | 115 => ⟨S8192x512, .f32⟩
  | 116 => ⟨S8192x32x16, .f32⟩
  | 117 => ⟨S1x32x16, .f32⟩
  | 118 => ⟨S8192x32x16, .f32⟩
  | 119 => ⟨S8192x32x16, .f32⟩
  | 120 => ⟨S8192x32x16, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S8192x6144, .bf16⟩

abbrev hbmTy0_1 (i : Nat) : BufTy := match i % 128 with
  | 0 => ⟨S_, .f32⟩
  | 1 => ⟨S8192x512, .f32⟩
  | 2 => ⟨S8192x512, .f32⟩
  | 3 => ⟨S8192x512, .f32⟩
  | 4 => ⟨S_, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .bf16⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x512, .f32⟩
  | 35 => ⟨S8192x512, .bf16⟩
  | 36 => ⟨S8192x2048, .f32⟩
  | 37 => ⟨S8192x2048, .f32⟩
  | 38 => ⟨S16x8x64x512, .f32⟩
  | 39 => ⟨S16x64x8x512, .f32⟩
  | 40 => ⟨S8192x512, .f32⟩
  | 41 => ⟨S16x8x64x512, .bf16⟩
  | 42 => ⟨S16x64x8x512, .bf16⟩
  | 43 => ⟨S8192x512, .bf16⟩
  | 44 => ⟨S16x8x64x2048, .f32⟩
  | 45 => ⟨S16x64x8x2048, .f32⟩
  | 46 => ⟨S8192x2048, .f32⟩
  | 47 => ⟨S16x8x64x2048, .f32⟩
  | 48 => ⟨S16x64x8x2048, .f32⟩
  | 49 => ⟨S8192x2048, .f32⟩
  | 50 => ⟨S127x2048, .f32⟩
  | 51 => ⟨S_, .i32⟩
  | 52 => ⟨S_, .f32⟩
  | 53 => ⟨S128x2048, .f32⟩
  | 54 => ⟨S127x2048, .f32⟩
  | 55 => ⟨S_, .i32⟩
  | 56 => ⟨S_, .f32⟩
  | 57 => ⟨S128x2048, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_c : Ref sig .tc := ⟨.hbm, 71, rfl⟩
abbrev main_v55_0 : Ref sig .tc := ⟨.hbm, 72, rfl⟩
abbrev main_v55_1 : Ref sig .tc := ⟨.hbm, 73, rfl⟩
abbrev main_v55_2 : Ref sig .tc := ⟨.hbm, 74, rfl⟩
abbrev main_v55_3 : Ref sig .tc := ⟨.hbm, 75, rfl⟩
abbrev main_v55_4 : Ref sig .tc := ⟨.hbm, 76, rfl⟩
abbrev main_v55_5 : Ref sig .tc := ⟨.hbm, 77, rfl⟩
abbrev main_v55_6 : Ref sig .tc := ⟨.hbm, 78, rfl⟩
abbrev main_v55_7 : Ref sig .tc := ⟨.hbm, 79, rfl⟩
abbrev main_v55_8 : Ref sig .tc := ⟨.hbm, 80, rfl⟩
abbrev main_while0c_c_20 : Ref sig .tc := ⟨.hbm, 81, rfl⟩
abbrev main_while0c_v115 : Ref sig .tc := ⟨.hbm, 82, rfl⟩
abbrev main_while0b_call0_c : Ref sig .tc := ⟨.hbm, 83, rfl⟩
abbrev main_while0b_call0_c_0 : Ref sig .tc := ⟨.hbm, 84, rfl⟩
abbrev main_while0b_call0_v0 : Ref sig .tc := ⟨.hbm, 85, rfl⟩
abbrev main_while0b_v115 : Ref sig .tc := ⟨.hbm, 86, rfl⟩
abbrev main_while0b_call1_c : Ref sig .tc := ⟨.hbm, 87, rfl⟩
abbrev main_while0b_call1_c_0 : Ref sig .tc := ⟨.hbm, 88, rfl⟩
abbrev main_while0b_call1_v0 : Ref sig .tc := ⟨.hbm, 89, rfl⟩
abbrev main_while0b_v116 : Ref sig .tc := ⟨.hbm, 90, rfl⟩
abbrev main_while0b_v117 : Ref sig .tc := ⟨.hbm, 91, rfl⟩
abbrev main_while0b_v118 : Ref sig .tc := ⟨.hbm, 92, rfl⟩
abbrev main_while0b_v119 : Ref sig .tc := ⟨.hbm, 93, rfl⟩
abbrev main_while0b_v120 : Ref sig .tc := ⟨.hbm, 94, rfl⟩
abbrev main_while0b_v121 : Ref sig .tc := ⟨.hbm, 95, rfl⟩
abbrev main_while0b_v122 : Ref sig .tc := ⟨.hbm, 96, rfl⟩
abbrev main_while0b_v123 : Ref sig .tc := ⟨.hbm, 97, rfl⟩
abbrev main_while0b_v124 : Ref sig .tc := ⟨.hbm, 98, rfl⟩
abbrev main_while0b_call2_v0 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_v125 : Ref sig .tc := ⟨.hbm, 102, rfl⟩
abbrev main_while0b_call3_v0 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_v126 : Ref sig .tc := ⟨.hbm, 106, rfl⟩
abbrev main_while0b_c_20 : Ref sig .tc := ⟨.hbm, 107, rfl⟩
abbrev main_while0b_v127 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_4 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_5 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_6 : Ref sig .tc := ⟨.hbm, 132, rfl⟩
abbrev main_v77 : Ref sig .tc := ⟨.hbm, 133, rfl⟩
abbrev main_v78 : Ref sig .tc := ⟨.hbm, 134, rfl⟩
abbrev main_cst_7 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_8 : Ref sig .tc := ⟨.hbm, 144, rfl⟩
abbrev main_v87 : Ref sig .tc := ⟨.hbm, 145, rfl⟩
abbrev main_v88 : Ref sig .tc := ⟨.hbm, 146, rfl⟩
abbrev main_cst_9 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_call4_v0 : Ref sig .tc := ⟨.hbm, 153, rfl⟩
abbrev main_call4_v1 : Ref sig .tc := ⟨.hbm, 154, rfl⟩
abbrev main_call4_cst : Ref sig .tc := ⟨.hbm, 155, rfl⟩
abbrev main_call4_v2 : Ref sig .tc := ⟨.hbm, 156, rfl⟩
abbrev main_call4_v3 : Ref sig .tc := ⟨.hbm, 157, rfl⟩
abbrev main_call4_cst_0 : Ref sig .tc := ⟨.hbm, 158, rfl⟩
abbrev main_call4_v4 : Ref sig .tc := ⟨.hbm, 159, rfl⟩
abbrev main_call4_v5 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_10 : Ref sig .tc := ⟨.hbm, 179, rfl⟩
abbrev main_call5_v0 : Ref sig .tc := ⟨.hbm, 180, rfl⟩
abbrev main_v112 : Ref sig .tc := ⟨.hbm, 181, rfl⟩
abbrev main_v113 : Ref sig .tc := ⟨.hbm, 182, rfl⟩
abbrev main_c_11 : Ref sig .tc := ⟨.hbm, 183, rfl⟩
abbrev main_call6_v0 : Ref sig .tc := ⟨.hbm, 184, rfl⟩
abbrev main_v114 : Ref sig .tc := ⟨.hbm, 185, rfl⟩

abbrev nD : Nat := 1
abbrev τ : Topo := Topo.v7x

variable {F : FTy → Type} [FloatOps F]

abbrev main_while0_count : Scf.Loop 32 := ⟨0#32, 8192#32, 1#32⟩
-- ==== XGrad.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S1024x4x1536 : Shape := ⟨3, ![1024, 4, 1536]⟩
abbrev S4x1024x1536 : Shape := ⟨3, ![4, 1024, 1536]⟩
abbrev S16x8x64x6144 : Shape := ⟨4, ![16, 8, 64, 6144]⟩
abbrev S16x64x8x6144 : Shape := ⟨4, ![16, 64, 8, 6144]⟩
abbrev S16x8x64x1024 : Shape := ⟨4, ![16, 8, 64, 1024]⟩
abbrev S16x64x8x1024 : Shape := ⟨4, ![16, 64, 8, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 19
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x1024, .f32⟩
  | .hbm, ⟨4, _⟩ => ⟨S8192x6144, .bf16⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S16x8x64x6144, .bf16⟩
  | .hbm, ⟨9, _⟩ => ⟨S16x64x8x6144, .bf16⟩
  | .hbm, ⟨10, _⟩ => ⟨S8192x6144, .bf16⟩
  | .hbm, ⟨11, _⟩ => ⟨S16x8x64x1024, .f32⟩
  | .hbm, ⟨12, _⟩ => ⟨S16x64x8x1024, .f32⟩
  | .hbm, ⟨13, _⟩ => ⟨S8192x1024, .f32⟩
  | .hbm, ⟨14, _⟩ => ⟨S16x8x64x1024, .f32⟩
  | .hbm, ⟨15, _⟩ => ⟨S16x64x8x1024, .f32⟩
  | .hbm, ⟨16, _⟩ => ⟨S8192x1024, .f32⟩
  | .hbm, ⟨17, _⟩ => ⟨S8192x1024, .f32⟩
  | .hbm, ⟨18, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== XGradRefIdeal.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S6144x1024 : Shape := ⟨2, ![6144, 1024]⟩
abbrev S1024 : Shape := ⟨1, ![1024]⟩
abbrev S16x8x64x1024 : Shape := ⟨4, ![16, 8, 64, 1024]⟩
abbrev S16x64x8x1024 : Shape := ⟨4, ![16, 64, 8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x1024, .f32⟩
  | .hbm, ⟨4, _⟩ => ⟨S8192x6144, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6144, .f32⟩
  | .hbm, ⟨25, _⟩ => ⟨S8192x6144, .f32⟩
  | .hbm, ⟨26, _⟩ => ⟨S6144x1024, .f32⟩
  | .hbm, ⟨27, _⟩ => ⟨S1024x6144, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S16x8x64x1024, .f32⟩
  | .hbm, ⟨54, _⟩ => ⟨S16x64x8x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Prep.lean ====
abbrev S8192x1024 : Shape := ⟨2, ![8192, 1024]⟩
abbrev S1x1024 : Shape := ⟨2, ![1, 1024]⟩
abbrev S1024x1536 : Shape := ⟨2, ![1024, 1536]⟩
abbrev S512x512 : Shape := ⟨2, ![512, 512]⟩
abbrev S_ : Shape := ⟨0, ![]⟩
abbrev S8x64x512 : Shape := ⟨3, ![8, 64, 512]⟩
abbrev S64x8x512 : Shape := ⟨3, ![64, 8, 512]⟩
abbrev S8192x6144 : Shape := ⟨2, ![8192, 6144]⟩
abbrev S512x1024 : Shape := ⟨2, ![512, 1024]⟩
abbrev S512x1536 : Shape := ⟨2, ![512, 1536]⟩
abbrev S1 : Shape := ⟨1, ![1]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .f32⟩
  | .hbm, ⟨3, _⟩ => ⟨S8192x1024, .f32⟩
  | .hbm, ⟨4, _⟩ => ⟨S1024x1536, .bf16⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .f32⟩
  | .hbm, ⟨12, _⟩ => ⟨S8x64x512, .f32⟩
  | .hbm, ⟨13, _⟩ => ⟨S64x8x512, .f32⟩
  | .hbm, ⟨14, _⟩ => ⟨S512x512, .f32⟩
  | .hbm, ⟨15, _⟩ => ⟨S512x512, .bf16⟩
  | .hbm, ⟨16, _⟩ => ⟨S8192x1024, .bf16⟩
  | .hbm, ⟨17, _⟩ => ⟨S8192x1024, .f32⟩
  | .hbm, ⟨18, _⟩ => ⟨S8192x1024, .f32⟩
  | .hbm, ⟨19, _⟩ => ⟨S8192x6144, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1536, .bf16⟩
  | .local _ .vmem, ⟨13, _⟩ => ⟨S512x1536, .bf16⟩
  | .local _ .vmem, ⟨14, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrepRefIdeal.lean ====
abbrev S8192x1024 : Shape := ⟨2, ![8192, 1024]⟩
abbrev S1x1024 : Shape := ⟨2, ![1, 1024]⟩
abbrev S1024x1536 : Shape := ⟨2, ![1024, 1536]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S16x8x64x1024 : Shape := ⟨4, ![16, 8, 64, 1024]⟩
abbrev S16x64x8x1024 : Shape := ⟨4, ![16, 64, 8, 1024]⟩
abbrev S16x8x64x1536 : Shape := ⟨4, ![16, 8, 64, 1536]⟩
abbrev S16x64x8x1536 : Shape := ⟨4, ![16, 64, 8, 1536]⟩
abbrev S8192x6144 : Shape := ⟨2, ![8192, 6144]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1536, .f32⟩
  | .hbm, ⟨20, _⟩ => ⟨S16x8x64x1024, .f32⟩
  | .hbm, ⟨21, _⟩ => ⟨S16x64x8x1024, .f32⟩
  | .hbm, ⟨22, _⟩ => ⟨S8192x1024, .f32⟩
  | .hbm, ⟨23, _⟩ => ⟨S8192x1024, .bf16⟩
  | .hbm, ⟨24, _⟩ => ⟨S16x8x64x1024, .f32⟩
  | .hbm, ⟨25, _⟩ => ⟨S16x64x8x1024, .f32⟩
  | .hbm, ⟨26, _⟩ => ⟨S8192x1024, .f32⟩
  | .hbm, ⟨27, _⟩ => ⟨S16x8x64x1024, .f32⟩
  | .hbm, ⟨28, _⟩ => ⟨S16x64x8x1024, .f32⟩
  | .hbm, ⟨29, _⟩ => ⟨S8192x1024, .f32⟩
  | .hbm, ⟨30, _⟩ => ⟨S16x8x64x1536, .f32⟩
  | .hbm, ⟨31, _⟩ => ⟨S16x64x8x1536, .f32⟩
  | .hbm, ⟨32, _⟩ => ⟨S8192x1536, .f32⟩
  | .hbm, ⟨33, _⟩ => ⟨S8192x1536, .bf16⟩
  | .hbm, ⟨34, _⟩ => ⟨S_, .i32⟩
  | .hbm, ⟨35, _⟩ => ⟨S_, .bf16⟩
  | .hbm, ⟨36, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== WinGrad.lean ====
abbrev S8192x1024 : Shape := ⟨2, ![8192, 1024]⟩
abbrev S1x1024 : Shape := ⟨2, ![1, 1024]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S16x8x64x1024 : Shape := ⟨4, ![16, 8, 64, 1024]⟩
abbrev S16x64x8x1024 : Shape := ⟨4, ![16, 64, 8, 1024]⟩
abbrev S16x8x64x6144 : Shape := ⟨4, ![16, 8, 64, 6144]⟩
abbrev S16x64x8x6144 : Shape := ⟨4, ![16, 64, 8, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 26
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S16x8x64x1024, .bf16⟩
  | .hbm, ⟨20, _⟩ => ⟨S16x64x8x1024, .bf16⟩
  | .hbm, ⟨21, _⟩ => ⟨S8192x1024, .bf16⟩
  | .hbm, ⟨22, _⟩ => ⟨S16x8x64x6144, .bf16⟩
  | .hbm, ⟨23, _⟩ => ⟨S16x64x8x6144, .bf16⟩
  | .hbm, ⟨24, _⟩ => ⟨S8192x6144, .bf16⟩
  | .hbm, ⟨25, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinGradRefIdeal.lean ====
abbrev S8192x1024 : Shape := ⟨2, ![8192, 1024]⟩
abbrev S1x1024 : Shape := ⟨2, ![1, 1024]⟩
abbrev S8192x6144 : Shape := ⟨2, ![8192, 6144]⟩
abbrev S_ : Shape := ⟨0, ![]⟩
abbrev S1024x6144 : Shape := ⟨2, ![1024, 6144]⟩
abbrev S8192 : Shape := ⟨1, ![8192]⟩
abbrev S8192x1 : Shape := ⟨2, ![8192, 1]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .bf16⟩
  | .hbm, ⟨3, _⟩ => ⟨S_, .f32⟩
  | .hbm, ⟨4, _⟩ => ⟨S1024x6144, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x6144, .f32⟩
  | .hbm, ⟨21, _⟩ => ⟨S8192x6144, .f32⟩
  | .hbm, ⟨22, _⟩ => ⟨S6144x1024, .f32⟩
  | .hbm, ⟨23, _⟩ => ⟨S1024x6144, .f32⟩
  | .hbm, ⟨24, _⟩ => ⟨S1024x4x1536, .f32⟩
  | .hbm, ⟨25, _⟩ => ⟨S4x1024x1536, .f32⟩
  | .hbm, ⟨26, _⟩ => ⟨S4x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Adam.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChipSum.lean ====
abbrev S4x512x1536 : Shape := ⟨3, ![4, 512, 1536]⟩
abbrev S4x128x1024 : Shape := ⟨3, ![4, 128, 1024]⟩
abbrev S4x64x512 : Shape := ⟨3, ![4, 64, 512]⟩
abbrev S4x256x256 : Shape := ⟨3, ![4, 256, 256]⟩
abbrev S4x32x256 : Shape := ⟨3, ![4, 32, 256]⟩
abbrev S4x576x128 : Shape := ⟨3, ![4, 576, 128]⟩
abbrev S512x1536 : Shape := ⟨2, ![512, 1536]⟩
abbrev S128x1024 : Shape := ⟨2, ![128, 1024]⟩
abbrev S64x512 : Shape := ⟨2, ![64, 512]⟩
abbrev S256x256 : Shape := ⟨2, ![256, 256]⟩
abbrev S32x256 : Shape := ⟨2, ![32, 256]⟩
abbrev S576x128 : Shape := ⟨2, ![576, 128]⟩
abbrev S4x256x1536 : Shape := ⟨3, ![4, 256, 1536]⟩
abbrev S4x64x1024 : Shape := ⟨3, ![4, 64, 1024]⟩
abbrev S4x32x512 : Shape := ⟨3, ![4, 32, 512]⟩
abbrev S4x128x256 : Shape := ⟨3, ![4, 128, 256]⟩
abbrev S4x16x256 : Shape := ⟨3, ![4, 16, 256]⟩
abbrev S4x288x128 : Shape := ⟨3, ![4, 288, 128]⟩
abbrev S256x1536 : Shape := ⟨2, ![256, 1536]⟩
abbrev S64x1024 : Shape := ⟨2, ![64, 1024]⟩
abbrev S32x512 : Shape := ⟨2, ![32, 512]⟩
abbrev S128x256 : Shape := ⟨2, ![128, 256]⟩
abbrev S16x256 : Shape := ⟨2, ![16, 256]⟩
abbrev S288x128 : Shape := ⟨2, ![288, 128]⟩
abbrev S1x256x1536 : Shape := ⟨3, ![1, 256, 1536]⟩
abbrev S1x64x1024 : Shape := ⟨3, ![1, 64, 1024]⟩
abbrev S1x32x512 : Shape := ⟨3, ![1, 32, 512]⟩
abbrev S1x128x256 : Shape := ⟨3, ![1, 128, 256]⟩
abbrev S1x16x256 : Shape := ⟨3, ![1, 16, 256]⟩
abbrev S1x288x128 : Shape := ⟨3, ![1, 288, 128]⟩

abbrev nBuf : Space → Nat
  | .hbm => 14
  | .vmem => 28
  | .smem => 0
  | _ => 0

abbrev bufTy : (tb : Table) → Fin (tcTables nBuf tb) → BufTy
  | .hbm, ⟨0, _⟩ => ⟨S4x512x1536, .bf16⟩
  | .hbm, ⟨1, _⟩ => ⟨S4x128x1024, .bf16⟩
  | .hbm, ⟨2, _⟩ => ⟨S4x128x1024, .bf16⟩
  | .hbm, ⟨3, _⟩ => ⟨S4x64x512, .bf16⟩
  | .hbm, ⟨4, _⟩ => ⟨S4x256x256, .bf16⟩
  | .hbm, ⟨5, _⟩ => ⟨S4x32x256, .bf16⟩
  | .hbm, ⟨6, _⟩ => ⟨S4x576x128, .f32⟩
  | .hbm, ⟨7, _⟩ => ⟨S512x1536, .f32⟩
  | .hbm, ⟨8, _⟩ => ⟨S128x1024, .f32⟩
  | .hbm, ⟨9, _⟩ => ⟨S128x1024, .f32⟩
  | .hbm, ⟨10, _⟩ => ⟨S64x512, .f32⟩
  | .hbm, ⟨11, _⟩ => ⟨S256x256, .f32⟩
  | .hbm, ⟨12, _⟩ => ⟨S32x256, .f32⟩
  | .hbm, ⟨13, _⟩ => ⟨S576x128, .f32⟩
  | .local _ .vmem, ⟨0, _⟩ => ⟨S4x256x1536, .bf16⟩
  | .local _ .vmem, ⟨1, _⟩ => ⟨S4x256x1536, .bf16⟩
  | .local _ .vmem, ⟨2, _⟩ => ⟨S4x64x1024, .bf16⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S4x32x512, .bf16⟩
  | .local _ .vmem, ⟨7, _⟩ => ⟨S4x32x512, .bf16⟩
  | .local _ .vmem, ⟨8, _⟩ => ⟨S4x128x256, .bf16⟩
  | .local _ .vmem, ⟨9, _⟩ => ⟨S4x128x256, .bf16⟩
  | .local _ .vmem, ⟨10, _⟩ => ⟨S4x16x256, .bf16⟩
  | .local _ .vmem, ⟨11, _⟩ => ⟨S4x16x256, .bf16⟩
  | .local _ .vmem, ⟨12, _⟩ => ⟨S4x288x128, .f32⟩
  | .local _ .vmem, ⟨13, _⟩ => ⟨S4x288x128, .f32⟩
  | .local _ .vmem, ⟨14, _⟩ => ⟨S256x1536, .f32⟩
  | .local _ .vmem, ⟨15, _⟩ => ⟨S256x1536, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S32x512, .f32⟩
  | .local _ .vmem, ⟨21, _⟩ => ⟨S32x512, .f32⟩
  | .local _ .vmem, ⟨22, _⟩ => ⟨S128x256, .f32⟩
  | .local _ .vmem, ⟨23, _⟩ => ⟨S128x256, .f32⟩
  | .local _ .vmem, ⟨24, _⟩ => ⟨S16x256, .f32⟩
  | .local _ .vmem, ⟨25, _⟩ => ⟨S16x256, .f32⟩
  | .local _ .vmem, ⟨26, _⟩ => ⟨S288x128, .f32⟩
  | .local _ .vmem, ⟨27, _⟩ => ⟨S288x128, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x288x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S288x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ChipSumRefIdeal.lean ====
abbrev S4x512x1536 : Shape := ⟨3, ![4, 512, 1536]⟩
abbrev S4x128x1024 : Shape := ⟨3, ![4, 128, 1024]⟩
abbrev S4x64x512 : Shape := ⟨3, ![4, 64, 512]⟩
abbrev S4x256x256 : Shape := ⟨3, ![4, 256, 256]⟩
abbrev S4x32x256 : Shape := ⟨3, ![4, 32, 256]⟩
abbrev S4x576x128 : Shape := ⟨3, ![4, 576, 128]⟩
abbrev S_ : Shape := ⟨0, ![]⟩
abbrev S512x1536 : Shape := ⟨2, ![512, 1536]⟩
abbrev S128x1024 : Shape := ⟨2, ![128, 1024]⟩
abbrev S64x512 : Shape := ⟨2, ![64, 512]⟩
abbrev S256x256 : Shape := ⟨2, ![256, 256]⟩
abbrev S32x256 : Shape := ⟨2, ![32, 256]⟩
abbrev S576x128 : Shape := ⟨2, ![576, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x128x1024, .bf16⟩
  | .hbm, ⟨2, _⟩ => ⟨S4x128x1024, .bf16⟩
  | .hbm, ⟨3, _⟩ => ⟨S4x64x512, .bf16⟩
  | .hbm, ⟨4, _⟩ => ⟨S4x256x256, .bf16⟩
  | .hbm, ⟨5, _⟩ => ⟨S4x32x256, .bf16⟩
  | .hbm, ⟨6, _⟩ => ⟨S4x576x128, .f32⟩
  | .hbm, ⟨7, _⟩ => ⟨S4x512x1536, .f32⟩
  | .hbm, ⟨8, _⟩ => ⟨S_, .f32⟩
  | .hbm, ⟨9, _⟩ => ⟨S512x1536, .f32⟩
  | .hbm, ⟨10, _⟩ => ⟨S4x128x1024, .f32⟩
  | .hbm, ⟨11, _⟩ => ⟨S_, .f32⟩
  | .hbm, ⟨12, _⟩ => ⟨S128x1024, .f32⟩
  | .hbm, ⟨13, _⟩ => ⟨S4x128x1024, .f32⟩
  | .hbm, ⟨14, _⟩ => ⟨S_, .f32⟩
  | .hbm, ⟨15, _⟩ => ⟨S128x1024, .f32⟩
  | .hbm, ⟨16, _⟩ => ⟨S4x64x512, .f32⟩
  | .hbm, ⟨17, _⟩ => ⟨S_, .f32⟩
  | .hbm, ⟨18, _⟩ => ⟨S64x512, .f32⟩
  | .hbm, ⟨19, _⟩ => ⟨S4x256x256, .f32⟩
  | .hbm, ⟨20, _⟩ => ⟨S_, .f32⟩
  | .hbm, ⟨21, _⟩ => ⟨S256x256, .f32⟩
  | .hbm, ⟨22, _⟩ => ⟨S4x32x256, .f32⟩
  | .hbm, ⟨23, _⟩ => ⟨S_, .f32⟩
  | .hbm, ⟨24, _⟩ => ⟨S32x256, .f32⟩
  | .hbm, ⟨25, _⟩ => ⟨S_, .f32⟩
  | .hbm, ⟨26, _⟩ => ⟨S576x128, .f32⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩

abbrev nD : Nat := 1
abbrev τ : Topo := Topo.v7x

variable {F : FTy → Type} [FloatOps F]
-- ==== Proj.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S16x8x64x1024 : Shape := ⟨4, ![16, 8, 64, 1024]⟩
abbrev S16x64x8x1024 : Shape := ⟨4, ![16, 64, 8, 1024]⟩
abbrev S1024x4x1536 : Shape := ⟨3, ![1024, 4, 1536]⟩
abbrev S4x1024x1536 : Shape := ⟨3, ![4, 1024, 1536]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 27
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S16x8x64x1024, .bf16⟩
  | .hbm, ⟨21, _⟩ => ⟨S16x64x8x1024, .bf16⟩
  | .hbm, ⟨22, _⟩ => ⟨S8192x1024, .bf16⟩
  | .hbm, ⟨23, _⟩ => ⟨S1024x6144, .bf16⟩
  | .hbm, ⟨24, _⟩ => ⟨S1024x4x1536, .bf16⟩
  | .hbm, ⟨25, _⟩ => ⟨S4x1024x1536, .bf16⟩
  | .hbm, ⟨26, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .bf16⟩
  | .local _ .vmem, ⟨5, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![v10.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  ![arg1.toNat, v10.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S16x8x64x6144 : Shape := ⟨4, ![16, 8, 64, 6144]⟩
abbrev S16x64x8x6144 : Shape := ⟨4, ![16, 64, 8, 6144]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x6144, .f32⟩
  | .hbm, ⟨20, _⟩ => ⟨S16x8x64x6144, .f32⟩
  | .hbm, ⟨21, _⟩ => ⟨S16x64x8x6144, .f32⟩
  | .hbm, ⟨22, _⟩ => ⟨S8192x6144, .f32⟩
  | .hbm, ⟨23, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SsmBwd.lean ====
abbrev S8192x512 : Shape := ⟨2, ![8192, 512]⟩
abbrev S8192x6144 : Shape := ⟨2, ![8192, 6144]⟩
abbrev S8192x2048 : Shape := ⟨2, ![8192, 2048]⟩
abbrev S128x2048 : Shape := ⟨2, ![128, 2048]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S1x512 : Shape := ⟨2, ![1, 512]⟩
abbrev S8x8 : Shape := ⟨2, ![8, 8]⟩
abbrev S1x8x1x8x1 : Shape := ⟨5, ![1, 8, 1, 8, 1]⟩
abbrev S32x1 : Shape := ⟨2, ![32, 1]⟩
abbrev S_ : Shape := ⟨0, ![]⟩
abbrev S32x64x1 : Shape := ⟨3, ![32, 64, 1]⟩
abbrev S1x2048 : Shape := ⟨2, ![1, 2048]⟩
abbrev S64 : Shape := ⟨1, ![64]⟩
abbrev S64x1x1 : Shape := ⟨3, ![64, 1, 1]⟩
abbrev S1x32x64 : Shape := ⟨3, ![1, 32, 64]⟩
abbrev S64x32x64 : Shape := ⟨3, ![64, 32, 64]⟩
abbrev S64x2048 : Shape := ⟨2, ![64, 2048]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S8x2048 : Shape := ⟨2, ![8, 2048]⟩
abbrev S512x2048 : Shape := ⟨2, ![512, 2048]⟩
abbrev S512x1024 : Shape := ⟨2, ![512, 1024]⟩
abbrev S512 : Shape := ⟨1, ![512]⟩
abbrev S512x128 : Shape := ⟨2, ![512, 128]⟩
abbrev S1x512x128 : Shape := ⟨3, ![1, 512, 128]⟩
abbrev S1x1024 : Shape := ⟨2, ![1, 1024]⟩
abbrev S8x1024 : Shape := ⟨2, ![8, 1024]⟩
abbrev S1x128x512 : Shape := ⟨3, ![1, 128, 512]⟩
abbrev S128x512 : Shape := ⟨2, ![128, 512]⟩

abbrev nBuf : Space → Nat
  | .hbm => 155
  | .vmem => 44
  | .smem => 0
  | _ => 0

abbrev hbmTy0_0 (i : Nat) : BufTy := match i % 128 with
  | 0 => ⟨S8192x512, .bf16⟩
  | 1 => ⟨S8192x512, .f32⟩
  | 2 => ⟨S8192x6144, .bf16⟩
  | 3 => ⟨S8192x2048, .f32⟩
  | 4 => ⟨S8192x2048, .f32⟩
  | 5 => ⟨S128x2048, .f32⟩
  | 6 => ⟨S128x2048, .f32⟩
  | 7 => ⟨S32x64, .f32⟩
  | 8 => ⟨S32x64, .f32⟩
  | 9 => ⟨S32, .f32⟩
  | 10 => ⟨S32x64x16, .f32⟩
  | 11 => ⟨S32x64x16, .f32⟩
  | 12 => ⟨S32x16x64, .f32⟩
  | 13 => ⟨S32x16x64, .f32⟩
  | 14 => ⟨S32x16, .f32⟩
  | 15 => ⟨S512x512, .f32⟩
  | 16 => ⟨S1x512, .f32⟩
  | 17 => ⟨S8192x6144, .bf16⟩
  | 18 => ⟨S8x8, .f32⟩
  | 19 => ⟨S1x8x1x8x1, .f32⟩
  | 20 => ⟨S8x8, .f32⟩
  | 21 => ⟨S1x8x1x8x1, .f32⟩
  | 22 => ⟨S8x8, .f32⟩
  | 23 => ⟨S1x8x1x8x1, .f32⟩
  | 24 => ⟨S8x8, .f32⟩
  | 25 => ⟨S1x8x1x8x1, .f32⟩
  | 26 => ⟨S32, .f32⟩
  | 27 => ⟨S32x1, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64x1, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x16, .f32⟩
  | 63 => ⟨S32x64x1, .f32⟩
  | 64 => ⟨S32x64x16, .f32⟩
  | 65 => ⟨S32x64x16, .f32⟩
  | 66 => ⟨S32x64x1, .f32⟩
  | 67 => ⟨S32x64x16, .f32⟩
  | 68 => ⟨S32x64x16, .f32⟩
  | 69 => ⟨S32x64x16, .f32⟩
  | 70 => ⟨S1x2048, .f32⟩
  | 71 => ⟨S1x2048, .f32⟩
  | 72 => ⟨S32, .f32⟩
  | 73 => ⟨S32x1, .f32⟩
  | 74 => ⟨S64, .f32⟩
  | 75 => ⟨S_, .f32⟩
  | 76 => ⟨S64, .f32⟩
  | 77 => ⟨S64, .f32⟩
  | 78 => ⟨S64x1x1, .f32⟩
  | 79 => ⟨S32x64, .f32⟩
  | 80 => ⟨S32x64, .f32⟩
  | 81 => ⟨S1x32x64, .f32⟩
  | 82 => ⟨S64x32x64, .f32⟩
  | 83 => ⟨S64x32x64, .f32⟩
  | 84 => ⟨S64x32x64, .f32⟩
  | 85 => ⟨S64x32x64, .f32⟩
  | 86 => ⟨S32x64, .f32⟩
  | 87 => ⟨S32x64, .f32⟩
  | 88 => ⟨S1x32x64, .f32⟩
  | 89 => ⟨S64x32x64, .f32⟩
  | 90 => ⟨S64x32x64, .f32⟩
  | 91 => ⟨S64x32x64, .f32⟩
  | 92 => ⟨S64x32x64, .f32⟩
  | 93 => ⟨S64x32x64, .f32⟩
  | 94 => ⟨S64x2048, .f32⟩
  | 95 => ⟨S32x64, .f32⟩
  | 96 => ⟨S32x64, .f32⟩
  | 97 => ⟨S1x32x64, .f32⟩
  | 98 => ⟨S64x32x64, .f32⟩
  | 99 => ⟨S64x32x64, .f32⟩
  | 100 => ⟨S64x32x64, .f32⟩
  | 101 => ⟨S64x32x64, .f32⟩
  | 102 => ⟨S32x64, .f32⟩
  | 103 => ⟨S32x64, .f32⟩
  | 104 => ⟨S1x32x64, .f32⟩
  | 105 => ⟨S64x32x64, .f32⟩
  | 106 => ⟨S64x32x64, .f32⟩
  | 107 => ⟨S64x32x64, .f32⟩
  | 108 => ⟨S64x32x64, .f32⟩
  | 109 => ⟨S64x32x64, .f32⟩
  | 110 => ⟨S64x2048, .f32⟩
  | 111 => ⟨S4x8x64x16, .f32⟩
  | 112 => ⟨S4x8x16x64, .f32⟩
  | 113 => ⟨S4x8x16x1x64, .f32⟩
  | 114 => ⟨S4x8x16x8x64, .f32⟩
  | 115 => ⟨S4x8x16x8x64, .f32⟩
  | 116 => ⟨S4x8x16x8x64, .f32⟩
  | 117 => ⟨S4x128x512, .f32⟩
  | 118 => ⟨S4x128x512, .bf16⟩
  | 119 => ⟨S4x8x64x16, .f32⟩
  | 120 => ⟨S4x8x16x64, .f32⟩
  | 121 => ⟨S4x8x16x1x64, .f32⟩
  | 122 => ⟨S4x8x16x8x64, .f32⟩
  | 123 => ⟨S4x8x16x8x64, .f32⟩
  | 124 => ⟨S4x8x16x8x64, .f32⟩
  | 125 => ⟨S4x128x512, .f32⟩
  | 126 => ⟨S4x128x512, .bf16⟩
  | 127 => ⟨S4x8x16x64, .f32⟩
  | _ => ⟨S8192x512, .bf16⟩

abbrev hbmTy0_1 (i : Nat) : BufTy := match i % 128 with
  | 0 => ⟨S4x8x64x16, .f32⟩
  | 1 => ⟨S4x8x64x1x16, .f32⟩
  | 2 => ⟨S4x8x64x8x16, .f32⟩
  | 3 => ⟨S4x8x64x8x16, .f32⟩
  | 4 => ⟨S4x8x64x8x16, .f32⟩
  | 5 => ⟨S4x512x128, .f32⟩
  | 6 => ⟨S4x512x128, .bf16⟩
  | 7 => ⟨S4x8x16x64, .f32⟩
  | 8 => ⟨S4x8x64x16, .f32⟩
  | 9 => ⟨S4x8x64x1x16, .f32⟩
  | 10 => ⟨S4x8x64x8x16, .f32⟩
  | 11 => ⟨S4x8x64x8x16, .f32⟩
  | 12 => ⟨S4x8x64x8x16, .f32⟩
  | 13 => ⟨S4x512x128, .f32⟩
  | 14 => ⟨S4x512x128, .bf16⟩
  | 15 => ⟨S1x512, .f32⟩
  | 16 => ⟨S512x512, .bf16⟩
  | 17 => ⟨S8192x6144, .bf16⟩
  | 18 => ⟨S4x128x512, .f32⟩
  | 19 => ⟨S4x128x512, .f32⟩
  | 20 => ⟨S4x128x512, .f32⟩
  | 21 => ⟨S4x128x512, .f32⟩
  | 22 => ⟨S1x512, .f32⟩
  | 23 => ⟨S8x2048, .f32⟩
  | 24 => ⟨S8x2048, .f32⟩
  | 25 => ⟨S512x512, .f32⟩
  | 26 => ⟨S1x512, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S8x2048, .f32⟩
  | .local _ .vmem, ⟨13, _⟩ => ⟨S8x2048, .f32⟩
  | .local _ .vmem, ⟨14, _⟩ => ⟨S8x2048, .f32⟩
  | .local _ .vmem, ⟨15, _⟩ => ⟨S8x2048, .f32⟩
  | .local _ .vmem, ⟨16, _⟩ => ⟨S4x128x512, .bf16⟩
  | .local _ .vmem, ⟨17, _⟩ => ⟨S4x128x512, .bf16⟩
  | .local _ .vmem, ⟨18, _⟩ => ⟨S4x512x128, .bf16⟩
  | .local _ .vmem, ⟨19, _⟩ => ⟨S4x512x128, .bf16⟩
  | .local _ .vmem, ⟨20, _⟩ => ⟨S1x2048, .f32⟩
  | .local _ .vmem, ⟨21, _⟩ => ⟨S1x2048, .f32⟩
  | .local _ .vmem, ⟨22, _⟩ => ⟨S64x2048, .f32⟩
  | .local _ .vmem, ⟨23, _⟩ => ⟨S64x2048, .f32⟩
  | .local _ .vmem, ⟨24, _⟩ => ⟨S1x512, .f32⟩
  | .local _ .vmem, ⟨25, _⟩ => ⟨S512x512, .bf16⟩
  | .local _ .vmem, ⟨26, _⟩ => ⟨S1x512, .f32⟩
  | .local _ .vmem, ⟨27, _⟩ => ⟨S512x1024, .bf16⟩
  | .local _ .vmem, ⟨28, _⟩ => ⟨S512x1024, .bf16⟩
  | .local _ .vmem, ⟨29, _⟩ => ⟨S4x128x512, .f32⟩
  | .local _ .vmem, ⟨30, _⟩ => ⟨S4x128x512, .f32⟩
  | .local _ .vmem, ⟨31, _⟩ => ⟨S4x128x512, .f32⟩
  | .local _ .vmem, ⟨32, _⟩ => ⟨S4x128x512, .f32⟩
  | .local _ .vmem, ⟨33, _⟩ => ⟨S1x512, .f32⟩
  | .local _ .vmem, ⟨34, _⟩ => ⟨S8x2048, .f32⟩
  | .local _ .vmem, ⟨35, _⟩ => ⟨S8x2048, .f32⟩
  | .local _ .vmem, ⟨36, _⟩ => ⟨S512x512, .f32⟩
  | .local _ .vmem, ⟨37, _⟩ => ⟨S1x512, .f32⟩
  | .local _ .vmem, ⟨38, _⟩ => ⟨S512x2048, .f32⟩
  | .local _ .vmem, ⟨39, _⟩ => ⟨S512x2048, .f32⟩
  | .local _ .vmem, ⟨40, _⟩ => ⟨S8x2048, .f32⟩
  | .local _ .vmem, ⟨41, _⟩ => ⟨S8x2048, .f32⟩
  | .local _ .vmem, ⟨42, _⟩ => ⟨S8x2048, .f32⟩
  | .local _ .vmem, ⟨43, _⟩ => ⟨S8x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_cst_1 : Ref sig .tc := ⟨.hbm, 22, rfl⟩
abbrev main_v2 : Ref sig .tc := ⟨.hbm, 23, rfl⟩
abbrev main_cst_2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120_0 : Ref sig .tc := ⟨.hbm, 145, rfl⟩
abbrev main_v120_1 : Ref sig .tc := ⟨.hbm, 146, rfl⟩
abbrev main_v120_2 : Ref sig .tc := ⟨.hbm, 147, rfl⟩
abbrev main_v120_3 : Ref sig .tc := ⟨.hbm, 148, rfl⟩
abbrev main_v120_4 : Ref sig .tc := ⟨.hbm, 149, rfl⟩
abbrev main_v120_5 : Ref sig .tc := ⟨.hbm, 150, rfl⟩
abbrev main_v120_6 : Ref sig .tc := ⟨.hbm, 151, rfl⟩
abbrev main_v120_7 : Ref sig .tc := ⟨.hbm, 152, rfl⟩
abbrev main_v120_8 : Ref sig .tc := ⟨.hbm, 153, rfl⟩
abbrev main_v120_9 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg27_0 : Ref sig .tc := ⟨.vmem, 36, rfl⟩
abbrev cc0_stg28_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem27_0 : DmaSem sig := 36
abbrev cc0_sem28_0 : DmaSem sig := 37

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_105 : BitVec 32 := 0#32
  let c63_i32 : BitVec 32 := 63#32
  let v177 : BitVec 32 := Scalar.addi c0_i32_105 c63_i32
  let c1_i32 : BitVec 32 := 1#32
  ⟨c0_i32_105, v177, c1_i32⟩
def k0_mult1 (k0_t1 : Fin k0_t1_loop.trips) : BitVec 32 :=
  let c62_i32 : BitVec 32 := 62#32
  let c0_i32_105 : BitVec 32 := 0#32
  let c1_i32 : BitVec 32 := 1#32
  let arg37 : BitVec 32 := Scf.iv c0_i32_105 c1_i32 k0_t1
  let v615 : BitVec 32 := Scalar.subi c62_i32 arg37
  let c8_i32 : BitVec 32 := 8#32
  let v616 : BitVec 32 := Scalar.muli v615 c8_i32
  v616
def k0_off1 (k0_t1 : Fin k0_t1_loop.trips) : Fin 2 → Nat :=
  let c62_i32 : BitVec 32 := 62#32
  let c0_i32_105 : BitVec 32 := 0#32
  let c1_i32 : BitVec 32 := 1#32
  let arg37 : BitVec 32 := Scf.iv c0_i32_105 c1_i32 k0_t1
  let v615 : BitVec 32 := Scalar.subi c62_i32 arg37
  let c8_i32 : BitVec 32 := 8#32
  let v616 : BitVec 32 := Scalar.muli v615 c8_i32
  let v617 : BitVec 32 := v616
  let v621 : Index := Scalar.indexCast v617
  let c0_434 : Index := 0#32
  ![v621.toNat, 0]
@[reducible] def k0_t2_loop : Scf.Loop 32 :=
  let c0_i32_115 : BitVec 32 := 0#32
  let c63_i32_116 : BitVec 32 := 63#32
  let v189 : BitVec 32 := Scalar.addi c0_i32_115 c63_i32_116
  let c1_i32_117 : BitVec 32 := 1#32
  ⟨c0_i32_115, v189, c1_i32_117⟩
def k0_mult2 (k0_t2 : Fin k0_t2_loop.trips) : BitVec 32 :=
  let c62_i32 : BitVec 32 := 62#32
  let c0_i32_115 : BitVec 32 := 0#32
  let c1_i32_117 : BitVec 32 := 1#32
  let arg37 : BitVec 32 := Scf.iv c0_i32_115 c1_i32_117 k0_t2
  let v615 : BitVec 32 := Scalar.subi c62_i32 arg37
  let c8_i32 : BitVec 32 := 8#32
  let v616 : BitVec 32 := Scalar.muli v615 c8_i32
  v616
def k0_off2 (k0_t2 : Fin k0_t2_loop.trips) : Fin 2 → Nat :=
  let c62_i32 : BitVec 32 := 62#32
  let c0_i32_115 : BitVec 32 := 0#32
  let c1_i32_117 : BitVec 32 := 1#32
  let arg37 : BitVec 32 := Scf.iv c0_i32_115 c1_i32_117 k0_t2
  let v615 : BitVec 32 := Scalar.subi c62_i32 arg37
  let c8_i32 : BitVec 32 := 8#32
  let v616 : BitVec 32 := Scalar.muli v615 c8_i32
  let v617 : BitVec 32 := v616
  let v621 : Index := Scalar.indexCast v617
  let c1024_434 : Index := 1024#32
  ![v621.toNat, 1024]
@[reducible] def k0_t3_loop : Scf.Loop 32 :=
  let c1_i32_210 : BitVec 32 := 1#32
  let c63_i32_211 : BitVec 32 := 63#32
  let v365 : BitVec 32 := Scalar.addi c1_i32_210 c63_i32_211
  let c1_i32_212 : BitVec 32 := 1#32
  ⟨c1_i32_210, v365, c1_i32_212⟩
def k0_mult3 (k0_t3 : Fin k0_t3_loop.trips) : BitVec 32 :=
  let c1_i32_210 : BitVec 32 := 1#32
  let c1_i32_212 : BitVec 32 := 1#32
  let arg37 : BitVec 32 := Scf.iv c1_i32_210 c1_i32_212 k0_t3
  let c8_i32 : BitVec 32 := 8#32
  let v615 : BitVec 32 := Scalar.muli arg37 c8_i32
  v615
def k0_off3 (k0_t3 : Fin k0_t3_loop.trips) : Fin 2 → Nat :=
  let c63_i32_434 : BitVec 32 := 63#32
  let c1_i32_210 : BitVec 32 := 1#32
  let c1_i32_212 : BitVec 32 := 1#32
  let arg37 : BitVec 32 := Scf.iv c1_i32_210 c1_i32_212 k0_t3
  let v617 : BitVec 32 := Scalar.subi c63_i32_434 arg37
  let v618 : Index := Scalar.indexCast v617
  let c0_435 : Index := 0#32
  ![v618.toNat, 0]
def k0_off4 (k0_t3 : Fin k0_t3_loop.trips) : Fin 2 → Nat :=
  let c1_i32_210 : BitVec 32 := 1#32
  let c1_i32_212 : BitVec 32 := 1#32
  let arg37 : BitVec 32 := Scf.iv c1_i32_210 c1_i32_212 k0_t3
  let c8_i32 : BitVec 32 := 8#32
  let v615 : BitVec 32 := Scalar.muli arg37 c8_i32
  let v616 : BitVec 32 := v615
  let v628 : Index := Scalar.indexCast v616
  let c0_437 : Index := 0#32
  ![v628.toNat, 0]
def k0_mult4 (k0_t3 : Fin k0_t3_loop.trips) : BitVec 32 :=
  let c1_i32_210 : BitVec 32 := 1#32
  let c1_i32_212 : BitVec 32 := 1#32
  let arg37 : BitVec 32 := Scf.iv c1_i32_210 c1_i32_212 k0_t3
  let c1_i32_441 : BitVec 32 := 1#32
  let v648 : BitVec 32 := Scalar.subi arg37 c1_i32_441
  let c8_i32_442 : BitVec 32 := 8#32
  let v649 : BitVec 32 := Scalar.muli v648 c8_i32_442
  v649
def k0_off5 (k0_t3 : Fin k0_t3_loop.trips) : Fin 2 → Nat :=
  let c1_i32_210 : BitVec 32 := 1#32
  let c1_i32_212 : BitVec 32 := 1#32
  let arg37 : BitVec 32 := Scf.iv c1_i32_210 c1_i32_212 k0_t3
  let c1_i32_441 : BitVec 32 := 1#32
  let v648 : BitVec 32 := Scalar.subi arg37 c1_i32_441
  let c8_i32_442 : BitVec 32 := 8#32
  let v649 : BitVec 32 := Scalar.muli v648 c8_i32_442
  let v650 : BitVec 32 := v649
  let v651 : Index := Scalar.indexCast v650
  let c0_443 : Index := 0#32
  ![v651.toNat, 0]
def k0_mult5 (k0_t3 : Fin k0_t3_loop.trips) : BitVec 32 :=
  let c1_i32_210 : BitVec 32 := 1#32
  let c1_i32_212 : BitVec 32 := 1#32
  let arg37 : BitVec 32 := Scf.iv c1_i32_210 c1_i32_212 k0_t3
  let c1_i32_444 : BitVec 32 := 1#32
  let v653 : BitVec 32 := Scalar.subi arg37 c1_i32_444
  let c8_i32_445 : BitVec 32 := 8#32
  let v654 : BitVec 32 := Scalar.muli v653 c8_i32_445
  v654
@[reducible] def k0_t4_loop : Scf.Loop 32 :=
  let c1_i32_242 : BitVec 32 := 1#32
  let c63_i32_243 : BitVec 32 := 63#32
  let v409 : BitVec 32 := Scalar.addi c1_i32_242 c63_i32_243
  let c1_i32_244 : BitVec 32 := 1#32
  ⟨c1_i32_242, v409, c1_i32_244⟩
def k0_mult6 (k0_t4 : Fin k0_t4_loop.trips) : BitVec 32 :=
  let c1_i32_242 : BitVec 32 := 1#32
  let c1_i32_244 : BitVec 32 := 1#32
  let arg37 : BitVec 32 := Scf.iv c1_i32_242 c1_i32_244 k0_t4
  let c8_i32 : BitVec 32 := 8#32
  let v615 : BitVec 32 := Scalar.muli arg37 c8_i32
  v615
def k0_off6 (k0_t4 : Fin k0_t4_loop.trips) : Fin 2 → Nat :=
  let c63_i32_434 : BitVec 32 := 63#32
  let c1_i32_242 : BitVec 32 := 1#32
  let c1_i32_244 : BitVec 32 := 1#32
  let arg37 : BitVec 32 := Scf.iv c1_i32_242 c1_i32_244 k0_t4
  let v617 : BitVec 32 := Scalar.subi c63_i32_434 arg37
  let v618 : Index := Scalar.indexCast v617
  let c1024_435 : Index := 1024#32
  ![v618.toNat, 1024]
def k0_off7 (k0_t4 : Fin k0_t4_loop.trips) : Fin 2 → Nat :=
  let c1_i32_242 : BitVec 32 := 1#32
  let c1_i32_244 : BitVec 32 := 1#32
  let arg37 : BitVec 32 := Scf.iv c1_i32_242 c1_i32_244 k0_t4
  let c8_i32 : BitVec 32 := 8#32
  let v615 : BitVec 32 := Scalar.muli arg37 c8_i32
  let v616 : BitVec 32 := v615
  let v628 : Index := Scalar.indexCast v616
  let c1024_437 : Index := 1024#32
  ![v628.toNat, 1024]
def k0_mult7 (k0_t4 : Fin k0_t4_loop.trips) : BitVec 32 :=
  let c1_i32_242 : BitVec 32 := 1#32
  let c1_i32_244 : BitVec 32 := 1#32
  let arg37 : BitVec 32 := Scf.iv c1_i32_242 c1_i32_244 k0_t4
  let c1_i32_441 : BitVec 32 := 1#32
  let v648 : BitVec 32 := Scalar.subi arg37 c1_i32_441
  let c8_i32_442 : BitVec 32 := 8#32
  let v649 : BitVec 32 := Scalar.muli v648 c8_i32_442
  v649
def k0_off8 (k0_t4 : Fin k0_t4_loop.trips) : Fin 2 → Nat :=
  let c1_i32_242 : BitVec 32 := 1#32
  let c1_i32_244 : BitVec 32 := 1#32
  let arg37 : BitVec 32 := Scf.iv c1_i32_242 c1_i32_244 k0_t4
  let c1_i32_441 : BitVec 32 := 1#32
  let v648 : BitVec 32 := Scalar.subi arg37 c1_i32_441
  let c8_i32_442 : BitVec 32 := 8#32
  let v649 : BitVec 32 := Scalar.muli v648 c8_i32_442
  let v650 : BitVec 32 := v649
  let v651 : Index := Scalar.indexCast v650
  let c1024_443 : Index := 1024#32
  ![v651.toNat, 1024]
def k0_mult8 (k0_t4 : Fin k0_t4_loop.trips) : BitVec 32 :=
  let c1_i32_242 : BitVec 32 := 1#32
  let c1_i32_244 : BitVec 32 := 1#32
  let arg37 : BitVec 32 := Scf.iv c1_i32_242 c1_i32_244 k0_t4
  let c1_i32_444 : BitVec 32 := 1#32
  let v653 : BitVec 32 := Scalar.subi arg37 c1_i32_444
  let c8_i32_445 : BitVec 32 := 8#32
  let v654 : BitVec 32 := Scalar.muli v653 c8_i32_445
  v654
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c7_i32 : BitVec 32 := 7#32
  let c0_i32 : BitVec 32 := 0#32
  ![v0.toNat, c7_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x128x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S8x2048 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S512x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== Proof.Lift.lean ====
/- Arrays of real numbers among the arrays of extended reals, and the exact scalar operations at reals. -/
module

public import Idealize.ShloMosaic.Lib.Pointwise
public import Idealize.ShloMosaic.Lib.IdealHost
public import Idealize.ShloMosaic.PureOps.Ideal
public import Idealize.ShloMosaic.PureOps.Ideal.Laws
public import Mathlib.Analysis.SpecialFunctions.Trigonometric.DerivHyp

@[expose] public section

noncomputable section

namespace Cert.Lift

open Idealize.ShloMosaic

/-- The vector of extended reals with real entries `f`. -/
def lift1 {n : ℕ} (f : Fin n → ℝ) : (⟨1, ![n]⟩ : Shape).Idx → EReal := fun i => ((f (i 0) : ℝ) : EReal)
/-- The matrix of extended reals with real entries `f`. -/
def lift2 {n k : ℕ} (f : Fin n → Fin k → ℝ) : (⟨2, ![n, k]⟩ : Shape).Idx → EReal := fun i => ((f (i 0) (i 1) : ℝ) : EReal)
/-- The box of extended reals with real entries `f`. -/
def lift3 {n k l : ℕ} (f : Fin n → Fin k → Fin l → ℝ) : (⟨3, ![n, k, l]⟩ : Shape).Idx → EReal :=
  fun i => ((f (i 0) (i 1) (i 2) : ℝ) : EReal)

theorem lift1_apply {n : ℕ} (f : Fin n → ℝ) (a : Fin n) : lift1 f (ix1 a) = ((f a : ℝ) : EReal) := rfl
theorem lift2_apply {n k : ℕ} (f : Fin n → Fin k → ℝ) (a : Fin n) (b : Fin k) : lift2 f (ix2 a b) = ((f a b : ℝ) : EReal) := rfl
theorem lift3_apply {n k l : ℕ} (f : Fin n → Fin k → Fin l → ℝ) (a : Fin n) (b : Fin k) (c : Fin l) :
    lift3 f (ix3 a b c) = ((f a b c : ℝ) : EReal) := rfl

/-- A matrix whose entries are all real is the lift of its real parts. -/
theorem exists_lift2 {n k : ℕ} (v : (⟨2, ![n, k]⟩ : Shape).Idx → EReal) (h : ∀ i, ∃ r : ℝ, v i = ((r : ℝ) : EReal)) :
    ∃ f : Fin n → Fin k → ℝ, v = lift2 f := by
  choose g hg using h
  refine ⟨fun a b => g (ix2 a b), ?_⟩
  funext i
  obtain ⟨a, b, rfl⟩ : ∃ (a : Fin n) (b : Fin k), i = ix2 a b := ⟨i 0, i 1, eq_ix2 i⟩
  exact hg _

@[norm_cast] theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-1 / 2 : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_inv_1024 : Ideal.ofBits .f32 0x3A800000#32 = ((1 / 1024 : ℝ) : EReal) := by
  simp [Ideal.ofBits, Ideal.ieee, -EReal.coe_mul]; norm_num
theorem bits_inv_2048 : Ideal.ofBits .f32 0x3A000000#32 = ((1 / 2048 : ℝ) : EReal) := by
  simp [Ideal.ofBits, Ideal.ieee, -EReal.coe_mul]; norm_num
/-- The small constant of the root mean square, `1e-6` as a 32-bit float. -/
def eps : ℝ := 8796093 / 8796093022208
theorem eps_pos : 0 < eps := by unfold eps; norm_num
theorem bits_eps : Ideal.ofBits .f32 0x358637BD#32 = ((eps : ℝ) : EReal) := by
  simp [Ideal.ofBits, Ideal.ieee, eps, -EReal.coe_mul]; norm_num

theorem div_coe (a b : ℝ) (h : b ≠ 0) : Ideal.div ((a : ℝ) : EReal) ((b : ℝ) : EReal) = ((a / b : ℝ) : EReal) := by
  rw [Ideal.div_coe h, ← EReal.coe_mul, mul_one_div]

theorem rsqrt_coe (a : ℝ) (h : 0 < a) : Ideal.rsqrt ((a : ℝ) : EReal) = (((Real.sqrt a)⁻¹ : ℝ) : EReal) := by
  rw [Ideal.rsqrt_coe, if_neg (not_lt.mpr h.le), if_neg h.ne']

/-- The logistic function. -/
def sg (v : ℝ) : ℝ := (1 + Real.exp (-v))⁻¹

theorem one_add_exp_pos (v : ℝ) : 0 < 1 + Real.exp (-v) := by positivity

/-- The logistic function by the hyperbolic tangent of half its argument. -/
theorem sg_eq_tanh (v : ℝ) : sg v = 1 / 2 * Real.tanh (1 / 2 * v) + 1 / 2 := by
  have h := Real.exp_pos (1 / 2 * v)
  have h' := Real.exp_pos (-(1 / 2 * v))
  have e : Real.exp (-v) = Real.exp (-(1 / 2 * v)) * Real.exp (-(1 / 2 * v)) := by rw [← Real.exp_add]; congr 1; ring
  have e1 : Real.exp (1 / 2 * v) * Real.exp (-(1 / 2 * v)) = 1 := by rw [← Real.exp_add]; simp
  unfold sg
  rw [Real.tanh_eq_sinh_div_cosh, Real.sinh_eq, Real.cosh_eq, e]
  set p := Real.exp (1 / 2 * v)
  set q := Real.exp (-(1 / 2 * v))
  have hp : p = 1 / q := by rw [eq_div_iff h'.ne']; exact e1
  rw [hp]
  field_simp
  ring

/-- The reciprocal root of a positive number, squared. -/
theorem inv_sqrt_sq (a : ℝ) (h : 0 < a) : (Real.sqrt a)⁻¹ / a = (Real.sqrt a)⁻¹ * ((Real.sqrt a)⁻¹ * (Real.sqrt a)⁻¹) := by
  have hs : Real.sqrt a * Real.sqrt a = a := Real.mul_self_sqrt h.le
  rw [← mul_inv, hs, div_eq_mul_inv]

end Cert.Lift

end
-- ==== Proof.Real.lean ====
/- An extended real below the positive infinity in absolute value is real. -/
module

public import proofs.«01_k».proof.Proof.Lift

@[expose] public section

noncomputable section

namespace Cert.Lift

open Idealize.ShloMosaic

/-- What is smaller than the positive infinity in absolute value is real. -/
theorem real_of (x : EReal) (h : FloatOps.cmpf (F := Ideal) .olt (FloatOps.hostAbsf (F := Ideal) (φ := .f32) x) (FloatOps.ofBits .f32 0x7F800000#32) = 1#1) :
    ∃ r : ℝ, x = ((r : ℝ) : EReal) := by
  have hi : Ideal.ofBits .f32 0x7F800000#32 = ⊤ := by simp [Ideal.ofBits, Ideal.ieee]
  have h' : Ideal.cmp .olt (max x (-x)) (Ideal.ofBits .f32 0x7F800000#32) = 1#1 := h
  rw [hi] at h'
  induction x with
  | coe r => exact ⟨r, rfl⟩
  | bot => simp [Ideal.cmp] at h'
  | top => simp [Ideal.cmp] at h'

end Cert.Lift

end
-- ==== Proof.Tail.Spec.lean ====
/- The tail of the step in real numbers, row by row: the merge of the two branches, the output product, the root mean
   square norm with the residual, the loss, and the derivative of the loss in every argument. -/
module

public import proofs.«01_k».proof.Proof.Lift

@[expose] public section

noncomputable section

namespace Cert.TailSpec

open Cert.Lift

/-- One row of the arguments. -/
structure Row where
  /-- the convolution branch -/
  a : Fin 1024 → ℝ
  /-- the state space branch -/
  b : Fin 512 → ℝ
  /-- the gate of the convolution branch -/
  gc : Fin 1024 → ℝ
  /-- the gate of the state space branch -/
  gs : Fin 1024 → ℝ
  /-- the residual -/
  x : Fin 1024 → ℝ
  /-- the target -/
  t : Fin 1024 → ℝ

/-- The weights. -/
structure Wts where
  /-- the convolution branch's output weight -/
  wco : Fin 1024 → Fin 1024 → ℝ
  /-- the state space branch's output weight -/
  wso : Fin 512 → Fin 1024 → ℝ
  /-- the block's output weight -/
  wout : Fin 1024 → Fin 1024 → ℝ
  /-- the norm's gain -/
  gp : Fin 1024 → ℝ

variable (w : Wts) (r : Row)

def co (j : Fin 1024) : ℝ := ∑ k, r.a k * w.wco k j
def so (j : Fin 1024) : ℝ := ∑ k, r.b k * w.wso k j
def mb (j : Fin 1024) : ℝ := sg (r.gc j) * co w r j + sg (r.gs j) * so w r j
def out (j : Fin 1024) : ℝ := ∑ k, mb w r k * w.wout k j
/-- the mean square plus the small constant -/
def ms : ℝ := (∑ k, out w r k * out w r k) / 1024 + eps
def rs : ℝ := (Real.sqrt (ms w r))⁻¹
def on (j : Fin 1024) : ℝ := out w r j * rs w r
def er (j : Fin 1024) : ℝ := r.x j + on w r j * w.gp j - r.t j
def dy (j : Fin 1024) : ℝ := er w r j * (1 / 1024)
def dn (j : Fin 1024) : ℝ := dy w r j * w.gp j
def pr : ℝ := (∑ k, dn w r k * on w r k) / 1024
def dout (j : Fin 1024) : ℝ := rs w r * (dn w r j - on w r j * pr w r)
def dm (j : Fin 1024) : ℝ := ∑ k, dout w r k * w.wout j k
def dgc (j : Fin 1024) : ℝ := dm w r j * co w r j * sg (r.gc j) * (1 - sg (r.gc j))
def dgs (j : Fin 1024) : ℝ := dm w r j * so w r j * sg (r.gs j) * (1 - sg (r.gs j))
def dco (j : Fin 1024) : ℝ := dm w r j * sg (r.gc j)
def dso (j : Fin 1024) : ℝ := dm w r j * sg (r.gs j)
def da (k : Fin 1024) : ℝ := ∑ j, dco w r j * w.wco k j
def db (k : Fin 512) : ℝ := ∑ j, dso w r j * w.wso k j
/-- one row's share of the gradients of the weights and of the loss -/
def twout (k j : Fin 1024) : ℝ := mb w r k * dout w r j
def twco (k j : Fin 1024) : ℝ := r.a k * dco w r j
def twso (k : Fin 512) (j : Fin 1024) : ℝ := r.b k * dso w r j
def tgp (j : Fin 1024) : ℝ := dy w r j * on w r j
def tls : ℝ := 1 / 2048 * ∑ j, er w r j * er w r j

theorem ms_pos : 0 < ms w r := by
  unfold ms
  have h : 0 ≤ (∑ k, out w r k * out w r k) / 1024 := div_nonneg (Finset.sum_nonneg fun k _ => mul_self_nonneg _) (by norm_num)
  linarith [eps_pos]

/-- The gradient at the output product as the derivative of the reciprocal root writes it. -/
theorem dout_eq (j : Fin 1024) :
    dout w r j = dn w r j * rs w r + (out w r j * ((∑ k, out w r k * dn w r k) * (-1 / 2 * (rs w r / ms w r)) / 1024)
      + (∑ k, out w r k * dn w r k) * (-1 / 2 * (rs w r / ms w r)) / 1024 * out w r j) := by
  have h1 : rs w r / ms w r = rs w r * (rs w r * rs w r) := inv_sqrt_sq _ (ms_pos w r)
  have h2 : ∑ k, dn w r k * on w r k = (∑ k, out w r k * dn w r k) * rs w r := by
    rw [Finset.sum_mul]; exact Finset.sum_congr rfl fun k _ => by unfold on; ring
  unfold dout pr
  rw [h1, h2]
  unfold on
  ring

end Cert.TailSpec

end
-- ==== Proof.Tail.Pay.lean ====
/- What each value that the tail's body computes is, on blocks of real entries. -/
module

public import proofs.«01_k».proof.Proof.Tail.Spec
public import proofs.«01_k».proof.Proof.Gen.TailIdeal.Skeleton

@[expose] public section

set_option maxRecDepth 16384

noncomputable section

namespace Cert.TailPay

open Idealize.ShloMosaic Cert.TailIdeal Cert.TailIdeal.Gen Cert.Lift Cert.TailSpec

variable (w : Wts) (R : Fin 512 → Row)

/-- the first half of a block's rows -/
def lo : Fin 256 → Row := fun i => R ⟨i.val, by omega⟩
/-- the second half of a block's rows -/
def hi : Fin 256 → Row := fun i => R ⟨256 + i.val, by omega⟩
/-- one block of 256 columns of the state space branch's output weight -/
def wsb (q : Fin 4) : Fin 1 → Fin 512 → Fin 256 → ℝ := fun _ k c => w.wso k ⟨256 * q.val + c.val, by omega⟩

theorem pay10 : k0_pay10 (F := Ideal) (lift2 fun i => (R i).a) (lift2 w.wco) = lift2 fun i => co w (R i) := by
  funext i; idx_vars i
  pointwise [k0_pay10, lift2_apply]
  norm_cast

theorem pay11 : k0_pay11 (F := Ideal) (lift2 fun i => (R i).b) (lift3 (wsb w 0)) (lift3 (wsb w 1)) (lift3 (wsb w 2)) (lift3 (wsb w 3))
    = lift2 fun i => so w (R i) := by
  funext i; idx_vars i
  pointwise [k0_pay11, lift2_apply, lift3_apply]
  unfold so
  simp only [wsb, ← EReal.coe_mul, ← coe_sum]
  have v1 : (1 : Fin 4).val = 1 := rfl
  have v2 : (2 : Fin 4).val = 2 := rfl
  have v3 : (3 : Fin 4).val = 3 := rfl
  split_ifs <;> refine congrArg _ (Finset.sum_congr rfl fun k _ => congrArg (_ * w.wso k ·) (Fin.ext ?_)) <;> simp only [v1, v2, v3]
  · exact zero_add _
  all_goals omega

theorem pay12 : k0_pay12 (F := Ideal) (lift2 fun i => (R i).gc) = lift2 fun i j => 1 / 2 * Real.tanh (1 / 2 * (R i).gc j) := by
  funext i; idx_vars i
  pointwise [k0_pay12, lift2_apply]
  rw [bits_half]
  simp only [← EReal.coe_mul, Ideal.tanh_coe]

theorem pay13 : k0_pay13 (F := Ideal) (lift2 fun i j => 1 / 2 * Real.tanh (1 / 2 * (R i).gc j)) (FloatOps.ofBits .f32 0x3F000000#32)
    = lift2 fun i j => sg ((R i).gc j) := by
  funext i; idx_vars i
  pointwise [k0_pay13, lift2_apply]
  rw [sg_eq_tanh, EReal.coe_add, ← bits_half]

theorem pay14 : k0_pay14 (F := Ideal) (lift2 fun i => (R i).gs) = lift2 fun i j => sg ((R i).gs j) := by
  funext i; idx_vars i
  pointwise [k0_pay14, lift2_apply]
  rw [bits_half]
  simp only [← EReal.coe_mul, ← EReal.coe_add, Ideal.tanh_coe, sg_eq_tanh]

theorem pay15 : k0_pay15 (F := Ideal) (lift2 fun i => co w (R i)) (lift2 fun i => so w (R i))
    (lift2 fun i j => 1 / 2 * Real.tanh (1 / 2 * (R i).gc j)) (FloatOps.ofBits .f32 0x3F000000#32) (lift2 fun i => (R i).gs)
    = lift2 fun i => mb w (R i) := by
  simp only [k0_pay15, pay13, pay14]
  funext i; idx_vars i
  pointwise [lift2_apply]
  unfold mb; norm_cast

theorem pay16 : k0_pay16 (F := Ideal) (lift2 fun i => co w (R i)) (lift2 fun i => so w (R i))
    (lift2 fun i j => 1 / 2 * Real.tanh (1 / 2 * (R i).gc j)) (FloatOps.ofBits .f32 0x3F000000#32) (lift2 fun i => (R i).gs) (lift2 w.wout)
    = lift2 fun i => out w (R i) := by
  simp only [k0_pay16, pay15]
  funext i; idx_vars i
  pointwise [lift2_apply]
  unfold out; norm_cast

theorem pay17 : k0_pay17 (F := Ideal) (lift2 fun i => co w (R i)) (lift2 fun i => so w (R i))
    (lift2 fun i j => 1 / 2 * Real.tanh (1 / 2 * (R i).gc j)) (FloatOps.ofBits .f32 0x3F000000#32) (lift2 fun i => (R i).gs) (lift2 w.wout)
    = lift2 fun i => out w (lo R i) := by
  simp only [k0_pay17, pay16]
  funext i; idx_vars i
  pointwise [lift2_apply]
  simp [lo]

/-- The reciprocal root mean square of a row, as both programs write it. -/
theorem rs_coe (r : Row) : Ideal.rsqrt (Ideal.div (∑ k, ((out w r k : ℝ) : EReal) * ((out w r k : ℝ) : EReal)) (Ideal.ofBits .f32 0x44800000#32)
    + Ideal.ofBits .f32 0x358637BD#32) = ((rs w r : ℝ) : EReal) := by
  rw [bits_1024, bits_eps]
  simp only [← EReal.coe_mul, ← coe_sum]
  rw [div_coe _ _ (by norm_num), ← EReal.coe_add]
  exact rsqrt_coe _ (ms_pos w r)

theorem pay18 : k0_pay18 (F := Ideal) (lift2 fun i => co w (R i)) (lift2 fun i => so w (R i))
    (lift2 fun i j => 1 / 2 * Real.tanh (1 / 2 * (R i).gc j)) (FloatOps.ofBits .f32 0x3F000000#32) (lift2 fun i => (R i).gs) (lift2 w.wout)
    = lift2 fun i _ => rs w (lo R i) := by
  simp only [k0_pay18, pay17]
  funext i; idx_vars i
  pointwise [lift2_apply]
  exact rs_coe w _

theorem pay19 : k0_pay19 (F := Ideal) (lift2 fun i => co w (R i)) (lift2 fun i => so w (R i))
    (lift2 fun i j => 1 / 2 * Real.tanh (1 / 2 * (R i).gc j)) (FloatOps.ofBits .f32 0x3F000000#32) (lift2 fun i => (R i).gs) (lift2 w.wout)
    = lift2 fun i => on w (lo R i) := by
  simp only [k0_pay19, pay17, pay18]
  funext i; idx_vars i
  pointwise [lift2_apply]
  unfold on; norm_cast

theorem pay20 : k0_pay20 (F := Ideal) (lift2 fun i => co w (R i)) (lift2 fun i => so w (R i))
    (lift2 fun i j => 1 / 2 * Real.tanh (1 / 2 * (R i).gc j)) (FloatOps.ofBits .f32 0x3F000000#32) (lift2 fun i => (R i).gs) (lift2 w.wout)
    (lift2 fun _ => w.gp) (lift2 fun i => (lo R i).x) (lift2 fun i => (lo R i).t)
    = lift2 fun i => er w (lo R i) := by
  simp only [k0_pay20, pay19]
  funext i; idx_vars i
  pointwise [lift2_apply]
  unfold er; norm_cast

theorem pay22 : k0_pay22 (F := Ideal) (lift2 fun i => co w (R i)) (lift2 fun i => so w (R i))
    (lift2 fun i j => 1 / 2 * Real.tanh (1 / 2 * (R i).gc j)) (FloatOps.ofBits .f32 0x3F000000#32) (lift2 fun i => (R i).gs) (lift2 w.wout)
    (lift2 fun _ => w.gp) (lift2 fun i => (lo R i).x) (lift2 fun i => (lo R i).t)
    = lift3 fun _ i j => er w (lo R i) j * er w (lo R i) j := by
  simp only [k0_pay22, pay20]
  funext i; idx_vars i
  pointwise [lift2_apply, lift3_apply]
  norm_cast

variable (H : Fin 256 → Row)

theorem pay23 (v : Vec Ideal S1x128 .f32) (i : S1x128.Idx) : k0_pay23 (F := Ideal) (k0_pay21 v) (lift3 fun _ i j => er w (H i) j * er w (H i) j) i
    = v i + ((∑ i, tls w (H i) : ℝ) : EReal) := by
  idx_vars i
  pointwise [k0_pay23, k0_pay21, lift3_apply]
  rw [bits_inv_2048]
  unfold tls
  rw [← Finset.mul_sum]
  norm_cast

theorem pay24 : k0_pay24 (F := Ideal) (lift2 fun i => er w (H i)) = lift2 fun i => dy w (H i) := by
  funext i; idx_vars i
  pointwise [k0_pay24, lift2_apply]
  rw [bits_inv_1024]
  unfold dy; norm_cast

theorem pay25 (v : Vec Ideal S1x1024 .f32) (q : Fin 1) (j : Fin 1024) :
    k0_pay25 (F := Ideal) (lift2 fun i => on w (H i)) (lift2 fun i => er w (H i)) v (ix2 q j)
    = v (ix2 q j) + ((∑ i, tgp w (H i) j : ℝ) : EReal) := by
  simp only [k0_pay25, pay24]
  pointwise [lift2_apply]
  unfold tgp; norm_cast

theorem pay26 : k0_pay26 (F := Ideal) (lift2 fun _ => w.gp) (lift2 fun i _ => rs w (H i)) (lift2 fun i => on w (H i)) (lift2 fun i => er w (H i))
    = lift2 fun i => dout w (H i) := by
  simp only [k0_pay26, pay24]
  funext i; idx_vars i
  pointwise [lift2_apply]
  rw [bits_1024]
  simp only [← EReal.coe_mul, ← coe_sum]
  rw [div_coe _ _ (by norm_num)]
  norm_cast

theorem pay27 : k0_pay27 (F := Ideal) (lift2 fun i => out w (R i)) = lift2 fun i => out w (hi R i) := by
  funext i; idx_vars i
  pointwise [k0_pay27, lift2_apply]
  simp [hi]

theorem pay28 : k0_pay28 (F := Ideal) (lift2 fun i => out w (R i)) = lift2 fun i _ => rs w (hi R i) := by
  simp only [k0_pay28, pay27]
  funext i; idx_vars i
  pointwise [lift2_apply]
  exact rs_coe w _

theorem pay29 : k0_pay29 (F := Ideal) (lift2 fun i => out w (R i)) = lift2 fun i => on w (hi R i) := by
  simp only [k0_pay29, pay27, pay28]
  funext i; idx_vars i
  pointwise [lift2_apply]
  unfold on; norm_cast

theorem pay30 : k0_pay30 (F := Ideal) (lift2 fun _ => w.gp) (lift2 fun i => on w (H i)) (lift2 fun i => (H i).x) (lift2 fun i => (H i).t)
    = lift2 fun i => er w (H i) := by
  funext i; idx_vars i
  pointwise [k0_pay30, lift2_apply]
  unfold er; norm_cast

theorem pay31 (v : Vec Ideal S1x128 .f32) (i : S1x128.Idx) :
    k0_pay31 (F := Ideal) (lift2 fun _ => w.gp) (lift2 fun i => on w (H i)) (lift2 fun i => (H i).x) (lift2 fun i => (H i).t) v i
    = v i + ((∑ i, tls w (H i) : ℝ) : EReal) := by
  simp only [k0_pay31, pay30]
  idx_vars i
  pointwise [lift2_apply]
  rw [bits_inv_2048]
  unfold tls
  rw [← Finset.mul_sum]
  norm_cast

theorem pay32 : k0_pay32 (F := Ideal) (lift2 fun _ => w.gp) (lift2 fun i => on w (H i)) (lift2 fun i => (H i).x) (lift2 fun i => (H i).t)
    = lift2 fun i => dy w (H i) := by
  simp only [k0_pay32, pay30]
  funext i; idx_vars i
  pointwise [lift2_apply]
  rw [bits_inv_1024]
  unfold dy; norm_cast

theorem pay33 (v : Vec Ideal S1x1024 .f32) (q : Fin 1) (j : Fin 1024) :
    k0_pay33 (F := Ideal) (lift2 fun _ => w.gp) (lift2 fun i => on w (H i)) (lift2 fun i => (H i).x) (lift2 fun i => (H i).t) v (ix2 q j)
    = v (ix2 q j) + ((∑ i, tgp w (H i) j : ℝ) : EReal) := by
  simp only [k0_pay33, pay32]
  pointwise [lift2_apply]
  unfold tgp; norm_cast

theorem pay34 : k0_pay34 (F := Ideal) (lift2 fun _ => w.gp) (lift2 fun i => on w (H i)) (lift2 fun i => (H i).x) (lift2 fun i => (H i).t)
    = lift2 fun i j => dn w (H i) j - on w (H i) j * pr w (H i) := by
  simp only [k0_pay34, pay32]
  funext i; idx_vars i
  pointwise [lift2_apply]
  rw [bits_1024]
  simp only [← EReal.coe_mul, ← coe_sum]
  rw [div_coe _ _ (by norm_num)]
  norm_cast

theorem pay35 : k0_pay35 (F := Ideal) (lift2 fun i => dout w (lo R i)) (lift2 fun i _ => rs w (hi R i))
    (lift2 fun i j => dn w (hi R i) j - on w (hi R i) j * pr w (hi R i)) = lift2 fun i => dout w (R i) := by
  funext i; idx_vars i
  pointwise [k0_pay35, lift2_apply]
  by_cases h : i0.val < 256
  · rw [dif_pos h]
    rfl
  · rw [dif_neg h]
    have e : hi R ⟨i0.val - 256, by omega⟩ = R i0 := congrArg R (Fin.ext (by simp; omega))
    rw [e]
    unfold dout; norm_cast

theorem pay36 (v : Vec Ideal S1024x1024 .f32) (k j : Fin 1024) :
    k0_pay36 (F := Ideal) (lift2 fun i => mb w (R i)) (lift2 fun i => dout w (lo R i)) (lift2 fun i _ => rs w (hi R i))
      (lift2 fun i j => dn w (hi R i) j - on w (hi R i) j * pr w (hi R i)) v (ix2 k j)
    = v (ix2 k j) + ((∑ i, twout w (R i) k j : ℝ) : EReal) := by
  simp only [k0_pay36, pay35]
  pointwise [lift2_apply]
  unfold twout; norm_cast

theorem pay37 : k0_pay37 (F := Ideal) (lift2 fun i => dout w (lo R i)) (lift2 fun i _ => rs w (hi R i))
      (lift2 fun i j => dn w (hi R i) j - on w (hi R i) j * pr w (hi R i)) (lift2 w.wout) = lift2 fun i => dm w (R i) := by
  simp only [k0_pay37, pay35]
  funext i; idx_vars i
  pointwise [lift2_apply]
  unfold dm; norm_cast

theorem pay38 : k0_pay38 (F := Ideal) (lift2 fun i => co w (R i)) (lift2 fun i j => sg ((R i).gc j)) (lift2 fun i => dout w (lo R i)) (lift2 fun i _ => rs w (hi R i))
      (lift2 fun i j => dn w (hi R i) j - on w (hi R i) j * pr w (hi R i)) (lift2 w.wout) = lift2 fun i => dgc w (R i) := by
  simp only [k0_pay38, pay37]
  funext i; idx_vars i
  pointwise [lift2_apply]
  unfold dgc; norm_cast

theorem pay39 : k0_pay39 (F := Ideal) (lift2 fun i => so w (R i)) (lift2 fun i j => sg ((R i).gs j)) (lift2 fun i => dout w (lo R i)) (lift2 fun i _ => rs w (hi R i))
      (lift2 fun i j => dn w (hi R i) j - on w (hi R i) j * pr w (hi R i)) (lift2 w.wout) = lift2 fun i => dgs w (R i) := by
  simp only [k0_pay39, pay37]
  funext i; idx_vars i
  pointwise [lift2_apply]
  unfold dgs; norm_cast

theorem pay40 : k0_pay40 (F := Ideal) (lift2 fun i j => sg ((R i).gc j)) (lift2 fun i => dout w (lo R i)) (lift2 fun i _ => rs w (hi R i))
      (lift2 fun i j => dn w (hi R i) j - on w (hi R i) j * pr w (hi R i)) (lift2 w.wout) = lift2 fun i => dco w (R i) := by
  simp only [k0_pay40, pay37]
  funext i; idx_vars i
  pointwise [lift2_apply]
  unfold dco; norm_cast

theorem pay41 : k0_pay41 (F := Ideal) (lift2 fun i j => sg ((R i).gs j)) (lift2 fun i => dout w (lo R i)) (lift2 fun i _ => rs w (hi R i))
      (lift2 fun i j => dn w (hi R i) j - on w (hi R i) j * pr w (hi R i)) (lift2 w.wout) = lift2 fun i => dso w (R i) := by
  simp only [k0_pay41, pay37]
  funext i; idx_vars i
  pointwise [lift2_apply]
  unfold dso; norm_cast

theorem pay42 (v : Vec Ideal S1024x1024 .f32) (k j : Fin 1024) :
    k0_pay42 (F := Ideal) (lift2 fun i => (R i).a) (lift2 fun i j => sg ((R i).gc j)) (lift2 fun i => dout w (lo R i)) (lift2 fun i _ => rs w (hi R i))
      (lift2 fun i j => dn w (hi R i) j - on w (hi R i) j * pr w (hi R i)) (lift2 w.wout) v (ix2 k j)
    = v (ix2 k j) + ((∑ i, twco w (R i) k j : ℝ) : EReal) := by
  simp only [k0_pay42, pay40]
  pointwise [lift2_apply]
  unfold twco; norm_cast

/-- one block of 256 columns of the gradient at the state space branch's product -/
def dsb (q : Fin 4) : Fin 512 → Fin 256 → ℝ := fun i c => dso w (R i) ⟨256 * q.val + c.val, by omega⟩

theorem pay43 : k0_pay43 (F := Ideal) (lift2 fun i j => sg ((R i).gs j)) (lift2 fun i => dout w (lo R i)) (lift2 fun i _ => rs w (hi R i))
      (lift2 fun i j => dn w (hi R i) j - on w (hi R i) j * pr w (hi R i)) (lift2 w.wout) = lift2 (dsb w R 0) := by
  simp only [k0_pay43, pay41]
  funext i; idx_vars i
  pointwise [lift2_apply]
  simp [dsb]
theorem pay45 : k0_pay45 (F := Ideal) (lift2 fun i => dso w (R i)) = lift2 (dsb w R 1) := by
  funext i; idx_vars i
  pointwise [k0_pay45, lift2_apply]
  simp [dsb]
theorem pay48 : k0_pay48 (F := Ideal) (lift2 fun i => dso w (R i)) = lift2 (dsb w R 2) := by
  funext i; idx_vars i
  pointwise [k0_pay48, lift2_apply]
  simp [dsb]
theorem pay1 : k0_pay1 (F := Ideal) (lift2 fun i => dso w (R i)) = lift2 (dsb w R 3) := by
  funext i; idx_vars i
  pointwise [k0_pay1, lift2_apply]
  simp [dsb]

theorem pay44 (v : Vec Ideal S1x512x256 .f32) (z : Fin 1) (k : Fin 512) (c : Fin 256) (q : Fin 4) :
    k0_pay44 (F := Ideal) (lift2 fun i => (R i).b) (lift2 (dsb w R q)) v (ix3 z k c)
    = v (ix3 z k c) + ((∑ i, twso w (R i) k ⟨256 * q.val + c.val, by omega⟩ : ℝ) : EReal) := by
  obtain rfl : z = 0 := Subsingleton.elim _ _
  pointwise [k0_pay44, lift2_apply]
  simp only [twso, dsb, ← EReal.coe_mul, ← coe_sum]
theorem pay46 (v : Vec Ideal S1x512x256 .f32) (z : Fin 1) (k : Fin 512) (c : Fin 256) :
    k0_pay46 (F := Ideal) (lift2 fun i => (R i).b) (lift2 fun i => dso w (R i)) v (ix3 z k c)
    = v (ix3 z k c) + ((∑ i, twso w (R i) k ⟨256 * (1 : Fin 4).val + c.val, by simp; omega⟩ : ℝ) : EReal) := by
  obtain rfl : z = 0 := Subsingleton.elim _ _
  simp only [k0_pay46, pay45]
  pointwise [lift2_apply]
  simp only [twso, dsb, ← EReal.coe_mul, ← coe_sum]
  rfl
theorem pay49 (v : Vec Ideal S1x512x256 .f32) (z : Fin 1) (k : Fin 512) (c : Fin 256) :
    k0_pay49 (F := Ideal) (lift2 fun i => (R i).b) (lift2 fun i => dso w (R i)) v (ix3 z k c)
    = v (ix3 z k c) + ((∑ i, twso w (R i) k ⟨256 * (2 : Fin 4).val + c.val, by simp; omega⟩ : ℝ) : EReal) := by
  obtain rfl : z = 0 := Subsingleton.elim _ _
  simp only [k0_pay49, pay48]
  pointwise [lift2_apply]
  simp only [twso, dsb, ← EReal.coe_mul, ← coe_sum]
  rfl
theorem pay2 (v : Vec Ideal S1x512x256 .f32) (z : Fin 1) (k : Fin 512) (c : Fin 256) :
    k0_pay2 (F := Ideal) (lift2 fun i => (R i).b) (lift2 fun i => dso w (R i)) v (ix3 z k c)
    = v (ix3 z k c) + ((∑ i, twso w (R i) k ⟨256 * (3 : Fin 4).val + c.val, by simp; omega⟩ : ℝ) : EReal) := by
  obtain rfl : z = 0 := Subsingleton.elim _ _
  simp only [k0_pay2, pay1]
  pointwise [lift2_apply]
  simp only [twso, dsb, ← EReal.coe_mul, ← coe_sum]
  rfl

theorem pay3 : k0_pay3 (F := Ideal) (lift2 fun i => dco w (R i)) (lift2 w.wco) = lift2 fun i => da w (R i) := by
  funext i; idx_vars i
  pointwise [k0_pay3, lift2_apply]
  unfold da; norm_cast

theorem sum_four (f : Fin 1024 → ℝ) : ∑ j, f j = ∑ c : Fin 256, f ⟨256 * (0 : Fin 4).val + c.val, by simp; omega⟩
    + ∑ c : Fin 256, f ⟨256 * (1 : Fin 4).val + c.val, by simp; omega⟩ + ∑ c : Fin 256, f ⟨256 * (2 : Fin 4).val + c.val, by simp; omega⟩
    + ∑ c : Fin 256, f ⟨256 * (3 : Fin 4).val + c.val, by simp; omega⟩ := by
  rw [Fin.sum_univ_two_halves 512 512 rfl, Fin.sum_univ_two_halves 256 256 rfl, Fin.sum_univ_two_halves 256 256 rfl, ← add_assoc]
  have v1 : (1 : Fin 4).val = 1 := rfl
  have v2 : (2 : Fin 4).val = 2 := rfl
  have v3 : (3 : Fin 4).val = 3 := rfl
  refine congrArg₂ (· + ·) (congrArg₂ (· + ·) (congrArg₂ (· + ·) ?_ ?_) ?_) ?_ <;>
    refine Finset.sum_congr rfl fun c _ => congrArg f (Fin.ext ?_) <;> simp only [v1, v2, v3]
  · exact (zero_add c.val).symm
  all_goals omega

theorem pay47 : k0_pay47 (F := Ideal) (lift2 fun i => dso w (R i)) (lift2 (dsb w R 0)) (lift3 (wsb w 0)) (lift3 (wsb w 1))
    = lift2 fun i k => ∑ c, dsb w R 0 i c * wsb w 0 0 k c + ∑ c, dsb w R 1 i c * wsb w 1 0 k c := by
  simp only [k0_pay47, pay45]
  funext i; idx_vars i
  pointwise [lift2_apply, lift3_apply]
  norm_cast

theorem pay4 : k0_pay4 (F := Ideal) (lift2 fun i => dso w (R i))
    (lift2 fun i k => ∑ c, dsb w R 0 i c * wsb w 0 0 k c + ∑ c, dsb w R 1 i c * wsb w 1 0 k c) (lift2 (dsb w R 2)) (lift3 (wsb w 2)) (lift3 (wsb w 3))
    = lift2 fun i => db w (R i) := by
  simp only [k0_pay4, pay1]
  funext i; idx_vars i
  pointwise [lift2_apply, lift3_apply]
  unfold db
  rw [sum_four]
  unfold dsb wsb
  norm_cast

end Cert.TailPay

end
-- ==== Proof.Tail.Ref.lean ====
/- What the tail's reference computes, on real arguments. -/
module

public import proofs.«01_k».proof.Proof.Tail.Pay
public import proofs.«01_k».proof.Proof.Gen.TailRefIdeal.Read

@[expose] public section

set_option maxRecDepth 16384

noncomputable section

namespace Cert.TailRefValue

open Idealize.ShloMosaic Cert.TailRefIdeal Cert.TailRefIdeal.Gen Cert.TailRefIdeal.Read Cert.Lift Cert.TailSpec

/-- The projection's columns of the two gates are real. -/
structure Gates (p : Vec Ideal S8192x6144 .bf16) (R : Fin 8192 → Row) : Prop where
  gc : ∀ i j, p (ix2 i ⟨4096 + j.val, by omega⟩) = (((R i).gc j : ℝ) : EReal)
  gs : ∀ i j, p (ix2 i ⟨5120 + j.val, by omega⟩) = (((R i).gs j : ℝ) : EReal)

variable {p : Vec Ideal S8192x6144 .bf16} {R : Fin 8192 → Row} (w : Wts) (G : Gates p R)

theorem sg_coe (v : ℝ) : Ideal.div 1 (1 + Ideal.exp (-((v : ℝ) : EReal))) = ((sg v : ℝ) : EReal) := by
  rw [← EReal.coe_one, ← EReal.coe_neg, Ideal.exp_coe, ← EReal.coe_add, div_coe _ _ (one_add_exp_pos v).ne', sg, one_div]

include G in
theorem s13 : val_main_v13 (F := Ideal) p = lift2 fun n j => sg ((R n).gc j) := by
  funext i; idx_vars i
  pointwise [val_main_v13, val_main_v12, val_main_cst_0, val_main_v11, val_main_v10, val_main_cst, val_main_v9, val_main_v8, val_main_v1, val_main_v0, lift2_apply]
  rw [G.gc, sg_coe]
include G in
theorem s23 : val_main_v23 (F := Ideal) p = lift2 fun n j => sg ((R n).gs j) := by
  funext i; idx_vars i
  pointwise [val_main_v23, val_main_v22, val_main_cst_3, val_main_v21, val_main_v20, val_main_cst_2, val_main_v19, val_main_v18, val_main_v3, val_main_v2, lift2_apply]
  rw [G.gs, sg_coe]

theorem s6 : val_main_v6 (F := Ideal) (lift2 fun n => (R n).a) (lift2 w.wco) = lift2 fun n => co w (R n) := by
  funext i; idx_vars i
  pointwise [val_main_v6, val_main_v4, lift2_apply]
  unfold co; norm_cast
theorem s7 : val_main_v7 (F := Ideal) (lift2 fun n => (R n).b) (lift2 w.wso) = lift2 fun n => so w (R n) := by
  funext i; idx_vars i
  pointwise [val_main_v7, val_main_v5, lift2_apply]
  unfold so; norm_cast

include G in
theorem s28 : val_main_v28 (F := Ideal) (lift2 fun n => (R n).a) (lift2 fun n => (R n).b) p (lift2 w.wco) (lift2 w.wso) = lift2 fun n => mb w (R n) := by
  simp only [val_main_v28, val_main_v17, val_main_v27, s13 G, s23 G, s6, s7]
  funext i; idx_vars i
  pointwise [lift2_apply]
  unfold mb; norm_cast
include G in
theorem s29 : val_main_v29 (F := Ideal) (lift2 fun n => (R n).a) (lift2 fun n => (R n).b) p (lift2 w.wco) (lift2 w.wso) (lift2 w.wout)
    = lift2 fun n => out w (R n) := by
  simp only [val_main_v29, s28 w G]
  funext i; idx_vars i
  pointwise [lift2_apply]
  unfold out; norm_cast
include G in
theorem s36 : val_main_v36 (F := Ideal) (lift2 fun n => (R n).a) (lift2 fun n => (R n).b) p (lift2 w.wco) (lift2 w.wso) (lift2 w.wout)
    = lift2 fun n _ => ms w (R n) := by
  simp only [val_main_v36, val_main_v34, val_main_v32, val_main_v31, val_main_v30, s29 w G]
  funext i; idx_vars i
  pointwise [val_main_v33, val_main_v35, val_main_cst_5, val_main_cst_6, val_main_cst_7, lift2_apply]
  rw [bits_1024, bits_eps]
  simp only [← EReal.coe_mul, ← coe_sum]
  rw [div_coe _ _ (by norm_num), ← EReal.coe_add]
  rfl
include G in
theorem s37 : val_main_v37 (F := Ideal) (lift2 fun n => (R n).a) (lift2 fun n => (R n).b) p (lift2 w.wco) (lift2 w.wso) (lift2 w.wout)
    = lift2 fun n _ => rs w (R n) := by
  simp only [val_main_v37, s36 w G]
  funext i; idx_vars i
  pointwise [lift2_apply]
  exact rsqrt_coe _ (ms_pos w _)
include G in
theorem s42 : val_main_v42 (F := Ideal) (lift2 fun n => (R n).a) (lift2 fun n => (R n).b) p (lift2 w.wco) (lift2 w.wso) (lift2 w.wout)
    = lift2 fun n => on w (R n) := by
  simp only [val_main_v42, val_main_v41, s29 w G, s37 w G]
  funext i; idx_vars i
  pointwise [lift2_apply]
  unfold on; norm_cast
include G in
theorem s46 : val_main_v46 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => er w (R n) := by
  simp only [val_main_v46, val_main_v45, val_main_v44, val_main_v43, s42 w G]
  funext i; idx_vars i
  pointwise [lift2_apply]
  unfold er; norm_cast
include G in
theorem s60 : val_main_v60 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dy w (R n) := by
  simp only [val_main_v60, val_main_v49, s46 w G]
  funext i; idx_vars i
  pointwise [val_main_v48, val_main_v59, val_main_v58, val_main_v56, val_main_v55, val_main_v57, val_main_cst_9, val_main_cst_14, val_main_cst_15, val_main_cst_16, lift2_apply]
  rw [bits_1024, bits_half, bits_two, div_coe _ _ (by norm_num), ← EReal.coe_mul, ← EReal.coe_mul]
  unfold dy; congr 1; ring
include G in
theorem s63 : val_main_v63 (F := Ideal) (lift2 fun n => (R n).a) (lift2 fun n => (R n).b) p (lift2 fun n => (R n).x) (lift2 fun n => (R n).t)
    (lift2 w.wco) (lift2 w.wso) (lift2 w.wout) (lift2 fun _ => w.gp) = lift2 fun _ j => ∑ n, tgp w (R n) j := by
  simp only [val_main_v63, val_main_v62, val_main_v61, s60 w G, s42 w G]
  funext i; idx_vars i
  pointwise [val_main_cst_17, lift2_apply]
  simp only [← EReal.coe_mul, ← coe_sum]
  exact congrArg _ (Finset.sum_congr rfl fun n _ => by unfold tgp; ring)
include G in
theorem s102 : val_main_v102 (F := Ideal) (lift2 fun n => (R n).a) (lift2 fun n => (R n).b) p (lift2 fun n => (R n).x) (lift2 fun n => (R n).t)
    (lift2 w.wco) (lift2 w.wso) (lift2 w.wout) (lift2 fun _ => w.gp) = lift2 fun _ _ => ∑ n, tls w (R n) := by
  simp only [val_main_v102, val_main_v54, val_main_v53, val_main_v52, val_main_v50, val_main_v47, s46 w G]
  funext i; idx_vars i
  pointwise [val_main_v51, val_main_cst_13, val_main_cst_12, val_main_cst_11, val_main_cst_10, lift2_apply]
  rw [bits_1024, bits_half]
  simp only [← EReal.coe_mul, ← coe_sum, div_coe _ 1024 (by norm_num)]
  refine congrArg _ ?_
  rw [Finset.mul_sum]
  exact Finset.sum_congr rfl fun n _ => by unfold tls; ring
include G in
theorem s65 : val_main_v65 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dn w (R n) := by
  simp only [val_main_v65, val_main_v64, s60 w G]
  funext i; idx_vars i
  pointwise [lift2_apply]
  unfold dn; norm_cast
include G in
theorem s75 : val_main_v75 (F := Ideal) (lift2 fun n => (R n).a) (lift2 fun n => (R n).b) p (lift2 fun n => (R n).x) (lift2 fun n => (R n).t)
    (lift2 w.wco) (lift2 w.wso) (lift2 w.wout) (lift2 fun _ => w.gp)
    = lift2 fun n _ => (∑ k, out w (R n) k * dn w (R n) k) * (-1 / 2 * (rs w (R n) / ms w (R n))) / 1024 := by
  simp only [val_main_v75, val_main_v74, val_main_v73, val_main_v71, val_main_v68, val_main_v67, val_main_v66, val_main_v40, val_main_v38, s65 w G, s29 w G, s36 w G, s37 w G]
  funext i; idx_vars i
  pointwise [val_main_v72, val_main_v39, val_main_cst_20, val_main_cst_19, val_main_cst_18, val_main_cst_8, lift2_apply]
  rw [bits_1024, bits_neg_half, div_coe _ _ (ms_pos w _).ne']
  simp only [← EReal.coe_mul, ← coe_sum]
  rw [div_coe _ _ (by norm_num)]
  exact Fin.sum_univ_one _
include G in
theorem s79 : val_main_v79 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dout w (R n) := by
  simp only [val_main_v79, val_main_v78, val_main_v77, val_main_v76, val_main_v70, val_main_v69, s75 w G, s65 w G, s29 w G, s37 w G]
  funext i; idx_vars i
  pointwise [lift2_apply]
  rw [dout_eq]
  simp only [← EReal.coe_mul, ← EReal.coe_add]
  refine congrArg _ ?_
  ring
include G in
theorem s81 : val_main_v81 (F := Ideal) (lift2 fun n => (R n).a) (lift2 fun n => (R n).b) p (lift2 fun n => (R n).x) (lift2 fun n => (R n).t)
    (lift2 w.wco) (lift2 w.wso) (lift2 w.wout) (lift2 fun _ => w.gp) = lift2 fun k j => ∑ n, twout w (R n) k j := by
  simp only [val_main_v81, val_main_v80, s79 w G, s28 w G]
  funext i; idx_vars i
  pointwise [lift2_apply]
  simp only [← EReal.coe_mul, ← coe_sum]
  exact congrArg _ (Finset.sum_congr rfl fun n _ => by unfold twout; ring)
include G in
theorem s82 : val_main_v82 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dm w (R n) := by
  simp only [val_main_v82, s79 w G]
  funext i; idx_vars i
  pointwise [lift2_apply]
  unfold dm; norm_cast
include G in
theorem s83 : val_main_v83 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dso w (R n) := by
  simp only [val_main_v83, s23 G, s82 w G]
  funext i; idx_vars i
  pointwise [lift2_apply]
  unfold dso; rw [mul_comm]; norm_cast
include G in
theorem s86 : val_main_v86 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dco w (R n) := by
  simp only [val_main_v86, s13 G, s82 w G]
  funext i; idx_vars i
  pointwise [lift2_apply]
  unfold dco; rw [mul_comm]; norm_cast
include G in
theorem s85 : val_main_v85 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dgs w (R n) := by
  simp only [val_main_v85, val_main_v84, val_main_v26, val_main_v25, s23 G, s7, s82 w G]
  funext i; idx_vars i
  pointwise [val_main_v24, val_main_cst_4, lift2_apply]
  rw [← EReal.coe_one]
  simp only [← EReal.coe_mul, ← EReal.coe_sub]
  refine congrArg _ ?_
  unfold dgs; ring
include G in
theorem s88 : val_main_v88 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => dgc w (R n) := by
  simp only [val_main_v88, val_main_v87, val_main_v16, val_main_v15, s13 G, s6, s82 w G]
  funext i; idx_vars i
  pointwise [val_main_v14, val_main_cst_1, lift2_apply]
  rw [← EReal.coe_one]
  simp only [← EReal.coe_mul, ← EReal.coe_sub]
  refine congrArg _ ?_
  unfold dgc; ring
include G in
theorem s93 : val_main_v93 (F := Ideal) (lift2 fun n => (R n).a) (lift2 fun n => (R n).b) p (lift2 fun n => (R n).x) (lift2 fun n => (R n).t)
    (lift2 w.wco) (lift2 w.wso) (lift2 w.wout) (lift2 fun _ => w.gp) = lift2 fun k j => ∑ n, twco w (R n) k j := by
  simp only [val_main_v93, val_main_v92, val_main_v4, s86 w G]
  funext i; idx_vars i
  pointwise [lift2_apply]
  simp only [← EReal.coe_mul, ← coe_sum]
  exact congrArg _ (Finset.sum_congr rfl fun n _ => by unfold twco; ring)
include G in
theorem s90 : val_main_v90 (F := Ideal) (lift2 fun n => (R n).a) (lift2 fun n => (R n).b) p (lift2 fun n => (R n).x) (lift2 fun n => (R n).t)
    (lift2 w.wco) (lift2 w.wso) (lift2 w.wout) (lift2 fun _ => w.gp) = lift2 fun k j => ∑ n, twso w (R n) k j := by
  simp only [val_main_v90, val_main_v89, val_main_v5, s83 w G]
  funext i; idx_vars i
  pointwise [lift2_apply]
  simp only [← EReal.coe_mul, ← coe_sum]
  exact congrArg _ (Finset.sum_congr rfl fun n _ => by unfold twso; ring)
include G in
theorem s101 : val_main_v101 (F := Ideal) (lift2 fun n => (R n).a) (lift2 fun n => (R n).b) p (lift2 fun n => (R n).x) (lift2 fun n => (R n).t)
    (lift2 w.wco) (lift2 w.wso) (lift2 w.wout) (lift2 fun _ => w.gp)
    = lift3 fun (q : Fin 4) k (j : Fin 256) => ∑ n, twso w (R n) k ⟨256 * q.val + j.val, by omega⟩ := by
  simp only [val_main_v101, val_main_v100, s90 w G]
  funext i; idx_vars i
  pointwise [lift2_apply, lift3_apply]
  exact congrArg _ (Finset.sum_congr rfl fun n _ => congrArg (twso w (R n) i1) (Fin.ext (by dsimp only; omega)))
include G in
theorem s97 : val_main_v97 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => da w (R n) := by
  simp only [val_main_v97, val_main_v94, s86 w G]
  funext i; idx_vars i
  pointwise [lift2_apply]
  unfold da; norm_cast
include G in
theorem s98 : val_main_v98 (F := Ideal) (lift2 fun n => (R n).a) (lift2 fun n => (R n).b) p (lift2 fun n => (R n).x) (lift2 fun n => (R n).t)
    (lift2 w.wco) (lift2 w.wso) (lift2 w.wout) (lift2 fun _ => w.gp) = lift2 fun n => db w (R n) := by
  simp only [val_main_v98, val_main_v91, s83 w G]
  funext i; idx_vars i
  pointwise [lift2_apply]
  unfold db; norm_cast
include G in
theorem s99 (n : Fin 8192) (j : Fin 6144) (hj : 4096 ≤ j.val) : val_main_v99 (F := Ideal) (lift2 fun n => (R n).a) (lift2 fun n => (R n).b) p
    (lift2 fun n => (R n).x) (lift2 fun n => (R n).t) (lift2 w.wco) (lift2 w.wso) (lift2 w.wout) (lift2 fun _ => w.gp) (ix2 n j)
    = ((if h : j.val < 5120 then dgc w (R n) ⟨j.val - 4096, by omega⟩ else dgs w (R n) ⟨j.val - 5120, by omega⟩ : ℝ) : EReal) := by
  simp only [val_main_v99, val_main_v96, val_main_v95, s88 w G, s85 w G]
  pointwise [lift2_apply]
  have hj' := j.isLt
  rw [dif_pos ⟨hj, by omega⟩]
  by_cases h : j.val < 5120
  · rw [dif_pos (by omega), dif_pos h, s88 w G]
    rfl
  · rw [dif_neg (by omega), dif_neg h, s85 w G]
    exact congrArg (fun k => ((dgs w (R n) k : ℝ) : EReal)) (Fin.ext (by show j.val - 4096 - 1024 = j.val - 5120; omega))

end Cert.TailRefValue

end
-- ==== Proof.Tail.Blocks.lean ====
/- The blocks of real arguments that a grid point of the tail's kernel loads. -/
module

public import proofs.«01_k».proof.Proof.Tail.Pay
public import proofs.«01_k».proof.Proof.Gen.TailIdeal.Value
public import Idealize.ShloMosaic.Lib.Pipeline.ValueKit

@[expose] public section

set_option maxRecDepth 16384

noncomputable section

namespace Cert.TailBlocks

open Idealize.ShloMosaic Idealize.ShloMosaic.TcCoe Idealize.SL.Sem Cert.TailIdeal Cert.TailIdeal.Gen Cert.Lift Cert.TailSpec Cert.TailPay

/-- The arguments in memory are the real rows and weights. -/
structure Holds (m : (ℓ : Loc nD τ sig) → Buf (Elt Ideal) ℓ) (c : Dev nD) (R : Fin 8192 → Row) (w : Wts) : Prop where
  a : m ((c : Thread nD τ).loc main_arg0) = lift2 fun i => (R i).a
  b : m ((c : Thread nD τ).loc main_arg1) = lift2 fun i => (R i).b
  gc : ∀ i j, m ((c : Thread nD τ).loc main_arg2) (ix2 i ⟨4096 + j.val, by omega⟩) = (((R i).gc j : ℝ) : EReal)
  gs : ∀ i j, m ((c : Thread nD τ).loc main_arg2) (ix2 i ⟨5120 + j.val, by omega⟩) = (((R i).gs j : ℝ) : EReal)
  x : m ((c : Thread nD τ).loc main_arg3) = lift2 fun i => (R i).x
  t : m ((c : Thread nD τ).loc main_arg4) = lift2 fun i => (R i).t
  wco : m ((c : Thread nD τ).loc main_arg5) = lift2 w.wco
  wso : m ((c : Thread nD τ).loc main_arg6) = lift2 w.wso
  wout : m ((c : Thread nD τ).loc main_arg7) = lift2 w.wout
  gp : m ((c : Thread nD τ).loc main_arg8) = lift2 fun _ => w.gp

variable {m : (ℓ : Loc nD τ sig) → Buf (Elt Ideal) ℓ} {c : Dev nD} {R : Fin 8192 → Row} {w : Wts} (H : Holds m c R w)

/-- the array's row at one row of a grid point's block -/
def at_ (t : Fin cfg0.N) (i : Fin 512) : Fin 8192 := ⟨512 * t.val + i.val, by have h : cfg0.N = 16 := N_0; have := t.isLt; omega⟩
theorem at_val (t : Fin cfg0.N) (i : Fin 512) : (at_ t i).val = 512 * t.val + i.val := rfl
/-- the rows of one grid point's block -/
def rows (R : Fin 8192 → Row) (t : Fin cfg0.N) : Fin 512 → Row := fun i => R (at_ t i)

/-- Every window's block index at every point. -/
theorem idx : ∀ t : Fin cfg0.N, win0_0.index t = ![t.val, 0] ∧ win0_1.index t = ![t.val, 0] ∧ win0_2.index t = ![t.val, 4]
    ∧ win0_3.index t = ![t.val, 5] ∧ win0_4.index t = ![t.val, 0] ∧ win0_5.index t = ![t.val, 0] ∧ win0_6.index t = ![0, 0]
    ∧ win0_7.index t = ![0, 0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 2]
    ∧ win0_14.index t = ![0, 0] ∧ win0_15.index t = ![0, 0] ∧ win0_16.index t = ![0, 0, 0] ∧ win0_17.index t = ![0, 0] ∧ win0_18.index t = ![0, 0] :=
  (by decide +kernel : ∀ t : Fin grid0.N, _)

variable (m c) in
theorem rd0 (t : Fin cfg0.N) (i : Fin 512) (j : Fin 1024) (q : Fin 8192) (hq : q.val = 512 * t.val + i.val) :
    iblk m c 0 t (ix2 i j) = m ((c : Thread nD τ).loc main_arg0) (ix2 q j) := by
  blk_ext [iblk, V, idx t]
variable (m c) in
theorem rd1 (t : Fin cfg0.N) (i : Fin 512) (j : Fin 512) (q : Fin 8192) (hq : q.val = 512 * t.val + i.val) :
    iblk m c 1 t (ix2 i j) = m ((c : Thread nD τ).loc main_arg1) (ix2 q j) := by
  blk_ext [iblk, V, idx t]
variable (m c) in
theorem rd2 (t : Fin cfg0.N) (i : Fin 512) (j : Fin 1024) (q : Fin 8192) (hq : q.val = 512 * t.val + i.val) :
    iblk m c 2 t (ix2 i j) = m ((c : Thread nD τ).loc main_arg2) (ix2 q ⟨4096 + j.val, by omega⟩) := by
  blk_ext [iblk, V, idx t]
variable (m c) in
theorem rd3 (t : Fin cfg0.N) (i : Fin 512) (j : Fin 1024) (q : Fin 8192) (hq : q.val = 512 * t.val + i.val) :
    iblk m c 3 t (ix2 i j) = m ((c : Thread nD τ).loc main_arg2) (ix2 q ⟨5120 + j.val, by omega⟩) := by
  blk_ext [iblk, V, idx t]
variable (m c) in
theorem rd4 (t : Fin cfg0.N) (i : Fin 512) (j : Fin 1024) (q : Fin 8192) (hq : q.val = 512 * t.val + i.val) :
    iblk m c 4 t (ix2 i j) = m ((c : Thread nD τ).loc main_arg3) (ix2 q j) := by
  blk_ext [iblk, V, idx t]
variable (m c) in
theorem rd5 (t : Fin cfg0.N) (i : Fin 512) (j : Fin 1024) (q : Fin 8192) (hq : q.val = 512 * t.val + i.val) :
    iblk m c 5 t (ix2 i j) = m ((c : Thread nD τ).loc main_arg4) (ix2 q j) := by
  blk_ext [iblk, V, idx t]
variable (m c) in
theorem rd6 (t : Fin cfg0.N) (i j : Fin 1024) : iblk m c 6 t (ix2 i j) = m ((c : Thread nD τ).loc main_arg5) (ix2 i j) := by
  blk_ext! [iblk, V, idx t]
variable (m c) in
theorem rd7 (t : Fin cfg0.N) (q : Fin 4) (i : Fin 512) (j : Fin 256) :
    iblk m c 7 t (ix3 q i j) = m ((c : Thread nD τ).loc main_arg6) (ix2 i ⟨256 * q.val + j.val, by omega⟩) := by
  blk_ext! [iblk, V, idx t]
variable (m c) in
theorem rd8 (t : Fin cfg0.N) (i j : Fin 1024) : iblk m c 8 t (ix2 i j) = m ((c : Thread nD τ).loc main_arg7) (ix2 i j) := by
  blk_ext! [iblk, V, idx t]
variable (m c) in
theorem rd9 (t : Fin cfg0.N) (i : Fin 1) (j : Fin 1024) : iblk m c 9 t (ix2 i j) = m ((c : Thread nD τ).loc main_arg8) (ix2 i j) := by
  blk_ext! [iblk, V, idx t]

include H

theorem blk0 (t : Fin cfg0.N) : iblk m c 0 t = lift2 fun i => (rows R t i).a := by
  funext i; idx_vars i; rw [rd0 m c t i0 i1 _ (at_val t i0), H.a]; rfl
theorem blk1 (t : Fin cfg0.N) : iblk m c 1 t = lift2 fun i => (rows R t i).b := by
  funext i; idx_vars i; rw [rd1 m c t i0 i1 _ (at_val t i0), H.b]; rfl
theorem blk2 (t : Fin cfg0.N) : iblk m c 2 t = lift2 fun i => (rows R t i).gc := by
  funext i; idx_vars i; rw [rd2 m c t i0 i1 _ (at_val t i0), H.gc]; rfl
theorem blk3 (t : Fin cfg0.N) : iblk m c 3 t = lift2 fun i => (rows R t i).gs := by
  funext i; idx_vars i; rw [rd3 m c t i0 i1 _ (at_val t i0), H.gs]; rfl
theorem blk4 (t : Fin cfg0.N) : iblk m c 4 t = lift2 fun i => (rows R t i).x := by
  funext i; idx_vars i; rw [rd4 m c t i0 i1 _ (at_val t i0), H.x]; rfl
theorem blk5 (t : Fin cfg0.N) : iblk m c 5 t = lift2 fun i => (rows R t i).t := by
  funext i; idx_vars i; rw [rd5 m c t i0 i1 _ (at_val t i0), H.t]; rfl
theorem blk6 (t : Fin cfg0.N) : iblk m c 6 t = lift2 w.wco := by
  funext i; idx_vars i; rw [rd6, H.wco]
theorem blk7 (t : Fin cfg0.N) : iblk m c 7 t = lift3 fun q k j => wsb w q 0 k j := by
  funext i; idx_vars i; rw [rd7, H.wso]; rfl
theorem blk8 (t : Fin cfg0.N) : iblk m c 8 t = lift2 w.wout := by
  funext i; idx_vars i; rw [rd8, H.wout]
theorem blk9 (t : Fin cfg0.N) : iblk m c 9 t = lift2 fun _ => w.gp := by
  funext i; idx_vars i; rw [rd9, H.gp]

end Cert.TailBlocks
end
-- ==== Proof.Tail.Outs.lean ====
/- What every grid point of the tail's kernel leaves in its output blocks. -/
module

public import proofs.«01_k».proof.Proof.Tail.Blocks
public import Idealize.ShloMosaic.Lib.Pipeline.ReadBack

@[expose] public section

set_option maxRecDepth 16384

noncomputable section

namespace Cert.TailOuts

open Idealize.ShloMosaic Idealize.ShloMosaic.TcCoe Idealize.SL.Sem Cert.TailIdeal Cert.TailIdeal.Gen Cert.Lift Cert.TailSpec Cert.TailPay Cert.TailBlocks

variable {m : (ℓ : Loc nD τ sig) → Buf (Elt Ideal) ℓ} {c : Dev nD} {R : Fin 8192 → Row} {w : Wts} (H : Holds m c R w)

/-- A part of the state space branch's weight block, loaded. -/
theorem ld7 (f : Fin 4 → Fin 1 → Fin 512 → Fin 256 → ℝ) (n : ℕ) (q : Fin 4) (hq : q.val = n)
    (inb : ∀ a, (![n, 0, 0] : Fin 3 → ℕ) a + (![1, 512, 256] : Fin 3 → ℕ) a ≤ S4x512x256.size a) :
    View.ld (Val := Elt Ideal) (S := S4x512x256) (e' := .bf16) (lift3 fun q k j => f q 0 k j) (Rect.unit (s := S4x512x256) ![n, 0, 0] ![1, 512, 256] inb)
    = lift3 (f q) := by
  funext i; idx_vars i
  obtain rfl : i0 = 0 := Subsingleton.elim _ _
  rw [View.ld_unit_apply_of _ _ _ _ _ (ix3 q i1 i2) (by intro a; fin_cases a <;> simp [ix3, hq])]
  rfl

/-- The first half of a block's rows, loaded. -/
theorem ldlo (g : Row → Fin 1024 → ℝ) (R : Fin 512 → Row) (inb) :
    View.ld (Val := Elt Ideal) (S := S512x1024) (e' := .f32) (lift2 fun i => g (R i)) (Rect.unit (s := S512x1024) ![0, 0] ![256, 1024] inb)
    = lift2 fun i => g (lo R i) := by
  funext i; idx_vars i
  rw [View.ld_unit_apply_of _ _ _ _ _ (ix2 ⟨i0.val, by omega⟩ i1) (by intro a; fin_cases a <;> simp [ix2])]
  rfl

/-- The second half of a block's rows, loaded. -/
theorem ldhi (g : Row → Fin 1024 → ℝ) (R : Fin 512 → Row) (inb) :
    View.ld (Val := Elt Ideal) (S := S512x1024) (e' := .f32) (lift2 fun i => g (R i)) (Rect.unit (s := S512x1024) ![256, 0] ![256, 1024] inb)
    = lift2 fun i => g (hi R i) := by
  funext i; idx_vars i
  rw [View.ld_unit_apply_of _ _ _ _ _ (ix2 ⟨256 + i0.val, by omega⟩ i1) (by intro a; fin_cases a <;> simp [ix2])]
  rfl

/-- A block stored half by half. -/
theorem canon2 (g : Row → Fin 1024 → ℝ) (R : Fin 512 → Row) (inb inb') : View.canon (Val := Elt Ideal) (s := S512x1024) (e := .f32)
    [⟨Rect.unit ![256, 0] ![256, 1024] inb, lift2 fun i => g (hi R i)⟩, ⟨Rect.unit ![0, 0] ![256, 1024] inb', lift2 fun i => g (lo R i)⟩]
    = lift2 fun i => g (R i) := by
  funext i; idx_vars i
  canon_tiles x h using View.cover_of_tiledL _ ![256, 1024] rfl _
  all_goals exact congrArg₂ (fun a b => ((g (R a) b : ℝ) : EReal)) (Fin.ext h0.symm) (Fin.ext h1.symm)

/-- A block stored as two halves of columns. -/
theorem canonC (f g : Fin 512 → Fin 1024 → ℝ) (inb inb') : View.canon (Val := Elt Ideal) (s := S512x2048) (e := .bf16)
    [⟨Rect.unit ![0, 1024] ![512, 1024] inb, lift2 g⟩, ⟨Rect.unit ![0, 0] ![512, 1024] inb', lift2 f⟩]
    = lift2 fun i (j : Fin 2048) => if h : j.val < 1024 then f i ⟨j.val, h⟩ else g i ⟨j.val - 1024, by omega⟩ := by
  funext i; idx_vars i
  canon_tiles x h using View.cover_of_tiledL _ ![512, 1024] rfl _
  · have e : ¬ i1.val < 1024 := by change i1.val = _ at h1; omega
    rw [lift2_apply, dif_neg e]
    exact congrArg₂ (fun a b => ((g a b : ℝ) : EReal)) (Fin.ext h0.symm) (Fin.ext (by change i1.val = _ at h1; dsimp only; omega))
  · have e : i1.val < 1024 := by change i1.val = _ at h1; omega
    rw [lift2_apply, dif_pos e]
    exact congrArg₂ (fun a b => ((f a b : ℝ) : EReal)) (Fin.ext h0.symm) (Fin.ext h1.symm)

/-- An array of block parts to which each of the four stores adds its block's sum. -/
def add16 (w : Wts) (R : Fin 512 → Row) (X : Vec Ideal S4x512x256 .f32) : Vec Ideal S4x512x256 .f32 :=
  fun i => X i + ((∑ r, twso w (R r) (i 1) ⟨256 * (i 0).val + (i 2).val, by have h0 : (i 0).val < 4 := (i 0).isLt; have h2 : (i 2).val < 256 := (i 2).isLt; omega⟩ : ℝ) : EReal)

theorem piece16 (R : Fin 512 → Row) (X : Vec Ideal S4x512x256 .f32) (n : ℕ) (q : Fin 4) (hq : q.val = n)
    (pay : Vec Ideal S1x512x256 .f32 → Vec Ideal S1x512x256 .f32)
    (hp : ∀ v z k c, pay v (ix3 z k c) = v (ix3 z k c) + ((∑ i, twso w (R i) k ⟨256 * q.val + c.val, by omega⟩ : ℝ) : EReal))
    (inb : ∀ a, (![n, 0, 0] : Fin 3 → ℕ) a + (![1, 512, 256] : Fin 3 → ℕ) a ≤ S4x512x256.size a)
    (x : (Rect.unit (s := S4x512x256) ![n, 0, 0] ![1, 512, 256] inb).shape.Idx) :
    pay (View.ld (Val := Elt Ideal) (S := S4x512x256) (e' := .f32) X (Rect.unit (s := S4x512x256) ![n, 0, 0] ![1, 512, 256] inb)) x
    = add16 w R X ((Rect.unit (s := S4x512x256) ![n, 0, 0] ![1, 512, 256] inb).emb x) := by
  subst hq
  have e : (Rect.unit (s := S4x512x256) ![q.val, 0, 0] ![1, 512, 256] inb).emb x = ix3 q (x 1) (x 2) := by
    funext a; apply Fin.ext
    refine (Rect.idx_unit_val _ _ _ _ a).trans ?_
    have h0 : (x 0).val < 1 := (x 0).isLt
    fin_cases a
    · change q.val + (x 0).val = q.val; omega
    · exact Nat.zero_add _
    · exact Nat.zero_add _
  have ex : x = ix3 (x 0) (x 1) (x 2) := by funext a; fin_cases a <;> rfl
  rw [e]
  refine (congrArg (pay _) ex).trans ((hp _ (x 0) (x 1) (x 2)).trans ?_)
  exact congrArg (fun v : EReal => v + _) (congrArg X ((congrArg _ ex.symm).trans e))

/-- The four stores into the block parts, over any earlier stores. -/
theorem canon4 (R : Fin 512 → Row) (X : Vec Ideal S4x512x256 .f32) (i3 i2 i1 i0) (L) :
    View.canon (Val := Elt Ideal) (s := S4x512x256) (e := .f32) (
      ⟨Rect.unit ![3, 0, 0] ![1, 512, 256] i3, k0_pay2 (F := Ideal) (lift2 fun i => (R i).b) (lift2 fun i => dso w (R i)) (View.ld X (Rect.unit ![3, 0, 0] ![1, 512, 256] i3))⟩ ::
      ⟨Rect.unit ![2, 0, 0] ![1, 512, 256] i2, k0_pay49 (F := Ideal) (lift2 fun i => (R i).b) (lift2 fun i => dso w (R i)) (View.ld X (Rect.unit ![2, 0, 0] ![1, 512, 256] i2))⟩ ::
      ⟨Rect.unit ![1, 0, 0] ![1, 512, 256] i1, k0_pay46 (F := Ideal) (lift2 fun i => (R i).b) (lift2 fun i => dso w (R i)) (View.ld X (Rect.unit ![1, 0, 0] ![1, 512, 256] i1))⟩ ::
      ⟨Rect.unit ![0, 0, 0] ![1, 512, 256] i0, k0_pay44 (F := Ideal) (lift2 fun i => (R i).b) (lift2 (dsb w R 0)) (View.ld X (Rect.unit ![0, 0, 0] ![1, 512, 256] i0))⟩ :: L)
    = add16 w R X := by
  funext y
  refine View.canon_append_of_piecesOf (add16 w R X) L [_, _, _, _] ⟨?_, ?_, ?_, ?_, trivial⟩ y (View.cover_of_tiledL _ ![1, 512, 256] rfl y)
  · exact piece16 R X 3 3 rfl (k0_pay2 (F := Ideal) (lift2 fun i => (R i).b) (lift2 fun i => dso w (R i))) (fun v z k c => pay2 w R v z k c) i3
  · exact piece16 R X 2 2 rfl (k0_pay49 (F := Ideal) (lift2 fun i => (R i).b) (lift2 fun i => dso w (R i))) (fun v z k c => pay49 w R v z k c) i2
  · exact piece16 R X 1 1 rfl (k0_pay46 (F := Ideal) (lift2 fun i => (R i).b) (lift2 fun i => dso w (R i))) (fun v z k c => pay46 w R v z k c) i1
  · exact piece16 R X 0 0 rfl (k0_pay44 (F := Ideal) (lift2 fun i => (R i).b) (lift2 (dsb w R 0))) (fun v z k c => pay44 w R v z k c 0) i0

theorem zero_bits : Ideal.ofBits .f32 0x00000000#32 = 0 := by simp [Ideal.ofBits, Ideal.ieee]

/-- What a grid point adds to the five accumulated blocks. -/
structure Adds (w : Wts) (R : Fin 512 → Row) (p14 p15 : Vec Ideal S1024x1024 .f32) (p16 : Vec Ideal S4x512x256 .f32) (p17 : Vec Ideal S1x1024 .f32)
    (p18 : Vec Ideal S1x128 .f32) (o : Vec Ideal S1024x1024 .f32 × Vec Ideal S1024x1024 .f32 × Vec Ideal S4x512x256 .f32 × Vec Ideal S1x1024 .f32 × Vec Ideal S1x128 .f32) : Prop where
  s14 : ∀ k j, o.1 (ix2 k j) = p14 (ix2 k j) + ((∑ i, twout w (R i) k j : ℝ) : EReal)
  s15 : ∀ k j, o.2.1 (ix2 k j) = p15 (ix2 k j) + ((∑ i, twco w (R i) k j : ℝ) : EReal)
  s16 : o.2.2.1 = add16 w R p16
  s17 : ∀ q j, o.2.2.2.1 (ix2 q j) = p17 (ix2 q j) + ((∑ i, tgp w (lo R i) j : ℝ) : EReal) + ((∑ i, tgp w (hi R i) j : ℝ) : EReal)
  s18 : ∀ i, o.2.2.2.2 i = p18 i + ((∑ i, tls w (lo R i) : ℝ) : EReal) + ((∑ i, tls w (hi R i) : ℝ) : EReal)

include H

theorem rows_of (t : Fin cfg0.N) : (outsAt0 m c t.val t.isLt).1 = lift2 (fun i => dy w (rows R t i))
    ∧ (outsAt0 m c t.val t.isLt).2.1 = lift2 (fun i => da w (rows R t i))
    ∧ (outsAt0 m c t.val t.isLt).2.2.1 = lift2 (fun i => db w (rows R t i))
    ∧ (outsAt0 m c t.val t.isLt).2.2.2.1 = lift2 (fun i j => if h : j.val < 1024 then dgc w (rows R t i) ⟨j.val, h⟩ else dgs w (rows R t i) ⟨j.val - 1024, by omega⟩) := by
  by_cases h : t.val % 16 = 0
  · rw [outsAt0_A m c t h]
    dsimp only
    frame_out
    simp only [blk0 H t, blk1 H t, blk2 H t, blk3 H t, blk4 H t, blk5 H t, blk6 H t, blk7 H t, blk8 H t, blk9 H t,
      ld7 _ 0 0 rfl, ld7 _ 1 1 rfl, ld7 _ 2 2 rfl, ld7 _ 3 3 rfl, ldlo Row.x, ldlo Row.t, ldhi Row.x, ldhi Row.t,
      pay10, pay11, pay12, pay14, pay13, pay15, pay16, pay17, pay18, pay19, pay20, pay22, pay24, pay26, pay28, pay29, pay32, pay34, pay38, pay39,
      pay40, pay41, pay43, pay47, pay48, pay1, pay3, pay4]
    exact ⟨canon2 (dy w) (rows R t) _ _, trivial, trivial, canonC _ _ _ _⟩
  · rw [outsAt0_B m c t h]
    dsimp only
    frame_out
    simp only [blk0 H t, blk1 H t, blk2 H t, blk3 H t, blk4 H t, blk5 H t, blk6 H t, blk7 H t, blk8 H t, blk9 H t,
      ld7 _ 0 0 rfl, ld7 _ 1 1 rfl, ld7 _ 2 2 rfl, ld7 _ 3 3 rfl, ldlo Row.x, ldlo Row.t, ldhi Row.x, ldhi Row.t,
      pay10, pay11, pay12, pay14, pay13, pay15, pay16, pay17, pay18, pay19, pay20, pay22, pay24, pay26, pay28, pay29, pay32, pay34, pay38, pay39,
      pay40, pay41, pay43, pay47, pay48, pay1, pay3, pay4]
    exact ⟨canon2 (dy w) (rows R t) _ _, trivial, trivial, canonC _ _ _ _⟩

theorem adds_first (t : Fin cfg0.N) (h : t.val % 16 = 0) :
    Adds w (rows R t) (fun _ => 0) (fun _ => 0) (fun _ => 0) (fun _ => 0) (fun _ => 0) (outsAt0 m c t.val t.isLt).2.2.2.2 := by
  have z5 : k0_pay5 (F := Ideal) = fun _ => 0 := funext fun _ => zero_bits
  have z6 : k0_pay6 (F := Ideal) = fun _ => 0 := funext fun _ => zero_bits
  have z7 : k0_pay7 (F := Ideal) = fun _ => 0 := funext fun _ => zero_bits
  have z8 : k0_pay8 (F := Ideal) = fun _ => 0 := funext fun _ => zero_bits
  have z9 : k0_pay9 (F := Ideal) = fun _ => 0 := funext fun _ => zero_bits
  rw [outsAt0_A m c t h]
  dsimp only
  frame_open
  simp (disch := decide) only [↓ View.readCov_skip, ↓ View.readCov_cons_toLoadRect, ↓ View.readCov_fill]
  frame_out
  simp only [blk0 H t, blk1 H t, blk2 H t, blk3 H t, blk4 H t, blk5 H t, blk6 H t, blk7 H t, blk8 H t, blk9 H t,
    ld7 _ 0 0 rfl, ld7 _ 1 1 rfl, ld7 _ 2 2 rfl, ld7 _ 3 3 rfl, ldlo Row.x, ldlo Row.t, ldhi Row.x, ldhi Row.t,
    pay10, pay11, pay12, pay14, pay13, pay15, pay16, pay17, pay18, pay19, pay20, pay22, pay24, pay26, pay28, pay29, pay32, pay34, pay38, pay39,
    pay40, pay41, pay43, pay47, pay48, pay1, pay3, pay4, z5, z6, z7, z8, z9]
  constructor
  · exact fun k j => pay36 w _ _ k j
  · exact fun k j => pay42 w _ _ k j
  · dsimp only
    rw [canon4]
  · exact fun q j => (pay33 w _ _ q j).trans (congrArg (fun v : EReal => v + ((∑ i, tgp w (hi (rows R t) i) j : ℝ) : EReal)) (pay25 w (lo (rows R t)) (fun _ => 0) q j))
  · exact fun i => (pay31 w _ _ i).trans (congrArg (fun v : EReal => v + ((∑ i, tls w (hi (rows R t) i) : ℝ) : EReal)) (pay23 w (lo (rows R t)) (fun _ => 0) i))

theorem adds_next (t : Fin cfg0.N) (h : ¬ t.val % 16 = 0) (h' : t.val - 1 < cfg0.N) :
    Adds w (rows R t) (outsAt0 m c (t.val - 1) h').2.2.2.2.1 (outsAt0 m c (t.val - 1) h').2.2.2.2.2.1 (outsAt0 m c (t.val - 1) h').2.2.2.2.2.2.1
      (outsAt0 m c (t.val - 1) h').2.2.2.2.2.2.2.1 (outsAt0 m c (t.val - 1) h').2.2.2.2.2.2.2.2 (outsAt0 m c t.val t.isLt).2.2.2.2 := by
  rw [outsAt0_B m c t h]
  dsimp only
  frame_out
  simp only [blk0 H t, blk1 H t, blk2 H t, blk3 H t, blk4 H t, blk5 H t, blk6 H t, blk7 H t, blk8 H t, blk9 H t,
    ld7 _ 0 0 rfl, ld7 _ 1 1 rfl, ld7 _ 2 2 rfl, ld7 _ 3 3 rfl, ldlo Row.x, ldlo Row.t, ldhi Row.x, ldhi Row.t,
    pay10, pay11, pay12, pay14, pay13, pay15, pay16, pay17, pay18, pay19, pay20, pay22, pay24, pay26, pay28, pay29, pay32, pay34, pay38, pay39,
    pay40, pay41, pay43, pay47, pay48, pay1, pay3, pay4]
  constructor
  · exact fun k j => pay36 w _ _ k j
  · exact fun k j => pay42 w _ _ k j
  · dsimp only
    rw [canon4]
  · exact fun q j => (pay33 w _ _ q j).trans (congrArg (· + _) (pay25 w _ _ q j))
  · exact fun i => (pay31 w _ _ i).trans (congrArg (· + _) (pay23 w _ _ i))

end Cert.TailOuts
end
-- ==== Proof.Tail.Final.lean ====
/- The nine arrays that the tail's kernel leaves, in real numbers. -/
module

public import proofs.«01_k».proof.Proof.Tail.Outs

@[expose] public section

set_option maxRecDepth 16384

noncomputable section

namespace Cert.TailFinal

open Idealize.ShloMosaic Idealize.ShloMosaic.TcCoe Idealize.SL.Sem Cert.TailIdeal Cert.TailIdeal.Gen Cert.Lift Cert.TailSpec Cert.TailPay Cert.TailBlocks Cert.TailOuts

/-- A sum over grid points and rows of a block is a sum over the array's rows. -/
theorem sum_rows (g : Fin 8192 → ℝ) : ∑ p : Fin cfg0.N, ∑ i : Fin 512, g (at_ p i) = ∑ n, g n := by
  have hN : cfg0.N = 16 := N_0
  rw [← Fintype.sum_prod_type']
  refine Fintype.sum_bijective (fun x : Fin cfg0.N × Fin 512 => at_ x.1 x.2) ⟨?_, ?_⟩ _ _ fun _ => rfl
  · rintro ⟨p, i⟩ ⟨p', i'⟩ h
    have h' : 512 * p.val + i.val = 512 * p'.val + i'.val := congrArg Fin.val h
    ext
    · dsimp only; omega
    · dsimp only; omega
  · intro n
    exact ⟨(⟨n.val / 512, by omega⟩, ⟨n.val % 512, by omega⟩), Fin.ext (by simp only [at_val]; omega)⟩

/-- A block that every grid point adds its rows' share to holds, after the last point, the sum over the array's rows. -/
theorem total {ι : Type} (f : (n : ℕ) → n < cfg0.N → ι → EReal) (T : Fin 8192 → ι → ℝ)
    (h0 : ∀ t : Fin cfg0.N, t.val % 16 = 0 → ∀ i, f t.val t.isLt i = 0 + ((∑ r, T (at_ t r) i : ℝ) : EReal))
    (hs : ∀ t : Fin cfg0.N, ¬ t.val % 16 = 0 → ∀ i, f t.val t.isLt i
      = f (t.val - 1) (Nat.lt_of_le_of_lt (Nat.sub_le _ _) t.isLt) i + ((∑ r, T (at_ t r) i : ℝ) : EReal))
    (t : Fin cfg0.N) (ht : t.val % 16 = 15) (i : ι) : f t.val t.isLt i = ((∑ n, T n i : ℝ) : EReal) := by
  have hN : cfg0.N = 16 := N_0
  rw [Pipeline.eq_sum_fin_of_reset_step_apply_last f 16 (fun _ => 0) (fun t i => ((∑ r, T (at_ t r) i : ℝ) : EReal)) h0 hs (le_of_eq hN) t (by have := t.isLt; omega) i,
    zero_add, ← coe_sum, sum_rows fun n => T n i]

/-- The two halves of a block's rows together. -/
theorem halves (R : Fin 512 → Row) (g : Row → ℝ) : ∑ i, g (lo R i) + ∑ i, g (hi R i) = ∑ i, g (R i) :=
  (Fin.sum_univ_two_halves 256 256 rfl fun i => g (R i)).symm

/-- A block of rows of window 11, read in its array. -/
theorem read11 (f : Fin 8192 → Fin 1024 → ℝ) (t : Fin cfg0.N) (y : S512x1024.Idx) :
    lift2 (fun i => f (at_ t i)) y = lift2 f (((cfg0.win 11).blk t).view.emb y) := by
  idx_vars y
  refine congrArg (lift2 f) (?_ : ix2 (at_ t y0) y1 = _)
  blk_ext! [at_val, idx t]
/-- A block of rows of window 12, read in its array. -/
theorem read12 (f : Fin 8192 → Fin 512 → ℝ) (t : Fin cfg0.N) (y : S512x512.Idx) :
    lift2 (fun i => f (at_ t i)) y = lift2 f (((cfg0.win 12).blk t).view.emb y) := by
  idx_vars y
  refine congrArg (lift2 f) (?_ : ix2 (at_ t y0) y1 = _)
  blk_ext! [at_val, idx t]
/-- The only block of window 14, read in its array. -/
theorem read14 (f : Fin 1024 → Fin 1024 → ℝ) (t : Fin cfg0.N) (y0 y1 : Fin 1024) :
    ((f y0 y1 : ℝ) : EReal) = lift2 f (((cfg0.win 14).blk t).view.emb (ix2 y0 y1)) := by
  refine congrArg (lift2 f) (?_ : ix2 y0 y1 = _)
  blk_ext! [idx t]

variable {m : (ℓ : Loc nD τ sig) → Buf (Elt Ideal) ℓ} {c : Dev nD} {R : Fin 8192 → Row} {w : Wts} (H : Holds m c R w)

include H

theorem arr10 : (dats m 0 c).arrAt 10 cfg0.N = lift2 fun i => dy w (R i) := by
  refine (dats m 0 c).arrAt_eq_of_covers 10 _ (by decide +kernel) fun t hf y => ?_
  blk_simp
  rw [after0_10, (rows_of H t).1]
  idx_vars y
  refine congrArg (lift2 fun i => dy w (R i)) (?_ : ix2 (at_ t y0) y1 = _)
  blk_ext! [at_val, idx t]
theorem arr11 : (dats m 0 c).arrAt 11 cfg0.N = lift2 fun i => da w (R i) := by
  refine (dats m 0 c).arrAt_eq_of_covers 11 _ (by decide +kernel) fun t hf y => ?_
  blk_simp
  rw [after0_11, (rows_of H t).2.1]
  exact read11 (fun n => da w (R n)) t y
theorem arr12 : (dats m 0 c).arrAt 12 cfg0.N = lift2 fun i => db w (R i) := by
  refine (dats m 0 c).arrAt_eq_of_covers 12 _ (by decide +kernel) fun t hf y => ?_
  blk_simp
  rw [after0_12, (rows_of H t).2.2.1]
  exact read12 (fun n => db w (R n)) t y

/-- the two gates' gradients in the columns of the projection's gradient -/
def dpj (w : Wts) (R : Fin 8192 → Row) (n : Fin 8192) (j : Fin 6144) : ℝ :=
  if h : j.val < 5120 then dgc w (R n) ⟨j.val - 4096, by omega⟩ else dgs w (R n) ⟨j.val - 5120, by omega⟩

theorem arr13 (n : Fin 8192) (j : Fin 6144) (hj : 4096 ≤ j.val) : (dats m 0 c).arrAt 13 cfg0.N (ix2 n j) = ((dpj w R n j : ℝ) : EReal) := by
  have e : (dats m 0 c).arrAt 13 cfg0.N = fun i => if 4096 ≤ (i 1).val then (lift2 (dpj w R) : Vec Ideal S8192x6144 .bf16) i else (dats m 0 c).A 13 i := by
    refine (dats m 0 c).arrAt_eq_of_coversWhere 13 _ (fun β => 2 ≤ β (1 : Fin 2)) (by decide +kernel) (fun t hf y => ?_)
      (fun j => by blk_simp [Pipeline.Window.cell_apply]; omega)
    blk_simp
    rw [after0_13, (rows_of H t).2.2.2]
    idx_vars y
    refine Eq.trans ?_ (congrArg (lift2 (dpj w R)) (?_ : ix2 (at_ t y0) ⟨4096 + y1.val, by omega⟩ = _))
    · simp only [lift2_apply, dpj]
      by_cases h : y1.val < 1024
      · rw [dif_pos h, dif_pos (by omega)]
        exact congrArg (fun k => ((dgc w (R (at_ t y0)) k : ℝ) : EReal)) (Fin.ext (by dsimp only; omega))
      · rw [dif_neg h, dif_neg (by omega)]
        exact congrArg (fun k => ((dgs w (R (at_ t y0)) k : ℝ) : EReal)) (Fin.ext (by dsimp only; omega))
    · blk_ext! [at_val, idx t]
  rw [e]
  exact if_pos hj

attribute [local irreducible] twout in
theorem arr14 : (dats m 0 c).arrAt 14 cfg0.N = lift2 fun k j => ∑ n, twout w (R n) k j := by
  refine (dats m 0 c).arrAt_eq_of_covers 14 _ (by decide +kernel) fun t hf y => ?_
  blk_simp
  rw [after0_14]
  idx_vars y
  have e : (outsAt0 m c t.val t.isLt).2.2.2.2.1 (ix2 y0 y1) = ((∑ n, twout w (R n) y0 y1 : ℝ) : EReal) :=
    total (fun n h (i : Fin 1024 × Fin 1024) => (outsAt0 m c n h).2.2.2.2.1 (ix2 i.1 i.2)) (fun n i => twout w (R n) i.1 i.2)
      (fun t h i => (adds_first H t h).s14 i.1 i.2) (fun t h i => (adds_next H t h _).s14 i.1 i.2) t ((flush0_14 t).mp hf) (y0, y1)
  rw [e]
  exact read14 (fun k j => ∑ n, twout w (R n) k j) t y0 y1
theorem arr15 : (dats m 0 c).arrAt 15 cfg0.N = lift2 fun k j => ∑ n, twco w (R n) k j := by
  refine (dats m 0 c).arrAt_eq_of_covers 15 _ (by decide +kernel) fun t hf y => ?_
  blk_simp
  rw [after0_15]
  idx_vars y
  refine (total (fun n h i => (outsAt0 m c n h).2.2.2.2.2.1 (ix2 i.1 i.2)) (fun n i => twco w (R n) i.1 i.2) (fun t h i => (adds_first H t h).s15 _ _)
    (fun t h i => (adds_next H t h _).s15 _ _) t ((flush0_15 t).mp hf) (y0, y1)).trans ?_
  refine congrArg (lift2 fun k j => ∑ n, twco w (R n) k j) (?_ : ix2 y0 y1 = _)
  blk_ext! [idx t]

/-- the gradient of the state space branch's output weight, in four blocks of columns -/
def dwsb (w : Wts) (R : Fin 8192 → Row) (q : Fin 4) (k : Fin 512) (j : Fin 256) : ℝ := ∑ n, twso w (R n) k ⟨256 * q.val + j.val, by omega⟩

theorem arr16 : (dats m 0 c).arrAt 16 cfg0.N = lift3 (dwsb w R) := by
  refine (dats m 0 c).arrAt_eq_of_covers 16 _ (by decide +kernel) fun t hf y => ?_
  blk_simp
  rw [after0_16]
  idx_vars y
  refine (total (fun n h (i : Fin 4 × Fin 512 × Fin 256) => (outsAt0 m c n h).2.2.2.2.2.2.1 (ix3 i.1 i.2.1 i.2.2))
    (fun n i => twso w (R n) i.2.1 ⟨256 * i.1.val + i.2.2.val, by have := i.1.isLt; have := i.2.2.isLt; omega⟩)
    (fun t h i => congrFun (adds_first H t h).s16 _) (fun t h i => congrFun (adds_next H t h _).s16 _) t ((flush0_16 t).mp hf) (y0, y1, y2)).trans ?_
  refine congrArg (lift3 (dwsb w R)) (?_ : ix3 y0 y1 y2 = _)
  blk_ext! [idx t]

theorem arr17 : (dats m 0 c).arrAt 17 cfg0.N = lift2 fun _ j => ∑ n, tgp w (R n) j := by
  refine (dats m 0 c).arrAt_eq_of_covers 17 _ (by decide +kernel) fun t hf y => ?_
  blk_simp
  rw [after0_17]
  idx_vars y
  have hh : ∀ (t : Fin cfg0.N) j (v : EReal), v + ((∑ i, tgp w (lo (rows R t) i) j : ℝ) : EReal) + ((∑ i, tgp w (hi (rows R t) i) j : ℝ) : EReal)
      = v + ((∑ i, tgp w (R (at_ t i)) j : ℝ) : EReal) := fun t j v => by
    rw [add_assoc, ← EReal.coe_add, halves (rows R t) fun r => tgp w r j]; rfl
  refine (total (fun n h (i : Fin 1 × Fin 1024) => (outsAt0 m c n h).2.2.2.2.2.2.2.1 (ix2 i.1 i.2)) (fun n i => tgp w (R n) i.2)
    (fun t h i => ((adds_first H t h).s17 _ _).trans (hh t _ _)) (fun t h i => ((adds_next H t h _).s17 _ _).trans (hh t _ _)) t ((flush0_17 t).mp hf) (y0, y1)).trans ?_
  refine congrArg (lift2 fun (_ : Fin 1) j => ∑ n, tgp w (R n) j) (?_ : ix2 y0 y1 = _)
  blk_ext! [idx t]

theorem arr18 : (dats m 0 c).arrAt 18 cfg0.N = lift2 fun _ _ => ∑ n, tls w (R n) := by
  refine (dats m 0 c).arrAt_eq_of_covers 18 _ (by decide +kernel) fun t hf y => ?_
  blk_simp
  rw [after0_18]
  have hh : ∀ (t : Fin cfg0.N) (v : EReal), v + ((∑ i, tls w (lo (rows R t) i) : ℝ) : EReal) + ((∑ i, tls w (hi (rows R t) i) : ℝ) : EReal)
      = v + ((∑ i, tls w (R (at_ t i)) : ℝ) : EReal) := fun t v => by
    rw [add_assoc, ← EReal.coe_add, halves (rows R t) fun r => tls w r]; rfl
  exact total (fun n h i => (outsAt0 m c n h).2.2.2.2.2.2.2.2 i) (fun n _ => tls w (R n))
    (fun t h i => ((adds_first H t h).s18 _).trans (hh t _)) (fun t h i => ((adds_next H t h _).s18 _).trans (hh t _)) t ((flush0_18 t).mp hf) y

end Cert.TailFinal
end
-- ==== Proof.Tail.Claim.lean ====
/- The claims about the tail of the step. -/
module

public import proofs.«01_k».proof.Proof.Real
public import proofs.«01_k».proof.Proof.Tail.Ref
public import proofs.«01_k».proof.Proof.Tail.Final
public import proofs.«01_k».proof.Proof.Gen.Tail.Frame
public import proofs.«01_k».proof.Proof.Gen.TailRefIdeal.Run
public import proofs.«01_k».proof.Proof.Gen.Pre_finite
public import proofs.«01_k».proof.Proof.Gen.On_gates
public import proofs.«01_k».proof.Defs

@[expose] public section

set_option maxRecDepth 16384

noncomputable section

namespace Cert.TailClaim

open Idealize.ShloMosaic Idealize.ShloMosaic.TcCoe Idealize.SL.Sem Cert.Lift Cert.TailSpec

variable {m : (ℓ : Loc Cert.TailIdeal.nD Cert.TailIdeal.τ Cert.TailIdeal.sig) → Buf (Elt Ideal) ℓ}

theorem holds (hp : Cert.Pre_TailIdeal_finite m) (c : Dev Cert.TailIdeal.nD) : ∃ R w, Cert.TailBlocks.Holds m c R w := by
  obtain ⟨h0, h1, h2, h3, h4, h5, h6, h7, h8⟩ := hp c
  unfold Cert.Pre_finite.fn Cert.Pre_finite.fn_part1 at h0 h1 h2 h3 h4 h5 h6 h7 h8
  dsimp only at h0 h1 h2 h3 h4 h5 h6 h7 h8
  obtain ⟨a, ha⟩ := exists_lift2 _ fun i => real_of _ (congrFun h0 i)
  obtain ⟨b, hb⟩ := exists_lift2 _ fun i => real_of _ (congrFun h1 i)
  obtain ⟨x, hx⟩ := exists_lift2 _ fun i => real_of _ (congrFun h3 i)
  obtain ⟨t, ht⟩ := exists_lift2 _ fun i => real_of _ (congrFun h4 i)
  obtain ⟨wco, hwco⟩ := exists_lift2 _ fun i => real_of _ (congrFun h5 i)
  obtain ⟨wso, hwso⟩ := exists_lift2 _ fun i => real_of _ (congrFun h6 i)
  obtain ⟨wout, hwout⟩ := exists_lift2 _ fun i => real_of _ (congrFun h7 i)
  obtain ⟨gp, hgp⟩ := exists_lift2 _ fun i => real_of _ (congrFun h8 i)
  obtain ⟨g, hg⟩ := exists_lift2 _ fun i => real_of _ (congrFun h2 i)
  refine ⟨fun i => ⟨a i, b i, fun j => g i ⟨j.val, by omega⟩, fun j => g i ⟨1024 + j.val, by omega⟩, x i, t i⟩, ⟨wco, wso, wout, gp 0⟩, ?_⟩
  constructor
  · exact ha
  · exact hb
  · intro i j
    exact (congrArg (m _) (by funext a; match a with | ⟨0, _⟩ => exact Fin.ext (by show i.val = 0 + i.val; omega) | ⟨1, _⟩ => rfl)).trans (congrFun hg (ix2 i ⟨j.val, by omega⟩))
  · intro i j
    exact (congrArg (m _) (by funext a; match a with | ⟨0, _⟩ => exact Fin.ext (by show i.val = 0 + i.val; omega) | ⟨1, _⟩ => exact Fin.ext (by show 5120 + j.val = 4096 + (1024 + j.val); omega))).trans (congrFun hg (ix2 i ⟨1024 + j.val, by omega⟩))
  · exact hx
  · exact ht
  · exact hwco
  · exact hwso
  · exact hwout
  · rw [hgp]
    congr 1
    funext i
    exact congrArg gp (Subsingleton.elim i 0)

/-- The reference's arguments in memory are the real rows and weights. -/
structure Same (m' : (ℓ : Loc Cert.TailRefIdeal.nD Cert.TailRefIdeal.τ Cert.TailRefIdeal.sig) → Buf (Elt Ideal) ℓ) (c : Dev Cert.TailRefIdeal.nD)
    (R : Fin 8192 → Row) (w : Wts) : Prop where
  a : m' (c.tc.loc Cert.TailRefIdeal.main_arg0) = lift2 fun i => (R i).a
  b : m' (c.tc.loc Cert.TailRefIdeal.main_arg1) = lift2 fun i => (R i).b
  g : Cert.TailRefValue.Gates (m' (c.tc.loc Cert.TailRefIdeal.main_arg2)) R
  x : m' (c.tc.loc Cert.TailRefIdeal.main_arg3) = lift2 fun i => (R i).x
  t : m' (c.tc.loc Cert.TailRefIdeal.main_arg4) = lift2 fun i => (R i).t
  wco : m' (c.tc.loc Cert.TailRefIdeal.main_arg5) = lift2 w.wco
  wso : m' (c.tc.loc Cert.TailRefIdeal.main_arg6) = lift2 w.wso
  wout : m' (c.tc.loc Cert.TailRefIdeal.main_arg7) = lift2 w.wout
  gp : m' (c.tc.loc Cert.TailRefIdeal.main_arg8) = lift2 fun _ => w.gp

section Reference
open Cert.TailRefIdeal.Value Cert.TailRefIdeal.Read Cert.TailRefValue

variable {m' : (ℓ : Loc Cert.TailRefIdeal.nD Cert.TailRefIdeal.τ Cert.TailRefIdeal.sig) → Buf (Elt Ideal) ℓ} {c : Dev Cert.TailRefIdeal.nD}
  {R : Fin 8192 → Row} {w : Wts} (S : Same m' c R w)

include S
theorem r10 : res_main_v60 m' c = lift2 fun n => dy w (R n) := by
  rw [val_main_v60_eq, S.a, S.b, S.x, S.t, S.wco, S.wso, S.wout, S.gp, s60 w S.g]
theorem r11 : res_main_v97 m' c = lift2 fun n => da w (R n) := by
  rw [val_main_v97_eq, S.a, S.b, S.x, S.t, S.wco, S.wso, S.wout, S.gp, s97 w S.g]
theorem r12 : res_main_v98 m' c = lift2 fun n => db w (R n) := by
  rw [val_main_v98_eq, S.a, S.b, S.x, S.t, S.wco, S.wso, S.wout, S.gp, s98 w S.g]
theorem r14 : res_main_v81 m' c = lift2 fun k j => ∑ n, twout w (R n) k j := by
  rw [val_main_v81_eq, S.a, S.b, S.x, S.t, S.wco, S.wso, S.wout, S.gp, s81 w S.g]
theorem r15 : res_main_v93 m' c = lift2 fun k j => ∑ n, twco w (R n) k j := by
  rw [val_main_v93_eq, S.a, S.b, S.x, S.t, S.wco, S.wso, S.wout, S.gp, s93 w S.g]
theorem r16 : res_main_v101 m' c = lift3 (Cert.TailFinal.dwsb w R) := by
  rw [val_main_v101_eq, S.a, S.b, S.x, S.t, S.wco, S.wso, S.wout, S.gp, s101 w S.g]
  rfl
theorem r17 : res_main_v63 m' c = lift2 fun _ j => ∑ n, tgp w (R n) j := by
  rw [val_main_v63_eq, S.a, S.b, S.x, S.t, S.wco, S.wso, S.wout, S.gp, s63 w S.g]
theorem r18 : res_main_v102 m' c = lift2 fun _ _ => ∑ n, tls w (R n) := by
  rw [val_main_v102_eq, S.a, S.b, S.x, S.t, S.wco, S.wso, S.wout, S.gp, s102 w S.g]
theorem r13 (n : Fin 8192) (j : Fin 6144) (hj : 4096 ≤ j.val) : res_main_v99 m' c (ix2 n j) = ((Cert.TailFinal.dpj w R n j : ℝ) : EReal) := by
  rw [val_main_v99_eq, S.a, S.b, S.x, S.t, S.wco, S.wso, S.wout, S.gp, s99 w S.g n j hj]
  rfl
end Reference

/-- The mask of the projection's gradient keeps the columns of the two gates. -/
theorem mask (x0 x1 x2 x3 x4 x5 x6 x7 x8) (n : Fin 8192) (j : Fin 6144) (h : (Cert.On_gates.fn (F := Ideal) x0 x1 x2 x3 x4 x5 x6 x7 x8).2.2.2.1 (ix2 n j) = 1#1) :
    4096 ≤ j.val := by
  unfold Cert.On_gates.fn at h
  dsimp only at h
  by_contra hj
  have hj' : j.val < 4096 := by omega
  have h' : IntOp.cmpi .sge (BitVec.ofNat 32 j.val) 4096#32 = 1#1 := h
  exact (by decide +kernel : ∀ k : Fin 4096, IntOp.cmpi .sge (BitVec.ofNat 32 k.val) 4096#32 ≠ 1#1) ⟨j.val, hj'⟩ h'

open Cert.TailFinal in
theorem algebraic : Cert.algebraic_TailIdeal_TailRefIdeal_on_gates_pre_finite := by
  intro m g m' g' hpre hagree
  have hS : ∀ c : Dev Cert.TailIdeal.nD, ∃ R w, Cert.TailBlocks.Holds m c R w ∧ Same m' c R w := fun c => by
    obtain ⟨R, w, H⟩ := holds hpre c
    obtain ⟨a0, a1, a2, a3, a4, a5, a6, a7, a8⟩ := hagree c
    exact ⟨R, w, H, a0.trans H.a, a1.trans H.b, a2 ▸ ⟨H.gc, H.gs⟩, a3.trans H.x, a4.trans H.t, a5.trans H.wco, a6.trans H.wso, a7.trans H.wout, a8.trans H.gp⟩
  refine ⟨fun c => (Cert.TailIdeal.Gen.dats m 0 c).arrAt 10 Cert.TailIdeal.cfg0.N, fun c => (Cert.TailIdeal.Gen.dats m 0 c).arrAt 11 Cert.TailIdeal.cfg0.N,
    fun c => (Cert.TailIdeal.Gen.dats m 0 c).arrAt 12 Cert.TailIdeal.cfg0.N, fun c => (Cert.TailIdeal.Gen.dats m 0 c).arrAt 13 Cert.TailIdeal.cfg0.N,
    fun c => (Cert.TailIdeal.Gen.dats m 0 c).arrAt 14 Cert.TailIdeal.cfg0.N, fun c => (Cert.TailIdeal.Gen.dats m 0 c).arrAt 15 Cert.TailIdeal.cfg0.N,
    fun c => (Cert.TailIdeal.Gen.dats m 0 c).arrAt 16 Cert.TailIdeal.cfg0.N, fun c => (Cert.TailIdeal.Gen.dats m 0 c).arrAt 17 Cert.TailIdeal.cfg0.N,
    fun c => (Cert.TailIdeal.Gen.dats m 0 c).arrAt 18 Cert.TailIdeal.cfg0.N, ?_, ?_⟩
  · run_from Cert.TailIdeal.Value.run_blocks m g
    all_goals exact fun i _ => trivial
  · run_from Cert.TailRefIdeal.Value.run m' g'
    all_goals
      obtain ⟨R, w, H, S⟩ := hS c
      intro i hi
    · rw [r10 S, arr10 H]
    · rw [r11 S, arr11 H]
    · rw [r12 S, arr12 H]
    · have e : i = ix2 (i 0) (i 1) := eq_ix2 i
      rw [e] at hi ⊢
      have hj := mask _ _ _ _ _ _ _ _ _ (i 0) (i 1) hi
      exact (r13 S (i 0) (i 1) hj).trans (arr13 H (i 0) (i 1) hj).symm
    · rw [r14 S, arr14 H]
    · rw [r15 S, arr15 H]
    · rw [r16 S, arr16 H]
    · rw [r17 S, arr17 H]
    · rw [r18 S, arr18 H]

/-- The reference is a straight line of host operations that declares no semaphore: its arguments stay, and its counters end at zero. -/
theorem frame_ref : Cert.quiescent_TailRefIdeal := fun m ρ _ =>
  (θ_run Cert.TailRefIdeal.defs _ _).mono (fun r h => ⟨fun c => (h c).2.2.2.2.2.2.2.2.2, sem_eq_zero_of_no_sems (by decide) r.2⟩)
    (Cert.TailRefIdeal.Value.run (F := Ideal) m ρ)

end Cert.TailClaim

end
-- ==== Proof.Ssm.Arr.lean ====
/- Matrices of reals given by functions of two counters, and the parts of them that loads read and stores fill. -/
module

public import proofs.«01_k».proof.Proof.Lift
public import proofs.«01_k».proof.Proof.Gen.SsmIdeal.Skeleton
public import Idealize.ShloMosaic.Lib.Pipeline.FrameBody
public import Idealize.ShloMosaic.Lib.Pipeline.ValueKit

@[expose] public section

set_option maxRecDepth 16384

noncomputable section

namespace Cert.SsmArr

open Idealize.ShloMosaic Cert.SsmIdeal Cert.SsmIdeal.Gen Cert.Lift

/-- The matrix whose entry at row `i` and column `j` is the real `f i j`. -/
def L2 {n k : ℕ} (f : ℕ → ℕ → ℝ) : (⟨2, ![n, k]⟩ : Shape).Idx → EReal := fun i => ((f (i 0).val (i 1).val : ℝ) : EReal)

theorem L2_apply {n k : ℕ} (f : ℕ → ℕ → ℝ) (a : Fin n) (b : Fin k) : L2 f (ix2 a b) = ((f a.val b.val : ℝ) : EReal) := rfl

theorem L2_congr {n k : ℕ} {f g : ℕ → ℕ → ℝ} (h : ∀ i j, i < n → j < k → f i j = g i j) :
    (L2 f : (⟨2, ![n, k]⟩ : Shape).Idx → EReal) = L2 g :=
  funext fun i => congrArg _ (h _ _ (i 0).isLt (i 1).isLt)

/-- A real matrix is one given by counters. -/
theorem exists_L2 {n k : ℕ} (f : Fin n → Fin k → ℝ) : ∃ g : ℕ → ℕ → ℝ, (lift2 f : (⟨2, ![n, k]⟩ : Shape).Idx → EReal) = L2 g := by
  refine ⟨fun i j => if h : i < n ∧ j < k then f ⟨i, h.1⟩ ⟨j, h.2⟩ else 0, ?_⟩
  funext i
  have h : (i 0).val < n ∧ (i 1).val < k := ⟨(i 0).isLt, (i 1).isLt⟩
  simp only [L2, lift2]
  rw [dif_pos h]
  rfl

/-- `f` with the `n` by `k` part at row `a` and column `b` replaced by `g`. -/
def ov (a b n k : ℕ) (g f : ℕ → ℕ → ℝ) : ℕ → ℕ → ℝ :=
  fun i j => if (a ≤ i ∧ i < a + n) ∧ (b ≤ j ∧ j < b + k) then g (i - a) (j - b) else f i j

section
variable {N K : ℕ} {e : EltTy}

/-- The entries of an element type that are extended reals. -/
abbrev Real2 (N K : ℕ) := (⟨2, ![N, K]⟩ : Shape).Idx → Elt Ideal .f32

theorem ld_L2 (f : ℕ → ℕ → ℝ) (off size : Fin 2 → ℕ) (a b n k : ℕ) (ho : off = ![a, b]) (hs : size = ![n, k])
    (inb : ∀ x, off x + size x ≤ (⟨2, ![N, K]⟩ : Shape).size x) :
    View.ld (Val := Elt Ideal) (S := ⟨2, ![N, K]⟩) (e' := .f32) (L2 f) (Rect.unit (s := ⟨2, ![N, K]⟩) off size inb)
    = fun x => ((f (a + (x 0).val) (b + (x 1).val) : ℝ) : EReal) := by
  subst ho hs
  funext x
  have h0 := inb 0
  have h1 := inb 1
  have e0 : (x 0).val < n := (x 0).isLt
  have e1 : (x 1).val < k := (x 1).isLt
  refine (View.ld_unit_apply_of _ _ _ _ _ (ix2 ⟨a + (x 0).val, ?_⟩ ⟨b + (x 1).val, ?_⟩) ?_).trans ?_
  · change a + n ≤ N at h0; omega
  · change b + k ≤ K at h1; omega
  · intro y; fin_cases y <;> rfl
  · rfl

/-- A store into a part of a matrix. -/
theorem canon_cons (off size : Fin 2 → ℕ) (a b n k : ℕ) (ho : off = ![a, b]) (hs : size = ![n, k])
    (inb : ∀ x, off x + size x ≤ (⟨2, ![N, K]⟩ : Shape).size x) (g f : ℕ → ℕ → ℝ)
    (w : (Rect.unit (s := ⟨2, ![N, K]⟩) off size inb).shape.Idx → Elt Ideal .f32)
    (hw : w = fun x => ((g (x 0).val (x 1).val : ℝ) : EReal))
    (L : List (View.Piece (Elt Ideal) (⟨2, ![N, K]⟩ : Shape) .f32)) (hL : View.canon L = L2 f) :
    View.canon (⟨Rect.unit (s := ⟨2, ![N, K]⟩) off size inb, w⟩ :: L) = L2 (ov a b n k g f) := by
  subst ho hs hw
  funext y
  by_cases h : (a ≤ (y 0).val ∧ (y 0).val < a + n) ∧ (b ≤ (y 1).val ∧ (y 1).val < b + k)
  · have hy : y = (Rect.unit (s := ⟨2, ![N, K]⟩) ![a, b] ![n, k] inb).emb
        (ix2 (⟨(y 0).val - a, by omega⟩ : Fin n) (⟨(y 1).val - b, by omega⟩ : Fin k)) := by
      funext x; apply Fin.ext
      refine Eq.trans ?_ (Rect.idx_unit_val _ _ _ _ x).symm
      fin_cases x
      · change (y 0).val = a + ((y 0).val - a); omega
      · change (y 1).val = b + ((y 1).val - b); omega
    conv_lhs => rw [hy]
    rw [View.canon_cons_emb]
    simp only [L2, ov]
    rw [if_pos h]; rfl
  · rw [View.canon_cons_of_not_mem _ _ (by
      intro hm
      obtain ⟨x, hx⟩ := LoadRect.exists_idx_of_mem _ hm
      have e0 := congrArg Fin.val (congrFun hx 0)
      have e1 := congrArg Fin.val (congrFun hx 1)
      have x0 : (x 0).val < n := (x 0).isLt
      have x1 : (x 1).val < k := (x 1).isLt
      rw [Rect.idx_unit_val] at e0 e1
      change a + (x 0).val = _ at e0
      change b + (x 1).val = _ at e1
      omega), hL]
    simp only [L2, ov]
    rw [if_neg h]

/-- A store of a whole matrix. -/
theorem canon_one (off size : Fin 2 → ℕ) (a b n k : ℕ) (ho : off = ![a, b]) (hs : size = ![n, k])
    (inb : ∀ x, off x + size x ≤ (⟨2, ![N, K]⟩ : Shape).size x)
    (w : (Rect.unit (s := ⟨2, ![N, K]⟩) off size inb).shape.Idx → Elt Ideal .f32) (y : (⟨2, ![N, K]⟩ : Shape).Idx) (g : ℕ → ℕ → ℝ)
    (hw : w = fun x => ((g (x 0).val (x 1).val : ℝ) : EReal))
    (h : (a ≤ (y 0).val ∧ (y 0).val < a + n) ∧ (b ≤ (y 1).val ∧ (y 1).val < b + k))
    (L : List (View.Piece (Elt Ideal) (⟨2, ![N, K]⟩ : Shape) .f32)) :
    View.canon (⟨Rect.unit (s := ⟨2, ![N, K]⟩) off size inb, w⟩ :: L) y = ((g ((y 0).val - a) ((y 1).val - b) : ℝ) : EReal) := by
  subst ho hs hw
  have hy : y = (Rect.unit (s := ⟨2, ![N, K]⟩) ![a, b] ![n, k] inb).emb
      (ix2 (⟨(y 0).val - a, by omega⟩ : Fin n) (⟨(y 1).val - b, by omega⟩ : Fin k)) := by
    funext x; apply Fin.ext
    refine Eq.trans ?_ (Rect.idx_unit_val _ _ _ _ x).symm
    fin_cases x
    · change (y 0).val = a + ((y 0).val - a); omega
    · change (y 1).val = b + ((y 1).val - b); omega
  conv_lhs => rw [hy]
  rw [View.canon_cons_emb]
  rfl
end

end Cert.SsmArr
end
-- ==== Proof.Ssm.Loops.lean ====
/- What the loops of the forward scan's body store: the eight segments scanned side by side, and the carried states added. -/
module

public import proofs.«01_k».proof.Proof.Ssm.Arr
public import proofs.«01_k».proof.Proof.Gen.SsmIdeal.Frame

@[expose] public section

set_option maxRecDepth 16384

noncomputable section

namespace Cert.SsmLoops

open Idealize.ShloMosaic Idealize.ShloMosaic.TcCoe Idealize.SL.Sem Cert.SsmIdeal Cert.SsmIdeal.Gen Cert.Lift Cert.SsmArr

/-! ## The recurrences -/

/-- The scan of one segment from a zero state: segment `s`, column `n`, up to step `r`; step `r` of segment `s` lies in row `8 r + s`. -/
def loc (a : ℕ → ℂ) (X : ℕ → ℕ → ℂ) (s n : ℕ) : ℕ → ℂ
  | 0 => X s n
  | r + 1 => a n * loc a X s n r + X (8 * r + 8 + s) n

theorem loc_congr (a : ℕ → ℂ) (X Y : ℕ → ℕ → ℂ) (s n : ℕ) (h : ∀ i, X i n = Y i n) (r : ℕ) : loc a X s n r = loc a Y s n r := by
  induction r with
  | zero => exact h s
  | succ r ih => rw [loc, loc, ih, h]

/-- The rows as they are when the columns from `b` on have been scanned up to step `k`. -/
def part (a : ℕ → ℂ) (X : ℕ → ℕ → ℂ) (b k : ℕ) : ℕ → ℕ → ℂ :=
  fun i j => if i < 8 * k + 8 ∧ (b ≤ j ∧ j < b + 1024) then loc a X (i % 8) j (i / 8) else X i j

theorem part_zero (a : ℕ → ℂ) (X : ℕ → ℕ → ℂ) (b : ℕ) : part a X b 0 = X := by
  funext i j
  unfold part
  split_ifs with h
  · have e : i / 8 = 0 := by omega
    rw [e, loc, Nat.mod_eq_of_lt (by omega)]
  · rfl

theorem part_succ (a : ℕ → ℂ) (X : ℕ → ℕ → ℂ) (b k : ℕ) (i j : ℕ) : part a X b (k + 1) i j
    = if (8 * k + 8 ≤ i ∧ i < 8 * k + 8 + 8) ∧ (b ≤ j ∧ j < b + 1024) then loc a X (i - (8 * k + 8)) (b + (j - b)) (k + 1) else part a X b k i j := by
  unfold part
  by_cases hj : b ≤ j ∧ j < b + 1024
  · have ej : b + (j - b) = j := by omega
    by_cases hi : 8 * k + 8 ≤ i ∧ i < 8 * k + 8 + 8
    · have e1 : i % 8 = i - (8 * k + 8) := by omega
      have e2 : i / 8 = k + 1 := by omega
      rw [if_pos ⟨by omega, hj⟩, if_pos ⟨hi, hj⟩, e1, e2, ej]
    · rw [if_neg (fun h : (8 * k + 8 ≤ i ∧ i < 8 * k + 8 + 8) ∧ (b ≤ j ∧ j < b + 1024) => hi h.1)]
      by_cases h : i < 8 * k + 8
      · rw [if_pos ⟨by omega, hj⟩, if_pos ⟨h, hj⟩]
      · rw [if_neg (by omega), if_neg (by omega)]
  · rw [if_neg (by tauto), if_neg (by tauto), if_neg (by tauto)]

/-- The rows when the carried states have been added in the columns from `b` on, in the first `8 k` rows: row `8 r + s` gains the
    carried state of segment `s`, decayed by the power `P r`. -/
def fix (P K Y : ℕ → ℕ → ℂ) (b k : ℕ) : ℕ → ℕ → ℂ :=
  fun i j => if i < 8 * k ∧ (b ≤ j ∧ j < b + 1024) then Y i j + P (i / 8) j * K (i % 8) j else Y i j

theorem fix_zero (P K Y : ℕ → ℕ → ℂ) (b : ℕ) : fix P K Y b 0 = Y := by
  funext i j
  unfold fix
  rw [if_neg (by omega)]

theorem fix_succ (P K Y : ℕ → ℕ → ℂ) (b k : ℕ) (i j : ℕ) : fix P K Y b (k + 1) i j
    = if (8 * k ≤ i ∧ i < 8 * k + 8) ∧ (b ≤ j ∧ j < b + 1024)
      then Y (8 * k + (i - 8 * k)) (b + (j - b)) + P k (b + (j - b)) * K (i - 8 * k) (b + (j - b)) else fix P K Y b k i j := by
  unfold fix
  by_cases hj : b ≤ j ∧ j < b + 1024
  · have ej : b + (j - b) = j := by omega
    by_cases hi : 8 * k ≤ i ∧ i < 8 * k + 8
    · have e1 : i % 8 = i - 8 * k := by omega
      have e2 : i / 8 = k := by omega
      have e3 : 8 * k + (i - 8 * k) = i := by omega
      rw [if_pos ⟨by omega, hj⟩, if_pos ⟨hi, hj⟩, e1, e2, ej, e3]
    · rw [if_neg (fun h : (8 * k ≤ i ∧ i < 8 * k + 8) ∧ (b ≤ j ∧ j < b + 1024) => hi h.1)]
      by_cases h : i < 8 * k
      · rw [if_pos ⟨by omega, hj⟩, if_pos ⟨h, hj⟩]
      · rw [if_neg (by omega), if_neg (by omega)]
  · rw [if_neg (by tauto), if_neg (by tauto), if_neg (by tauto)]

/-! ## The values that a trip stores -/

/-- A part of a matrix of reals, as a vector of its own. -/
abbrev W {n k : ℕ} (f : ℕ → ℕ → ℝ) : (⟨2, ![n, k]⟩ : Shape).Idx → EReal := L2 f

theorem pay21 (p q f g x : ℕ → ℕ → ℝ) : k0_pay21 (F := Ideal) (L2 p) (L2 q) (L2 f) (L2 g) (L2 x) = L2 fun i j => p i j * f i j - q i j * g i j + x i j := by
  funext i; idx_vars i
  pointwise [k0_pay21, L2_apply]
  norm_cast

theorem pay22 (p q f g x : ℕ → ℕ → ℝ) : k0_pay22 (F := Ideal) (L2 p) (L2 q) (L2 f) (L2 g) (L2 x) = L2 fun i j => p i j * g i j + q i j * f i j + x i j := by
  funext i; idx_vars i
  pointwise [k0_pay22, L2_apply]
  norm_cast

theorem pay27 (p q f g x : ℕ → ℕ → ℝ) : k0_pay27 (F := Ideal) (L2 p) (L2 q) (L2 f) (L2 g) (L2 x) = L2 fun i j => p 0 j * f i j - q 0 j * g i j + x i j := by
  funext i; idx_vars i
  pointwise [k0_pay27, k0_pay23, k0_pay24, L2_apply]
  norm_cast

theorem pay28 (p q f g x : ℕ → ℕ → ℝ) : k0_pay28 (F := Ideal) (L2 p) (L2 q) (L2 f) (L2 g) (L2 x) = L2 fun i j => p 0 j * g i j + q 0 j * f i j + x i j := by
  funext i; idx_vars i
  pointwise [k0_pay28, k0_pay23, k0_pay24, L2_apply]
  norm_cast

theorem pay56 (p q f g x : ℕ → ℕ → ℝ) : k0_pay56 (F := Ideal) (L2 f) (L2 g) (L2 p) (L2 q) (L2 x) = L2 fun i j => x i j + p 0 j * f i j - q 0 j * g i j := by
  funext i; idx_vars i
  pointwise [k0_pay56, k0_pay52, k0_pay53, k0_pay54, k0_pay55, L2_apply]
  norm_cast

theorem pay57 (p q f g x : ℕ → ℕ → ℝ) : k0_pay57 (F := Ideal) (L2 f) (L2 g) (L2 p) (L2 q) (L2 x) = L2 fun i j => x i j + p 0 j * g i j + q 0 j * f i j := by
  funext i; idx_vars i
  pointwise [k0_pay57, k0_pay52, k0_pay53, k0_pay54, k0_pay55, L2_apply]
  norm_cast

theorem pay62 (p q f g x : ℕ → ℕ → ℝ) : k0_pay62 (F := Ideal) (L2 f) (L2 g) (L2 p) (L2 q) (L2 x) = L2 fun i j => x i j + p 0 j * f i j - q 0 j * g i j := by
  funext i; idx_vars i
  pointwise [k0_pay62, k0_pay58, k0_pay59, k0_pay60, k0_pay61, L2_apply]
  norm_cast

theorem pay63 (p q f g x : ℕ → ℕ → ℝ) : k0_pay63 (F := Ideal) (L2 f) (L2 g) (L2 p) (L2 q) (L2 x) = L2 fun i j => x i j + p 0 j * g i j + q 0 j * f i j := by
  funext i; idx_vars i
  pointwise [k0_pay63, k0_pay58, k0_pay59, k0_pay60, k0_pay61, L2_apply]
  norm_cast

theorem re_step (a z x : ℂ) : a.re * z.re - a.im * z.im + x.re = (a * z + x).re := by simp
theorem im_step (a z x : ℂ) : a.re * z.im + a.im * z.re + x.im = (a * z + x).im := by simp
theorem re_fix (p k y : ℂ) : y.re + p.re * k.re - p.im * k.im = (y + p * k).re := by simp [add_sub_assoc]
theorem im_fix (p k y : ℂ) : y.im + p.re * k.im + p.im * k.re = (y + p * k).im := by simp [add_assoc]

theorem step_re (a : ℕ → ℂ) (X : ℕ → ℕ → ℂ) (b k i j : ℕ) : (a (b + j)).re * (loc a X i (b + j) k).re - (a (b + j)).im * (loc a X i (b + j) k).im
    + (part a X b k (8 * k + 8 + i) (b + j)).re = (loc a X i (b + j) (k + 1)).re := by
  rw [re_step, part, if_neg (by omega), loc]
theorem step_im (a : ℕ → ℂ) (X : ℕ → ℕ → ℂ) (b k i j : ℕ) : (a (b + j)).re * (loc a X i (b + j) k).im + (a (b + j)).im * (loc a X i (b + j) k).re
    + (part a X b k (8 * k + 8 + i) (b + j)).im = (loc a X i (b + j) (k + 1)).im := by
  rw [im_step, part, if_neg (by omega), loc]

theorem fixstep_re (P K Y : ℕ → ℕ → ℂ) (b k i j : ℕ) : (fix P K Y b k (8 * k + i) (b + j)).re + (P k (b + j)).re * (K i (b + j)).re
    - (P k (b + j)).im * (K i (b + j)).im = (Y (8 * k + i) (b + j) + P k (b + j) * K i (b + j)).re := by
  rw [re_fix, fix, if_neg (by omega)]
theorem fixstep_im (P K Y : ℕ → ℕ → ℂ) (b k i j : ℕ) : (fix P K Y b k (8 * k + i) (b + j)).im + (P k (b + j)).re * (K i (b + j)).im
    + (P k (b + j)).im * (K i (b + j)).re = (Y (8 * k + i) (b + j) + P k (b + j) * K i (b + j)).im := by
  rw [im_fix, fix, if_neg (by omega)]

section
variable {c : Dev nD} {a : ℕ → ℂ} {X P K Y : ℕ → ℕ → ℂ}

/-- A load after the stores `L`. -/
theorem readAt_of {b : Memref sig .tc .vmem S512x2048 .f32} {L : List (View.Piece (Elt Ideal) S512x2048 .f32)} {f : ℕ → ℕ → ℝ} (hL : View.canon L = L2 f)
    (off : Fin 2 → ℕ) (i j : ℕ) (ho : off = ![i, j]) (inb : ∀ x, off x + S8x1024.size x ≤ S512x2048.size x) :
    b.view.readAt (Elt Ideal) (Rect.unit (s := S512x2048) off S8x1024.size inb).toLoadRect (b.view.writes (Elt Ideal) b.view.junk L)
    = L2 fun x y => f (i + x) (j + y) := by
  rw [View.readAt_writes_junk_eq_canon, hL]
  exact ld_L2 f off ![8, 1024] i j 8 1024 ho rfl inb

/-- A store of eight rows after the stores `L`. -/
theorem store8 {L : List (View.Piece (Elt Ideal) S512x2048 .f32)} {f : ℕ → ℕ → ℝ} (hL : View.canon L = L2 f)
    (off : Fin 2 → ℕ) (i j : ℕ) (ho : off = ![i, j]) (inb : ∀ x, off x + S8x1024.size x ≤ S512x2048.size x) (g : ℕ → ℕ → ℝ) :
    View.canon (⟨Rect.unit (s := S512x2048) off S8x1024.size inb, (L2 g : S8x1024.Idx → Elt Ideal .f32)⟩ :: L) = L2 (ov i j 8 1024 g f) :=
  canon_cons off ![8, 1024] i j 8 1024 ho rfl inb g f _ rfl L hL

theorem readAt_row {b : Memref sig .tc .vmem S64x2048 .f32} (hb : b.IsWhole) {f : ℕ → ℕ → ℝ}
    (off : Fin 2 → ℕ) (i j : ℕ) (ho : off = ![i, j]) (inb : ∀ x, off x + S1x1024.size x ≤ S64x2048.size x) :
    b.view.readAt (Elt Ideal) (Rect.unit (s := S64x2048) off S1x1024.size inb).toLoadRect (hb.unread (L2 f : S64x2048.Idx → Elt Ideal .f32))
    = L2 fun x y => f (i + x) (j + y) := by
  funext x
  refine (congrFun (hb.read_unread _) _).trans ?_
  exact congrFun (ld_L2 f off ![1, 1024] i j 1 1024 ho rfl inb) x

theorem trip1 (t : Fin cfg0.N) (v44 v48 v50 : FVec Ideal S8x1024 .f32) (k : Fin k0_t1_loop.trips) (acc : FVec Ideal S8x1024 .f32 × FVec Ideal S8x1024 .f32) (f16 f17) :
    tripR_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 k acc f16 f17
    = (k0_pay21 v44 v48 acc.1 acc.2 ((ms0_15 t).view.readAt (Elt Ideal) (Rect.unit (s := S512x2048) (k0_off1 k) S8x1024.size (k0_off1_inb k)).toLoadRect f16),
       k0_pay22 v44 v48 acc.1 acc.2 ((ms0_16 t).view.readAt (Elt Ideal) (Rect.unit (s := S512x2048) (k0_off1 k) S8x1024.size (k0_off1_inb k)).toLoadRect f17))
    ∧ tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 k acc f16 f17
    = ([⟨Rect.unit (s := S512x2048) (k0_off1 k) S8x1024.size (k0_off1_inb k), k0_pay21 v44 v48 acc.1 acc.2 ((ms0_15 t).view.readAt (Elt Ideal) (Rect.unit (s := S512x2048) (k0_off1 k) S8x1024.size (k0_off1_inb k)).toLoadRect f16)⟩],
       [⟨Rect.unit (s := S512x2048) (k0_off1 k) S8x1024.size (k0_off1_inb k), k0_pay22 v44 v48 acc.1 acc.2 ((ms0_16 t).view.readAt (Elt Ideal) (Rect.unit (s := S512x2048) (k0_off1 k) S8x1024.size (k0_off1_inb k)).toLoadRect f17)⟩]) := by
  unfold tripR_k0_t1 tripL_k0_t1 trip_k0_t1
  exact ⟨rfl, rfl⟩

theorem t1 (t : Fin cfg0.N) (v44 v48 v50 : FVec Ideal S8x1024 .f32) (D15 D16 : List (View.Piece (Elt Ideal) S512x2048 .f32))
    (init : FVec Ideal S8x1024 .f32 × FVec Ideal S8x1024 .f32)
    (ha : v44 = L2 fun _ j => (a (0 + j)).re) (hb : v48 = L2 fun _ j => (a (0 + j)).im)
    (h15 : View.canon D15 = L2 fun i j => (X i j).re) (h16 : View.canon D16 = L2 fun i j => (X i j).im)
    (hi : init = (L2 fun s j => (X s (0 + j)).re, L2 fun s j => (X s (0 + j)).im)) (k : ℕ) (hk : k ≤ 63) :
    let S := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 ((ms0_15 t).view.writes (Elt Ideal) (ms0_15 t).view.junk D15) ((ms0_16 t).view.writes (Elt Ideal) (ms0_16 t).view.junk D16) init k
    S.1 = (L2 fun s j => (loc a X s (0 + j) k).re, L2 fun s j => (loc a X s (0 + j) k).im)
    ∧ View.canon (S.2.1 ++ D15) = L2 (fun i j => (part a X 0 k i j).re) ∧ View.canon (S.2.2 ++ D16) = L2 (fun i j => (part a X 0 k i j).im) := by
  have ht : k0_t1_loop.trips = 63 := by decide +kernel
  dsimp only
  induction k with
  | zero =>
    refine ⟨hi, ?_, ?_⟩
    · rw [part_zero]; exact h15
    · rw [part_zero]; exact h16
  | succ k ih =>
    obtain ⟨i1, i2, i3⟩ := ih (by omega)
    have e := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 ((ms0_15 t).view.writes (Elt Ideal) (ms0_15 t).view.junk D15)
      ((ms0_16 t).view.writes (Elt Ideal) (ms0_16 t).view.junk D16) init (⟨k, by omega⟩ : Fin k0_t1_loop.trips)
    rw [← View.writes_append, ← View.writes_append, (trip1 ..).1, (trip1 ..).2] at e
    dsimp only at e
    generalize st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 ((ms0_15 t).view.writes (Elt Ideal) (ms0_15 t).view.junk D15) ((ms0_16 t).view.writes (Elt Ideal) (ms0_16 t).view.junk D16) init k = S at e i1 i2 i3
    rw [e]
    dsimp only
    have ho := k0_off1_eq (⟨k, by omega⟩ : Fin k0_t1_loop.trips)
    rw [readAt_of i2 _ _ _ ho, readAt_of i3 _ _ _ ho, i1, ha, hb, pay21, pay22]
    have er := fun i j => step_re a X 0 k i j
    have ei := fun i j => step_im a X 0 k i j
    simp only [er, ei]
    refine ⟨trivial, ?_, ?_⟩
    · rw [List.cons_append, List.cons_append, List.nil_append, store8 i2 _ _ _ ho]
      refine L2_congr fun i j _ _ => ?_
      rw [part_succ, apply_ite Complex.re]; rfl
    · rw [List.cons_append, List.cons_append, List.nil_append, store8 i3 _ _ _ ho]
      refine L2_congr fun i j _ _ => ?_
      rw [part_succ, apply_ite Complex.im]; rfl

theorem trip2 (t : Fin cfg0.N) (v44 v48 v50 : FVec Ideal S8x1024 .f32) (v55 v59 : Vec Ideal S1x1024 .f32) (k : Fin k0_t2_loop.trips) (acc : FVec Ideal S8x1024 .f32 × FVec Ideal S8x1024 .f32) (f16 f17) :
    tripR_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 v55 v59 k acc f16 f17
    = (k0_pay27 v55 v59 acc.1 acc.2 ((ms0_15 t).view.readAt (Elt Ideal) (Rect.unit (s := S512x2048) (k0_off2 k) S8x1024.size (k0_off2_inb k)).toLoadRect f16),
       k0_pay28 v55 v59 acc.1 acc.2 ((ms0_16 t).view.readAt (Elt Ideal) (Rect.unit (s := S512x2048) (k0_off2 k) S8x1024.size (k0_off2_inb k)).toLoadRect f17))
    ∧ tripL_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 v55 v59 k acc f16 f17
    = ([⟨Rect.unit (s := S512x2048) (k0_off2 k) S8x1024.size (k0_off2_inb k), k0_pay27 v55 v59 acc.1 acc.2 ((ms0_15 t).view.readAt (Elt Ideal) (Rect.unit (s := S512x2048) (k0_off2 k) S8x1024.size (k0_off2_inb k)).toLoadRect f16)⟩],
       [⟨Rect.unit (s := S512x2048) (k0_off2 k) S8x1024.size (k0_off2_inb k), k0_pay28 v55 v59 acc.1 acc.2 ((ms0_16 t).view.readAt (Elt Ideal) (Rect.unit (s := S512x2048) (k0_off2 k) S8x1024.size (k0_off2_inb k)).toLoadRect f17)⟩]) := by
  unfold tripR_k0_t2 tripL_k0_t2 trip_k0_t2
  exact ⟨rfl, rfl⟩

theorem t2 (t : Fin cfg0.N) (v44 v48 v50 : FVec Ideal S8x1024 .f32) (v55 v59 : Vec Ideal S1x1024 .f32) (D15 D16 : List (View.Piece (Elt Ideal) S512x2048 .f32))
    (init : FVec Ideal S8x1024 .f32 × FVec Ideal S8x1024 .f32)
    (ha : v55 = L2 fun _ j => (a (1024 + j)).re) (hb : v59 = L2 fun _ j => (a (1024 + j)).im)
    (h15 : View.canon D15 = L2 fun i j => (X i j).re) (h16 : View.canon D16 = L2 fun i j => (X i j).im)
    (hi : init = (L2 fun s j => (X s (1024 + j)).re, L2 fun s j => (X s (1024 + j)).im)) (k : ℕ) (hk : k ≤ 63) :
    let S := st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 v55 v59 ((ms0_15 t).view.writes (Elt Ideal) (ms0_15 t).view.junk D15) ((ms0_16 t).view.writes (Elt Ideal) (ms0_16 t).view.junk D16) init k
    S.1 = (L2 fun s j => (loc a X s (1024 + j) k).re, L2 fun s j => (loc a X s (1024 + j) k).im)
    ∧ View.canon (S.2.1 ++ D15) = L2 (fun i j => (part a X 1024 k i j).re) ∧ View.canon (S.2.2 ++ D16) = L2 (fun i j => (part a X 1024 k i j).im) := by
  have ht : k0_t2_loop.trips = 63 := by decide +kernel
  dsimp only
  induction k with
  | zero =>
    refine ⟨hi, ?_, ?_⟩
    · rw [part_zero]; exact h15
    · rw [part_zero]; exact h16
  | succ k ih =>
    obtain ⟨i1, i2, i3⟩ := ih (by omega)
    have e := st_k0_t2_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 v55 v59 ((ms0_15 t).view.writes (Elt Ideal) (ms0_15 t).view.junk D15)
      ((ms0_16 t).view.writes (Elt Ideal) (ms0_16 t).view.junk D16) init (⟨k, by omega⟩ : Fin k0_t2_loop.trips)
    rw [← View.writes_append, ← View.writes_append, (trip2 ..).1, (trip2 ..).2] at e
    dsimp only at e
    generalize st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v44 v48 v50 v55 v59 ((ms0_15 t).view.writes (Elt Ideal) (ms0_15 t).view.junk D15) ((ms0_16 t).view.writes (Elt Ideal) (ms0_16 t).view.junk D16) init k = S at e i1 i2 i3
    rw [e]
    dsimp only
    have ho := k0_off2_eq (⟨k, by omega⟩ : Fin k0_t2_loop.trips)
    rw [readAt_of i2 _ _ _ ho, readAt_of i3 _ _ _ ho, i1, ha, hb, pay27, pay28]
    have er := fun i j => step_re a X 1024 k i j
    have ei := fun i j => step_im a X 1024 k i j
    simp only [er, ei]
    refine ⟨trivial, ?_, ?_⟩
    · rw [List.cons_append, List.cons_append, List.nil_append, store8 i2 _ _ _ ho]
      refine L2_congr fun i j _ _ => ?_
      rw [part_succ, apply_ite Complex.re]; rfl
    · rw [List.cons_append, List.cons_append, List.nil_append, store8 i3 _ _ _ ho]
      refine L2_congr fun i j _ _ => ?_
      rw [part_succ, apply_ite Complex.im]; rfl

theorem trip3 (t : Fin cfg0.N) (v182 v184 v185 : FVec Ideal S1x2048 .f32) (ka kb : Vec Ideal S8x1024 .f32) (X9 X10) (k : Fin k0_t3_loop.trips) (f16 f17) :
    tripL_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb X9 X10 k f16 f17
    = ([⟨Rect.unit (s := S512x2048) (k0_off4 k) S8x1024.size (k0_off4_inb k), k0_pay56 ka kb ((ms0_8 t).view.readAt (Elt Ideal) (Rect.unit (s := S64x2048) (k0_off3 k) S1x1024.size (k0_off3_inb k)).toLoadRect X9) ((ms0_9 t).view.readAt (Elt Ideal) (Rect.unit (s := S64x2048) (k0_off3 k) S1x1024.size (k0_off3_inb k)).toLoadRect X10) ((ms0_15 t).view.readAt (Elt Ideal) (Rect.unit (s := S512x2048) (k0_off4 k) S8x1024.size (k0_off4_inb k)).toLoadRect f16)⟩],
       [⟨Rect.unit (s := S512x2048) (k0_off4 k) S8x1024.size (k0_off4_inb k), k0_pay57 ka kb ((ms0_8 t).view.readAt (Elt Ideal) (Rect.unit (s := S64x2048) (k0_off3 k) S1x1024.size (k0_off3_inb k)).toLoadRect X9) ((ms0_9 t).view.readAt (Elt Ideal) (Rect.unit (s := S64x2048) (k0_off3 k) S1x1024.size (k0_off3_inb k)).toLoadRect X10) ((ms0_16 t).view.readAt (Elt Ideal) (Rect.unit (s := S512x2048) (k0_off4 k) S8x1024.size (k0_off4_inb k)).toLoadRect f17)⟩]) := by
  unfold tripL_k0_t3 trip_k0_t3
  exact rfl

theorem t3 (t : Fin cfg0.N) (v182 v184 v185 : FVec Ideal S1x2048 .f32) (ka kb : Vec Ideal S8x1024 .f32) (X9 X10 : Vec Ideal S64x2048 .f32)
    (D15 D16 : List (View.Piece (Elt Ideal) S512x2048 .f32))
    (ha : ka = L2 fun s j => (K s (0 + j)).re) (hb : kb = L2 fun s j => (K s (0 + j)).im)
    (h9 : X9 = L2 fun r j => (P r j).re) (h10 : X10 = L2 fun r j => (P r j).im)
    (h15 : View.canon D15 = L2 fun i j => (Y i j).re) (h16 : View.canon D16 = L2 fun i j => (Y i j).im) (k : ℕ) (hk : k ≤ 64) :
    let S := pb_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb ((hs0_8 t).unread X9) ((hs0_9 t).unread X10) ((ms0_15 t).view.writes (Elt Ideal) (ms0_15 t).view.junk D15) ((ms0_16 t).view.writes (Elt Ideal) (ms0_16 t).view.junk D16) k
    View.canon (S.1 ++ D15) = L2 (fun i j => (fix P K Y 0 k i j).re) ∧ View.canon (S.2 ++ D16) = L2 (fun i j => (fix P K Y 0 k i j).im) := by
  have ht : k0_t3_loop.trips = 64 := by decide +kernel
  dsimp only
  induction k with
  | zero =>
    refine ⟨?_, ?_⟩
    · rw [fix_zero]; exact h15
    · rw [fix_zero]; exact h16
  | succ k ih =>
    obtain ⟨i2, i3⟩ := ih (by omega)
    have e := pb_k0_t3_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb ((hs0_8 t).unread X9) ((hs0_9 t).unread X10)
      ((ms0_15 t).view.writes (Elt Ideal) (ms0_15 t).view.junk D15)
      ((ms0_16 t).view.writes (Elt Ideal) (ms0_16 t).view.junk D16) (⟨k, by omega⟩ : Fin k0_t3_loop.trips)
    rw [← View.writes_append, ← View.writes_append, trip3] at e
    dsimp only at e
    generalize pb_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb ((hs0_8 t).unread X9) ((hs0_9 t).unread X10) ((ms0_15 t).view.writes (Elt Ideal) (ms0_15 t).view.junk D15) ((ms0_16 t).view.writes (Elt Ideal) (ms0_16 t).view.junk D16) k = S at e i2 i3
    rw [e]
    dsimp only
    have ho := k0_off4_eq (⟨k, by omega⟩ : Fin k0_t3_loop.trips)
    have hq := k0_off3_eq (⟨k, by omega⟩ : Fin k0_t3_loop.trips)
    rw [readAt_of i2 _ _ _ ho, readAt_of i3 _ _ _ ho, h9, h10, readAt_row (hs0_8 t) _ _ _ hq, readAt_row (hs0_9 t) _ _ _ hq, ha, hb, pay56, pay57]
    have er := fun i j => fixstep_re P K Y 0 k i j
    have ei := fun i j => fixstep_im P K Y 0 k i j
    simp only [Nat.add_zero, er, ei]
    refine ⟨?_, ?_⟩
    · rw [List.cons_append, List.cons_append, List.nil_append, store8 i2 _ _ _ ho]
      refine L2_congr fun i j _ _ => ?_
      rw [fix_succ, apply_ite Complex.re]; rfl
    · rw [List.cons_append, List.cons_append, List.nil_append, store8 i3 _ _ _ ho]
      refine L2_congr fun i j _ _ => ?_
      rw [fix_succ, apply_ite Complex.im]; rfl

theorem trip4 (t : Fin cfg0.N) (v182 v184 v185 : FVec Ideal S1x2048 .f32) (ka kb : Vec Ideal S8x1024 .f32) (X9 X10) (k : Fin k0_t4_loop.trips) (f16 f17) :
    tripL_k0_t4 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb X9 X10 k f16 f17
    = ([⟨Rect.unit (s := S512x2048) (k0_off6 k) S8x1024.size (k0_off6_inb k), k0_pay62 ka kb ((ms0_8 t).view.readAt (Elt Ideal) (Rect.unit (s := S64x2048) (k0_off5 k) S1x1024.size (k0_off5_inb k)).toLoadRect X9) ((ms0_9 t).view.readAt (Elt Ideal) (Rect.unit (s := S64x2048) (k0_off5 k) S1x1024.size (k0_off5_inb k)).toLoadRect X10) ((ms0_15 t).view.readAt (Elt Ideal) (Rect.unit (s := S512x2048) (k0_off6 k) S8x1024.size (k0_off6_inb k)).toLoadRect f16)⟩],
       [⟨Rect.unit (s := S512x2048) (k0_off6 k) S8x1024.size (k0_off6_inb k), k0_pay63 ka kb ((ms0_8 t).view.readAt (Elt Ideal) (Rect.unit (s := S64x2048) (k0_off5 k) S1x1024.size (k0_off5_inb k)).toLoadRect X9) ((ms0_9 t).view.readAt (Elt Ideal) (Rect.unit (s := S64x2048) (k0_off5 k) S1x1024.size (k0_off5_inb k)).toLoadRect X10) ((ms0_16 t).view.readAt (Elt Ideal) (Rect.unit (s := S512x2048) (k0_off6 k) S8x1024.size (k0_off6_inb k)).toLoadRect f17)⟩]) := by
  unfold tripL_k0_t4 trip_k0_t4
  exact rfl

theorem t4 (t : Fin cfg0.N) (v182 v184 v185 : FVec Ideal S1x2048 .f32) (ka kb : Vec Ideal S8x1024 .f32) (X9 X10 : Vec Ideal S64x2048 .f32)
    (D15 D16 : List (View.Piece (Elt Ideal) S512x2048 .f32))
    (ha : ka = L2 fun s j => (K s (1024 + j)).re) (hb : kb = L2 fun s j => (K s (1024 + j)).im)
    (h9 : X9 = L2 fun r j => (P r j).re) (h10 : X10 = L2 fun r j => (P r j).im)
    (h15 : View.canon D15 = L2 fun i j => (Y i j).re) (h16 : View.canon D16 = L2 fun i j => (Y i j).im) (k : ℕ) (hk : k ≤ 64) :
    let S := pb_k0_t4 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb ((hs0_8 t).unread X9) ((hs0_9 t).unread X10) ((ms0_15 t).view.writes (Elt Ideal) (ms0_15 t).view.junk D15) ((ms0_16 t).view.writes (Elt Ideal) (ms0_16 t).view.junk D16) k
    View.canon (S.1 ++ D15) = L2 (fun i j => (fix P K Y 1024 k i j).re) ∧ View.canon (S.2 ++ D16) = L2 (fun i j => (fix P K Y 1024 k i j).im) := by
  have ht : k0_t4_loop.trips = 64 := by decide +kernel
  dsimp only
  induction k with
  | zero =>
    refine ⟨?_, ?_⟩
    · rw [fix_zero]; exact h15
    · rw [fix_zero]; exact h16
  | succ k ih =>
    obtain ⟨i2, i3⟩ := ih (by omega)
    have e := pb_k0_t4_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb ((hs0_8 t).unread X9) ((hs0_9 t).unread X10)
      ((ms0_15 t).view.writes (Elt Ideal) (ms0_15 t).view.junk D15)
      ((ms0_16 t).view.writes (Elt Ideal) (ms0_16 t).view.junk D16) (⟨k, by omega⟩ : Fin k0_t4_loop.trips)
    rw [← View.writes_append, ← View.writes_append, trip4] at e
    dsimp only at e
    generalize pb_k0_t4 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) v182 v184 v185 ka kb ((hs0_8 t).unread X9) ((hs0_9 t).unread X10) ((ms0_15 t).view.writes (Elt Ideal) (ms0_15 t).view.junk D15) ((ms0_16 t).view.writes (Elt Ideal) (ms0_16 t).view.junk D16) k = S at e i2 i3
    rw [e]
    dsimp only
    have ho := k0_off6_eq (⟨k, by omega⟩ : Fin k0_t4_loop.trips)
    have hq := k0_off5_eq (⟨k, by omega⟩ : Fin k0_t4_loop.trips)
    rw [readAt_of i2 _ _ _ ho, readAt_of i3 _ _ _ ho, h9, h10, readAt_row (hs0_8 t) _ _ _ hq, readAt_row (hs0_9 t) _ _ _ hq, ha, hb, pay62, pay63]
    have er := fun i j => fixstep_re P K Y 1024 k i j
    have ei := fun i j => fixstep_im P K Y 1024 k i j
    simp only [Nat.add_zero, er, ei]
    refine ⟨?_, ?_⟩
    · rw [List.cons_append, List.cons_append, List.nil_append, store8 i2 _ _ _ ho]
      refine L2_congr fun i j _ _ => ?_
      rw [fix_succ, apply_ite Complex.re]; rfl
    · rw [List.cons_append, List.cons_append, List.nil_append, store8 i3 _ _ _ ho]
      refine L2_congr fun i j _ _ => ?_
      rw [fix_succ, apply_ite Complex.im]; rfl
end

end Cert.SsmLoops
end
-- ==== Proof.Ssm.Pay.lean ====
/- What each value that the forward scan's body computes is, on real blocks. -/
module

public import proofs.«01_k».proof.Proof.Ssm.Loops

@[expose] public section

set_option maxRecDepth 16384

noncomputable section

namespace Cert.SsmPay

open Idealize.ShloMosaic Cert.SsmIdeal Cert.SsmIdeal.Gen Cert.Lift Cert.SsmArr

/-- The box whose entries are the reals `f i j k`. -/
def L3 {n k l : ℕ} (f : ℕ → ℕ → ℕ → ℝ) : (⟨3, ![n, k, l]⟩ : Shape).Idx → EReal := fun i => ((f (i 0).val (i 1).val (i 2).val : ℝ) : EReal)

theorem L3_apply {n k l : ℕ} (f : ℕ → ℕ → ℕ → ℝ) (a : Fin n) (b : Fin k) (c : Fin l) : L3 f (ix3 a b c) = ((f a.val b.val c.val : ℝ) : EReal) := rfl

/-! ## The products that enter the scan -/

theorem pay6 (u : ℕ → ℕ → ℝ) (β : ℕ → ℕ → ℕ → ℝ) : k0_pay6 (F := Ideal) (L2 u) (L3 β)
    = L2 fun i j => ∑ k : Fin 128, u i (0 + k.val) * β 0 k.val j := by
  funext i; idx_vars i
  pointwise [k0_pay6, k0_pay5, k0_pay4, L2_apply, L3_apply]
  norm_cast
theorem pay7 (u : ℕ → ℕ → ℝ) (β : ℕ → ℕ → ℕ → ℝ) : k0_pay7 (F := Ideal) (L2 u) (L3 β)
    = L2 fun i j => ∑ k : Fin 128, u i (0 + k.val) * β 0 k.val j := by
  funext i; idx_vars i
  pointwise [k0_pay7, k0_pay5, k0_pay4, L2_apply, L3_apply]
  norm_cast
theorem pay9 (u : ℕ → ℕ → ℝ) (β : ℕ → ℕ → ℕ → ℝ) : k0_pay9 (F := Ideal) (L2 u) (L3 β)
    = L2 fun i j => ∑ k : Fin 128, u i (128 + k.val) * β 0 k.val j := by
  funext i; idx_vars i
  pointwise [k0_pay9, k0_pay8, k0_pay4, L2_apply, L3_apply]
  norm_cast
theorem pay10 (u : ℕ → ℕ → ℝ) (β : ℕ → ℕ → ℕ → ℝ) : k0_pay10 (F := Ideal) (L2 u) (L3 β)
    = L2 fun i j => ∑ k : Fin 128, u i (128 + k.val) * β 0 k.val j := by
  funext i; idx_vars i
  pointwise [k0_pay10, k0_pay8, k0_pay4, L2_apply, L3_apply]
  norm_cast
theorem pay12 (u : ℕ → ℕ → ℝ) (β : ℕ → ℕ → ℕ → ℝ) : k0_pay12 (F := Ideal) (k0_pay11 (F := Ideal) (L2 u)) (L3 β)
    = L2 fun i j => ∑ k : Fin 128, u i (256 + k.val) * β 0 k.val j := by
  funext i; idx_vars i
  pointwise [k0_pay12, k0_pay11, k0_pay4, L2_apply, L3_apply]
  norm_cast
theorem pay13 (u : ℕ → ℕ → ℝ) (β : ℕ → ℕ → ℕ → ℝ) : k0_pay13 (F := Ideal) (k0_pay11 (F := Ideal) (L2 u)) (L3 β)
    = L2 fun i j => ∑ k : Fin 128, u i (256 + k.val) * β 0 k.val j := by
  funext i; idx_vars i
  pointwise [k0_pay13, k0_pay11, k0_pay4, L2_apply, L3_apply]
  norm_cast
theorem pay15 (u : ℕ → ℕ → ℝ) (β : ℕ → ℕ → ℕ → ℝ) : k0_pay15 (F := Ideal) (k0_pay4 (F := Ideal) (L2 u)) (L3 β)
    = L2 fun i j => ∑ k : Fin 128, u i (384 + k.val) * β 0 k.val j := by
  funext i; idx_vars i
  pointwise [k0_pay15, k0_pay14, k0_pay4, L2_apply, L3_apply]
  norm_cast
theorem pay16 (u : ℕ → ℕ → ℝ) (β : ℕ → ℕ → ℕ → ℝ) : k0_pay16 (F := Ideal) (k0_pay4 (F := Ideal) (L2 u)) (L3 β)
    = L2 fun i j => ∑ k : Fin 128, u i (384 + k.val) * β 0 k.val j := by
  funext i; idx_vars i
  pointwise [k0_pay16, k0_pay14, k0_pay4, L2_apply, L3_apply]
  norm_cast
theorem pay17 (f : ℕ → ℕ → ℝ) : k0_pay17 (F := Ideal) (L2 f) = L2 fun _ j => f 0 j := by
  funext i; idx_vars i
  pointwise [k0_pay17, L2_apply]
theorem pay18 (f : ℕ → ℕ → ℝ) : k0_pay18 (F := Ideal) (L2 f) = L2 fun _ j => f 0 j := by
  funext i; idx_vars i
  pointwise [k0_pay18, L2_apply]
theorem pay19 (f : ℕ → ℕ → ℝ) : k0_pay19 (F := Ideal) (L2 f) = L2 f := by
  funext i; idx_vars i
  pointwise [k0_pay19, L2_apply]
theorem pay20 (f : ℕ → ℕ → ℝ) : k0_pay20 (F := Ideal) (L2 f) = L2 f := by
  funext i; idx_vars i
  pointwise [k0_pay20, L2_apply]
theorem pay25 (f : ℕ → ℕ → ℝ) : k0_pay25 (F := Ideal) (L2 f) = L2 f := by
  funext i; idx_vars i
  pointwise [k0_pay25, L2_apply]
theorem pay26 (f : ℕ → ℕ → ℝ) : k0_pay26 (F := Ideal) (L2 f) = L2 f := by
  funext i; idx_vars i
  pointwise [k0_pay26, L2_apply]

/-! ## The chain of carried states -/

/-- The real parts of a row. -/
def re1 (z : ℕ → ℂ) : ℕ → ℕ → ℝ := fun _ j => (z j).re
/-- The imaginary parts of a row. -/
def im1 (z : ℕ → ℂ) : ℕ → ℕ → ℝ := fun _ j => (z j).im
/-- The carried state after one more segment. -/
def cstep (a κ e : ℕ → ℂ) : ℕ → ℂ := fun j => e j + a j * κ j

theorem re_c (a κ e : ℕ → ℂ) (i j : ℕ) : re1 e i j + re1 a i j * re1 κ i j - im1 a i j * im1 κ i j = re1 (cstep a κ e) i j := by
  simp [re1, im1, cstep, add_sub_assoc]
theorem im_c (a κ e : ℕ → ℂ) (i j : ℕ) : im1 e i j + re1 a i j * im1 κ i j + im1 a i j * re1 κ i j = im1 (cstep a κ e) i j := by
  simp [re1, im1, cstep, add_assoc]

variable (a κ e e' e'' : ℕ → ℂ)

theorem pay31 : k0_pay31 (F := Ideal) (L2 (re1 a)) (L2 (im1 a)) (L2 (re1 κ)) (L2 (im1 κ)) (L2 (re1 e))
    = L2 (re1 (cstep a κ e)) := by
  simp only [k0_pay31]
  funext i; idx_vars i
  pointwise [L2_apply]
  norm_cast
  exact re_c _ _ _ _ _
theorem pay32 : k0_pay32 (F := Ideal) (L2 (re1 a)) (L2 (im1 a)) (L2 (re1 κ)) (L2 (im1 κ)) (L2 (im1 e))
    = L2 (im1 (cstep a κ e)) := by
  simp only [k0_pay32]
  funext i; idx_vars i
  pointwise [L2_apply]
  norm_cast
  exact im_c _ _ _ _ _
theorem pay33 : k0_pay33 (F := Ideal) (L2 (re1 a)) (L2 (im1 a)) (L2 (re1 κ)) (L2 (im1 κ)) (L2 (re1 e)) (L2 (im1 e)) (L2 (re1 e'))
    = L2 (re1 (cstep a (cstep a κ e) e')) := by
  simp only [k0_pay33, pay31, pay32]
  funext i; idx_vars i
  pointwise [L2_apply]
  norm_cast
  exact re_c _ _ _ _ _
theorem pay34 : k0_pay34 (F := Ideal) (L2 (re1 a)) (L2 (im1 a)) (L2 (re1 κ)) (L2 (im1 κ)) (L2 (re1 e)) (L2 (im1 e)) (L2 (im1 e'))
    = L2 (im1 (cstep a (cstep a κ e) e')) := by
  simp only [k0_pay34, pay31, pay32]
  funext i; idx_vars i
  pointwise [L2_apply]
  norm_cast
  exact im_c _ _ _ _ _
theorem pay35 : k0_pay35 (F := Ideal) (L2 (re1 a)) (L2 (im1 a)) (L2 (re1 κ)) (L2 (im1 κ)) (L2 (re1 e)) (L2 (im1 e)) (L2 (re1 e')) (L2 (im1 e')) (L2 (re1 e''))
    = L2 (re1 (cstep a (cstep a (cstep a κ e) e') e'')) := by
  simp only [k0_pay35, pay33, pay34]
  funext i; idx_vars i
  pointwise [L2_apply]
  norm_cast
  exact re_c _ _ _ _ _
theorem pay38 : k0_pay38 (F := Ideal) (k0_pay36 (F := Ideal) (L2 (re1 a)) (L2 (im1 a)) (L2 (re1 κ)) (L2 (im1 κ)) (L2 (re1 e)) (L2 (im1 e)) (L2 (im1 e')) (L2 (im1 e''))) (k0_pay37 (F := Ideal) (L2 (re1 a)) (L2 (im1 a)) (L2 (re1 κ)) (L2 (im1 κ)) (L2 (re1 e)) (L2 (im1 e)) (L2 (re1 e')))
    = L2 (im1 (cstep a (cstep a (cstep a κ e) e') e'')) := by
  simp only [k0_pay38, k0_pay36, k0_pay37, pay33, pay34]
  funext i; idx_vars i
  pointwise [L2_apply]
  norm_cast
  exact im_c _ _ _ _ _
theorem pay39 (x y : FVec Ideal S1x2048 .f32) (h : k0_pay38 (F := Ideal) x y = L2 (im1 κ)) : k0_pay39 (F := Ideal) (L2 (re1 a)) (L2 (im1 a)) (L2 (re1 κ)) x y (L2 (re1 e))
    = L2 (re1 (cstep a κ e)) := by
  simp only [k0_pay39, h]
  funext i; idx_vars i
  pointwise [L2_apply]
  norm_cast
  exact re_c _ _ _ _ _
theorem pay40 (x y : FVec Ideal S1x2048 .f32) (h : k0_pay38 (F := Ideal) x y = L2 (im1 κ)) : k0_pay40 (F := Ideal) (L2 (re1 a)) (L2 (im1 a)) (L2 (re1 κ)) x y (L2 (im1 e))
    = L2 (im1 (cstep a κ e)) := by
  simp only [k0_pay40, h]
  funext i; idx_vars i
  pointwise [L2_apply]
  norm_cast
  exact im_c _ _ _ _ _
theorem pay41 (x y : FVec Ideal S1x2048 .f32) (h : k0_pay38 (F := Ideal) x y = L2 (im1 κ)) : k0_pay41 (F := Ideal) (L2 (re1 a)) (L2 (im1 a)) (L2 (re1 κ)) x y (L2 (re1 e)) (L2 (im1 e)) (L2 (re1 e'))
    = L2 (re1 (cstep a (cstep a κ e) e')) := by
  simp only [k0_pay41, pay39 a κ e x y h, pay40 a κ e x y h]
  funext i; idx_vars i
  pointwise [L2_apply]
  norm_cast
  exact re_c _ _ _ _ _
theorem pay42 (x y : FVec Ideal S1x2048 .f32) (h : k0_pay38 (F := Ideal) x y = L2 (im1 κ)) : k0_pay42 (F := Ideal) (L2 (re1 a)) (L2 (im1 a)) (L2 (re1 κ)) x y (L2 (re1 e)) (L2 (im1 e)) (L2 (im1 e'))
    = L2 (im1 (cstep a (cstep a κ e) e')) := by
  simp only [k0_pay42, pay39 a κ e x y h, pay40 a κ e x y h]
  funext i; idx_vars i
  pointwise [L2_apply]
  norm_cast
  exact im_c _ _ _ _ _
theorem pay43 : k0_pay43 (F := Ideal) (L2 (re1 a)) (L2 (im1 a)) (L2 (re1 κ)) (L2 (im1 κ)) (L2 (re1 e))
    = L2 (re1 (cstep a κ e)) := by
  simp only [k0_pay43]
  funext i; idx_vars i
  pointwise [L2_apply]
  norm_cast
  exact re_c _ _ _ _ _
theorem pay44 : k0_pay44 (F := Ideal) (L2 (re1 a)) (L2 (im1 a)) (L2 (re1 κ)) (L2 (im1 κ)) (L2 (im1 e))
    = L2 (im1 (cstep a κ e)) := by
  simp only [k0_pay44]
  funext i; idx_vars i
  pointwise [L2_apply]
  norm_cast
  exact im_c _ _ _ _ _
theorem pay45 : k0_pay45 (F := Ideal) (L2 (re1 a)) (L2 (im1 a)) (L2 (re1 κ)) (L2 (im1 κ)) (L2 (re1 e)) (L2 (im1 e)) (L2 (re1 e'))
    = L2 (re1 (cstep a (cstep a κ e) e')) := by
  simp only [k0_pay45, pay43, pay44]
  funext i; idx_vars i
  pointwise [L2_apply]
  norm_cast
  exact re_c _ _ _ _ _
theorem pay46 : k0_pay46 (F := Ideal) (L2 (re1 a)) (L2 (im1 a)) (L2 (re1 κ)) (L2 (im1 κ)) (L2 (re1 e)) (L2 (im1 e)) (L2 (im1 e'))
    = L2 (im1 (cstep a (cstep a κ e) e')) := by
  simp only [k0_pay46, pay43, pay44]
  funext i; idx_vars i
  pointwise [L2_apply]
  norm_cast
  exact im_c _ _ _ _ _
theorem pay47 : k0_pay47 (F := Ideal) (L2 (re1 a)) (L2 (im1 a)) (L2 (re1 κ)) (L2 (im1 κ)) (L2 (re1 e)) (L2 (im1 e)) (L2 (re1 e')) (L2 (im1 e')) (L2 (re1 e''))
    = L2 (re1 (cstep a (cstep a (cstep a κ e) e') e'')) := by
  simp only [k0_pay47, pay45, pay46]
  funext i; idx_vars i
  pointwise [L2_apply]
  norm_cast
  exact re_c _ _ _ _ _
theorem pay51 : k0_pay51 (F := Ideal) (k0_pay48 (F := Ideal) (L2 (re1 a)) (L2 (im1 a)) (L2 (re1 κ)) (L2 (im1 κ)) (L2 (re1 e)) (L2 (im1 e)) (L2 (im1 e')) (L2 (im1 e''))) (k0_pay49 (F := Ideal) (L2 (re1 a)) (L2 (im1 a)) (L2 (re1 κ)) (L2 (im1 κ)) (L2 (re1 e)) (L2 (im1 e)) (L2 (re1 e')))
    = L2 (im1 (cstep a (cstep a (cstep a κ e) e') e'')) := by
  simp only [k0_pay51, k0_pay48, k0_pay49, pay45, pay46]
  funext i; idx_vars i
  pointwise [L2_apply]
  norm_cast
  exact im_c _ _ _ _ _
theorem pay29 (f : ℕ → ℕ → ℝ) : k0_pay29 (F := Ideal) (L2 f) = L2 f := by
  funext i; idx_vars i
  pointwise [k0_pay29, L2_apply]
theorem pay30 (f : ℕ → ℕ → ℝ) : k0_pay30 (F := Ideal) (L2 f) = L2 f := by
  funext i; idx_vars i
  pointwise [k0_pay30, L2_apply]
theorem pay50 (f : ℕ → ℕ → ℝ) : k0_pay50 (F := Ideal) (L2 f) = L2 f := by
  funext i; idx_vars i
  pointwise [k0_pay50, L2_apply]

/-! ## The layer's output -/

/-- One block of columns of the state's product with the output map. -/
def yb (s : ℕ → ℕ → ℂ) (Cr Ci : Vec Ideal S1x512x128 .bf16) (i j : ℕ) (h : j < 128) : EReal :=
  ∑ k : Fin 512, (((s i k.val).re : ℝ) : EReal) * Cr (ix3 0 k ⟨j, h⟩) - ∑ k : Fin 512, (((s i k.val).im : ℝ) : EReal) * Ci (ix3 0 k ⟨j, h⟩)

/-- The real parts of a matrix. -/
def re2 (z : ℕ → ℕ → ℂ) : ℕ → ℕ → ℝ := fun i j => (z i j).re
/-- The imaginary parts of a matrix. -/
def im2 (z : ℕ → ℕ → ℂ) : ℕ → ℕ → ℝ := fun i j => (z i j).im

theorem pay66 (s : ℕ → ℕ → ℂ) (Cr Ci) (i : Fin 512) (j : Fin 128) :
    k0_pay66 (F := Ideal) (k0_pay64 (F := Ideal) (L2 (im2 s))) (k0_pay65 (F := Ideal) (L2 (re2 s)) Cr) Ci (ix2 i j) = yb s Cr Ci i.val j.val j.isLt := by
  pointwise [k0_pay66, k0_pay64, k0_pay65, L2_apply]
  rfl
theorem pay67 (s : ℕ → ℕ → ℂ) (Cr Ci) (i : Fin 512) (j : Fin 128) :
    k0_pay67 (F := Ideal) (L2 (re2 s)) (L2 (im2 s)) Cr Ci (ix2 i j) = yb s Cr Ci i.val j.val j.isLt := by
  pointwise [k0_pay67, L2_apply]
  rfl
theorem pay68 (s : ℕ → ℕ → ℂ) (Cr Ci) (i : Fin 512) (j : Fin 128) :
    k0_pay68 (F := Ideal) (L2 (re2 s)) (L2 (im2 s)) Cr Ci (ix2 i j) = yb s Cr Ci i.val j.val j.isLt := by
  pointwise [k0_pay68, L2_apply]
  rfl
/-- Block `q` of the output map. -/
def cb (C : Vec Ideal S4x512x128 .bf16) (q : Fin 4) : Vec Ideal S1x512x128 .bf16 := fun x => C (ix3 q (x 1) (x 2))
/-- The block `q` of the states' columns. -/
def shl (S : ℕ → ℕ → ℂ) (q : ℕ) : ℕ → ℕ → ℂ := fun i k => S i (512 * q + k)

/-- The layer's output before its gate. -/
def yv (S : ℕ → ℕ → ℂ) (Cr Ci : Vec Ideal S4x512x128 .bf16) (u : ℕ → ℕ → ℝ) (d : Vec Ideal S1x512 .f32) (i j : Fin 512) : EReal :=
  (∑ k : Fin 512, (((S i.val (512 * (j.val / 128) + k.val)).re : ℝ) : EReal) * Cr (ix3 ⟨j.val / 128, by omega⟩ k ⟨j.val % 128, by omega⟩)
    - ∑ k : Fin 512, (((S i.val (512 * (j.val / 128) + k.val)).im : ℝ) : EReal) * Ci (ix3 ⟨j.val / 128, by omega⟩ k ⟨j.val % 128, by omega⟩))
  + d (ix2 0 j) * ((u i.val j.val : ℝ) : EReal)

theorem yb_eq (S : ℕ → ℕ → ℂ) (Cr Ci : Vec Ideal S4x512x128 .bf16) (i j : Fin 512) (q : Fin 4) (r : ℕ) (h : r < 128) (hj : j.val = 128 * q.val + r) :
    yb (shl S q.val) (cb Cr q) (cb Ci q) i.val r h
    = ∑ k : Fin 512, (((S i.val (512 * (j.val / 128) + k.val)).re : ℝ) : EReal) * Cr (ix3 ⟨j.val / 128, by omega⟩ k ⟨j.val % 128, by omega⟩)
    - ∑ k : Fin 512, (((S i.val (512 * (j.val / 128) + k.val)).im : ℝ) : EReal) * Ci (ix3 ⟨j.val / 128, by omega⟩ k ⟨j.val % 128, by omega⟩) := by
  have h1 : j.val / 128 = q.val := by omega
  have h2 : j.val % 128 = r := by omega
  simp only [h1, h2]
  rfl

theorem pay70 (u : ℕ → ℕ → ℝ) (S : ℕ → ℕ → ℂ) (Cr Ci : Vec Ideal S4x512x128 .bf16) (d : Vec Ideal S1x512 .f32) (i j : Fin 512) :
    k0_pay70 (F := Ideal) (k0_pay4 (F := Ideal) (L2 u))
      (k0_pay66 (F := Ideal) (k0_pay64 (F := Ideal) (L2 (im2 (shl S 0)))) (k0_pay65 (F := Ideal) (L2 (re2 (shl S 0))) (cb Cr 0)) (cb Ci 0))
      (k0_pay67 (F := Ideal) (L2 (re2 (shl S 1))) (L2 (im2 (shl S 1))) (cb Cr 1) (cb Ci 1))
      (k0_pay68 (F := Ideal) (L2 (re2 (shl S 2))) (L2 (im2 (shl S 2))) (cb Cr 2) (cb Ci 2))
      (k0_pay69 (F := Ideal) (L2 (re2 (shl S 3)))) (L2 (im2 (shl S 3))) (cb Cr 3) (cb Ci 3) d (ix2 i j)
    = yv S Cr Ci u d i j := by
  have e0 := fun h => yb_eq S Cr Ci i j 0 j.val h (by simp)
  have e1 := fun h g => yb_eq S Cr Ci i j 1 (j.val - 128) h g
  have e2 := fun h g => yb_eq S Cr Ci i j 2 (j.val - 128 - 128) h g
  have e3 := fun h g => yb_eq S Cr Ci i j 3 (j.val - 128 - 128 - 128) h g
  rw [yv]
  generalize hT : (∑ k : Fin 512, (((S i.val (512 * (j.val / 128) + k.val)).re : ℝ) : EReal) * Cr (ix3 ⟨j.val / 128, by omega⟩ k ⟨j.val % 128, by omega⟩)
    - ∑ k : Fin 512, (((S i.val (512 * (j.val / 128) + k.val)).im : ℝ) : EReal) * Ci (ix3 ⟨j.val / 128, by omega⟩ k ⟨j.val % 128, by omega⟩)) = T at *
  pointwise [k0_pay70, k0_pay69, k0_pay4, L2_apply]
  refine congrArg (fun v : EReal => v + _) ?_
  by_cases h : j.val < 128
  · rw [dif_pos h, pay66]
    exact e0 h
  · rw [dif_neg h]
    by_cases h1 : j.val - 128 < 128
    · rw [dif_pos h1, pay67]
      exact e1 h1 (by change j.val = 128 * 1 + _; omega)
    · rw [dif_neg h1]
      by_cases h2 : j.val - 128 - 128 < 128
      · rw [dif_pos h2, pay68]
        exact e2 h2 (by change j.val = 128 * 2 + _; omega)
      · rw [dif_neg h2]
        exact e3 (by omega) (by change j.val = 128 * 3 + _; omega)

/-- The smooth gate of the layer, by its hyperbolic tangent. -/
def gel (y : EReal) : EReal := Ideal.ofBits .f32 0x3F000000#32 * y
  * (Ideal.ofBits .f32 0x3F800000#32 + Ideal.tanh (Ideal.ofBits .f32 0x3F4C422A#32 * (y + Ideal.ofBits .f32 0x3D372713#32 * y * y * y)))
/-- The logistic function by the hyperbolic tangent of half its argument. -/
def lgs (x : EReal) : EReal := Ideal.ofBits .f32 0x3F000000#32 * Ideal.tanh (Ideal.ofBits .f32 0x3F000000#32 * x) + Ideal.ofBits .f32 0x3F000000#32

theorem pay71 (v4 v215 v228 v241 v243 v245 v248 v251 v256) (i : S512x512.Idx) :
    k0_pay71 (F := Ideal) v4 v215 v228 v241 v243 v245 v248 v251 v256 i = gel (k0_pay70 (F := Ideal) v4 v215 v228 v241 v243 v245 v248 v251 v256 i) := rfl
theorem pay72 (v4 v215 v228 v241 v243 v245 v248 v251 v256) (w : Vec Ideal S512x512 .bf16) (i j : Fin 512) :
    k0_pay72 (F := Ideal) v4 v215 v228 v241 v243 v245 v248 v251 v256 w (ix2 i j)
    = ∑ k : Fin 512, gel (k0_pay70 (F := Ideal) v4 v215 v228 v241 v243 v245 v248 v251 v256 (ix2 i k)) * w (ix2 k j) := by
  simp only [k0_pay72, ← pay71]
  generalize k0_pay71 (F := Ideal) v4 v215 v228 v241 v243 v245 v248 v251 v256 = Y
  pointwise []
theorem pay1 (y g : FVec Ideal S512x512 .f32) (b : Vec Ideal S1x512 .f32) (z : Vec Ideal S512x512 .bf16) (i j : Fin 512) :
    k0_pay1 (F := Ideal) y g b z (ix2 i j) = y (ix2 i j) * lgs (g (ix2 i j) + b (ix2 0 j)) * (z (ix2 i j) * lgs (z (ix2 i j))) := by
  pointwise [k0_pay1]
  rfl

end Cert.SsmPay
end
-- ==== Proof.Ssm.Stage.lean ====
/- The stages of the forward scan's body at one grid point, named. -/
module

public import proofs.«01_k».proof.Proof.Ssm.Pay
public import Idealize.ShloMosaic.Lib.Pipeline.ReadBack
public import Idealize.ShloMosaic.Lib.WritesUnit

@[expose] public section

set_option maxRecDepth 16384

noncomputable section

namespace Cert.SsmStage

open Idealize.ShloMosaic Idealize.ShloMosaic.TcCoe Idealize.SL.Sem Cert.SsmIdeal Cert.SsmIdeal.Gen Cert.Lift

variable (m : (ℓ : Loc nD τ sig) → Buf (Elt Ideal) ℓ) (c : Dev nD) (t : Fin cfg0.N) (pr pi : Vec Ideal S1x2048 .f32)

/-- A core's kind of memory. -/
abbrev K : Kind := Proc.kind (Proc.tc (τ := τ))
/-- A memory's contents after stores. -/
abbrev wr {s : Shape} (M : Memref sig K .vmem s .f32) (L : List (View.Piece (Elt Ideal) s .f32)) :=
  @View.writes sig K .vmem s .f32 (@Memref.view sig K .vmem s .f32 M) (Elt Ideal) (@View.junk sig K .vmem s .f32 (Elt Ideal) _ (@Memref.view sig K .vmem s .f32 M)) L
/-- What a load reads after stores. -/
abbrev rcv {s : Shape} (M : Memref sig K .vmem s .f32) (L : List (View.Piece (Elt Ideal) s .f32)) (r : LoadRect s) :=
  @View.readCov sig K .vmem s .f32 (Elt Ideal) _ (@Memref.view sig K .vmem s .f32 M) L r
/-- A list of stores into a block of states. -/
abbrev Pieces := List (View.Piece (Elt Ideal) S512x2048 .f32)
/-- A list of stores into a block of carried states. -/
abbrev Rows := List (View.Piece (Elt Ideal) S8x2048 .f32)

/-- The stores of the products that enter the scan. -/
abbrev D15 : Pieces :=
  [⟨Rect.unit ![0, 1536] ![512, 512] (by decide), k0_pay15 (F := Ideal) (k0_pay4 (F := Ideal) (iblk m c 0 t)) (View.ld (Val := Elt Ideal) (S := S4x128x512) (e' := .bf16) (iblk m c 2 t) (Rect.unit (s := S4x128x512) ![3, 0, 0] ![1, 128, 512] (by decide)))⟩,
   ⟨Rect.unit ![0, 1024] ![512, 512] (by decide), k0_pay12 (F := Ideal) (k0_pay11 (F := Ideal) (iblk m c 0 t)) (View.ld (Val := Elt Ideal) (S := S4x128x512) (e' := .bf16) (iblk m c 2 t) (Rect.unit (s := S4x128x512) ![2, 0, 0] ![1, 128, 512] (by decide)))⟩,
   ⟨Rect.unit ![0, 512] ![512, 512] (by decide), k0_pay9 (F := Ideal) (iblk m c 0 t) (View.ld (Val := Elt Ideal) (S := S4x128x512) (e' := .bf16) (iblk m c 2 t) (Rect.unit (s := S4x128x512) ![1, 0, 0] ![1, 128, 512] (by decide)))⟩,
   ⟨Rect.unit ![0, 0] ![512, 512] (by decide), k0_pay6 (F := Ideal) (iblk m c 0 t) (View.ld (Val := Elt Ideal) (S := S4x128x512) (e' := .bf16) (iblk m c 2 t) (Rect.unit (s := S4x128x512) ![0, 0, 0] ![1, 128, 512] (by decide)))⟩]
/-- The stores of the products that enter the scan. -/
abbrev D16 : Pieces :=
  [⟨Rect.unit ![0, 1536] ![512, 512] (by decide), k0_pay16 (F := Ideal) (k0_pay4 (F := Ideal) (iblk m c 0 t)) (View.ld (Val := Elt Ideal) (S := S4x128x512) (e' := .bf16) (iblk m c 3 t) (Rect.unit (s := S4x128x512) ![3, 0, 0] ![1, 128, 512] (by decide)))⟩,
   ⟨Rect.unit ![0, 1024] ![512, 512] (by decide), k0_pay13 (F := Ideal) (k0_pay11 (F := Ideal) (iblk m c 0 t)) (View.ld (Val := Elt Ideal) (S := S4x128x512) (e' := .bf16) (iblk m c 3 t) (Rect.unit (s := S4x128x512) ![2, 0, 0] ![1, 128, 512] (by decide)))⟩,
   ⟨Rect.unit ![0, 512] ![512, 512] (by decide), k0_pay10 (F := Ideal) (iblk m c 0 t) (View.ld (Val := Elt Ideal) (S := S4x128x512) (e' := .bf16) (iblk m c 3 t) (Rect.unit (s := S4x128x512) ![1, 0, 0] ![1, 128, 512] (by decide)))⟩,
   ⟨Rect.unit ![0, 0] ![512, 512] (by decide), k0_pay7 (F := Ideal) (iblk m c 0 t) (View.ld (Val := Elt Ideal) (S := S4x128x512) (e' := .bf16) (iblk m c 3 t) (Rect.unit (s := S4x128x512) ![0, 0, 0] ![1, 128, 512] (by decide)))⟩]
/-- The scan of the first half of the columns. -/
def S1 := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (k0_pay17 (F := Ideal) (View.ld (Val := Elt Ideal) (S := S1x2048) (e' := .f32) (iblk m c 6 t) (Rect.unit (s := S1x2048) ![0, 0] ![1, 1024] (by decide)))) (k0_pay18 (F := Ideal) (View.ld (Val := Elt Ideal) (S := S1x2048) (e' := .f32) (iblk m c 7 t) (Rect.unit (s := S1x2048) ![0, 0] ![1, 1024] (by decide)))) (k0_pay19 (F := Ideal) (rcv (ms0_15 t) (D15 m c t) (Rect.unit (s := S512x2048) ![0, 0] ![8, 1024] (by decide)).toLoadRect)) (wr (ms0_15 t) (D15 m c t)) (wr (ms0_16 t) (D16 m c t)) (k0_pay19 (F := Ideal) (rcv (ms0_15 t) (D15 m c t) (Rect.unit (s := S512x2048) ![0, 0] ![8, 1024] (by decide)).toLoadRect), k0_pay20 (F := Ideal) (rcv (ms0_16 t) (D16 m c t) (Rect.unit (s := S512x2048) ![0, 0] ![8, 1024] (by decide)).toLoadRect)) (Scf.trips 1#32 (Scalar.addi 1#32 63#32) 1#32)
/-- The real parts after the first half. -/
abbrev E15 : Pieces := (S1 m c t).2.1 ++ D15 m c t
/-- The imaginary parts after the first half. -/
abbrev E16 : Pieces := (S1 m c t).2.2 ++ D16 m c t
/-- The scan of the second half of the columns. -/
def S2 := st_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (k0_pay17 (F := Ideal) (View.ld (Val := Elt Ideal) (S := S1x2048) (e' := .f32) (iblk m c 6 t) (Rect.unit (s := S1x2048) ![0, 0] ![1, 1024] (by decide)))) (k0_pay18 (F := Ideal) (View.ld (Val := Elt Ideal) (S := S1x2048) (e' := .f32) (iblk m c 7 t) (Rect.unit (s := S1x2048) ![0, 0] ![1, 1024] (by decide)))) (k0_pay19 (F := Ideal) (rcv (ms0_15 t) (D15 m c t) (Rect.unit (s := S512x2048) ![0, 0] ![8, 1024] (by decide)).toLoadRect)) (View.ld (Val := Elt Ideal) (S := S1x2048) (e' := .f32) (iblk m c 6 t) (Rect.unit (s := S1x2048) ![0, 1024] ![1, 1024] (by decide))) (View.ld (Val := Elt Ideal) (S := S1x2048) (e' := .f32) (iblk m c 7 t) (Rect.unit (s := S1x2048) ![0, 1024] ![1, 1024] (by decide))) (wr (ms0_15 t) (E15 m c t)) (wr (ms0_16 t) (E16 m c t)) (k0_pay25 (F := Ideal) (View.ld (Val := Elt Ideal) (S := S512x2048) (e' := .f32) (View.canon (E15 m c t)) (Rect.unit (s := S512x2048) ![0, 1024] ![8, 1024] (by decide))), k0_pay26 (F := Ideal) (View.ld (Val := Elt Ideal) (S := S512x2048) (e' := .f32) (View.canon (E16 m c t)) (Rect.unit (s := S512x2048) ![0, 1024] ![8, 1024] (by decide)))) (Scf.trips 1#32 (Scalar.addi 1#32 63#32) 1#32)
/-- The real parts after both halves. -/
abbrev L15 : Pieces := (S2 m c t).2.1 ++ E15 m c t
/-- The imaginary parts after both halves. -/
abbrev L16 : Pieces := (S2 m c t).2.2 ++ E16 m c t
/-- The real part of the power that carries a state over a whole segment. -/
def A := k0_pay29 (F := Ideal) (View.ld (Val := Elt Ideal) (S := S64x2048) (e' := .f32) (iblk m c 8 t) (Rect.unit (s := S64x2048) ![63, 0] ![1, 2048] (by decide)))
/-- The imaginary part of that power. -/
def B := k0_pay30 (F := Ideal) (View.ld (Val := Elt Ideal) (S := S64x2048) (e' := .f32) (iblk m c 9 t) (Rect.unit (s := S64x2048) ![63, 0] ![1, 2048] (by decide)))
/-- The end of segment 0, real part. -/
abbrev er0 : Vec Ideal S1x2048 .f32 := (View.ld (Val := Elt Ideal) (S := S512x2048) (e' := .f32) (View.canon (L15 m c t)) (Rect.unit (s := S512x2048) ![504, 0] ![1, 2048] (by decide)))
/-- The end of segment 0, imaginary part. -/
abbrev ei0 : Vec Ideal S1x2048 .f32 := (View.ld (Val := Elt Ideal) (S := S512x2048) (e' := .f32) (View.canon (L16 m c t)) (Rect.unit (s := S512x2048) ![504, 0] ![1, 2048] (by decide)))
/-- The end of segment 1, real part. -/
abbrev er1 : Vec Ideal S1x2048 .f32 := (View.ld (Val := Elt Ideal) (S := S512x2048) (e' := .f32) (View.canon (L15 m c t)) (Rect.unit (s := S512x2048) ![505, 0] ![1, 2048] (by decide)))
/-- The end of segment 1, imaginary part. -/
abbrev ei1 : Vec Ideal S1x2048 .f32 := (View.ld (Val := Elt Ideal) (S := S512x2048) (e' := .f32) (View.canon (L16 m c t)) (Rect.unit (s := S512x2048) ![505, 0] ![1, 2048] (by decide)))
/-- The end of segment 2, real part. -/
abbrev er2 : Vec Ideal S1x2048 .f32 := (View.ld (Val := Elt Ideal) (S := S512x2048) (e' := .f32) (View.canon (L15 m c t)) (Rect.unit (s := S512x2048) ![506, 0] ![1, 2048] (by decide)))
/-- The end of segment 2, imaginary part. -/
abbrev ei2 : Vec Ideal S1x2048 .f32 := (View.ld (Val := Elt Ideal) (S := S512x2048) (e' := .f32) (View.canon (L16 m c t)) (Rect.unit (s := S512x2048) ![506, 0] ![1, 2048] (by decide)))
/-- The end of segment 3, real part. -/
abbrev er3 : Vec Ideal S1x2048 .f32 := (View.ld (Val := Elt Ideal) (S := S512x2048) (e' := .f32) (View.canon (L15 m c t)) (Rect.unit (s := S512x2048) ![507, 0] ![1, 2048] (by decide)))
/-- The end of segment 3, imaginary part. -/
abbrev ei3 : Vec Ideal S1x2048 .f32 := (View.ld (Val := Elt Ideal) (S := S512x2048) (e' := .f32) (View.canon (L16 m c t)) (Rect.unit (s := S512x2048) ![507, 0] ![1, 2048] (by decide)))
/-- The end of segment 4, real part. -/
abbrev er4 : Vec Ideal S1x2048 .f32 := (View.ld (Val := Elt Ideal) (S := S512x2048) (e' := .f32) (View.canon (L15 m c t)) (Rect.unit (s := S512x2048) ![508, 0] ![1, 2048] (by decide)))
/-- The end of segment 4, imaginary part. -/
abbrev ei4 : Vec Ideal S1x2048 .f32 := (View.ld (Val := Elt Ideal) (S := S512x2048) (e' := .f32) (View.canon (L16 m c t)) (Rect.unit (s := S512x2048) ![508, 0] ![1, 2048] (by decide)))
/-- The end of segment 5, real part. -/
abbrev er5 : Vec Ideal S1x2048 .f32 := (View.ld (Val := Elt Ideal) (S := S512x2048) (e' := .f32) (View.canon (L15 m c t)) (Rect.unit (s := S512x2048) ![509, 0] ![1, 2048] (by decide)))
/-- The end of segment 5, imaginary part. -/
abbrev ei5 : Vec Ideal S1x2048 .f32 := (View.ld (Val := Elt Ideal) (S := S512x2048) (e' := .f32) (View.canon (L16 m c t)) (Rect.unit (s := S512x2048) ![509, 0] ![1, 2048] (by decide)))
/-- The end of segment 6, real part. -/
abbrev er6 : Vec Ideal S1x2048 .f32 := (View.ld (Val := Elt Ideal) (S := S512x2048) (e' := .f32) (View.canon (L15 m c t)) (Rect.unit (s := S512x2048) ![510, 0] ![1, 2048] (by decide)))
/-- The end of segment 6, imaginary part. -/
abbrev ei6 : Vec Ideal S1x2048 .f32 := (View.ld (Val := Elt Ideal) (S := S512x2048) (e' := .f32) (View.canon (L16 m c t)) (Rect.unit (s := S512x2048) ![510, 0] ![1, 2048] (by decide)))
/-- The end of segment 7, real part. -/
abbrev er7 : Vec Ideal S1x2048 .f32 := (View.ld (Val := Elt Ideal) (S := S512x2048) (e' := .f32) (View.canon (L15 m c t)) (Rect.unit (s := S512x2048) ![511, 0] ![1, 2048] (by decide)))
/-- The end of segment 7, imaginary part. -/
abbrev ei7 : Vec Ideal S1x2048 .f32 := (View.ld (Val := Elt Ideal) (S := S512x2048) (e' := .f32) (View.canon (L16 m c t)) (Rect.unit (s := S512x2048) ![511, 0] ![1, 2048] (by decide)))
/-- A stage of the chain of carried states. -/
def x41 := k0_pay35 (F := Ideal) (A m c t) (B m c t) pr pi (er0 m c t) (ei0 m c t) (er1 m c t) (ei1 m c t) (er2 m c t)
/-- A stage of the chain of carried states. -/
def x42 := k0_pay36 (F := Ideal) (A m c t) (B m c t) pr pi (er0 m c t) (ei0 m c t) (ei1 m c t) (ei2 m c t)
/-- A stage of the chain of carried states. -/
def x43 := k0_pay37 (F := Ideal) (A m c t) (B m c t) pr pi (er0 m c t) (ei0 m c t) (er1 m c t)
/-- A stage of the chain of carried states. -/
def x46 := k0_pay41 (F := Ideal) (A m c t) (B m c t) (x41 m c t pr pi) (x42 m c t pr pi) (x43 m c t pr pi) (er3 m c t) (ei3 m c t) (er4 m c t)
/-- A stage of the chain of carried states. -/
def x47 := k0_pay42 (F := Ideal) (A m c t) (B m c t) (x41 m c t pr pi) (x42 m c t pr pi) (x43 m c t pr pi) (er3 m c t) (ei3 m c t) (ei4 m c t)
/-- A stage of the chain of carried states. -/
def x51 := k0_pay47 (F := Ideal) (A m c t) (B m c t) (x46 m c t pr pi) (x47 m c t pr pi) (er5 m c t) (ei5 m c t) (er6 m c t) (ei6 m c t) (er7 m c t)
/-- A stage of the chain of carried states. -/
def x52 := k0_pay48 (F := Ideal) (A m c t) (B m c t) (x46 m c t pr pi) (x47 m c t pr pi) (er5 m c t) (ei5 m c t) (ei6 m c t) (ei7 m c t)
/-- A stage of the chain of carried states. -/
def x53 := k0_pay49 (F := Ideal) (A m c t) (B m c t) (x46 m c t pr pi) (x47 m c t pr pi) (er5 m c t) (ei5 m c t) (er6 m c t)
/-- The stores of the carried states, real parts. -/
abbrev L17 : Rows :=
  [⟨Rect.unit ![7, 0] ![1, 2048] (by decide), k0_pay45 (F := Ideal) (A m c t) (B m c t) (x46 m c t pr pi) (x47 m c t pr pi) (er5 m c t) (ei5 m c t) (er6 m c t)⟩,
   ⟨Rect.unit ![6, 0] ![1, 2048] (by decide), k0_pay43 (F := Ideal) (A m c t) (B m c t) (x46 m c t pr pi) (x47 m c t pr pi) (er5 m c t)⟩,
   ⟨Rect.unit ![5, 0] ![1, 2048] (by decide), (x46 m c t pr pi)⟩,
   ⟨Rect.unit ![4, 0] ![1, 2048] (by decide), k0_pay39 (F := Ideal) (A m c t) (B m c t) (x41 m c t pr pi) (x42 m c t pr pi) (x43 m c t pr pi) (er3 m c t)⟩,
   ⟨Rect.unit ![3, 0] ![1, 2048] (by decide), (x41 m c t pr pi)⟩,
   ⟨Rect.unit ![2, 0] ![1, 2048] (by decide), k0_pay33 (F := Ideal) (A m c t) (B m c t) pr pi (er0 m c t) (ei0 m c t) (er1 m c t)⟩,
   ⟨Rect.unit ![1, 0] ![1, 2048] (by decide), k0_pay31 (F := Ideal) (A m c t) (B m c t) pr pi (er0 m c t)⟩,
   ⟨Rect.unit ![0, 0] ![1, 2048] (by decide), pr⟩]
/-- The stores of the carried states, imaginary parts. -/
abbrev L18 : Rows :=
  [⟨Rect.unit ![7, 0] ![1, 2048] (by decide), k0_pay46 (F := Ideal) (A m c t) (B m c t) (x46 m c t pr pi) (x47 m c t pr pi) (er5 m c t) (ei5 m c t) (ei6 m c t)⟩,
   ⟨Rect.unit ![6, 0] ![1, 2048] (by decide), k0_pay44 (F := Ideal) (A m c t) (B m c t) (x46 m c t pr pi) (x47 m c t pr pi) (ei5 m c t)⟩,
   ⟨Rect.unit ![5, 0] ![1, 2048] (by decide), (x47 m c t pr pi)⟩,
   ⟨Rect.unit ![4, 0] ![1, 2048] (by decide), k0_pay40 (F := Ideal) (A m c t) (B m c t) (x41 m c t pr pi) (x42 m c t pr pi) (x43 m c t pr pi) (ei3 m c t)⟩,
   ⟨Rect.unit ![3, 0] ![1, 2048] (by decide), k0_pay38 (F := Ideal) (x42 m c t pr pi) (x43 m c t pr pi)⟩,
   ⟨Rect.unit ![2, 0] ![1, 2048] (by decide), k0_pay34 (F := Ideal) (A m c t) (B m c t) pr pi (er0 m c t) (ei0 m c t) (ei1 m c t)⟩,
   ⟨Rect.unit ![1, 0] ![1, 2048] (by decide), k0_pay32 (F := Ideal) (A m c t) (B m c t) pr pi (ei0 m c t)⟩,
   ⟨Rect.unit ![0, 0] ![1, 2048] (by decide), pi⟩]
/-- The carried states added in half of the columns. -/
def P3 := pb_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (x51 m c t pr pi) (x52 m c t pr pi) (x53 m c t pr pi) (rcv (ms0_17 t) (L17 m c t pr pi) (Rect.unit (s := S8x2048) ![0, 0] ![8, 1024] (by decide)).toLoadRect) (rcv (ms0_18 t) (L18 m c t pr pi) (Rect.unit (s := S8x2048) ![0, 0] ![8, 1024] (by decide)).toLoadRect) ((hs0_8 t).unread (iblk m c 8 t)) ((hs0_9 t).unread (iblk m c 9 t)) (wr (ms0_15 t) (L15 m c t)) (wr (ms0_16 t) (L16 m c t)) (Scf.trips 0#32 (Scalar.addi 0#32 64#32) 1#32)
/-- The real parts after the first half. -/
abbrev M15 : Pieces := (P3 m c t pr pi).1 ++ L15 m c t
/-- The imaginary parts after the first half. -/
abbrev M16 : Pieces := (P3 m c t pr pi).2 ++ L16 m c t
/-- The carried states added in half of the columns. -/
def P4 := pb_k0_t4 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) (x51 m c t pr pi) (x52 m c t pr pi) (x53 m c t pr pi) (rcv (ms0_17 t) (L17 m c t pr pi) (Rect.unit (s := S8x2048) ![0, 1024] ![8, 1024] (by decide)).toLoadRect) (rcv (ms0_18 t) (L18 m c t pr pi) (Rect.unit (s := S8x2048) ![0, 1024] ![8, 1024] (by decide)).toLoadRect) ((hs0_8 t).unread (iblk m c 8 t)) ((hs0_9 t).unread (iblk m c 9 t)) (wr (ms0_15 t) (M15 m c t pr pi)) (wr (ms0_16 t) (M16 m c t pr pi)) (Scf.trips 0#32 (Scalar.addi 0#32 64#32) 1#32)
/-- The real parts of the states, all stores. -/
abbrev N15 : Pieces := (P4 m c t pr pi).1 ++ M15 m c t pr pi
/-- The imaginary parts of the states, all stores. -/
abbrev N16 : Pieces := (P4 m c t pr pi).2 ++ M16 m c t pr pi
/-- The first block of columns of the output. -/
def y0 := k0_pay66 (F := Ideal) (k0_pay64 (F := Ideal) (rcv (ms0_16 t) (N16 m c t pr pi) (Rect.unit (s := S512x2048) ![0, 0] ![512, 512] (by decide)).toLoadRect)) (k0_pay65 (F := Ideal) (rcv (ms0_15 t) (N15 m c t pr pi) (Rect.unit (s := S512x2048) ![0, 0] ![512, 512] (by decide)).toLoadRect) (View.ld (Val := Elt Ideal) (S := S4x512x128) (e' := .bf16) (iblk m c 4 t) (Rect.unit (s := S4x512x128) ![0, 0, 0] ![1, 512, 128] (by decide)))) (View.ld (Val := Elt Ideal) (S := S4x512x128) (e' := .bf16) (iblk m c 5 t) (Rect.unit (s := S4x512x128) ![0, 0, 0] ![1, 512, 128] (by decide)))
/-- The second. -/
def y1 := k0_pay67 (F := Ideal) (rcv (ms0_15 t) (N15 m c t pr pi) (Rect.unit (s := S512x2048) ![0, 512] ![512, 512] (by decide)).toLoadRect) (rcv (ms0_16 t) (N16 m c t pr pi) (Rect.unit (s := S512x2048) ![0, 512] ![512, 512] (by decide)).toLoadRect) (View.ld (Val := Elt Ideal) (S := S4x512x128) (e' := .bf16) (iblk m c 4 t) (Rect.unit (s := S4x512x128) ![1, 0, 0] ![1, 512, 128] (by decide))) (View.ld (Val := Elt Ideal) (S := S4x512x128) (e' := .bf16) (iblk m c 5 t) (Rect.unit (s := S4x512x128) ![1, 0, 0] ![1, 512, 128] (by decide)))
/-- The third. -/
def y2 := k0_pay68 (F := Ideal) (rcv (ms0_15 t) (N15 m c t pr pi) (Rect.unit (s := S512x2048) ![0, 1024] ![512, 512] (by decide)).toLoadRect) (rcv (ms0_16 t) (N16 m c t pr pi) (Rect.unit (s := S512x2048) ![0, 1024] ![512, 512] (by decide)).toLoadRect) (View.ld (Val := Elt Ideal) (S := S4x512x128) (e' := .bf16) (iblk m c 4 t) (Rect.unit (s := S4x512x128) ![2, 0, 0] ![1, 512, 128] (by decide))) (View.ld (Val := Elt Ideal) (S := S4x512x128) (e' := .bf16) (iblk m c 5 t) (Rect.unit (s := S4x512x128) ![2, 0, 0] ![1, 512, 128] (by decide)))
/-- The output before its gate. -/
def o13 : Vec Ideal S512x512 .bf16 := k0_pay70 (F := Ideal) (k0_pay4 (F := Ideal) (iblk m c 0 t)) (y0 m c t pr pi) (y1 m c t pr pi) (y2 m c t pr pi) (k0_pay69 (F := Ideal) (rcv (ms0_15 t) (N15 m c t pr pi) (Rect.unit (s := S512x2048) ![0, 1536] ![512, 512] (by decide)).toLoadRect)) (rcv (ms0_16 t) (N16 m c t pr pi) (Rect.unit (s := S512x2048) ![0, 1536] ![512, 512] (by decide)).toLoadRect) (View.ld (Val := Elt Ideal) (S := S4x512x128) (e' := .bf16) (iblk m c 4 t) (Rect.unit (s := S4x512x128) ![3, 0, 0] ![1, 512, 128] (by decide))) (View.ld (Val := Elt Ideal) (S := S4x512x128) (e' := .bf16) (iblk m c 5 t) (Rect.unit (s := S4x512x128) ![3, 0, 0] ![1, 512, 128] (by decide))) (iblk m c 10 t)
/-- The gated output. -/
def o14 : Vec Ideal S512x512 .bf16 := k0_pay1 (F := Ideal) (k0_pay71 (F := Ideal) (k0_pay4 (F := Ideal) (iblk m c 0 t)) (y0 m c t pr pi) (y1 m c t pr pi) (y2 m c t pr pi) (k0_pay69 (F := Ideal) (rcv (ms0_15 t) (N15 m c t pr pi) (Rect.unit (s := S512x2048) ![0, 1536] ![512, 512] (by decide)).toLoadRect)) (rcv (ms0_16 t) (N16 m c t pr pi) (Rect.unit (s := S512x2048) ![0, 1536] ![512, 512] (by decide)).toLoadRect) (View.ld (Val := Elt Ideal) (S := S4x512x128) (e' := .bf16) (iblk m c 4 t) (Rect.unit (s := S4x512x128) ![3, 0, 0] ![1, 512, 128] (by decide))) (View.ld (Val := Elt Ideal) (S := S4x512x128) (e' := .bf16) (iblk m c 5 t) (Rect.unit (s := S4x512x128) ![3, 0, 0] ![1, 512, 128] (by decide))) (iblk m c 10 t)) (k0_pay72 (F := Ideal) (k0_pay4 (F := Ideal) (iblk m c 0 t)) (y0 m c t pr pi) (y1 m c t pr pi) (y2 m c t pr pi) (k0_pay69 (F := Ideal) (rcv (ms0_15 t) (N15 m c t pr pi) (Rect.unit (s := S512x2048) ![0, 1536] ![512, 512] (by decide)).toLoadRect)) (rcv (ms0_16 t) (N16 m c t pr pi) (Rect.unit (s := S512x2048) ![0, 1536] ![512, 512] (by decide)).toLoadRect) (View.ld (Val := Elt Ideal) (S := S4x512x128) (e' := .bf16) (iblk m c 4 t) (Rect.unit (s := S4x512x128) ![3, 0, 0] ![1, 512, 128] (by decide))) (View.ld (Val := Elt Ideal) (S := S4x512x128) (e' := .bf16) (iblk m c 5 t) (Rect.unit (s := S4x512x128) ![3, 0, 0] ![1, 512, 128] (by decide))) (iblk m c 10 t) (iblk m c 11 t)) (iblk m c 12 t) (iblk m c 1 t)

/-- Row 0 of a block of carried states. -/
abbrev row0 (x : Vec Ideal S8x2048 .f32) : Vec Ideal S1x2048 .f32 := View.ld (Val := Elt Ideal) (S := S8x2048) (e' := .f32) x (Rect.unit (s := S8x2048) ![0, 0] ![1, 2048] (by decide))

/-- What a grid point leaves, in the named stages. -/
def Leaves (o : Vec Ideal S512x512 .bf16 × Vec Ideal S512x512 .bf16 × Vec Ideal S512x2048 .f32 × Vec Ideal S512x2048 .f32 × Vec Ideal S8x2048 .f32
    × Vec Ideal S8x2048 .f32 × Vec Ideal S8x2048 .f32 × Vec Ideal S8x2048 .f32) : Prop :=
  o.1 = o13 m c t pr pi ∧ o.2.1 = o14 m c t pr pi ∧ o.2.2.1 = View.canon (N15 m c t pr pi) ∧ o.2.2.2.1 = View.canon (N16 m c t pr pi)
  ∧ o.2.2.2.2.1 = View.canon (L17 m c t pr pi) ∧ o.2.2.2.2.2.1 = View.canon (L18 m c t pr pi)
  ∧ row0 o.2.2.2.2.2.2.1 = k0_pay50 (F := Ideal) (x51 m c t pr pi) ∧ row0 o.2.2.2.2.2.2.2 = k0_pay51 (F := Ideal) (x52 m c t pr pi) (x53 m c t pr pi)

theorem row0_of (X : Vec Ideal S8x2048 .f32) (w : Vec Ideal S1x2048 .f32) (h : ∀ j : Fin 2048, X (ix2 0 j) = w (ix2 0 j)) : row0 X = w := by
  funext x; idx_vars x
  obtain rfl : x0 = 0 := Subsingleton.elim _ _
  rw [row0, View.ld_unit_apply_of _ _ _ _ _ (ix2 0 x1) (by intro a; fin_cases a <;> simp [ix2])]
  exact h x1

theorem row0_read (v : View sig K .vmem S8x2048 .f32) (f : v.ty.Contents (Elt Ideal)) (inb) (w : Vec Ideal S1x2048 .f32) (L) :
    row0 (v.read (Elt Ideal) (v.writes (Elt Ideal) f (⟨Rect.unit (s := S8x2048) ![0, 0] ![1, 2048] inb, w⟩ :: L))) = w :=
  row0_of _ _ fun j => View.read_writes_cons_rows_of_mem v f inb w L (ix2 0 j) (ix2 0 j) rfl rfl rfl

theorem row0_canon (inb : ∀ a, (![0, 0] : Fin 2 → ℕ) a + (![1, 2048] : Fin 2 → ℕ) a ≤ S8x2048.size a) (w : Vec Ideal S1x2048 .f32) (L : Rows) :
    row0 (View.canon (⟨Rect.unit (s := S8x2048) ![0, 0] ![1, 2048] inb, w⟩ :: L)) = w := by
  refine row0_of _ _ fun j => ?_
  have e : (ix2 0 j : S8x2048.Idx) = (Rect.unit (s := S8x2048) ![0, 0] ![1, 2048] inb).emb (ix2 0 j : S1x2048.Idx) := by
    funext a; apply Fin.ext
    refine Eq.trans ?_ (Rect.idx_unit_val _ _ _ _ a).symm
    fin_cases a <;> simp [ix2]
  rw [e, View.canon_cons_emb]

set_option maxHeartbeats 1000000 in
theorem leavesB (h : ¬ t.val % 16 = 0) (h' : t.val - 1 < cfg0.N) (hr : pr = row0 (outsAt0 m c (t.val - 1) h').2.2.2.2.2.2.1)
    (hi : pi = row0 (outsAt0 m c (t.val - 1) h').2.2.2.2.2.2.2) : Leaves m c t pr pi (outsAt0 m c t.val t.isLt) := by
  rw [outsAt0_B m c t h]
  frame_out
  simp only [read_unread_whole]
  subst hr hi
  simp only [← S1.eq_1 m c t]
  simp only [← S2.eq_1 m c t]
  simp only [← A.eq_1 m c t]
  simp only [← B.eq_1 m c t]
  simp only [← x41.eq_1 m c t _ _]
  simp only [← x42.eq_1 m c t _ _]
  simp only [← x43.eq_1 m c t _ _]
  simp only [← x46.eq_1 m c t _ _]
  simp only [← x47.eq_1 m c t _ _]
  simp only [← x51.eq_1 m c t _ _]
  simp only [← x52.eq_1 m c t _ _]
  simp only [← x53.eq_1 m c t _ _]
  simp only [← P3.eq_1 m c t _ _]
  simp only [← P4.eq_1 m c t _ _]
  simp only [← y0.eq_1 m c t _ _]
  simp only [← y1.eq_1 m c t _ _]
  simp only [← y2.eq_1 m c t _ _]
  simp only [← o13.eq_1 m c t _ _]
  rw [Leaves, o14]
  refine ⟨?_, ?_, ?_, ?_, ?_, ?_, ?_, ?_⟩ <;> dsimp only
  case refine_7 => exact row0_read _ _ _ _ _
  case refine_8 => exact row0_read _ _ _ _ _
  all_goals with_reducible rfl

/-- The carried state before the first segment. -/
abbrev z0 : Vec Ideal S1x2048 .f32 := @View.readCov sig K .vmem S8x2048 .f32 (Elt Ideal) _ (@Memref.view sig K .vmem S8x2048 .f32 (Memref.whole cc0_scratch0))
  [⟨Rect.unit ![0, 0] ![8, 2048] (by decide), k0_pay2 (F := Ideal)⟩] (Rect.unit (s := S8x2048) ![0, 0] ![1, 2048] (by decide)).toLoadRect
/-- The same, imaginary part. -/
abbrev z1 : Vec Ideal S1x2048 .f32 := @View.readCov sig K .vmem S8x2048 .f32 (Elt Ideal) _ (@Memref.view sig K .vmem S8x2048 .f32 (Memref.whole cc0_scratch1))
  [⟨Rect.unit ![0, 0] ![8, 2048] (by decide), k0_pay3 (F := Ideal)⟩] (Rect.unit (s := S8x2048) ![0, 0] ![1, 2048] (by decide)).toLoadRect

set_option maxHeartbeats 1000000 in
theorem leavesA (h : t.val % 16 = 0) : Leaves m c t z0 z1 (outsAt0 m c t.val t.isLt) := by
  rw [outsAt0_A m c t h]
  frame_out
  simp only [← S1.eq_1 m c t]
  simp only [← S2.eq_1 m c t]
  simp only [← A.eq_1 m c t]
  simp only [← B.eq_1 m c t]
  simp only [← x41.eq_1 m c t _ _]
  simp only [← x42.eq_1 m c t _ _]
  simp only [← x43.eq_1 m c t _ _]
  simp only [← x46.eq_1 m c t _ _]
  simp only [← x47.eq_1 m c t _ _]
  simp only [← x51.eq_1 m c t _ _]
  simp only [← x52.eq_1 m c t _ _]
  simp only [← x53.eq_1 m c t _ _]
  simp only [← P3.eq_1 m c t _ _]
  simp only [← P4.eq_1 m c t _ _]
  simp only [← y0.eq_1 m c t _ _]
  simp only [← y1.eq_1 m c t _ _]
  simp only [← y2.eq_1 m c t _ _]
  simp only [← o13.eq_1 m c t _ _]
  rw [Leaves, o14]
  refine ⟨?_, ?_, ?_, ?_, ?_, ?_, ?_, ?_⟩ <;> dsimp only
  case refine_7 => exact row0_canon _ _ _
  case refine_8 => exact row0_canon _ _ _
  all_goals with_reducible rfl

end Cert.SsmStage
end
-- ==== Proof.Ssm.Outs.lean ====
/- What one grid point of the forward scan computes. -/
module

public import proofs.«01_k».proof.Proof.Ssm.Stage

@[expose] public section

set_option maxRecDepth 16384

noncomputable section

namespace Cert.SsmOuts

open Idealize.ShloMosaic Idealize.ShloMosaic.TcCoe Idealize.SL.Sem Cert.SsmIdeal Cert.SsmIdeal.Gen Cert.Lift Cert.SsmArr Cert.SsmLoops Cert.SsmPay Cert.SsmStage

/-! ## The recurrence of one block of rows -/

/-- The rows that enter the scan. -/
def X (u : ℕ → ℕ → ℝ) (βr βi : ℕ → ℕ → ℕ → ℝ) (i j : ℕ) : ℂ :=
  ⟨∑ k : Fin 128, u i (128 * (j / 512) + k.val) * βr (j / 512) k.val (j % 512), ∑ k : Fin 128, u i (128 * (j / 512) + k.val) * βi (j / 512) k.val (j % 512)⟩

/-- The rows after every segment has been scanned from a zero state. -/
def W (a : ℕ → ℂ) (Z : ℕ → ℕ → ℂ) : ℕ → ℕ → ℂ := part a (part a Z 0 63) 1024 63

theorem W_eq (a : ℕ → ℂ) (Z : ℕ → ℕ → ℂ) (i j : ℕ) (hi : i < 512) (hj : j < 2048) : W a Z i j = loc a Z (i % 8) j (i / 8) := by
  unfold W
  by_cases h : j < 1024
  · rw [part, if_neg (by omega), part, if_pos (by omega)]
  · rw [part, if_pos (by omega)]
    exact loc_congr a _ _ _ _ (fun i => by rw [part, if_neg (by omega)]) _

/-- The carried states of the segments. -/
def ks (p κ : ℕ → ℂ) (Y : ℕ → ℕ → ℂ) : ℕ → ℕ → ℂ
  | 0 => κ
  | s + 1 => cstep p (ks p κ Y s) (Y (504 + s))

/-- The rows with the carried states added. -/
def F (P K Y : ℕ → ℕ → ℂ) : ℕ → ℕ → ℂ := fix P K (fix P K Y 0 64) 1024 64

theorem F_eq (P K Y : ℕ → ℕ → ℂ) (i j : ℕ) (hi : i < 512) (hj : j < 2048) : F P K Y i j = Y i j + P (i / 8) j * K (i % 8) j := by
  unfold F
  by_cases h : j < 1024
  · rw [fix, if_neg (by omega), fix, if_pos (by omega)]
  · rw [fix, if_pos (by omega), fix, if_neg (by omega)]

/-! ## Loads and stores of parts -/

theorem ld3 (β : ℕ → ℕ → ℕ → ℝ) (q : ℕ) (inb : ∀ x, (![q, 0, 0] : Fin 3 → ℕ) x + (![1, 128, 512] : Fin 3 → ℕ) x ≤ S4x128x512.size x) :
    View.ld (Val := Elt Ideal) (S := S4x128x512) (e' := .bf16) (L3 β) (Rect.unit (s := S4x128x512) ![q, 0, 0] ![1, 128, 512] inb)
    = L3 fun x y z => β (q + x) y z := by
  have hq := inb 0
  change q + 1 ≤ 4 at hq
  funext i; idx_vars i
  obtain rfl : i0 = 0 := Subsingleton.elim _ _
  rw [View.ld_unit_apply_of _ _ _ _ _ (ix3 ⟨q, by omega⟩ i1 i2) (by intro a; fin_cases a <;> simp [ix3])]
  rfl

theorem ldc (C : Vec Ideal S4x512x128 .bf16) (q : Fin 4) (n : ℕ) (hn : n = q.val) (inb : ∀ x, (![n, 0, 0] : Fin 3 → ℕ) x + (![1, 512, 128] : Fin 3 → ℕ) x ≤ S4x512x128.size x) :
    View.ld (Val := Elt Ideal) (S := S4x512x128) (e' := .bf16) C (Rect.unit (s := S4x512x128) ![n, 0, 0] ![1, 512, 128] inb) = cb C q := by
  subst hn
  funext i; idx_vars i
  obtain rfl : i0 = 0 := Subsingleton.elim _ _
  rw [View.ld_unit_apply_of _ _ _ _ _ (ix3 q i1 i2) (by intro a; fin_cases a <;> simp [ix3])]
  rfl

theorem canonQ (f0 f1 f2 f3 f : ℕ → ℕ → ℝ) (r3 r2 r1 r0) (e0 : ∀ i j, j < 512 → f i j = f0 i j) (e1 : ∀ i j, j < 512 → f i (512 + j) = f1 i j)
    (e2 : ∀ i j, j < 512 → f i (1024 + j) = f2 i j) (e3 : ∀ i j, j < 512 → f i (1536 + j) = f3 i j) :
    View.canon (Val := Elt Ideal) (s := S512x2048) (e := .f32) [⟨Rect.unit ![0, 1536] ![512, 512] r3, L2 f3⟩, ⟨Rect.unit ![0, 1024] ![512, 512] r2, L2 f2⟩,
      ⟨Rect.unit ![0, 512] ![512, 512] r1, L2 f1⟩, ⟨Rect.unit ![0, 0] ![512, 512] r0, L2 f0⟩] = L2 f := by
  funext y; idx_vars y
  canon_tiles x h using View.cover_of_tiledL _ ![512, 512] rfl _
  all_goals
    change y0.val = _ at h0
    change y1.val = _ at h1
    refine congrArg (fun r : ℝ => (r : EReal)) (Eq.symm ?_)
    change f y0.val y1.val = _
    rw [h0, h1]
  · exact e3 _ _ x1_lt
  · exact e2 _ _ x1_lt
  · exact e1 _ _ x1_lt
  · exact e0 _ _ x1_lt

theorem canonR (k : ℕ → ℕ → ℝ) (v0 v1 v2 v3 v4 v5 v6 v7 : Vec Ideal S1x2048 .f32) (r7 r6 r5 r4 r3 r2 r1 r0)
    (e0 : v0 = L2 fun _ j => k 0 j) (e1 : v1 = L2 fun _ j => k 1 j) (e2 : v2 = L2 fun _ j => k 2 j) (e3 : v3 = L2 fun _ j => k 3 j)
    (e4 : v4 = L2 fun _ j => k 4 j) (e5 : v5 = L2 fun _ j => k 5 j) (e6 : v6 = L2 fun _ j => k 6 j) (e7 : v7 = L2 fun _ j => k 7 j) :
    View.canon (Val := Elt Ideal) (s := S8x2048) (e := .f32) [⟨Rect.unit ![7, 0] ![1, 2048] r7, v7⟩, ⟨Rect.unit ![6, 0] ![1, 2048] r6, v6⟩,
      ⟨Rect.unit ![5, 0] ![1, 2048] r5, v5⟩, ⟨Rect.unit ![4, 0] ![1, 2048] r4, v4⟩, ⟨Rect.unit ![3, 0] ![1, 2048] r3, v3⟩,
      ⟨Rect.unit ![2, 0] ![1, 2048] r2, v2⟩, ⟨Rect.unit ![1, 0] ![1, 2048] r1, v1⟩, ⟨Rect.unit ![0, 0] ![1, 2048] r0, v0⟩] = L2 k := by
  subst e0 e1 e2 e3 e4 e5 e6 e7
  funext y; idx_vars y
  canon_tiles x h using View.cover_of_tiledL _ ![1, 2048] rfl _
  all_goals
    change y0.val = _ at h0
    change y1.val = _ at h1
    refine congrArg (fun r : ℝ => (r : EReal)) (Eq.symm ?_)
    change k y0.val y1.val = _
    rw [h0, h1]
    first
      | (have z : (x 0).val = 0 := by omega
         rw [z])
      | skip

/-! ## The stages -/

variable {m : (ℓ : Loc nD τ sig) → Buf (Elt Ideal) ℓ} {c : Dev nD} {t : Fin cfg0.N} {pr pi : Vec Ideal S1x2048 .f32}
  {u : ℕ → ℕ → ℝ} {βr βi : ℕ → ℕ → ℕ → ℝ} {a κ : ℕ → ℂ} {P : ℕ → ℕ → ℂ}

/-- What one grid point's blocks hold. -/
structure Hold (m : (ℓ : Loc nD τ sig) → Buf (Elt Ideal) ℓ) (c : Dev nD) (t : Fin cfg0.N) (u : ℕ → ℕ → ℝ) (βr βi : ℕ → ℕ → ℕ → ℝ) (a : ℕ → ℂ)
    (P : ℕ → ℕ → ℂ) : Prop where
  b0 : iblk m c 0 t = (L2 u : Vec Ideal S512x512 .bf16)
  b2 : iblk m c 2 t = (L3 βr : Vec Ideal S4x128x512 .bf16)
  b3 : iblk m c 3 t = (L3 βi : Vec Ideal S4x128x512 .bf16)
  b6 : iblk m c 6 t = (L2 (re1 a) : Vec Ideal S1x2048 .f32)
  b7 : iblk m c 7 t = (L2 (im1 a) : Vec Ideal S1x2048 .f32)
  b8 : iblk m c 8 t = (L2 (re2 P) : Vec Ideal S64x2048 .f32)
  b9 : iblk m c 9 t = (L2 (im2 P) : Vec Ideal S64x2048 .f32)

section
variable (H : Hold m c t u βr βi a P)
include H

theorem cD15 : View.canon (D15 m c t) = L2 fun i j => (X u βr βi i j).re := by
  unfold D15
  simp only [H.b0, H.b2, ld3, pay6, pay9, pay12, pay15]
  refine canonQ _ _ _ _ _ _ _ _ _ ?_ ?_ ?_ ?_ <;> intro i j hj <;> simp only [X] <;> refine Finset.sum_congr rfl fun k _ => ?_
  · rw [Nat.div_eq_of_lt hj, Nat.mod_eq_of_lt hj]
  · rw [show (512 + j) / 512 = 1 by omega, show (512 + j) % 512 = j by omega]
  · rw [show (1024 + j) / 512 = 2 by omega, show (1024 + j) % 512 = j by omega]
  · rw [show (1536 + j) / 512 = 3 by omega, show (1536 + j) % 512 = j by omega]
theorem cD16 : View.canon (D16 m c t) = L2 fun i j => (X u βr βi i j).im := by
  unfold D16
  simp only [H.b0, H.b3, ld3, pay7, pay10, pay13, pay16]
  refine canonQ _ _ _ _ _ _ _ _ _ ?_ ?_ ?_ ?_ <;> intro i j hj <;> simp only [X] <;> refine Finset.sum_congr rfl fun k _ => ?_
  · rw [Nat.div_eq_of_lt hj, Nat.mod_eq_of_lt hj]
  · rw [show (512 + j) / 512 = 1 by omega, show (512 + j) % 512 = j by omega]
  · rw [show (1024 + j) / 512 = 2 by omega, show (1024 + j) % 512 = j by omega]
  · rw [show (1536 + j) / 512 = 3 by omega, show (1536 + j) % 512 = j by omega]

omit H in
theorem rcv_eq {s : Shape} (M : Memref sig K .vmem s .f32) (L : List (View.Piece (Elt Ideal) s .f32)) (r : Rect s) :
    rcv M L r.toLoadRect = View.ld (Val := Elt Ideal) (S := s) (e' := .f32) (View.canon L) r :=
  View.readCov_eq_canon' _ _ _

theorem cE : View.canon (E15 m c t) = L2 (fun i j => (part a (X u βr βi) 0 63 i j).re)
    ∧ View.canon (E16 m c t) = L2 (fun i j => (part a (X u βr βi) 0 63 i j).im) := by
  refine (t1 (a := a) (X := X u βr βi) t _ _ _ (D15 m c t) (D16 m c t) _ ?_ ?_ (cD15 H) (cD16 H) ?_ 63 le_rfl).2
  · rw [H.b6, ld_L2 _ _ _ 0 0 1 1024 rfl rfl]
    exact pay17 fun _ j => (a (0 + j)).re
  · rw [H.b7, ld_L2 _ _ _ 0 0 1 1024 rfl rfl]
    exact pay18 fun _ j => (a (0 + j)).im
  · rw [rcv_eq, rcv_eq, cD15 H, cD16 H, ld_L2 _ _ _ 0 0 8 1024 rfl rfl, ld_L2 _ _ _ 0 0 8 1024 rfl rfl]
    refine congrArg₂ Prod.mk ((pay19 fun s j => (X u βr βi (0 + s) (0 + j)).re).trans ?_) ((pay20 fun s j => (X u βr βi (0 + s) (0 + j)).im).trans ?_)
    · simp only [Nat.zero_add]
    · simp only [Nat.zero_add]

theorem cL : View.canon (L15 m c t) = L2 (re2 (W a (X u βr βi))) ∧ View.canon (L16 m c t) = L2 (im2 (W a (X u βr βi))) := by
  refine (t2 (a := a) (X := part a (X u βr βi) 0 63) t _ _ _ _ _ (E15 m c t) (E16 m c t) _ ?_ ?_ (cE H).1 (cE H).2 ?_ 63 le_rfl).2
  · rw [H.b6, ld_L2 _ _ _ 0 1024 1 1024 rfl rfl]
    rfl
  · rw [H.b7, ld_L2 _ _ _ 0 1024 1 1024 rfl rfl]
    rfl
  · rw [(cE H).1, (cE H).2, ld_L2 _ _ _ 0 1024 8 1024 rfl rfl, ld_L2 _ _ _ 0 1024 8 1024 rfl rfl]
    refine congrArg₂ Prod.mk ((pay25 fun s j => (part a (X u βr βi) 0 63 (0 + s) (1024 + j)).re).trans ?_)
      ((pay26 fun s j => (part a (X u βr βi) 0 63 (0 + s) (1024 + j)).im).trans ?_)
    · simp only [Nat.zero_add]
    · simp only [Nat.zero_add]

theorem eA : A m c t = L2 (re1 (P 63)) := by
  unfold A
  rw [H.b8, ld_L2 _ _ _ 63 0 1 2048 rfl rfl]
  refine (pay29 fun r j => re2 P (63 + r) (0 + j)).trans (L2_congr fun i j hi _ => ?_)
  obtain rfl : i = 0 := by omega
  rw [Nat.zero_add]
  rfl
theorem eB : B m c t = L2 (im1 (P 63)) := by
  unfold B
  rw [H.b9, ld_L2 _ _ _ 63 0 1 2048 rfl rfl]
  refine (pay30 fun r j => im2 P (63 + r) (0 + j)).trans (L2_congr fun i j hi _ => ?_)
  obtain rfl : i = 0 := by omega
  rw [Nat.zero_add]
  rfl

theorem end_r (s : ℕ) (inb : ∀ x, (![504 + s, 0] : Fin 2 → ℕ) x + (![1, 2048] : Fin 2 → ℕ) x ≤ S512x2048.size x) :
    View.ld (Val := Elt Ideal) (S := S512x2048) (e' := .f32) (View.canon (L15 m c t)) (Rect.unit (s := S512x2048) ![504 + s, 0] ![1, 2048] inb)
    = (L2 (re1 (W a (X u βr βi) (504 + s))) : Vec Ideal S1x2048 .f32) := by
  rw [(cL H).1, ld_L2 _ _ _ (504 + s) 0 1 2048 rfl rfl]
  refine L2_congr (f := fun r j => re2 (W a (X u βr βi)) (504 + s + r) (0 + j)) fun i j hi _ => ?_
  obtain rfl : i = 0 := by omega
  rw [Nat.zero_add]
  rfl
theorem end_i (s : ℕ) (inb : ∀ x, (![504 + s, 0] : Fin 2 → ℕ) x + (![1, 2048] : Fin 2 → ℕ) x ≤ S512x2048.size x) :
    View.ld (Val := Elt Ideal) (S := S512x2048) (e' := .f32) (View.canon (L16 m c t)) (Rect.unit (s := S512x2048) ![504 + s, 0] ![1, 2048] inb)
    = (L2 (im1 (W a (X u βr βi) (504 + s))) : Vec Ideal S1x2048 .f32) := by
  rw [(cL H).2, ld_L2 _ _ _ (504 + s) 0 1 2048 rfl rfl]
  refine L2_congr (f := fun r j => im2 (W a (X u βr βi)) (504 + s + r) (0 + j)) fun i j hi _ => ?_
  obtain rfl : i = 0 := by omega
  rw [Nat.zero_add]
  rfl
theorem r0 : er0 m c t = L2 (re1 (W a (X u βr βi) 504)) := end_r H 0 _
theorem i0 : ei0 m c t = L2 (im1 (W a (X u βr βi) 504)) := end_i H 0 _
theorem r1 : er1 m c t = L2 (re1 (W a (X u βr βi) 505)) := end_r H 1 _
theorem i1 : ei1 m c t = L2 (im1 (W a (X u βr βi) 505)) := end_i H 1 _
theorem r2 : er2 m c t = L2 (re1 (W a (X u βr βi) 506)) := end_r H 2 _
theorem i2 : ei2 m c t = L2 (im1 (W a (X u βr βi) 506)) := end_i H 2 _
theorem r3 : er3 m c t = L2 (re1 (W a (X u βr βi) 507)) := end_r H 3 _
theorem i3 : ei3 m c t = L2 (im1 (W a (X u βr βi) 507)) := end_i H 3 _
theorem r4 : er4 m c t = L2 (re1 (W a (X u βr βi) 508)) := end_r H 4 _
theorem i4 : ei4 m c t = L2 (im1 (W a (X u βr βi) 508)) := end_i H 4 _
theorem r5 : er5 m c t = L2 (re1 (W a (X u βr βi) 509)) := end_r H 5 _
theorem i5 : ei5 m c t = L2 (im1 (W a (X u βr βi) 509)) := end_i H 5 _
theorem r6 : er6 m c t = L2 (re1 (W a (X u βr βi) 510)) := end_r H 6 _
theorem i6 : ei6 m c t = L2 (im1 (W a (X u βr βi) 510)) := end_i H 6 _
theorem r7 : er7 m c t = L2 (re1 (W a (X u βr βi) 511)) := end_r H 7 _
theorem i7 : ei7 m c t = L2 (im1 (W a (X u βr βi) 511)) := end_i H 7 _
end

section
variable (H : Hold m c t u βr βi a P) (hr : pr = L2 (re1 κ)) (hi : pi = L2 (im1 κ))
include H hr hi

/-- The carried states of this point. -/
abbrev kk (u : ℕ → ℕ → ℝ) (βr βi : ℕ → ℕ → ℕ → ℝ) (a κ : ℕ → ℂ) (P : ℕ → ℕ → ℂ) : ℕ → ℕ → ℂ := ks (P 63) κ (W a (X u βr βi))

theorem e41 : x41 m c t pr pi = L2 (re1 (kk u βr βi a κ P 3)) := by
  unfold x41
  subst hr hi
  rw [eA H, eB H, r0 H, r1 H, r2 H, i0 H, i1 H]
  exact pay35 _ _ _ _ _
theorem e38 : k0_pay38 (F := Ideal) (x42 m c t pr pi) (x43 m c t pr pi) = L2 (im1 (kk u βr βi a κ P 3)) := by
  unfold x42 x43
  subst hr hi
  rw [eA H, eB H, r0 H, r1 H, i0 H, i1 H, i2 H]
  exact pay38 _ _ _ _ _
theorem e46 : x46 m c t pr pi = L2 (re1 (kk u βr βi a κ P 5)) := by
  unfold x46
  subst hr hi
  rw [eA H, eB H, e41 H rfl rfl, r3 H, r4 H, i3 H]
  exact pay41 _ _ _ _ _ _ (e38 H rfl rfl)
theorem e47 : x47 m c t pr pi = L2 (im1 (kk u βr βi a κ P 5)) := by
  unfold x47
  subst hr hi
  rw [eA H, eB H, e41 H rfl rfl, r3 H, i3 H, i4 H]
  exact pay42 _ _ _ _ _ _ (e38 H rfl rfl)
theorem e51 : x51 m c t pr pi = L2 (re1 (kk u βr βi a κ P 8)) := by
  unfold x51
  subst hr hi
  rw [eA H, eB H, e46 H rfl rfl, e47 H rfl rfl, r5 H, r6 H, r7 H, i5 H, i6 H]
  exact pay47 _ _ _ _ _
theorem e5253 : k0_pay51 (F := Ideal) (x52 m c t pr pi) (x53 m c t pr pi) = L2 (im1 (kk u βr βi a κ P 8)) := by
  unfold x52 x53
  subst hr hi
  rw [eA H, eB H, e46 H rfl rfl, e47 H rfl rfl, r5 H, r6 H, i5 H, i6 H, i7 H]
  exact pay51 _ _ _ _ _

theorem cL17 : View.canon (L17 m c t pr pi) = L2 (re2 (kk u βr βi a κ P)) := by
  unfold L17
  subst hr hi
  rw [eA H, eB H, e41 H rfl rfl, e46 H rfl rfl, e47 H rfl rfl, r0 H, r1 H, i0 H, r3 H, r5 H, r6 H, i5 H]
  exact canonR _ _ _ _ _ _ _ _ _ _ _ _ _ _ _ _ _ rfl (pay31 _ _ _) (pay33 _ _ _ _) rfl (pay39 _ _ _ _ _ (e38 H rfl rfl)) rfl (pay43 _ _ _) (pay45 _ _ _ _)
theorem cL18 : View.canon (L18 m c t pr pi) = L2 (im2 (kk u βr βi a κ P)) := by
  unfold L18
  subst hr hi
  rw [eA H, eB H, e41 H rfl rfl, e46 H rfl rfl, e47 H rfl rfl, e38 H rfl rfl, r0 H, i0 H, i1 H, i3 H, i5 H, i6 H, r5 H]
  exact canonR _ _ _ _ _ _ _ _ _ _ _ _ _ _ _ _ _ rfl (pay32 _ _ _) (pay34 _ _ _ _) rfl (pay40 _ _ _ _ _ (e38 H rfl rfl)) rfl (pay44 _ _ _) (pay46 _ _ _ _)

theorem cM : View.canon (M15 m c t pr pi) = L2 (fun i j => (fix P (kk u βr βi a κ P) (W a (X u βr βi)) 0 64 i j).re)
    ∧ View.canon (M16 m c t pr pi) = L2 (fun i j => (fix P (kk u βr βi a κ P) (W a (X u βr βi)) 0 64 i j).im) := by
  refine t3 (P := P) (K := kk u βr βi a κ P) (Y := W a (X u βr βi)) t _ _ _ _ _ _ _ (L15 m c t) (L16 m c t) ?_ ?_ H.b8 H.b9 (cL H).1 (cL H).2 64 le_rfl
  · rw [rcv_eq, cL17 H hr hi, ld_L2 _ _ _ 0 0 8 1024 rfl rfl]
    refine L2_congr (f := fun r j => re2 (kk u βr βi a κ P) (0 + r) (0 + j)) fun i j _ _ => ?_
    rw [Nat.zero_add i]; rfl
  · rw [rcv_eq, cL18 H hr hi, ld_L2 _ _ _ 0 0 8 1024 rfl rfl]
    refine L2_congr (f := fun r j => im2 (kk u βr βi a κ P) (0 + r) (0 + j)) fun i j _ _ => ?_
    rw [Nat.zero_add i]; rfl

theorem cN : View.canon (N15 m c t pr pi) = L2 (re2 (F P (kk u βr βi a κ P) (W a (X u βr βi))))
    ∧ View.canon (N16 m c t pr pi) = L2 (im2 (F P (kk u βr βi a κ P) (W a (X u βr βi)))) := by
  refine t4 (P := P) (K := kk u βr βi a κ P) (Y := fix P (kk u βr βi a κ P) (W a (X u βr βi)) 0 64) t _ _ _ _ _ _ _ (M15 m c t pr pi) (M16 m c t pr pi)
    ?_ ?_ H.b8 H.b9 (cM H hr hi).1 (cM H hr hi).2 64 le_rfl
  · rw [rcv_eq, cL17 H hr hi, ld_L2 _ _ _ 0 1024 8 1024 rfl rfl]
    refine L2_congr (f := fun r j => re2 (kk u βr βi a κ P) (0 + r) (1024 + j)) fun i j _ _ => ?_
    rw [Nat.zero_add i]; rfl
  · rw [rcv_eq, cL18 H hr hi, ld_L2 _ _ _ 0 1024 8 1024 rfl rfl]
    refine L2_congr (f := fun r j => im2 (kk u βr βi a κ P) (0 + r) (1024 + j)) fun i j _ _ => ?_
    rw [Nat.zero_add i]; rfl

/-- The states of this point's rows. -/
abbrev ff (u : ℕ → ℕ → ℝ) (βr βi : ℕ → ℕ → ℕ → ℝ) (a κ : ℕ → ℂ) (P : ℕ → ℕ → ℂ) : ℕ → ℕ → ℂ := F P (kk u βr βi a κ P) (W a (X u βr βi))

theorem rd15 (q : ℕ) (inb : ∀ x, (![0, 512 * q] : Fin 2 → ℕ) x + (![512, 512] : Fin 2 → ℕ) x ≤ S512x2048.size x) :
    rcv (ms0_15 t) (N15 m c t pr pi) (Rect.unit (s := S512x2048) ![0, 512 * q] ![512, 512] inb).toLoadRect
    = (L2 (re2 (shl (ff u βr βi a κ P) q)) : Vec Ideal S512x512 .f32) := by
  rw [rcv_eq, (cN H hr hi).1, ld_L2 _ _ _ 0 (512 * q) 512 512 rfl rfl]
  refine L2_congr (f := fun r j => re2 (ff u βr βi a κ P) (0 + r) (512 * q + j)) fun i j _ _ => ?_
  rw [Nat.zero_add]; rfl
theorem rd16 (q : ℕ) (inb : ∀ x, (![0, 512 * q] : Fin 2 → ℕ) x + (![512, 512] : Fin 2 → ℕ) x ≤ S512x2048.size x) :
    rcv (ms0_16 t) (N16 m c t pr pi) (Rect.unit (s := S512x2048) ![0, 512 * q] ![512, 512] inb).toLoadRect
    = (L2 (im2 (shl (ff u βr βi a κ P) q)) : Vec Ideal S512x512 .f32) := by
  rw [rcv_eq, (cN H hr hi).2, ld_L2 _ _ _ 0 (512 * q) 512 512 rfl rfl]
  refine L2_congr (f := fun r j => im2 (ff u βr βi a κ P) (0 + r) (512 * q + j)) fun i j _ _ => ?_
  rw [Nat.zero_add]; rfl

theorem y_eq (i j : Fin 512) : o13 m c t pr pi (ix2 i j) = yv (ff u βr βi a κ P) (iblk m c 4 t) (iblk m c 5 t) u (iblk m c 10 t) i j := by
  unfold o13 y0 y1 y2
  rw [H.b0, rd15 H hr hi 0, rd15 H hr hi 1, rd15 H hr hi 2, rd15 H hr hi 3, rd16 H hr hi 0, rd16 H hr hi 1, rd16 H hr hi 2, rd16 H hr hi 3,
    ldc _ 0 0 rfl, ldc _ 1 1 rfl, ldc _ 2 2 rfl, ldc _ 3 3 rfl, ldc _ 0 0 rfl, ldc _ 1 1 rfl, ldc _ 2 2 rfl, ldc _ 3 3 rfl]
  exact pay70 _ _ _ _ _ _ _

theorem g_eq (i j : Fin 512) : o14 m c t pr pi (ix2 i j)
    = (gel (o13 m c t pr pi (ix2 i j)) * lgs ((∑ k : Fin 512, gel (o13 m c t pr pi (ix2 i k)) * (show Vec Ideal S512x512 .bf16 from iblk m c 11 t) (ix2 k j))
        + (show Vec Ideal S1x512 .f32 from iblk m c 12 t) (ix2 0 j)))
      * ((show Vec Ideal S512x512 .bf16 from iblk m c 1 t) (ix2 i j) * lgs ((show Vec Ideal S512x512 .bf16 from iblk m c 1 t) (ix2 i j))) := by
  unfold o14
  rw [pay1, pay71, pay72]
  rfl

end
end Cert.SsmOuts
end
-- ==== Proof.Ssm.Spec.lean ====
/- The recurrence of the forward scan over the complex numbers, and the scalar facts that tie the kernel's blocks to it. -/
module

public import proofs.«01_k».proof.Proof.Ssm.Outs
public import Mathlib.Analysis.SpecialFunctions.Trigonometric.Basic

@[expose] public section

noncomputable section

namespace Cert.SsmSpec

open Idealize.ShloMosaic Cert.Lift Cert.SsmArr Cert.SsmLoops Cert.SsmPay Cert.SsmOuts

/-! ## The parameters -/

/-- The real arguments of the scan. -/
structure Par where
  /-- the rows that enter -/
  u : ℕ → ℕ → ℝ
  /-- the rates, real part -/
  lr : ℕ → ℕ → ℝ
  /-- the rates, imaginary part -/
  li : ℕ → ℕ → ℝ
  /-- the logarithms of the steps -/
  ld : ℕ → ℝ
  /-- the input map, real part -/
  br : ℕ → ℕ → ℕ → ℝ
  /-- the input map, imaginary part -/
  bi : ℕ → ℕ → ℕ → ℝ
  /-- no rate is zero -/
  ne : ∀ g p, g < 32 → p < 64 → lr g p * lr g p + li g p * li g p ≠ 0

variable (w : Par)

def dt (g : ℕ) : ℝ := Real.exp (w.ld g)
def ar (g p : ℕ) : ℝ := Real.exp (w.lr g p * dt w g) * Real.cos (w.li g p * dt w g)
def ai (g p : ℕ) : ℝ := Real.exp (w.lr g p * dt w g) * Real.sin (w.li g p * dt w g)
def den (g p : ℕ) : ℝ := w.lr g p * w.lr g p + w.li g p * w.li g p
def zr (g p : ℕ) : ℝ := ((ar w g p - 1) * w.lr g p + ai w g p * w.li g p) / den w g p
def zi (g p : ℕ) : ℝ := (ai w g p * w.lr g p - (ar w g p - 1) * w.li g p) / den w g p
def Br (g p h : ℕ) : ℝ := zr w g p * w.br g p h - zi w g p * w.bi g p h
def Bi (g p h : ℕ) : ℝ := zr w g p * w.bi g p h + zi w g p * w.br g p h

/-- the factor of one step -/
def a (n : ℕ) : ℂ := ⟨ar w (n / 64) (n % 64), ai w (n / 64) (n % 64)⟩
/-- the factor of `r + 1` steps, as the kernel is given it -/
def P (r n : ℕ) : ℂ :=
  ⟨Real.exp ((1 + r : ℝ) * (w.lr (n / 64) (n % 64) * dt w (n / 64))) * Real.cos ((1 + r : ℝ) * (w.li (n / 64) (n % 64) * dt w (n / 64))),
   Real.exp ((1 + r : ℝ) * (w.lr (n / 64) (n % 64) * dt w (n / 64))) * Real.sin ((1 + r : ℝ) * (w.li (n / 64) (n % 64) * dt w (n / 64)))⟩
/-- what enters the state at row `l` -/
def bu (l n : ℕ) : ℂ :=
  ⟨∑ h : Fin 16, w.u l (16 * (n / 64) + h.val) * Br w (n / 64) (n % 64) h.val,
   ∑ h : Fin 16, w.u l (16 * (n / 64) + h.val) * Bi w (n / 64) (n % 64) h.val⟩
/-- the state before row `l` -/
def St : ℕ → ℕ → ℂ
  | 0 => fun _ => 0
  | l + 1 => fun n => a w n * St l n + bu w l n

/-- the row of the arrays at row `i` of block `t` -/
def row (t i : ℕ) : ℕ := 512 * t + 64 * (i % 8) + i / 8

/-- the block-diagonal input maps -/
def βr (q k j : ℕ) : ℝ := if k / 16 = j / 64 then Br w (8 * q + k / 16) (j % 64) (k % 16) else 0
def βi (q k j : ℕ) : ℝ := if k / 16 = j / 64 then Bi w (8 * q + k / 16) (j % 64) (k % 16) else 0

theorem exp_cis (x y : ℝ) : (⟨Real.exp x * Real.cos y, Real.exp x * Real.sin y⟩ : ℂ) = Complex.exp ⟨x, y⟩ := by
  apply Complex.ext
  · rw [Complex.exp_re]
  · rw [Complex.exp_im]

theorem P_eq (r n : ℕ) : P w r n = a w n ^ (r + 1) := by
  unfold P a ar ai
  rw [exp_cis, exp_cis, ← Complex.exp_nat_mul]
  congr 1
  apply Complex.ext <;> simp <;> (left; ring)

/-- A sum whose terms vanish off one block. -/
theorem sum_block {M : Type*} [AddCommMonoid M] (n k c : ℕ) (hc : c < n) (f : ℕ → M) (h : ∀ i, i < n * k → i / k ≠ c → f i = 0) :
    ∑ i : Fin (n * k), f i.val = ∑ x : Fin k, f (k * c + x.val) := by
  rw [← finProdFinEquiv.sum_comp, Fintype.sum_prod_type, Finset.sum_eq_single (⟨c, hc⟩ : Fin n)]
  · exact Finset.sum_congr rfl fun x _ => congrArg f (by change x.val + k * c = _; omega)
  · intro b _ hb
    refine Finset.sum_eq_zero fun x _ => h _ (Fin.isLt _) ?_
    change (x.val + k * b.val) / k ≠ c
    have hk : 0 < k := Nat.lt_of_le_of_lt (Nat.zero_le _) x.isLt
    rw [Nat.add_mul_div_left _ _ hk, Nat.div_eq_of_lt x.isLt, Nat.zero_add]
    exact fun e => hb (Fin.ext e)
  · intro hn; exact absurd (Finset.mem_univ _) hn

theorem sum_bu (u : ℕ → ℝ) (B : ℕ → ℕ → ℕ → ℝ) (n : ℕ) (hn : n < 2048) :
    ∑ k : Fin 128, u (128 * (n / 512) + k.val)
        * (if k.val / 16 = n % 512 / 64 then B (8 * (n / 512) + k.val / 16) (n % 512 % 64) (k.val % 16) else 0)
    = ∑ h : Fin 16, u (16 * (n / 64) + h.val) * B (n / 64) (n % 64) h.val := by
  refine (sum_block 8 16 (n % 512 / 64) (by omega)
    (fun k => u (128 * (n / 512) + k) * (if k / 16 = n % 512 / 64 then B (8 * (n / 512) + k / 16) (n % 512 % 64) (k % 16) else 0)) ?_).trans ?_
  · intro i _ hi
    change _ * (if _ then _ else _) = _
    rw [if_neg hi, mul_zero]
  · refine Finset.sum_congr rfl fun x _ => ?_
    have hx := x.isLt
    change _ * (if _ then _ else _) = _
    rw [if_pos (by omega)]
    congr 2 <;> omega

/-- the rows that enter at block `t` -/
abbrev XX (t : ℕ) : ℕ → ℕ → ℂ := X (fun i => w.u (row t i)) (βr w) (βi w)

theorem X_eq (t i n : ℕ) (hn : n < 2048) : XX w t i n = bu w (row t i) n := by
  unfold XX X bu βr βi
  apply Complex.ext
  · exact sum_bu (w.u (row t i)) (Br w) n hn
  · exact sum_bu (w.u (row t i)) (Bi w) n hn

/-! ## One block of rows -/

/-- the state before block `t` -/
abbrev κ (t : ℕ) : ℕ → ℂ := St w (512 * t)
abbrev KK (t : ℕ) : ℕ → ℕ → ℂ := kk (fun i => w.u (row t i)) (βr w) (βi w) (a w) (κ w t) (P w)
abbrev FF (t : ℕ) : ℕ → ℕ → ℂ := ff (fun i => w.u (row t i)) (βr w) (βi w) (a w) (κ w t) (P w)

theorem loc_St (t s n : ℕ) (hs : s < 8) (hn : n < 2048) (r : ℕ) :
    loc (a w) (XX w t) s n r + a w n ^ (r + 1) * St w (512 * t + 64 * s) n = St w (512 * t + 64 * s + r + 1) n := by
  induction r with
  | zero =>
    have e : row t s = 512 * t + 64 * s + 0 := by unfold row; omega
    rw [loc, X_eq w t s n hn, e]
    change _ = a w n * St w (512 * t + 64 * s + 0) n + bu w (512 * t + 64 * s + 0) n
    rw [Nat.add_zero]; ring
  | succ r ih =>
    have e : row t (8 * r + 8 + s) = 512 * t + 64 * s + (r + 1) := by unfold row; omega
    rw [loc, X_eq w t _ n hn, e]
    change _ = a w n * St w (512 * t + 64 * s + (r + 1)) n + bu w (512 * t + 64 * s + (r + 1)) n
    rw [← add_assoc, ← ih]; ring

theorem KK_eq (t n : ℕ) (hn : n < 2048) : ∀ s, s ≤ 8 → KK w t s n = St w (512 * t + 64 * s) n
  | 0, _ => rfl
  | s + 1, hs => by
    have ih := KK_eq t n hn s (by omega)
    change W (a w) (XX w t) (504 + s) n + P w 63 n * KK w t s n = _
    rw [W_eq _ _ _ _ (by omega) hn, ih, P_eq, show (504 + s) % 8 = s by omega, show (504 + s) / 8 = 63 by omega, loc_St w t s n (by omega) hn 63]
    congr 1

theorem FF_eq (t i n : ℕ) (hi : i < 512) (hn : n < 2048) : FF w t i n = St w (row t i + 1) n := by
  change F (P w) (KK w t) (W (a w) (XX w t)) i n = _
  rw [F_eq _ _ _ _ _ hi hn, W_eq _ _ _ _ hi hn, KK_eq w t n hn _ (by omega), P_eq, loc_St w t _ n (by omega) hn]
  rfl

/-! ## The outputs of a row -/

theorem sum_y (S : ℕ → ℝ) (C : ℕ → ℕ → ℕ → EReal) (j : ℕ) (hj : j < 512) :
    ∑ k : Fin 512, ((S (512 * (j / 128) + k.val) : ℝ) : EReal)
        * (C (8 * (j / 128) + k.val / 64) (j % 16) (k.val % 64) * (if k.val / 64 = j % 128 / 16 then 1 else 0))
    = ∑ p : Fin 64, ((S (64 * (j / 16) + p.val) : ℝ) : EReal) * C (j / 16) (j % 16) p.val := by
  refine (sum_block 8 64 (j % 128 / 16) (by omega)
    (fun k => ((S (512 * (j / 128) + k) : ℝ) : EReal) * (C (8 * (j / 128) + k / 64) (j % 16) (k % 64) * (if k / 64 = j % 128 / 16 then 1 else 0))) ?_).trans ?_
  · intro i _ hi
    change _ * (_ * (if _ then _ else _)) = _
    rw [if_neg hi, mul_zero, mul_zero]
  · refine Finset.sum_congr rfl fun x _ => ?_
    have hx := x.isLt
    change _ * (_ * (if _ then _ else _)) = _
    rw [if_pos (by omega), mul_one, show 512 * (j / 128) + (64 * (j % 128 / 16) + x.val) = 64 * (j / 16) + x.val by omega,
      show 8 * (j / 128) + (64 * (j % 128 / 16) + x.val) / 64 = j / 16 by omega, show (64 * (j % 128 / 16) + x.val) % 64 = x.val by omega]

/-- An array's entry at numbers. -/
def nat2 {n k : ℕ} [NeZero n] [NeZero k] (A : (⟨2, ![n, k]⟩ : Shape).Idx → EReal) (i j : ℕ) : EReal := A (ix2 (Fin.ofNat n i) (Fin.ofNat k j))
def nat3 {n k l : ℕ} [NeZero n] [NeZero k] [NeZero l] (A : (⟨3, ![n, k, l]⟩ : Shape).Idx → EReal) (i j q : ℕ) : EReal :=
  A (ix3 (Fin.ofNat n i) (Fin.ofNat k j) (Fin.ofNat l q))
theorem nat2_eq {n k : ℕ} [NeZero n] [NeZero k] (A : (⟨2, ![n, k]⟩ : Shape).Idx → EReal) (i : Fin n) (j : Fin k) : A (ix2 i j) = nat2 A i.val j.val := by
  rw [nat2, Fin.ofNat_val_eq_self, Fin.ofNat_val_eq_self]
theorem nat3_eq {n k l : ℕ} [NeZero n] [NeZero k] [NeZero l] (A : (⟨3, ![n, k, l]⟩ : Shape).Idx → EReal) (i : Fin n) (j : Fin k) (q : Fin l) :
    A (ix3 i j q) = nat3 A i.val j.val q.val := by
  rw [nat3, Fin.ofNat_val_eq_self, Fin.ofNat_val_eq_self, Fin.ofNat_val_eq_self]

/-- The output map and the rest of the layer's arrays. -/
structure Rest where
  cr : ℕ → ℕ → ℕ → EReal
  ci : ℕ → ℕ → ℕ → EReal
  d : ℕ → ℕ → EReal
  w : ℕ → ℕ → EReal
  b : ℕ → EReal
  z : ℕ → ℕ → EReal

/-- the layer's output at row `l` and column `j` -/
def YV (e : Rest) (l j : ℕ) : EReal :=
  (∑ p : Fin 64, (((St w (l + 1) (64 * (j / 16) + p.val)).re : ℝ) : EReal) * e.cr (j / 16) (j % 16) p.val
    - ∑ p : Fin 64, (((St w (l + 1) (64 * (j / 16) + p.val)).im : ℝ) : EReal) * e.ci (j / 16) (j % 16) p.val)
  + e.d (j / 16) (j % 16) * ((w.u l j : ℝ) : EReal)

/-- the gated output at row `l` and column `j` -/
def GV (e : Rest) (l j : ℕ) : EReal :=
  (gel (YV w e l j) * Ideal.logistic ((∑ k : Fin 512, gel (YV w e l k.val) * e.w k.val j) + e.b j)) * (e.z l j * Ideal.logistic (e.z l j))

/-- Half of one and the hyperbolic tangent of half is the logistic function. -/
theorem lgs_eq (x : EReal) : lgs x = Ideal.logistic x := by
  unfold lgs Ideal.logistic
  rw [bits_half]
  induction x with
  | bot =>
    rw [EReal.coe_mul_bot_of_pos (by norm_num : (0 : ℝ) < 1 / 2), EReal.neg_bot]
    change ((1 / 2 : ℝ) : EReal) * (-1 : EReal) + ((1 / 2 : ℝ) : EReal) = Ideal.div 1 (1 + ⊤)
    rw [mul_neg, mul_one, ← EReal.coe_neg, ← EReal.coe_add, ← EReal.coe_one, EReal.coe_add_top, neg_add_cancel]
    simp [Ideal.div]
  | top =>
    rw [EReal.coe_mul_top_of_pos (by norm_num : (0 : ℝ) < 1 / 2), EReal.neg_top]
    change ((1 / 2 : ℝ) : EReal) * (1 : EReal) + ((1 / 2 : ℝ) : EReal) = Ideal.div 1 (1 + 0)
    rw [mul_one, add_zero, ← EReal.coe_add, ← EReal.coe_one, div_coe _ _ one_ne_zero]
    norm_num
  | coe r =>
    have h := sg_eq_tanh r
    unfold sg at h
    rw [← EReal.coe_neg, ← EReal.coe_mul]
    change ((1 / 2 : ℝ) : EReal) * ((Real.tanh (1 / 2 * r) : ℝ) : EReal) + ((1 / 2 : ℝ) : EReal) = Ideal.div 1 (1 + ((Real.exp (-r) : ℝ) : EReal))
    rw [← EReal.coe_one, ← EReal.coe_add, div_coe _ _ (one_add_exp_pos r).ne', ← EReal.coe_mul, ← EReal.coe_add, ← h, one_div]

/-! ## Real values of the prepared arrays -/

theorem exp_coe (x : ℝ) : Ideal.exp (x : EReal) = ((Real.exp x : ℝ) : EReal) := rfl
theorem cos_coe (x : ℝ) : Ideal.cos (x : EReal) = ((Real.cos x : ℝ) : EReal) := rfl
theorem sin_coe (x : ℝ) : Ideal.sin (x : EReal) = ((Real.sin x : ℝ) : EReal) := rfl

theorem ar_coe (g p : ℕ) : Ideal.exp ((w.lr g p : EReal) * Ideal.exp (w.ld g : EReal)) * Ideal.cos ((w.li g p : EReal) * Ideal.exp (w.ld g : EReal))
    = ((ar w g p : ℝ) : EReal) := by
  rw [exp_coe, ← EReal.coe_mul, ← EReal.coe_mul, exp_coe, cos_coe, ← EReal.coe_mul]; rfl
theorem ai_coe (g p : ℕ) : Ideal.exp ((w.lr g p : EReal) * Ideal.exp (w.ld g : EReal)) * Ideal.sin ((w.li g p : EReal) * Ideal.exp (w.ld g : EReal))
    = ((ai w g p : ℝ) : EReal) := by
  rw [exp_coe, ← EReal.coe_mul, ← EReal.coe_mul, exp_coe, sin_coe, ← EReal.coe_mul]; rfl
theorem Pr_coe (r n : ℕ) (s : EReal) (hs : s = ((1 + r : ℝ) : EReal)) :
    Ideal.exp (s * ((w.lr (n / 64) (n % 64) : EReal) * Ideal.exp (w.ld (n / 64) : EReal))) * Ideal.cos (s * ((w.li (n / 64) (n % 64) : EReal) * Ideal.exp (w.ld (n / 64) : EReal)))
    = (((P w r n).re : ℝ) : EReal) := by
  subst hs
  rw [exp_coe, ← EReal.coe_mul, ← EReal.coe_mul, ← EReal.coe_mul, ← EReal.coe_mul, exp_coe, cos_coe, ← EReal.coe_mul]; rfl
theorem Pi_coe (r n : ℕ) (s : EReal) (hs : s = ((1 + r : ℝ) : EReal)) :
    Ideal.exp (s * ((w.lr (n / 64) (n % 64) : EReal) * Ideal.exp (w.ld (n / 64) : EReal))) * Ideal.sin (s * ((w.li (n / 64) (n % 64) : EReal) * Ideal.exp (w.ld (n / 64) : EReal)))
    = (((P w r n).im : ℝ) : EReal) := by
  subst hs
  rw [exp_coe, ← EReal.coe_mul, ← EReal.coe_mul, ← EReal.coe_mul, ← EReal.coe_mul, exp_coe, sin_coe, ← EReal.coe_mul]; rfl

theorem zr_coe (g p : ℕ) (hg : g < 32) (hp : p < 64) :
    Ideal.div (((ar w g p : EReal) - 1) * (w.lr g p : EReal) + (ai w g p : EReal) * (w.li g p : EReal))
      ((w.lr g p : EReal) * (w.lr g p : EReal) + (w.li g p : EReal) * (w.li g p : EReal)) = ((zr w g p : ℝ) : EReal) := by
  rw [← EReal.coe_one, ← EReal.coe_sub]
  repeat rw [← EReal.coe_mul]
  rw [← EReal.coe_add, ← EReal.coe_add, div_coe _ _ (w.ne g p hg hp)]; rfl
theorem zi_coe (g p : ℕ) (hg : g < 32) (hp : p < 64) :
    Ideal.div ((ai w g p : EReal) * (w.lr g p : EReal) - ((ar w g p : EReal) - 1) * (w.li g p : EReal))
      ((w.lr g p : EReal) * (w.lr g p : EReal) + (w.li g p : EReal) * (w.li g p : EReal)) = ((zi w g p : ℝ) : EReal) := by
  rw [← EReal.coe_one, ← EReal.coe_sub]
  repeat rw [← EReal.coe_mul]
  rw [← EReal.coe_add, ← EReal.coe_sub, div_coe _ _ (w.ne g p hg hp)]; rfl
theorem Br_coe (g p h : ℕ) : (zr w g p : EReal) * (w.br g p h : EReal) - (zi w g p : EReal) * (w.bi g p h : EReal) = ((Br w g p h : ℝ) : EReal) := by
  rw [← EReal.coe_mul, ← EReal.coe_mul, ← EReal.coe_sub]; rfl
theorem Bi_coe (g p h : ℕ) : (zr w g p : EReal) * (w.bi g p h : EReal) + (zi w g p : EReal) * (w.br g p h : EReal) = ((Bi w g p h : ℝ) : EReal) := by
  rw [← EReal.coe_mul, ← EReal.coe_mul, ← EReal.coe_add]; rfl

theorem βr_coe (q k j : ℕ) (hq : q < 4) (hk : k < 128) :
    (Ideal.div (((ar w (q * 8 + k / 16) (j % 64) : EReal) - 1) * (w.lr (q * 8 + k / 16) (j % 64) : EReal) + (ai w (q * 8 + k / 16) (j % 64) : EReal) * (w.li (q * 8 + k / 16) (j % 64) : EReal)) ((w.lr (q * 8 + k / 16) (j % 64) : EReal) * (w.lr (q * 8 + k / 16) (j % 64) : EReal) + (w.li (q * 8 + k / 16) (j % 64) : EReal) * (w.li (q * 8 + k / 16) (j % 64) : EReal))
        * (w.br (q * 8 + k / 16) (j % 64) (k % 16) : EReal)
      - Ideal.div ((ai w (q * 8 + k / 16) (j % 64) : EReal) * (w.lr (q * 8 + k / 16) (j % 64) : EReal) - ((ar w (q * 8 + k / 16) (j % 64) : EReal) - 1) * (w.li (q * 8 + k / 16) (j % 64) : EReal)) ((w.lr (q * 8 + k / 16) (j % 64) : EReal) * (w.lr (q * 8 + k / 16) (j % 64) : EReal) + (w.li (q * 8 + k / 16) (j % 64) : EReal) * (w.li (q * 8 + k / 16) (j % 64) : EReal))
        * (w.bi (q * 8 + k / 16) (j % 64) (k % 16) : EReal)) * (if k / 16 = j / 64 then (1 : EReal) else 0) = ((βr w q k j : ℝ) : EReal) := by
  rw [zr_coe w _ _ (by omega) (by omega), zi_coe w _ _ (by omega) (by omega), Br_coe, βr, mul_comm q 8]
  split_ifs
  · rw [mul_one]
  · rw [mul_zero, EReal.coe_zero]
theorem βi_coe (q k j : ℕ) (hq : q < 4) (hk : k < 128) :
    (Ideal.div (((ar w (q * 8 + k / 16) (j % 64) : EReal) - 1) * (w.lr (q * 8 + k / 16) (j % 64) : EReal) + (ai w (q * 8 + k / 16) (j % 64) : EReal) * (w.li (q * 8 + k / 16) (j % 64) : EReal)) ((w.lr (q * 8 + k / 16) (j % 64) : EReal) * (w.lr (q * 8 + k / 16) (j % 64) : EReal) + (w.li (q * 8 + k / 16) (j % 64) : EReal) * (w.li (q * 8 + k / 16) (j % 64) : EReal))
        * (w.bi (q * 8 + k / 16) (j % 64) (k % 16) : EReal)
      + Ideal.div ((ai w (q * 8 + k / 16) (j % 64) : EReal) * (w.lr (q * 8 + k / 16) (j % 64) : EReal) - ((ar w (q * 8 + k / 16) (j % 64) : EReal) - 1) * (w.li (q * 8 + k / 16) (j % 64) : EReal)) ((w.lr (q * 8 + k / 16) (j % 64) : EReal) * (w.lr (q * 8 + k / 16) (j % 64) : EReal) + (w.li (q * 8 + k / 16) (j % 64) : EReal) * (w.li (q * 8 + k / 16) (j % 64) : EReal))
        * (w.br (q * 8 + k / 16) (j % 64) (k % 16) : EReal)) * (if k / 16 = j / 64 then (1 : EReal) else 0) = ((βi w q k j : ℝ) : EReal) := by
  rw [zr_coe w _ _ (by omega) (by omega), zi_coe w _ _ (by omega) (by omega), Bi_coe, βi, mul_comm q 8]
  split_ifs
  · rw [mul_one]
  · rw [mul_zero, EReal.coe_zero]

end Cert.SsmSpec
end
-- ==== Proof.Ssm.Blocks.lean ====
/- The blocks that a grid point of the forward scan loads, as the host's operations prepare them. -/
module

public import proofs.«01_k».proof.Proof.Ssm.Spec
public import proofs.«01_k».proof.Proof.Gen.SsmIdeal.Value

@[expose] public section

set_option maxRecDepth 16384

noncomputable section

namespace Cert.SsmBlocks

open Idealize.ShloMosaic Idealize.ShloMosaic.TcCoe Idealize.SL.Sem Cert.SsmIdeal Cert.SsmIdeal.Gen Cert.Lift Cert.SsmArr Cert.SsmPay Cert.SsmOuts Cert.SsmSpec

/-- Every window's block index at every point. -/
theorem idx : ∀ t : Fin cfg0.N, win0_0.index t = ![t.val, 6] ∧ win0_1.index t = ![t.val, 7] ∧ win0_2.index t = ![0, 0, 0]
    ∧ win0_3.index t = ![0, 0, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0]
    ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

/-! ## The identity that spreads the blocks over the diagonal -/

theorem bits_one : Ideal.ofBits .f32 0x3F800000#32 = (1 : EReal) := by
  rw [← EReal.coe_one]; simp [Ideal.ofBits, Ideal.ieee, -EReal.coe_mul, -EReal.coe_one]; norm_num
theorem diag (l : Fin 64 → BitVec 32) (hl : ∀ i j : Fin 8, l (S8x8.rowMajor (ix2 i j)) = if i = j then 0x3F800000#32 else 0#32) (i j : Fin 8) :
    Ideal.ofBits .f32 (l (S8x8.rowMajor (ix2 i j))) = if i.val = j.val then (1 : EReal) else 0 := by
  rw [hl]
  by_cases h : i = j
  · rw [if_pos h, if_pos (congrArg Fin.val h), bits_one]
  · rw [if_neg h, if_neg (fun e => h (Fin.ext e))]; simp [Ideal.ofBits, Ideal.ieee]
theorem d0 (i j : Fin 8) : Ideal.ofBits .f32 (Cert.SsmIdeal.lit0 (S8x8.rowMajor (ix2 i j))) = if i.val = j.val then (1 : EReal) else 0 :=
  diag Cert.SsmIdeal.lit0 (by decide +kernel) i j
theorem d1 (i j : Fin 8) : Ideal.ofBits .f32 (Cert.SsmIdeal.lit1 (S8x8.rowMajor (ix2 i j))) = if i.val = j.val then (1 : EReal) else 0 :=
  diag Cert.SsmIdeal.lit1 (by decide +kernel) i j
theorem d2 (i j : Fin 8) : Ideal.ofBits .f32 (Cert.SsmIdeal.lit2 (S8x8.rowMajor (ix2 i j))) = if i.val = j.val then (1 : EReal) else 0 :=
  diag Cert.SsmIdeal.lit2 (by decide +kernel) i j
theorem d3 (i j : Fin 8) : Ideal.ofBits .f32 (Cert.SsmIdeal.lit3 (S8x8.rowMajor (ix2 i j))) = if i.val = j.val then (1 : EReal) else 0 :=
  diag Cert.SsmIdeal.lit3 (by decide +kernel) i j

/-! ## The arguments -/

/-- The arrays of the call hold the parameters; the others are as they are. -/
structure Args (m : (ℓ : Loc nD τ sig) → Buf (Elt Ideal) ℓ) (c : Dev nD) (w : Par) : Prop where
  u : ∀ (l : Fin 8192) (j : Fin 512), (m ((c : Thread nD τ).loc main_arg0) : Vec Ideal S8192x6144 .bf16) (ix2 l ⟨3072 + j.val, by omega⟩) = ((w.u l.val j.val : ℝ) : EReal)
  lr : m ((c : Thread nD τ).loc main_arg1) = (L2 w.lr : Vec Ideal S32x64 .f32)
  li : m ((c : Thread nD τ).loc main_arg2) = (L2 w.li : Vec Ideal S32x64 .f32)
  ld : m ((c : Thread nD τ).loc main_arg3) = (fun i => ((w.ld (i 0).val : ℝ) : EReal) : Vec Ideal S32 .f32)
  br : m ((c : Thread nD τ).loc main_arg4) = (L3 w.br : Vec Ideal S32x64x16 .f32)
  bi : m ((c : Thread nD τ).loc main_arg5) = (L3 w.bi : Vec Ideal S32x64x16 .f32)

section
variable (m : (ℓ : Loc nD τ sig) → Buf (Elt Ideal) ℓ) (c : Dev nD)

theorem v120 (i q : Fin 8192) (j : Fin 6144) (h : q.val = row (i.val / 512) (i.val % 512)) :
    V m c main_v120 (ix2 i j) = m ((c : Thread nD τ).loc main_arg0) (ix2 q j) := by
  obtain ⟨q, hq⟩ := q
  change q = row _ _ at h
  unfold row at h
  obtain rfl : q = i.val / 512 * 512 + i.val % 8 * 64 + i.val / 8 % 64 := by
    have e1 : i.val % 512 / 8 = i.val / 8 - 64 * (i.val / 512) := by omega
    have e2 : i.val / 8 / 64 = i.val / 512 := Nat.div_div_eq_div_mul _ 8 64
    have e3 : i.val % 512 % 8 = i.val % 8 := by omega
    omega
  unfold V
  after_results
  pointwise

theorem rd0 (t : Fin cfg0.N) (i j : Fin 512) (q : Fin 8192) (hq : q.val = 512 * t.val + i.val) :
    iblk m c 0 t (ix2 i j) = V m c main_v120 (ix2 q ⟨3072 + j.val, by omega⟩) := by
  blk_ext [iblk, V, idx t]
theorem rd1 (t : Fin cfg0.N) (i j : Fin 512) (q : Fin 8192) (hq : q.val = 512 * t.val + i.val) :
    iblk m c 1 t (ix2 i j) = V m c main_v120 (ix2 q ⟨3584 + j.val, by omega⟩) := by
  blk_ext [iblk, V, idx t]
theorem rd2 (t : Fin cfg0.N) (q : Fin 4) (k : Fin 128) (j : Fin 512) : iblk m c 2 t (ix3 q k j) = V m c main_v93 (ix3 q k j) := by
  blk_ext [iblk, V, idx t]
theorem rd3 (t : Fin cfg0.N) (q : Fin 4) (k : Fin 128) (j : Fin 512) : iblk m c 3 t (ix3 q k j) = V m c main_v101 (ix3 q k j) := by
  blk_ext [iblk, V, idx t]
theorem rd4 (t : Fin cfg0.N) (q : Fin 4) (k : Fin 512) (j : Fin 128) : iblk m c 4 t (ix3 q k j) = V m c main_v109 (ix3 q k j) := by
  blk_ext [iblk, V, idx t]
theorem rd5 (t : Fin cfg0.N) (q : Fin 4) (k : Fin 512) (j : Fin 128) : iblk m c 5 t (ix3 q k j) = V m c main_v117 (ix3 q k j) := by
  blk_ext [iblk, V, idx t]
theorem rd6 (t : Fin cfg0.N) (i : Fin 1) (j : Fin 2048) : iblk m c 6 t (ix2 i j) = V m c main_v46 (ix2 i j) := by
  blk_ext [iblk, V, idx t]
theorem rd7 (t : Fin cfg0.N) (i : Fin 1) (j : Fin 2048) : iblk m c 7 t (ix2 i j) = V m c main_v47 (ix2 i j) := by
  blk_ext [iblk, V, idx t]
theorem rd8 (t : Fin cfg0.N) (i : Fin 64) (j : Fin 2048) : iblk m c 8 t (ix2 i j) = V m c main_v69 (ix2 i j) := by
  blk_ext [iblk, V, idx t]
theorem rd9 (t : Fin cfg0.N) (i : Fin 64) (j : Fin 2048) : iblk m c 9 t (ix2 i j) = V m c main_v85 (ix2 i j) := by
  blk_ext [iblk, V, idx t]
theorem rd10 (t : Fin cfg0.N) (i : Fin 1) (j : Fin 512) : iblk m c 10 t (ix2 i j) = V m c main_v121 (ix2 i j) := by
  blk_ext [iblk, V, idx t]
theorem rd11 (t : Fin cfg0.N) (i j : Fin 512) : iblk m c 11 t (ix2 i j) = V m c main_v122 (ix2 i j) := by
  blk_ext [iblk, V, idx t]
theorem rd12 (t : Fin cfg0.N) (i : Fin 1) (j : Fin 512) : iblk m c 12 t (ix2 i j) = m ((c : Thread nD τ).loc main_arg10) (ix2 i j) := by
  blk_ext! [iblk, V, idx t]

/-! The arrays that are not assumed finite. -/

theorem blk4 (t : Fin cfg0.N) (q : Fin 4) (k : Fin 512) (j : Fin 128) : (iblk m c 4 t : Vec Ideal S4x512x128 .bf16) (ix3 q k j)
    = (show Vec Ideal S32x16x64 .f32 from m ((c : Thread nD τ).loc main_arg6)) (ix3 ⟨q.val * 8 + k.val / 64, by omega⟩ ⟨j.val % 16, by omega⟩ ⟨k.val % 64, by omega⟩)
      * (if k.val / 64 = j.val / 16 then (1 : EReal) else 0) := by
  refine (rd4 m c t q k j).trans ?_
  unfold V
  after_results
  pointwise [d2]
theorem blk5 (t : Fin cfg0.N) (q : Fin 4) (k : Fin 512) (j : Fin 128) : (iblk m c 5 t : Vec Ideal S4x512x128 .bf16) (ix3 q k j)
    = (show Vec Ideal S32x16x64 .f32 from m ((c : Thread nD τ).loc main_arg7)) (ix3 ⟨q.val * 8 + k.val / 64, by omega⟩ ⟨j.val % 16, by omega⟩ ⟨k.val % 64, by omega⟩)
      * (if k.val / 64 = j.val / 16 then (1 : EReal) else 0) := by
  refine (rd5 m c t q k j).trans ?_
  unfold V
  after_results
  pointwise [d3]
theorem blk10 (t : Fin cfg0.N) (j : Fin 512) : (iblk m c 10 t : Vec Ideal S1x512 .f32) (ix2 0 j)
    = (m ((c : Thread nD τ).loc main_arg8) : Vec Ideal S32x16 .f32) (ix2 ⟨j.val / 16, by omega⟩ ⟨j.val % 16, by omega⟩) := by
  refine (rd10 m c t 0 j).trans ?_
  unfold V
  after_results
  pointwise
theorem blk11 (t : Fin cfg0.N) (i j : Fin 512) : (iblk m c 11 t : Vec Ideal S512x512 .bf16) (ix2 i j)
    = (m ((c : Thread nD τ).loc main_arg9) : Vec Ideal S512x512 .f32) (ix2 i j) := by
  refine (rd11 m c t i j).trans ?_
  unfold V
  after_results
  pointwise
theorem blk1 (t : Fin cfg0.N) (i j : Fin 512) (q : Fin 8192) (hq : q.val = row t.val i.val) : (iblk m c 1 t : Vec Ideal S512x512 .bf16) (ix2 i j)
    = (m ((c : Thread nD τ).loc main_arg0) : Vec Ideal S8192x6144 .bf16) (ix2 q ⟨3584 + j.val, by omega⟩) := by
  have ht : t.val < 16 := lt_of_lt_of_eq t.isLt N_0
  refine (rd1 m c t i j ⟨512 * t.val + i.val, by omega⟩ rfl).trans (v120 m c _ _ _ ?_)
  rw [hq]; dsimp only; congr 1 <;> omega
end

/-! The arrays that are. -/

section
variable {m : (ℓ : Loc nD τ sig) → Buf (Elt Ideal) ℓ} {c : Dev nD} {w : Par} (H : Args m c w)
include H

theorem h_lr (i : Fin 32) (j : Fin 64) : m (c, Proc.tc.devRef main_arg1) (ix2 i j) = ((w.lr i.val j.val : ℝ) : EReal) := congrFun H.lr (ix2 i j)
theorem h_li (i : Fin 32) (j : Fin 64) : m (c, Proc.tc.devRef main_arg2) (ix2 i j) = ((w.li i.val j.val : ℝ) : EReal) := congrFun H.li (ix2 i j)
theorem h_ld (i : Fin 32) : m (c, Proc.tc.devRef main_arg3) (ix1 i) = ((w.ld i.val : ℝ) : EReal) := congrFun H.ld (ix1 i)
theorem h_br (i : Fin 32) (j : Fin 64) (k : Fin 16) : m (c, Proc.tc.devRef main_arg4) (ix3 i j k) = ((w.br i.val j.val k.val : ℝ) : EReal) := congrFun H.br (ix3 i j k)
theorem h_bi (i : Fin 32) (j : Fin 64) (k : Fin 16) : m (c, Proc.tc.devRef main_arg5) (ix3 i j k) = ((w.bi i.val j.val k.val : ℝ) : EReal) := congrFun H.bi (ix3 i j k)

theorem blk0 (t : Fin cfg0.N) : iblk m c 0 t = (L2 (fun i => w.u (row t.val i)) : Vec Ideal S512x512 .bf16) := by
  have ht : t.val < 16 := lt_of_lt_of_eq t.isLt N_0
  funext i; idx_vars i
  refine (rd0 m c t i0 i1 ⟨512 * t.val + i0.val, by omega⟩ rfl).trans ((v120 m c _ ⟨row t.val i0.val, by unfold row; omega⟩ _ ?_).trans (H.u _ _))
  dsimp only; congr 1 <;> omega

theorem blk6 (t : Fin cfg0.N) : iblk m c 6 t = (L2 (re1 (a w)) : Vec Ideal S1x2048 .f32) := by
  funext i; idx_vars i
  obtain rfl : i0 = 0 := Subsingleton.elim _ _
  refine (rd6 m c t 0 i1).trans ?_
  unfold V
  after_results
  pointwise [h_lr H, h_li H, h_ld H]
  exact ar_coe w _ _
theorem blk7 (t : Fin cfg0.N) : iblk m c 7 t = (L2 (im1 (a w)) : Vec Ideal S1x2048 .f32) := by
  funext i; idx_vars i
  obtain rfl : i0 = 0 := Subsingleton.elim _ _
  refine (rd7 m c t 0 i1).trans ?_
  unfold V
  after_results
  pointwise [h_lr H, h_li H, h_ld H]
  exact ai_coe w _ _
omit H in
theorem step_coe (i : Fin 64) : 1 + (FloatOps.sitofp (F := Ideal) .f32 (BitVec.ofNat 32 i.val) : EReal) = ((1 + (i.val : ℝ) : ℝ) : EReal) := by
  change 1 + ((((BitVec.ofNat 32 i.val).toInt : ℝ)) : EReal) = _
  have : (BitVec.ofNat 32 i.val).toInt = (i.val : ℤ) := by revert i; decide +kernel
  rw [this, EReal.coe_add]; rfl
theorem blk8 (t : Fin cfg0.N) : iblk m c 8 t = (L2 (re2 (P w)) : Vec Ideal S64x2048 .f32) := by
  funext i; idx_vars i
  refine (rd8 m c t i0 i1).trans ?_
  unfold V
  after_results
  pointwise [h_lr H, h_li H, h_ld H]
  exact Pr_coe w _ _ _ (step_coe i0)
theorem blk9 (t : Fin cfg0.N) : iblk m c 9 t = (L2 (im2 (P w)) : Vec Ideal S64x2048 .f32) := by
  funext i; idx_vars i
  refine (rd9 m c t i0 i1).trans ?_
  unfold V
  after_results
  pointwise [h_lr H, h_li H, h_ld H]
  exact Pi_coe w _ _ _ (step_coe i0)
theorem blk2 (t : Fin cfg0.N) : iblk m c 2 t = (L3 (βr w) : Vec Ideal S4x128x512 .bf16) := by
  funext i; idx_vars i
  refine (rd2 m c t i0 i1 i2).trans ?_
  unfold V
  after_results
  pointwise [h_lr H, h_li H, h_ld H, h_br H, h_bi H, ar_coe, ai_coe, d0]
  exact βr_coe w _ _ _ i0.isLt i1.isLt
theorem blk3 (t : Fin cfg0.N) : iblk m c 3 t = (L3 (βi w) : Vec Ideal S4x128x512 .bf16) := by
  funext i; idx_vars i
  refine (rd3 m c t i0 i1 i2).trans ?_
  unfold V
  after_results
  pointwise [h_lr H, h_li H, h_ld H, h_br H, h_bi H, ar_coe, ai_coe, d1]
  exact βi_coe w _ _ _ i0.isLt i1.isLt

/-- What every point loads. -/
theorem hold (t : Fin cfg0.N) : Hold m c t (fun i => w.u (row t.val i)) (βr w) (βi w) (a w) (P w) :=
  ⟨blk0 H t, blk2 H t, blk3 H t, blk6 H t, blk7 H t, blk8 H t, blk9 H t⟩
end

end Cert.SsmBlocks
end
-- ==== Proof.Ssm.Final.lean ====
/- The six arrays that the forward scan leaves. -/
module

public import proofs.«01_k».proof.Proof.Ssm.Blocks

@[expose] public section

set_option maxRecDepth 16384

noncomputable section

namespace Cert.SsmFinal

open Idealize.ShloMosaic Idealize.ShloMosaic.TcCoe Idealize.SL.Sem Cert.SsmIdeal Cert.SsmIdeal.Gen Cert.Lift Cert.SsmArr Cert.SsmPay Cert.SsmStage Cert.SsmOuts Cert.SsmSpec Cert.SsmBlocks

/-! ## The carried states -/

theorem zero_row (w : Vec Ideal S8x2048 .f32) (hw : ∀ x, w x = 0) (M : Memref sig K .vmem S8x2048 .f32) (inb inb') :
    rcv M [⟨Rect.unit (s := S8x2048) ![0, 0] ![8, 2048] inb, w⟩] (Rect.unit (s := S8x2048) ![0, 0] ![1, 2048] inb').toLoadRect
    = (L2 (fun _ _ => 0) : Vec Ideal S1x2048 .f32) := by
  have e : View.canon [⟨Rect.unit (s := S8x2048) ![0, 0] ![8, 2048] inb, w⟩] = (L2 (fun _ _ => 0) : Vec Ideal S8x2048 .f32) := by
    funext y
    have h0 : (y 0).val < 8 := (y 0).isLt
    have h1 : (y 1).val < 2048 := (y 1).isLt
    exact canon_one _ _ 0 0 8 2048 rfl rfl inb w y (fun _ _ => 0) (funext fun x => hw x) (by omega) []
  rw [rcv_eq, e, ld_L2 _ _ _ 0 0 1 2048 rfl rfl]
  rfl

theorem z0_eq : z0 = L2 (re1 fun _ => 0) :=
  zero_row (k0_pay2 (F := Ideal)) (fun x => by idx_vars x; pointwise [k0_pay2]) _ _ _
theorem z1_eq : z1 = L2 (im1 fun _ => 0) :=
  zero_row (k0_pay3 (F := Ideal)) (fun x => by idx_vars x; pointwise [k0_pay3]) _ _ _

section
variable {m : (ℓ : Loc nD τ sig) → Buf (Elt Ideal) ℓ} {c : Dev nD} {w : Par} (H : Args m c w)
include H

/-- What a point leaves, from the state before its rows. -/
theorem leaves : ∀ n (hn : n < cfg0.N), ∃ pr pi, pr = (L2 (re1 (κ w n)) : Vec Ideal S1x2048 .f32) ∧ pi = (L2 (im1 (κ w n)) : Vec Ideal S1x2048 .f32)
    ∧ Leaves m c ⟨n, hn⟩ pr pi (outsAt0 m c n hn)
  | 0, hn => ⟨z0, z1, z0_eq, z1_eq, leavesA m c ⟨0, hn⟩ rfl⟩
  | n + 1, hn => by
    have hN : cfg0.N = 16 := N_0
    obtain ⟨pr, pi, hr, hi, h⟩ := leaves n (by omega)
    have Hn := hold H ⟨n, by omega⟩
    have er := h.2.2.2.2.2.2.1
    have ei := h.2.2.2.2.2.2.2
    have ek : ∀ j, j < 2048 → KK w n 8 j = κ w (n + 1) j := fun j hj => (KK_eq w n j hj 8 le_rfl).trans (by rw [show 512 * n + 64 * 8 = 512 * (n + 1) by ring])
    refine ⟨_, _, ?_, ?_, leavesB m c ⟨n + 1, hn⟩ _ _ (by change ¬ (n + 1) % 16 = 0; omega) (by change n < _; omega) rfl rfl⟩
    · refine er.trans ?_
      rw [e51 Hn hr hi]
      exact (pay50 _).trans (L2_congr fun i j _ hj => congrArg Complex.re (ek j hj))
    · refine ei.trans ?_
      rw [e5253 Hn hr hi]
      exact L2_congr fun i j _ hj => congrArg Complex.im (ek j hj)

/-! ## One point's blocks -/

/-- The arrays that are not assumed finite, by numbers. -/
def rest (m : (ℓ : Loc nD τ sig) → Buf (Elt Ideal) ℓ) (c : Dev nD) : Rest where
  cr := nat3 (show Vec Ideal S32x16x64 .f32 from m ((c : Thread nD τ).loc main_arg6))
  ci := nat3 (show Vec Ideal S32x16x64 .f32 from m ((c : Thread nD τ).loc main_arg7))
  d := nat2 (show Vec Ideal S32x16 .f32 from m ((c : Thread nD τ).loc main_arg8))
  w := nat2 (show Vec Ideal S512x512 .f32 from m ((c : Thread nD τ).loc main_arg9))
  b := nat2 (show Vec Ideal S1x512 .f32 from m ((c : Thread nD τ).loc main_arg10)) 0
  z := fun l j => nat2 (show Vec Ideal S8192x6144 .bf16 from m ((c : Thread nD τ).loc main_arg0)) l (3584 + j)

theorem y_at (t : Fin cfg0.N) (pr pi) (hr : pr = (L2 (re1 (κ w t.val)) : Vec Ideal S1x2048 .f32)) (hi : pi = (L2 (im1 (κ w t.val)) : Vec Ideal S1x2048 .f32))
    (i j : Fin 512) : o13 m c t pr pi (ix2 i j) = YV w (rest m c) (row t.val i.val) j.val := by
  rw [y_eq (hold H t) hr hi, yv, YV]
  have hj := j.isLt
  have hS : ∀ k : Fin 512, FF w t.val i.val (512 * (j.val / 128) + k.val) = St w (row t.val i.val + 1) (512 * (j.val / 128) + k.val) :=
    fun k => FF_eq w _ _ _ i.isLt (by have := k.isLt; omega)
  refine congrArg₂ (· + ·) (congrArg₂ (· - ·) ?_ ?_) (congrArg (· * _) ?_)
  · refine (Finset.sum_congr rfl fun k _ => ?_).trans (sum_y (fun n => (St w (row t.val i.val + 1) n).re) (rest m c).cr j.val hj)
    refine congrArg₂ (· * ·) (congrArg (fun x : ℂ => ((x.re : ℝ) : EReal)) (hS k)) ((blk4 m c t _ k _).trans ?_)
    rw [mul_comm 8 (j.val / 128), show j.val % 16 = j.val % 128 % 16 by omega]
    exact congrArg (· * (if k.val / 64 = j.val % 128 / 16 then (1 : EReal) else 0)) (nat3_eq (show Vec Ideal S32x16x64 .f32 from m ((c : Thread nD τ).loc main_arg6)) _ _ _)
  · refine (Finset.sum_congr rfl fun k _ => ?_).trans (sum_y (fun n => (St w (row t.val i.val + 1) n).im) (rest m c).ci j.val hj)
    refine congrArg₂ (· * ·) (congrArg (fun x : ℂ => ((x.im : ℝ) : EReal)) (hS k)) ((blk5 m c t _ k _).trans ?_)
    rw [mul_comm 8 (j.val / 128), show j.val % 16 = j.val % 128 % 16 by omega]
    exact congrArg (· * (if k.val / 64 = j.val % 128 / 16 then (1 : EReal) else 0)) (nat3_eq (show Vec Ideal S32x16x64 .f32 from m ((c : Thread nD τ).loc main_arg7)) _ _ _)
  · exact (blk10 m c t j).trans (nat2_eq _ _ _)

omit H in
theorem g_form (y y' : EReal) (f f' v v' : Fin 512 → EReal) (b b' z z' : EReal) (hy : y = y') (hf : ∀ k, f k = f' k) (hv : ∀ k, v k = v' k)
    (hb : b = b') (hz : z = z') :
    (gel y * lgs ((∑ k, gel (f k) * v k) + b)) * (z * lgs z)
    = (gel y' * Ideal.logistic ((∑ k, gel (f' k) * v' k) + b')) * (z' * Ideal.logistic z') := by
  obtain rfl := hy
  obtain rfl : f = f' := funext hf
  obtain rfl : v = v' := funext hv
  obtain rfl := hb
  obtain rfl := hz
  rw [lgs_eq, lgs_eq]

theorem g_at (t : Fin cfg0.N) (pr pi) (hr : pr = (L2 (re1 (κ w t.val)) : Vec Ideal S1x2048 .f32)) (hi : pi = (L2 (im1 (κ w t.val)) : Vec Ideal S1x2048 .f32))
    (i j : Fin 512) : o14 m c t pr pi (ix2 i j) = GV w (rest m c) (row t.val i.val) j.val := by
  have ht : t.val < 16 := lt_of_lt_of_eq t.isLt N_0
  have hz := (blk1 m c t i j ⟨row t.val i.val, by unfold row; omega⟩ rfl).trans (nat2_eq _ _ _)
  have hb := (rd12 m c t 0 j).trans (nat2_eq (show Vec Ideal S1x512 .f32 from m ((c : Thread nD τ).loc main_arg10)) 0 j)
  exact (g_eq (hold H t) hr hi i j).trans (g_form _ _ _ _ _ _ _ _ _ _ (y_at H t pr pi hr hi i j) (fun k => y_at H t pr pi hr hi i k)
    (fun k => (blk11 m c t k j).trans (nat2_eq _ _ _)) hb hz)

/-! ## The arrays -/

/-- the row of the sequence at row `i` of an array -/
def sq (i : ℕ) : ℕ := row (i / 512) (i % 512)

omit H in
theorem sq_at (t i : ℕ) (hi : i < 512) : sq (512 * t + i) = row t i := by
  unfold sq
  rw [show (512 * t + i) / 512 = t by omega, show (512 * t + i) % 512 = i by omega]

/-- the rows of the sequence, in the order in which the arrays hold them -/
def rowsOf {k : ℕ} (f : ℕ → ℕ → EReal) : (⟨2, ![8192, k]⟩ : Shape).Idx → EReal := fun i => f (sq (i 0).val) (i 1).val
omit H in
theorem read13 (f : ℕ → ℕ → EReal) (t : Fin cfg0.N) (y0 : Fin 512) (y1 : Fin 512) :
    f (row t.val y0.val) y1.val = rowsOf f (((cfg0.win 13).blk t).view.emb (ix2 y0 y1)) := by
  have ht : t.val < 16 := lt_of_lt_of_eq t.isLt N_0
  rw [← sq_at t.val y0.val y0.isLt]
  refine congrArg (rowsOf (k := 512) f) (?_ : ix2 (⟨512 * t.val + y0.val, by omega⟩ : Fin 8192) y1 = _)
  blk_ext! [idx t]
omit H in
theorem read14 (f : ℕ → ℕ → EReal) (t : Fin cfg0.N) (y0 : Fin 512) (y1 : Fin 512) :
    f (row t.val y0.val) y1.val = rowsOf f (((cfg0.win 14).blk t).view.emb (ix2 y0 y1)) := by
  have ht : t.val < 16 := lt_of_lt_of_eq t.isLt N_0
  rw [← sq_at t.val y0.val y0.isLt]
  refine congrArg (rowsOf (k := 512) f) (?_ : ix2 (⟨512 * t.val + y0.val, by omega⟩ : Fin 8192) y1 = _)
  blk_ext! [idx t]
omit H in
theorem read15 (f : ℕ → ℕ → EReal) (t : Fin cfg0.N) (y0 : Fin 512) (y1 : Fin 2048) :
    f (row t.val y0.val) y1.val = rowsOf f (((cfg0.win 15).blk t).view.emb (ix2 y0 y1)) := by
  have ht : t.val < 16 := lt_of_lt_of_eq t.isLt N_0
  rw [← sq_at t.val y0.val y0.isLt]
  refine congrArg (rowsOf (k := 2048) f) (?_ : ix2 (⟨512 * t.val + y0.val, by omega⟩ : Fin 8192) y1 = _)
  blk_ext! [idx t]
omit H in
theorem read16 (f : ℕ → ℕ → EReal) (t : Fin cfg0.N) (y0 : Fin 512) (y1 : Fin 2048) :
    f (row t.val y0.val) y1.val = rowsOf f (((cfg0.win 16).blk t).view.emb (ix2 y0 y1)) := by
  have ht : t.val < 16 := lt_of_lt_of_eq t.isLt N_0
  rw [← sq_at t.val y0.val y0.isLt]
  refine congrArg (rowsOf (k := 2048) f) (?_ : ix2 (⟨512 * t.val + y0.val, by omega⟩ : Fin 8192) y1 = _)
  blk_ext! [idx t]
omit H in
theorem read17 (f : ℕ → ℕ → ℝ) (t : Fin cfg0.N) (y0 : Fin 8) (y1 : Fin 2048) :
    ((f (512 * t.val + 64 * y0.val) y1.val : ℝ) : EReal) = (L2 fun i n => f (64 * i) n : (⟨2, ![128, 2048]⟩ : Shape).Idx → EReal) (((cfg0.win 17).blk t).view.emb (ix2 y0 y1)) := by
  have ht : t.val < 16 := lt_of_lt_of_eq t.isLt N_0
  rw [show 512 * t.val + 64 * y0.val = 64 * (8 * t.val + y0.val) by ring]
  refine congrArg (L2 fun i n => f (64 * i) n) (?_ : ix2 (⟨8 * t.val + y0.val, by omega⟩ : Fin 128) y1 = _)
  blk_ext! [idx t]
omit H in
theorem read18 (f : ℕ → ℕ → ℝ) (t : Fin cfg0.N) (y0 : Fin 8) (y1 : Fin 2048) :
    ((f (512 * t.val + 64 * y0.val) y1.val : ℝ) : EReal) = (L2 fun i n => f (64 * i) n : (⟨2, ![128, 2048]⟩ : Shape).Idx → EReal) (((cfg0.win 18).blk t).view.emb (ix2 y0 y1)) := by
  have ht : t.val < 16 := lt_of_lt_of_eq t.isLt N_0
  rw [show 512 * t.val + 64 * y0.val = 64 * (8 * t.val + y0.val) by ring]
  refine congrArg (L2 fun i n => f (64 * i) n) (?_ : ix2 (⟨8 * t.val + y0.val, by omega⟩ : Fin 128) y1 = _)
  blk_ext! [idx t]

theorem arr13 : (dats m 0 c).arrAt 13 cfg0.N = rowsOf (YV w (rest m c)) := by
  refine (dats m 0 c).arrAt_eq_of_covers 13 _ (by decide +kernel) fun t hf y => ?_
  blk_simp
  obtain ⟨pr, pi, hr, hi, h⟩ := leaves H t.val t.isLt
  idx_vars y
  rw [after0_13, h.1]
  exact (y_at H t pr pi hr hi y0 y1).trans (read13 _ t y0 y1)

theorem arr14 : (dats m 0 c).arrAt 14 cfg0.N = rowsOf (GV w (rest m c)) := by
  refine (dats m 0 c).arrAt_eq_of_covers 14 _ (by decide +kernel) fun t hf y => ?_
  blk_simp
  obtain ⟨pr, pi, hr, hi, h⟩ := leaves H t.val t.isLt
  idx_vars y
  rw [after0_14, h.2.1]
  exact (g_at H t pr pi hr hi y0 y1).trans (read14 _ t y0 y1)

theorem arr15 : (dats m 0 c).arrAt 15 cfg0.N = rowsOf fun l n => (((St w (l + 1) n).re : ℝ) : EReal) := by
  refine (dats m 0 c).arrAt_eq_of_covers 15 _ (by decide +kernel) fun t hf y => ?_
  blk_simp
  obtain ⟨pr, pi, hr, hi, h⟩ := leaves H t.val t.isLt
  idx_vars y
  rw [after0_15, h.2.2.1, (cN (hold H t) hr hi).1]
  exact (congrArg (fun x : ℂ => ((x.re : ℝ) : EReal)) (FF_eq w t.val y0.val y1.val y0.isLt y1.isLt)).trans (read15 (fun l n => (((St w (l + 1) n).re : ℝ) : EReal)) t y0 y1)

theorem arr16 : (dats m 0 c).arrAt 16 cfg0.N = rowsOf fun l n => (((St w (l + 1) n).im : ℝ) : EReal) := by
  refine (dats m 0 c).arrAt_eq_of_covers 16 _ (by decide +kernel) fun t hf y => ?_
  blk_simp
  obtain ⟨pr, pi, hr, hi, h⟩ := leaves H t.val t.isLt
  idx_vars y
  rw [after0_16, h.2.2.2.1, (cN (hold H t) hr hi).2]
  exact (congrArg (fun x : ℂ => ((x.im : ℝ) : EReal)) (FF_eq w t.val y0.val y1.val y0.isLt y1.isLt)).trans (read16 (fun l n => (((St w (l + 1) n).im : ℝ) : EReal)) t y0 y1)

theorem arr17 : (dats m 0 c).arrAt 17 cfg0.N = L2 fun i n => ((St w (64 * i) n).re) := by
  refine (dats m 0 c).arrAt_eq_of_covers 17 _ (by decide +kernel) fun t hf y => ?_
  blk_simp
  obtain ⟨pr, pi, hr, hi, h⟩ := leaves H t.val t.isLt
  idx_vars y
  rw [after0_17, h.2.2.2.2.1, cL17 (hold H t) hr hi]
  exact (congrArg (fun x : ℂ => ((x.re : ℝ) : EReal)) (KK_eq w t.val y1.val y1.isLt y0.val (le_of_lt y0.isLt))).trans (read17 (fun l n => (St w l n).re) t y0 y1)

theorem arr18 : (dats m 0 c).arrAt 18 cfg0.N = L2 fun i n => ((St w (64 * i) n).im) := by
  refine (dats m 0 c).arrAt_eq_of_covers 18 _ (by decide +kernel) fun t hf y => ?_
  blk_simp
  obtain ⟨pr, pi, hr, hi, h⟩ := leaves H t.val t.isLt
  idx_vars y
  rw [after0_18, h.2.2.2.2.2.1, cL18 (hold H t) hr hi]
  exact (congrArg (fun x : ℂ => ((x.im : ℝ) : EReal)) (KK_eq w t.val y1.val y1.isLt y0.val (le_of_lt y0.isLt))).trans (read18 (fun l n => (St w l n).im) t y0 y1)
end

end Cert.SsmFinal
end
-- ==== Proof.Ssm.Ref.lean ====
/- The reference's scan: its states, one row after the other. -/
module

public import proofs.«01_k».proof.Proof.Ssm.Spec
public import proofs.«01_k».proof.Proof.Ssm.Final
public import proofs.«01_k».proof.Proof.Gen.SsmRefIdeal.Run
public import proofs.«01_k».proof.Proof.Gen.SsmRefIdeal.Step
public import Idealize.ShloMosaic.Lib.DynamicIndex

@[expose] public section

set_option maxRecDepth 16384

noncomputable section

namespace Cert.SsmRef

open Idealize.ShloMosaic Idealize.ShloMosaic.TcCoe Idealize.SL.Sem Cert.SsmRefIdeal Cert.SsmRefIdeal.Gen Cert.SsmRefIdeal.Step Cert.Lift Cert.SsmArr Cert.SsmPay Cert.SsmOuts Cert.SsmSpec Cert.SsmBlocks

/-- The reference's arguments are the real parameters. -/
structure Given (a0 : Vec Ideal S8192x6144 .bf16) (a1 a2 : Vec Ideal S32x64 .f32) (a3 : Vec Ideal S32 .f32) (a4 a5 : Vec Ideal S32x64x16 .f32) (w : Par) : Prop where
  u : ∀ (l : Fin 8192) (j : Fin 512), a0 (ix2 l ⟨3072 + j.val, by omega⟩) = ((w.u l.val j.val : ℝ) : EReal)
  lr : a1 = L2 w.lr
  li : a2 = L2 w.li
  ld : a3 = fun i => ((w.ld (i 0).val : ℝ) : EReal)
  br : a4 = L3 w.br
  bi : a5 = L3 w.bi

section
variable {a0 : Vec Ideal S8192x6144 .bf16} {a1 a2 : Vec Ideal S32x64 .f32} {a3 : Vec Ideal S32 .f32} {a4 a5 : Vec Ideal S32x64x16 .f32} {w : Par} (H : Given a0 a1 a2 a3 a4 a5 w)
include H

theorem A8 (g : Fin 32) (p : Fin 64) : A_main_v8 a0 a1 a2 a3 a4 a5 (ix2 g p) = ((ar w g.val p.val : ℝ) : EReal) := by
  obtain ⟨hu, rfl, rfl, rfl, rfl, rfl⟩ := H
  pointwise [A_main_v8, A_main_v7, A_main_v6, A_main_v5, A_main_v4, A_main_v3, A_main_v2, A_main_v1, A_main_v0]
  exact ar_coe w _ _
theorem A12 (g : Fin 32) (p : Fin 64) : A_main_v12 a0 a1 a2 a3 a4 a5 (ix2 g p) = ((ai w g.val p.val : ℝ) : EReal) := by
  obtain ⟨hu, rfl, rfl, rfl, rfl, rfl⟩ := H
  pointwise [A_main_v12, A_main_v11, A_main_v10, A_main_v9, A_main_v4, A_main_v3, A_main_v2, A_main_v1, A_main_v0]
  exact ai_coe w _ _
theorem A21 (g : Fin 32) (p : Fin 64) : A_main_v21 a0 a1 a2 a3 a4 a5 (ix2 g p) = ((zr w g.val p.val : ℝ) : EReal) := by
  have h8 := A8 H g p
  have h12 := A12 H g p
  obtain ⟨hu, rfl, rfl, rfl, rfl, rfl⟩ := H
  pointwise [A_main_v21, A_main_v20, A_main_v19, A_main_v18, A_main_v17, A_main_v15, A_main_v14, A_main_v13, K_main_v16, K_main_cst]
  rw [h8, h12]
  exact zr_coe w _ _ g.isLt p.isLt
theorem A27 (g : Fin 32) (p : Fin 64) : A_main_v27 a0 a1 a2 a3 a4 a5 (ix2 g p) = ((zi w g.val p.val : ℝ) : EReal) := by
  have h8 := A8 H g p
  have h12 := A12 H g p
  obtain ⟨hu, rfl, rfl, rfl, rfl, rfl⟩ := H
  pointwise [A_main_v27, A_main_v26, A_main_v25, A_main_v24, A_main_v22, A_main_v15, A_main_v14, A_main_v13, K_main_v23, K_main_cst_0]
  rw [h8, h12]
  exact zi_coe w _ _ g.isLt p.isLt
theorem A34 (g : Fin 32) (p : Fin 64) (h : Fin 16) : A_main_v34 a0 a1 a2 a3 a4 a5 (ix3 g p h) = ((Br w g.val p.val h.val : ℝ) : EReal) := by
  have h21 := A21 H g p
  have h27 := A27 H g p
  obtain ⟨hu, rfl, rfl, rfl, rfl, rfl⟩ := H
  pointwise [A_main_v34, A_main_v33, A_main_v32, A_main_v31, A_main_v30, A_main_v29, A_main_v28]
  rw [h21, h27]
  exact Br_coe w _ _ _
theorem A41 (g : Fin 32) (p : Fin 64) (h : Fin 16) : A_main_v41 a0 a1 a2 a3 a4 a5 (ix3 g p h) = ((Bi w g.val p.val h.val : ℝ) : EReal) := by
  have h21 := A21 H g p
  have h27 := A27 H g p
  obtain ⟨hu, rfl, rfl, rfl, rfl, rfl⟩ := H
  pointwise [A_main_v41, A_main_v40, A_main_v39, A_main_v38, A_main_v37, A_main_v36, A_main_v35]
  rw [h21, h27]
  exact Bi_coe w _ _ _
theorem u_at (l : Fin 8192) (n : ℕ) (hn : n < 512) (h : 3072 + n < 6144) : a0 (ix2 l ⟨3072 + n, h⟩) = ((w.u l.val n : ℝ) : EReal) := H.u l ⟨n, hn⟩
theorem A46 (l : Fin 8192) (g : Fin 32) (p : Fin 64) : A_main_v46 a0 a1 a2 a3 a4 a5 (ix3 l g p) = (((bu w l.val (64 * g.val + p.val)).re : ℝ) : EReal) := by
  pointwise [A_main_v46, A_main_v45, A_main_v44, A_main_v43, A_main_v42]
  rw [bu, show (64 * g.val + p.val) / 64 = g.val by omega, show (64 * g.val + p.val) % 64 = p.val by omega, coe_sum]
  refine Finset.sum_congr rfl fun h _ => ?_
  rw [A34 H, u_at H l _ (by omega), EReal.coe_mul, mul_comm, mul_comm g.val 16]
theorem A51 (l : Fin 8192) (g : Fin 32) (p : Fin 64) : A_main_v51 a0 a1 a2 a3 a4 a5 (ix3 l g p) = (((bu w l.val (64 * g.val + p.val)).im : ℝ) : EReal) := by
  pointwise [A_main_v51, A_main_v50, A_main_v49, A_main_v48, A_main_v47]
  rw [bu, show (64 * g.val + p.val) / 64 = g.val by omega, show (64 * g.val + p.val) % 64 = p.val by omega, coe_sum]
  refine Finset.sum_congr rfl fun h _ => ?_
  rw [A41 H, u_at H l _ (by omega), EReal.coe_mul, mul_comm, mul_comm g.val 16]
end

/-! ## One row read, one row written -/

theorem toInt_nat (n : ℕ) (hn : n < 8192) : (BitVec.ofNat 32 n).toInt = (n : ℤ) := by
  rw [BitVec.toInt_eq_toNat_of_lt (by rw [BitVec.toNat_ofNat]; omega), BitVec.toNat_ofNat, Nat.mod_eq_of_lt (by omega)]

theorem slices (n : ℕ) (hn : n < 8192) : S8192x32x64.Slices ![n, 0, 0] S1x32x64 := by
  refine ⟨rfl, fun k => ?_⟩
  match k with
  | ⟨0, _⟩ => change n + 1 ≤ 8192; omega
  | ⟨1, _⟩ => exact le_refl 32
  | ⟨2, _⟩ => exact le_refl 64

/-- where row `n` starts -/
def at0 (n : ℕ) : Fin 3 → ℤ := fun k => ((![constantI S_ 32 (BitVec.ofNat 32 n), constantI S_ 32 0#32, constantI S_ 32 0#32] : Fin 3 → (⟨S_, .i32⟩ : BufTy).Contents (Elt Ideal)) k (Shape.Idx.first h_S_)).toInt
theorem at0_eq (n : ℕ) (hn : n < 8192) (k : Fin 3) : at0 n k = ((![n, 0, 0] : Fin 3 → ℕ) k : ℤ) := by
  match k with
  | ⟨0, _⟩ => exact toInt_nat n hn
  | ⟨1, _⟩ => rfl
  | ⟨2, _⟩ => rfl

theorem slice_at (x : Vec Ideal S8192x32x64 .f32) (n : ℕ) (hn : n < 8192) (g : Fin 32) (p : Fin 64) :
    shapeCast S32x64 (Host.dynamicSlice S1x32x64 x (at0 n) sliceFits_S8192x32x64_S1x32x64) shapeCasts_S1x32x64_S32x64 (ix2 g p) = x (ix3 ⟨n, hn⟩ g p) := by
  rw [Host.dynamicSlice_eq_extractStridedSlice S1x32x64 x _ ![n, 0, 0] _ (slices n hn) (at0_eq n hn)]
  pointwise []

theorem update_at (x : Vec Ideal S8192x32x64 .f32) (r : Vec Ideal S32x64 .f32) (n : ℕ) (hn : n < 8192) (l : Fin 8192) (g : Fin 32) (p : Fin 64) :
    Host.dynamicUpdateSlice x (broadcastInDim S1x32x64 ![1, 2] bcast_S32x64_S1x32x64_1_2 r) (at0 n) updateFits_S8192x32x64_S1x32x64 (ix3 l g p)
    = if l.val = n then r (ix2 g p) else x (ix3 l g p) := by
  rw [Host.dynamicUpdateSlice_eq_updateSlice x _ (at0 n) _ ![n, 0, 0] (fun k => by
    have := (slices n hn).2 k
    rw [at0_eq n hn k]
    omega) (slices n hn)]
  pointwise []
  rw [dite_eq_ite]
  exact if_congr ⟨fun e => by omega, fun e => by omega⟩ rfl rfl

/-! ## The states -/

open Idealize.ShloMosaic.StableHlo Cert.SsmRefIdeal.Value

section
variable (w : Par)

/-- What the loop carries before trip `n`. -/
structure Inv (V : Valuation τ sig (Elt Ideal)) (n : ℕ) : Prop where
  r : ∀ g p, (show Vec Ideal S32x64 .f32 from V (Proc.devRef .tc main_v55_5)) (ix2 g p) = (((St w n (64 * g.val + p.val)).re : ℝ) : EReal)
  i : ∀ g p, (show Vec Ideal S32x64 .f32 from V (Proc.devRef .tc main_v55_6)) (ix2 g p) = (((St w n (64 * g.val + p.val)).im : ℝ) : EReal)
  R : ∀ l g p, l.val < n → (show Vec Ideal S8192x32x64 .f32 from V (Proc.devRef .tc main_v55_7)) (ix3 l g p) = (((St w (l.val + 1) (64 * g.val + p.val)).re : ℝ) : EReal)
  I : ∀ l g p, l.val < n → (show Vec Ideal S8192x32x64 .f32 from V (Proc.devRef .tc main_v55_8)) (ix3 l g p) = (((St w (l.val + 1) (64 * g.val + p.val)).im : ℝ) : EReal)
  br : ∀ l g p, (show Vec Ideal S8192x32x64 .f32 from V (Proc.devRef .tc main_v55_0)) (ix3 l g p) = (((bu w l.val (64 * g.val + p.val)).re : ℝ) : EReal)
  bi : ∀ l g p, (show Vec Ideal S8192x32x64 .f32 from V (Proc.devRef .tc main_v55_1)) (ix3 l g p) = (((bu w l.val (64 * g.val + p.val)).im : ℝ) : EReal)
  ar : ∀ g p, (show Vec Ideal S32x64 .f32 from V (Proc.devRef .tc main_v55_2)) (ix2 g p) = (((a w (64 * g.val + p.val)).re : ℝ) : EReal)
  ai : ∀ g p, (show Vec Ideal S32x64 .f32 from V (Proc.devRef .tc main_v55_3)) (ix2 g p) = (((a w (64 * g.val + p.val)).im : ℝ) : EReal)
  n : V (Proc.devRef .tc main_v55_4) = constantI S_ 32 (BitVec.ofNat 32 n)

variable {w} {V : Valuation τ sig (Elt Ideal)} {n : ℕ} (hn : n < 8192) (h : Inv w V n)
include hn h

theorem new_r (g : Fin 32) (p : Fin 64) : (show Vec Ideal S32x64 .f32 from res_main_while0b_v120 V) (ix2 g p) = (((St w (n + 1) (64 * g.val + p.val)).re : ℝ) : EReal) := by
  unfold res_main_while0b_v120
  rw [h.n]
  refine (congrArg₂ (· + ·) (congrArg₂ (· - ·) (congrArg₂ (· * ·) (h.ar g p) (h.r g p)) (congrArg₂ (· * ·) (h.ai g p) (h.i g p)))
    ((slice_at (show Vec Ideal S8192x32x64 .f32 from V (Proc.devRef .tc main_v55_0)) n hn g p).trans (h.br ⟨n, hn⟩ g p))).trans ?_
  rw [← EReal.coe_mul, ← EReal.coe_mul, ← EReal.coe_sub, ← EReal.coe_add, ← Complex.mul_re, ← Complex.add_re]
  rfl
theorem new_i (g : Fin 32) (p : Fin 64) : (show Vec Ideal S32x64 .f32 from res_main_while0b_v124 V) (ix2 g p) = (((St w (n + 1) (64 * g.val + p.val)).im : ℝ) : EReal) := by
  unfold res_main_while0b_v124
  rw [h.n]
  refine (congrArg₂ (· + ·) (congrArg₂ (· + ·) (congrArg₂ (· * ·) (h.ar g p) (h.i g p)) (congrArg₂ (· * ·) (h.ai g p) (h.r g p)))
    ((slice_at (show Vec Ideal S8192x32x64 .f32 from V (Proc.devRef .tc main_v55_1)) n hn g p).trans (h.bi ⟨n, hn⟩ g p))).trans ?_
  rw [← EReal.coe_mul, ← EReal.coe_mul, ← EReal.coe_add, ← EReal.coe_add, ← Complex.mul_im, ← Complex.add_im]
  rfl

theorem step_inv : Inv w (STEP V) (n + 1) where
  r g p := by
    rw [STEP_main_v55_5]
    exact new_r hn h g p
  i g p := by
    rw [STEP_main_v55_6]
    exact new_i hn h g p
  R l g p hl := by
    rw [STEP_main_v55_7]
    unfold Value.step_main_v55_7
    rw [h.n]
    refine (update_at (show Vec Ideal S8192x32x64 .f32 from V (Proc.devRef .tc main_v55_7)) _ n hn l g p).trans ?_
    split
    · next e => rw [e]; exact new_r hn h g p
    · exact h.R l g p (by omega)
  I l g p hl := by
    rw [STEP_main_v55_8]
    unfold Value.step_main_v55_8
    rw [h.n]
    refine (update_at (show Vec Ideal S8192x32x64 .f32 from V (Proc.devRef .tc main_v55_8)) _ n hn l g p).trans ?_
    split
    · next e => rw [e]; exact new_i hn h g p
    · exact h.I l g p (by omega)
  br := by rw [STEP_main_v55_0]; exact h.br
  bi := by rw [STEP_main_v55_1]; exact h.bi
  ar := by rw [STEP_main_v55_2]; exact h.ar
  ai := by rw [STEP_main_v55_3]; exact h.ai
  n := by
    rw [STEP_main_v55_4]
    unfold Value.step_main_v55_4
    rw [h.n]
    funext k
    change BitVec.ofNat 32 n + 1#32 = BitVec.ofNat 32 (n + 1)
    exact (BitVec.ofNat_add n 1).symm
end

section
variable {m : (ℓ : Loc nD τ sig) → Buf (Elt Ideal) ℓ} {c : Dev nD} {w : Par}
  (H : Given (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) w)
include H

set_option maxRecDepth 65536 in
theorem entry : Inv w (entryContents preI m c) 0 := by
  have e0 : entryContents preI m c (Proc.devRef .tc main_v55_0) = A_main_v46 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
    simp only [entryContents, afterL_cons, afterL_nil]; after_reads_simp; rfl
  have e1 : entryContents preI m c (Proc.devRef .tc main_v55_1) = A_main_v51 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
    simp only [entryContents, afterL_cons, afterL_nil]; after_reads_simp; rfl
  have e2 : entryContents preI m c (Proc.devRef .tc main_v55_2) = A_main_v8 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
    simp only [entryContents, afterL_cons, afterL_nil]; after_reads_simp; rfl
  have e3 : entryContents preI m c (Proc.devRef .tc main_v55_3) = A_main_v12 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
    simp only [entryContents, afterL_cons, afterL_nil]; after_reads_simp; rfl
  have e5 : entryContents preI m c (Proc.devRef .tc main_v55_5) = K_main_v52 (F := Ideal) := by
    simp only [entryContents, afterL_cons, afterL_nil]; after_reads_simp; rfl
  have e6 : entryContents preI m c (Proc.devRef .tc main_v55_6) = K_main_v52 (F := Ideal) := by
    simp only [entryContents, afterL_cons, afterL_nil]; after_reads_simp; rfl
  have ea : ∀ g : Fin 32, ∀ p : Fin 64, a w (64 * g.val + p.val) = ⟨ar w g.val p.val, ai w g.val p.val⟩ := fun g p => by
    rw [a, show (64 * g.val + p.val) / 64 = g.val by omega, show (64 * g.val + p.val) % 64 = p.val by omega]
  constructor
  · intro g p
    rw [e5]
    pointwise [K_main_v52, K_main_cst_1]
    rfl
  · intro g p
    rw [e6]
    pointwise [K_main_v52, K_main_cst_1]
    rfl
  · intro l g p hl; omega
  · intro l g p hl; omega
  · rw [e0]; exact fun l g p => A46 H l g p
  · rw [e1]; exact fun l g p => A51 H l g p
  · rw [e2]; exact fun g p => (A8 H g p).trans (by rw [ea])
  · rw [e3]; exact fun g p => (A12 H g p).trans (by rw [ea])
  · exact ctr_entry m c

theorem last : Inv w (STEP^[8192] (entryContents preI m c)) 8192 := by
  have hk : ∀ k, k ≤ 8192 → Inv w (STEP^[k] (entryContents preI m c)) k := by
    intro k
    induction k with
    | zero => exact fun _ => entry H
    | succ k ih =>
      intro hk
      rw [Function.iterate_succ_apply']
      exact step_inv (by omega) (ih (by omega))
  exact hk 8192 le_rfl
end

/-! ## The results -/

open Cert.SsmFinal

theorem sq_form (i : ℕ) : i / 512 * 512 + i % 8 * 64 + i / 8 % 64 = SsmFinal.sq i := by
  unfold SsmFinal.sq row
  have e1 : i % 512 / 8 = i / 8 - 64 * (i / 512) := by omega
  have e2 : i % 512 % 8 = i % 8 := by omega
  rw [e1, e2]
  omega

theorem sitofp_zero : (FloatOps.sitofp (F := Ideal) FTy.f32 0#32 : EReal) = 0 := by
  show (((0#32 : BitVec 32).toInt : ℝ) : EReal) = 0
  simp

section
variable {w : Par} {V : Valuation τ sig (Elt Ideal)} (h : Inv w V 8192)
include h

theorem all_r : V (Proc.devRef .tc main_v55_7) = (fun i => (((St w ((i 0).val + 1) (64 * (i 1).val + (i 2).val)).re : ℝ) : EReal) : Vec Ideal S8192x32x64 .f32) := by
  funext i
  rw [eq_ix3 i]
  exact h.R (i 0) (i 1) (i 2) (i 0).isLt
theorem all_i : V (Proc.devRef .tc main_v55_8) = (fun i => (((St w ((i 0).val + 1) (64 * (i 1).val + (i 2).val)).im : ℝ) : EReal) : Vec Ideal S8192x32x64 .f32) := by
  funext i
  rw [eq_ix3 i]
  exact h.I (i 0) (i 1) (i 2) (i 0).isLt

theorem o107 : out_main_v107 V = (rowsOf fun l n => (((St w (l + 1) n).re : ℝ) : EReal) : Vec Ideal S8192x2048 .f32) := by
  unfold out_main_v107
  rw [all_r h]
  funext i
  idx_vars i
  pointwise []
  rw [sq_form, show 64 * (i1.val / 64) + i1.val % 64 = i1.val by omega]
  rfl
theorem o110 : out_main_v110 V = (rowsOf fun l n => (((St w (l + 1) n).im : ℝ) : EReal) : Vec Ideal S8192x2048 .f32) := by
  unfold out_main_v110
  rw [all_i h]
  funext i
  idx_vars i
  pointwise []
  rw [sq_form, show 64 * (i1.val / 64) + i1.val % 64 = i1.val by omega]
  rfl
theorem o112 : out_main_v112 V = (L2 fun i n => (St w (64 * i) n).re : Vec Ideal S128x2048 .f32) := by
  unfold out_main_v112
  rw [all_r h]
  funext i
  idx_vars i
  pointwise []
  rw [L2_apply, show 64 * (i1.val / 64) + i1.val % 64 = i1.val by omega]
  split
  · rw [show 63 + 64 * (i0.val - 1) + 1 = 64 * i0.val by omega]
  · rw [show 64 * i0.val = 0 by omega, sitofp_zero]
    rfl
theorem o114 : out_main_v114 V = (L2 fun i n => (St w (64 * i) n).im : Vec Ideal S128x2048 .f32) := by
  unfold out_main_v114
  rw [all_i h]
  funext i
  idx_vars i
  pointwise []
  rw [L2_apply, show 64 * (i1.val / 64) + i1.val % 64 = i1.val by omega]
  split
  · rw [show 63 + 64 * (i0.val - 1) + 1 = 64 * i0.val by omega]
  · rw [show 64 * i0.val = 0 by omega, sitofp_zero]
    rfl
end

/-- the layer's output before its gates -/
def Y {F : FTy → Type} [FloatOps F] (x0 : (⟨S8192x6144, .bf16⟩ : BufTy).Contents (Elt F)) (x6 x7 : (⟨S32x16x64, .f32⟩ : BufTy).Contents (Elt F))
    (x8 : (⟨S32x16, .f32⟩ : BufTy).Contents (Elt F)) (s7 s8 : (⟨S8192x32x64, .f32⟩ : BufTy).Contents (Elt F)) : (⟨S8192x512, .f32⟩ : BufTy).Contents (Elt F) :=
  shapeCast _ (addf (subf (transpose S8192x32x16 [2, 0, 1] (Host.dotGeneral dot_S32x16x64_S8192x32x64_S32x16x8192_2_2_1_0_0_1 none x6 s7) transposes_S32x16x8192_S8192x32x16_2_0_1) (transpose S8192x32x16 [2, 0, 1] (Host.dotGeneral dot_S32x16x64_S8192x32x64_S32x16x8192_2_2_1_0_0_1 none x7 s8) transposes_S32x16x8192_S8192x32x16_2_0_1)) (mulf (broadcastInDim S8192x32x16 ![0, 1, 2] bcast_S1x32x16_S8192x32x16_0_1_2 (broadcastInDim S1x32x16 ![1, 2] bcast_S32x16_S1x32x16_1_2 x8)) (shapeCast _ (extf .f32 (extractStridedSlice S8192x512 ![0, 3072] x0 slices_S8192x6144_S8192x512_0_3072) bitsLt_bf16_f32) shapeCasts_S8192x512_S8192x32x16))) shapeCasts_S8192x32x16_S8192x512

/-- The arrays that are not assumed finite, by numbers. -/
def restOf (x0 : Vec Ideal S8192x6144 .bf16) (x6 x7 : Vec Ideal S32x16x64 .f32) (x8 : Vec Ideal S32x16 .f32) (x9 : Vec Ideal S512x512 .f32) (x10 : Vec Ideal S1x512 .f32) : Rest where
  cr := nat3 x6
  ci := nat3 x7
  d := nat2 x8
  w := nat2 x9
  b := nat2 x10 0
  z := fun l j => nat2 x0 l (3584 + j)

/-- the real parts of the states after each token -/
def reals (w : Par) : Vec Ideal S8192x32x64 .f32 := fun i => (((St w ((i 0).val + 1) (64 * (i 1).val + (i 2).val)).re : ℝ) : EReal)
/-- and their imaginary parts -/
def imags (w : Par) : Vec Ideal S8192x32x64 .f32 := fun i => (((St w ((i 0).val + 1) (64 * (i 1).val + (i 2).val)).im : ℝ) : EReal)

/-- the rows of an array in the order in which the call returns them -/
def inOrder {F : FTy → Type} [FloatOps F] (y : (⟨S8192x512, .f32⟩ : BufTy).Contents (Elt F)) : (⟨S8192x512, .f32⟩ : BufTy).Contents (Elt F) :=
  shapeCast _ (transpose S16x64x8x512 [0, 2, 1, 3] (shapeCast _ y shapeCasts_S8192x512_S16x8x64x512) transposes_S16x8x64x512_S16x64x8x512_0_2_1_3) shapeCasts_S16x64x8x512_S8192x512

/-- the gates on the layer's output, in that order -/
def gated {F : FTy → Type} [FloatOps F] (y : (⟨S8192x512, .f32⟩ : BufTy).Contents (Elt F)) (x0 : (⟨S8192x6144, .bf16⟩ : BufTy).Contents (Elt F))
    (x9 : (⟨S512x512, .f32⟩ : BufTy).Contents (Elt F)) (x10 : (⟨S1x512, .f32⟩ : BufTy).Contents (Elt F)) : (⟨S8192x512, .bf16⟩ : BufTy).Contents (Elt F) :=
  shapeCast _ (transpose S16x64x8x512 [0, 2, 1, 3] (shapeCast _ (truncf .bf16 (mulf (mulf (mulf y (mulf (broadcastInDim S8192x512 ![] bcast_S_S8192x512 (constant S_ .f32 0x3F000000#32)) (addf (broadcastInDim S8192x512 ![] bcast_S_S8192x512 (constant S_ .f32 0x3F800000#32)) (Host.tanh (mulf (broadcastInDim S8192x512 ![] bcast_S_S8192x512 (constant S_ .f32 0x3F4C422A#32)) (addf y (mulf (broadcastInDim S8192x512 ![] bcast_S_S8192x512 (constant S_ .f32 0x3D372713#32)) (mulf (mulf y y) y)))))))) (Host.divf (broadcastInDim S8192x512 ![] bcast_S_S8192x512 (constant S_ .f32 0x3F800000#32)) (addf (broadcastInDim S8192x512 ![] bcast_S_S8192x512 (constant S_ .f32 0x3F800000#32)) (Host.exp (Host.negf (addf (Host.dotGeneral dot_S8192x512_S512x512_S8192x512_1_0_0_1_n_n none (mulf y (mulf (broadcastInDim S8192x512 ![] bcast_S_S8192x512 (constant S_ .f32 0x3F000000#32)) (addf (broadcastInDim S8192x512 ![] bcast_S_S8192x512 (constant S_ .f32 0x3F800000#32)) (Host.tanh (mulf (broadcastInDim S8192x512 ![] bcast_S_S8192x512 (constant S_ .f32 0x3F4C422A#32)) (addf y (mulf (broadcastInDim S8192x512 ![] bcast_S_S8192x512 (constant S_ .f32 0x3D372713#32)) (mulf (mulf y y) y)))))))) x9) (broadcastInDim S8192x512 ![0, 1] bcast_S1x512_S8192x512_0_1 x10))))))) (mulf (extf .f32 (extractStridedSlice S8192x512 ![0, 3584] x0 slices_S8192x6144_S8192x512_0_3584) bitsLt_bf16_f32) (Host.divf (broadcastInDim S8192x512 ![] bcast_S_S8192x512 (constant S_ .f32 0x3F800000#32)) (addf (broadcastInDim S8192x512 ![] bcast_S_S8192x512 (constant S_ .f32 0x3F800000#32)) (Host.exp (Host.negf (extf .f32 (extractStridedSlice S8192x512 ![0, 3584] x0 slices_S8192x6144_S8192x512_0_3584) bitsLt_bf16_f32))))))) bitsLt_bf16_f32) shapeCasts_S8192x512_S16x8x64x512) transposes_S16x8x64x512_S16x64x8x512_0_2_1_3) shapeCasts_S16x64x8x512_S8192x512

theorem gel_form (y : EReal) : y * (Ideal.ofBits .f32 1056964608#32 * (1 + Ideal.tanh (Ideal.ofBits .f32 1061962282#32 * (y + Ideal.ofBits .f32 1027024659#32 * (y * y * y))))) = gel y := by
  have c : Ideal.ofBits .f32 1027024659#32 * (y * y * y) = Ideal.ofBits .f32 1027024659#32 * y * y * y := by simp only [mul_assoc]
  unfold gel
  rw [bits_one, c, ← mul_assoc, mul_comm y (Ideal.ofBits .f32 1056964608#32)]

section
variable {x0 : Vec Ideal S8192x6144 .bf16} {x6 x7 : Vec Ideal S32x16x64 .f32} {x8 : Vec Ideal S32x16 .f32} {x9 : Vec Ideal S512x512 .f32} {x10 : Vec Ideal S1x512 .f32} {w : Par}
  (hu : ∀ (l : Fin 8192) (j : Fin 512), x0 (ix2 l ⟨3072 + j.val, by omega⟩) = ((w.u l.val j.val : ℝ) : EReal))
include hu

theorem Y_eq : Y x0 x6 x7 x8 (reals w) (imags w)
    = fun i => YV w (restOf x0 x6 x7 x8 x9 x10) (i 0).val (i 1).val := by
  funext i
  idx_vars i
  pointwise [Y, reals, imags]
  refine congrArg₂ (· + ·) (congrArg₂ (· - ·) (Finset.sum_congr rfl fun p _ => ?_) (Finset.sum_congr rfl fun p _ => ?_)) (congrArg₂ (· * ·) (nat2_eq x8 _ _) (hu i0 i1))
  · exact (mul_comm _ _).trans (congrArg (_ * ·) (nat3_eq x6 _ _ _))
  · exact (mul_comm _ _).trans (congrArg (_ * ·) (nat3_eq x7 _ _ _))

variable {V : Valuation τ sig (Elt Ideal)} (h : Inv w V 8192) (h0 : V (Proc.devRef .tc main_arg0) = x0) (h6 : V (Proc.devRef .tc main_arg6) = x6)
  (h7 : V (Proc.devRef .tc main_arg7) = x7) (h8 : V (Proc.devRef .tc main_arg8) = x8) (h9 : V (Proc.devRef .tc main_arg9) = x9) (h10 : V (Proc.devRef .tc main_arg10) = x10)
include h h0 h6 h7 h8

theorem o101 : out_main_v101 V = (rowsOf (YV w (restOf x0 x6 x7 x8 x9 x10)) : Vec Ideal S8192x512 .f32) := by
  have e : out_main_v101 V = inOrder (Y x0 x6 x7 x8 (reals w) (imags w)) := by
    unfold out_main_v101
    rw [h0, h6, h7, h8, all_r h, all_i h]
    rfl
  rw [e, Y_eq hu (x9 := x9) (x10 := x10)]
  funext i
  idx_vars i
  pointwise [inOrder]
  rw [sq_form]
  rfl

include h9 h10
theorem o104 : out_main_v104 V = (rowsOf (GV w (restOf x0 x6 x7 x8 x9 x10)) : Vec Ideal S8192x512 .bf16) := by
  have e : out_main_v104 V = gated (Y x0 x6 x7 x8 (reals w) (imags w)) x0 x9 x10 := by
    unfold out_main_v104
    rw [h0, h6, h7, h8, h9, h10, all_r h, all_i h]
    rfl
  rw [e, Y_eq hu (x9 := x9) (x10 := x10)]
  funext i
  idx_vars i
  pointwise [gated]
  simp only [gel_form]
  refine Eq.trans ?_ (congrArg (fun k => GV w (restOf x0 x6 x7 x8 x9 x10) k i1.val) (sq_form i0.val))
  refine congrArg₂ (· * ·) (congrArg₂ (· * ·) rfl (congrArg Ideal.logistic (congrArg₂ (· + ·) (Finset.sum_congr rfl fun k _ => congrArg (_ * ·) (nat2_eq x9 _ _)) (nat2_eq x10 _ _)))) ?_
  exact congrArg (fun z => z * Ideal.logistic z) (nat2_eq x0 _ _)
end

end Cert.SsmRef
end
-- ==== Proof.Ssm.Claim.lean ====
/- The claims about the forward scan. -/
module

public import proofs.«01_k».proof.Proof.Ssm.Ref
public import proofs.«01_k».proof.Proof.Real
public import proofs.«01_k».proof.Proof.Gen.Pre_stable
public import proofs.«01_k».proof.Defs

@[expose] public section

set_option maxRecDepth 16384

noncomputable section

namespace Cert.SsmClaim

open Idealize.ShloMosaic Idealize.ShloMosaic.TcCoe Idealize.SL.Sem Cert.Lift Cert.SsmArr Cert.SsmPay Cert.SsmSpec

/-- An array of rank two all of whose entries are real, with its indices counted by natural numbers. -/
theorem real2 {n k : ℕ} (v : (⟨2, ![n, k]⟩ : Shape).Idx → EReal) (h : ∀ i, ∃ r : ℝ, v i = ((r : ℝ) : EReal)) : ∃ f : ℕ → ℕ → ℝ, v = L2 f := by
  obtain ⟨f, hf⟩ := exists_lift2 v h
  obtain ⟨g, hg⟩ := exists_L2 f
  exact ⟨g, hf.trans hg⟩

/-- The same at rank three. -/
theorem real3 {n k l : ℕ} (v : (⟨3, ![n, k, l]⟩ : Shape).Idx → EReal) (h : ∀ i, ∃ r : ℝ, v i = ((r : ℝ) : EReal)) : ∃ f : ℕ → ℕ → ℕ → ℝ, v = L3 f := by
  choose g hg using h
  refine ⟨fun a b c => if h : a < n ∧ b < k ∧ c < l then g (ix3 ⟨a, h.1⟩ ⟨b, h.2.1⟩ ⟨c, h.2.2⟩) else 0, ?_⟩
  funext i
  have h : (i 0).val < n ∧ (i 1).val < k ∧ (i 2).val < l := ⟨(i 0).isLt, (i 1).isLt, (i 2).isLt⟩
  refine (hg i).trans ?_
  simp only [L3]
  rw [dif_pos h]
  exact congrArg (fun j => ((g j : ℝ) : EReal)) (eq_ix3 i)

/-- What the comparison finds above zero is not zero. -/
theorem pos_of (x : ℝ) (h : FloatOps.cmpf (F := Ideal) (φ := .f32) .ogt ((x : ℝ) : EReal) (FloatOps.ofBits .f32 0x00000000#32) = 1#1) : x ≠ 0 := by
  rintro rfl
  have e : Ideal.ofBits .f32 0x00000000#32 = 0 := by simp [Ideal.ofBits, Ideal.ieee]
  have h' : Ideal.cmp .ogt ((0 : ℝ) : EReal) (Ideal.ofBits .f32 0x00000000#32) = 1#1 := h
  rw [e] at h'
  simp [Ideal.cmp] at h'

variable {m : (ℓ : Loc Cert.SsmIdeal.nD Cert.SsmIdeal.τ Cert.SsmIdeal.sig) → Buf (Elt Ideal) ℓ}

theorem args (hp : Cert.Pre_SsmIdeal_stable m) (c : Dev Cert.SsmIdeal.nD) : ∃ w, Cert.SsmBlocks.Args m c w := by
  obtain ⟨h0, h1, h2, h3, h4, h5, h6⟩ := hp c
  unfold Cert.Pre_stable.fn Cert.Pre_stable.fn_part1 at h0 h1 h2 h3 h4 h5 h6
  dsimp only at h0 h1 h2 h3 h4 h5 h6
  obtain ⟨u, hu⟩ := real2 _ fun i => real_of _ (congrFun h0 i)
  obtain ⟨lr, hlr⟩ := real2 _ fun i => real_of _ (congrFun h1 i)
  obtain ⟨li, hli⟩ := real2 _ fun i => real_of _ (congrFun h2 i)
  obtain ⟨ld, hld⟩ := real2 _ fun i => real_of _ (congrFun h3 i)
  obtain ⟨br, hbr⟩ := real3 _ fun i => real_of _ (congrFun h4 i)
  obtain ⟨bi, hbi⟩ := real3 _ fun i => real_of _ (congrFun h5 i)
  refine ⟨⟨u, lr, li, fun g => ld g 0, br, bi, ?_⟩, ?_, hlr, hli, ?_, hbr, hbi⟩
  · intro g p hg hp
    have h := congrFun h6 (ix2 ⟨g, hg⟩ ⟨p, hp⟩)
    rw [hlr, hli] at h
    exact pos_of _ h
  · intro l j
    exact (congrArg (m _) (by funext a; match a with | ⟨0, _⟩ => exact Fin.ext (by show l.val = 0 + l.val; omega) | ⟨1, _⟩ => rfl)).trans (congrFun hu (ix2 l j))
  · funext i
    exact (congrArg (m _) (by funext a; match a with | ⟨0, _⟩ => rfl)).trans (congrFun hld (ix2 (i 0) 0))

/-- The reference's arguments in memory are the real parameters and the arrays that stay as they are. -/
structure Same (m' : (ℓ : Loc Cert.SsmRefIdeal.nD Cert.SsmRefIdeal.τ Cert.SsmRefIdeal.sig) → Buf (Elt Ideal) ℓ) (c : Dev Cert.SsmRefIdeal.nD) (w : Par) (e : Rest) : Prop where
  g : Cert.SsmRef.Given (m' (c.tc.loc Cert.SsmRefIdeal.main_arg0)) (m' (c.tc.loc Cert.SsmRefIdeal.main_arg1)) (m' (c.tc.loc Cert.SsmRefIdeal.main_arg2))
    (m' (c.tc.loc Cert.SsmRefIdeal.main_arg3)) (m' (c.tc.loc Cert.SsmRefIdeal.main_arg4)) (m' (c.tc.loc Cert.SsmRefIdeal.main_arg5)) w
  e : Cert.SsmRef.restOf (m' (c.tc.loc Cert.SsmRefIdeal.main_arg0)) (m' (c.tc.loc Cert.SsmRefIdeal.main_arg6)) (m' (c.tc.loc Cert.SsmRefIdeal.main_arg7))
    (m' (c.tc.loc Cert.SsmRefIdeal.main_arg8)) (m' (c.tc.loc Cert.SsmRefIdeal.main_arg9)) (m' (c.tc.loc Cert.SsmRefIdeal.main_arg10)) = e

section Reference
open Cert.SsmRefIdeal Cert.SsmRefIdeal.Value Cert.SsmFinal Cert.SsmRef

variable {m' : (ℓ : Loc Cert.SsmRefIdeal.nD Cert.SsmRefIdeal.τ Cert.SsmRefIdeal.sig) → Buf (Elt Ideal) ℓ} {c : Dev Cert.SsmRefIdeal.nD} {w : Par} {e : Rest} (S : Same m' c w e)
include S

theorem r0 : out_main_v101 (STEP^[8192] (StableHlo.entryContents preI m' c)) = (rowsOf (YV w e) : Vec Ideal S8192x512 .f32) := by
  rw [← S.e]
  exact o101 S.g.u (last S.g) (iter_main_arg0 m' c 8192) (iter_main_arg6 m' c 8192) (iter_main_arg7 m' c 8192) (iter_main_arg8 m' c 8192)
theorem r1 : out_main_v104 (STEP^[8192] (StableHlo.entryContents preI m' c)) = (rowsOf (GV w e) : Vec Ideal S8192x512 .bf16) := by
  rw [← S.e]
  exact o104 S.g.u (last S.g) (iter_main_arg0 m' c 8192) (iter_main_arg6 m' c 8192) (iter_main_arg7 m' c 8192) (iter_main_arg8 m' c 8192)
    (iter_main_arg9 m' c 8192) (iter_main_arg10 m' c 8192)
theorem r2 : out_main_v107 (STEP^[8192] (StableHlo.entryContents preI m' c)) = (rowsOf fun l n => (((St w (l + 1) n).re : ℝ) : EReal) : Vec Ideal S8192x2048 .f32) := o107 (last S.g)
theorem r3 : out_main_v110 (STEP^[8192] (StableHlo.entryContents preI m' c)) = (rowsOf fun l n => (((St w (l + 1) n).im : ℝ) : EReal) : Vec Ideal S8192x2048 .f32) := o110 (last S.g)
theorem r4 : out_main_v112 (STEP^[8192] (StableHlo.entryContents preI m' c)) = (L2 fun i n => (St w (64 * i) n).re : Vec Ideal S128x2048 .f32) := o112 (last S.g)
theorem r5 : out_main_v114 (STEP^[8192] (StableHlo.entryContents preI m' c)) = (L2 fun i n => (St w (64 * i) n).im : Vec Ideal S128x2048 .f32) := o114 (last S.g)
end Reference

open Cert.SsmFinal Cert.SsmRef in
theorem algebraic : Cert.algebraic_SsmIdeal_SsmRefIdeal_pre_stable := by
  intro m g m' g' hpre hagree
  refine ⟨fun c => (Cert.SsmIdeal.Gen.dats m 0 c).arrAt 13 Cert.SsmIdeal.cfg0.N, fun c => (Cert.SsmIdeal.Gen.dats m 0 c).arrAt 14 Cert.SsmIdeal.cfg0.N,
    fun c => (Cert.SsmIdeal.Gen.dats m 0 c).arrAt 15 Cert.SsmIdeal.cfg0.N, fun c => (Cert.SsmIdeal.Gen.dats m 0 c).arrAt 16 Cert.SsmIdeal.cfg0.N,
    fun c => (Cert.SsmIdeal.Gen.dats m 0 c).arrAt 17 Cert.SsmIdeal.cfg0.N, fun c => (Cert.SsmIdeal.Gen.dats m 0 c).arrAt 18 Cert.SsmIdeal.cfg0.N, ?_, ?_⟩
  · run_from Cert.SsmIdeal.Value.run_blocks m g
  · refine (θ_run Cert.SsmRefIdeal.defs _ _).mono (fun r h c => ?_) (Cert.SsmRefIdeal.Value.run (F := Ideal) m' g')
    obtain ⟨w, H⟩ := args hpre c
    obtain ⟨a0, a1, a2, a3, a4, a5, a6, a7, a8, a9, a10⟩ := hagree c
    have S : Same m' c w (rest m c) :=
      ⟨⟨fun l j => (congrFun a0 _).trans (H.u l j), a1.trans H.lr, a2.trans H.li, a3.trans H.ld, a4.trans H.br, a5.trans H.bi⟩, by rw [a0, a6, a7, a8, a9, a10]; rfl⟩
    obtain ⟨e0, e1, e2, e3, e4, e5, ha⟩ := h c
    exact ⟨e0.trans ((r0 S).trans (arr13 H).symm), e1.trans ((r1 S).trans (arr14 H).symm), e2.trans ((r2 S).trans (arr15 H).symm),
      e3.trans ((r3 S).trans (arr16 H).symm), e4.trans ((r4 S).trans (arr17 H).symm), e5.trans ((r5 S).trans (arr18 H).symm), ha⟩

open Cert.SsmRefIdeal in
theorem frame_ref : Cert.quiescent_SsmRefIdeal := fun m ρ _ =>
  (θ_run Cert.SsmRefIdeal.defs _ _).mono (fun r h => ⟨fun c => (h c).2.2.2.2.2.2, sem_eq_zero_of_no_sems (by decide) r.2⟩) (Cert.SsmRefIdeal.Value.run (F := Ideal) m ρ)

end Cert.SsmClaim

end
-- ==== Proof.XGrad.Spec.lean ====
/- The derivative of the first norm and of the product behind it, in real numbers, row by row. -/
module

public import proofs.«01_k».proof.Proof.Lift

@[expose] public section

noncomputable section

namespace Cert.XGradSpec

open Cert.Lift

/-- One token. -/
structure Row where
  /-- its row of the input -/
  x : Fin 1024 → ℝ
  /-- its row of the gradient at the projection -/
  p : Fin 6144 → ℝ

/-- The weights. -/
structure Wts where
  /-- the projection's weight -/
  w : Fin 1024 → Fin 6144 → ℝ
  /-- the norm's gain -/
  g : Fin 1024 → ℝ

variable (w : Wts) (r : Row)

/-- the mean square plus the small constant -/
def ms : ℝ := (∑ k, r.x k * r.x k) / 1024 + eps
def rs : ℝ := (Real.sqrt (ms r))⁻¹
def xn (j : Fin 1024) : ℝ := r.x j * rs r
/-- the gradient at the normed row -/
def dh (j : Fin 1024) : ℝ := ∑ k, r.p k * w.w j k
def dn (j : Fin 1024) : ℝ := dh w r j * w.g j
def pr : ℝ := (∑ k, dn w r k * xn r k) / 1024
/-- the gradient at the input through the norm -/
def dx (j : Fin 1024) : ℝ := rs r * (dn w r j - xn r j * pr w r)
/-- one token's share of the gain's gradient -/
def tg (j : Fin 1024) : ℝ := dh w r j * xn r j

theorem ms_pos : 0 < ms r := by
  unfold ms
  have h : 0 ≤ (∑ k, r.x k * r.x k) / 1024 := div_nonneg (Finset.sum_nonneg fun k _ => mul_self_nonneg _) (by norm_num)
  linarith [eps_pos]

/-- what the derivative of the reciprocal root is multiplied with -/
def cf : ℝ := (∑ k, r.x k * dn w r k) * (-1 / 2 * (rs r / ms r)) / 1024

/-- The gradient at the input as the derivative of the reciprocal root writes it. -/
theorem dx_eq (j : Fin 1024) : dn w r j * rs r + r.x j * cf w r + cf w r * r.x j = dx w r j := by
  have h1 : rs r / ms r = rs r * (rs r * rs r) := inv_sqrt_sq _ (ms_pos r)
  have h2 : ∑ k, dn w r k * xn r k = (∑ k, r.x k * dn w r k) * rs r := by
    rw [Finset.sum_mul]; exact Finset.sum_congr rfl fun k _ => by unfold xn; ring
  unfold dx pr cf
  rw [h1, h2]
  unfold xn
  ring

/-! ## The order of the rows -/

/-- The token at row `n` of an array that is cut into sixteen blocks of 512 rows, each with the rows of eight runs of 64 tokens in turn. -/
def tok (n : Fin 8192) : Fin 8192 := ⟨n.val / 512 * 512 + n.val % 8 * 64 + n.val / 8 % 64, by omega⟩

theorem tok_injective : Function.Injective tok := by
  intro a b h
  have h' : a.val / 512 * 512 + a.val % 8 * 64 + a.val / 8 % 64 = b.val / 512 * 512 + b.val % 8 * 64 + b.val / 8 % 64 := congrArg Fin.val h
  have ea : a.val / 8 / 64 = a.val / 512 := Nat.div_div_eq_div_mul _ 8 64
  have eb : b.val / 8 / 64 = b.val / 512 := Nat.div_div_eq_div_mul _ 8 64
  apply Fin.ext
  omega

/-- A sum over the rows of such an array is a sum over the tokens. -/
theorem sum_tok (f : Fin 8192 → ℝ) : ∑ n, f (tok n) = ∑ n, f n :=
  (Finite.injective_iff_bijective.mp tok_injective).sum_comp f

end Cert.XGradSpec

end
-- ==== Proof.XGrad.Ref.lean ====
/- What the reference of the first norm's gradient computes, on real arguments. -/
module

public import proofs.«01_k».proof.Proof.XGrad.Spec
public import proofs.«01_k».proof.Proof.Gen.XGradRefIdeal.Read

@[expose] public section

set_option maxRecDepth 16384

noncomputable section

namespace Cert.XGradRefValue

open Idealize.ShloMosaic Cert.XGradRefIdeal Cert.XGradRefIdeal.Gen Cert.XGradRefIdeal.Read Cert.Lift Cert.XGradSpec

variable (w : Wts) (R : Fin 8192 → Row)

theorem s6 : val_main_v6 (F := Ideal) (lift2 fun n => (R n).x) = lift2 fun n _ => ms (R n) := by
  simp only [val_main_v6, val_main_v4, val_main_v2, val_main_v1, val_main_v0]
  funext i; idx_vars i
  pointwise [val_main_v3, val_main_v5, val_main_cst, val_main_cst_0, val_main_cst_1, lift2_apply]
  rw [bits_1024, bits_eps]
  simp only [← EReal.coe_mul, ← coe_sum]
  rw [div_coe _ _ (by norm_num), ← EReal.coe_add]
  rfl
theorem s7 : val_main_v7 (F := Ideal) (lift2 fun n => (R n).x) = lift2 fun n _ => rs (R n) := by
  simp only [val_main_v7, s6]
  funext i; idx_vars i
  pointwise [lift2_apply]
  exact rsqrt_coe _ (ms_pos _)
theorem s12 : val_main_v12 (F := Ideal) (lift2 fun n => (R n).x) = lift2 fun n => xn (R n) := by
  simp only [val_main_v12, val_main_v11, s7]
  funext i; idx_vars i
  pointwise [lift2_apply]
  unfold xn; norm_cast
theorem s19 : val_main_v19 (F := Ideal) (lift2 w.w) (lift2 fun n => (R n).p) = lift2 fun n => dh w (R n) := by
  simp only [val_main_v19, val_main_v16]
  funext i; idx_vars i
  pointwise [lift2_apply]
  unfold dh; norm_cast
theorem s22 : val_main_v22 (F := Ideal) (lift2 fun n => (R n).x) (lift2 w.w) (lift2 fun n => (R n).p) = lift2 fun _ j => ∑ n, tg w (R n) j := by
  simp only [val_main_v22, val_main_v21, val_main_v20, s12, s19]
  funext i; idx_vars i
  pointwise [val_main_cst_3, lift2_apply]
  simp only [← EReal.coe_mul, ← coe_sum]
  exact congrArg _ (Finset.sum_congr rfl fun n _ => by unfold tg; ring)
theorem s24 : val_main_v24 (F := Ideal) (lift2 fun _ => w.g) (lift2 w.w) (lift2 fun n => (R n).p) = lift2 fun n => dn w (R n) := by
  simp only [val_main_v24, val_main_v23, s19]
  funext i; idx_vars i
  pointwise [lift2_apply]
  unfold dn; norm_cast
theorem s35 : val_main_v35 (F := Ideal) (lift2 fun n => (R n).x) (lift2 fun _ => w.g) (lift2 w.w) (lift2 fun n => (R n).p) = lift2 fun n _ => cf w (R n) := by
  simp only [val_main_v35, val_main_v34, val_main_v33, val_main_v31, val_main_v27, val_main_v26, val_main_v25, val_main_v10, val_main_v8, s24, s6, s7]
  funext i; idx_vars i
  pointwise [val_main_v32, val_main_v9, val_main_cst_6, val_main_cst_5, val_main_cst_4, val_main_cst_2, lift2_apply]
  rw [bits_1024, bits_neg_half, div_coe _ _ (ms_pos _).ne']
  simp only [← EReal.coe_mul, ← coe_sum]
  rw [div_coe _ _ (by norm_num)]
  exact Fin.sum_univ_one _
theorem s39 (v : Vec Ideal S8192x1024 .f32) (n : Fin 8192) (j : Fin 1024) :
    val_main_v39 (F := Ideal) (lift2 fun n => (R n).x) (lift2 fun _ => w.g) (lift2 w.w) v (lift2 fun n => (R n).p) (ix2 n j)
    = v (ix2 n j) + ((dx w (R n) j : ℝ) : EReal) := by
  simp only [val_main_v39, val_main_v38, val_main_v37, val_main_v36, val_main_v30, val_main_v29, val_main_v28, s35, s24, s7]
  pointwise [lift2_apply]
  rw [← dx_eq w (R n) j]
  simp only [EReal.coe_add, EReal.coe_mul, add_assoc]
theorem s42 (v : Vec Ideal S8192x1024 .f32) (n : Fin 8192) (j : Fin 1024) :
    val_main_v42 (F := Ideal) (lift2 fun n => (R n).x) (lift2 fun _ => w.g) (lift2 w.w) v (lift2 fun n => (R n).p) (ix2 n j)
    = v (ix2 (tok n) j) + ((dx w (R (tok n)) j : ℝ) : EReal) := by
  rw [← s39]
  simp only [val_main_v42, val_main_v41, val_main_v40]
  generalize val_main_v39 (F := Ideal) (lift2 fun n => (R n).x) (lift2 fun _ => w.g) (lift2 w.w) v (lift2 fun n => (R n).p) = z
  pointwise
  rfl

end Cert.XGradRefValue

end
-- ==== Proof.XGrad.Pay.lean ====
/- What each value that the kernel of the first norm's gradient computes is, on blocks of real entries. -/
module

public import proofs.«01_k».proof.Proof.XGrad.Spec
public import proofs.«01_k».proof.Proof.Gen.XGradIdeal.Skeleton

@[expose] public section

set_option maxRecDepth 16384

noncomputable section

namespace Cert.XGradPay

open Idealize.ShloMosaic Cert.XGradIdeal Cert.XGradIdeal.Gen Cert.Lift Cert.XGradSpec

variable (w : Wts) (R : Fin 512 → Row)

/-- one of four blocks of 1536 columns of the gradient at the projection -/
def pq (q : Fin 4) : Fin 512 → Fin 1536 → ℝ := fun i c => (R i).p ⟨1536 * q.val + c.val, by omega⟩
/-- one of four blocks of 1536 columns of the projection's weight -/
def wq (q : Fin 4) : Fin 1 → Fin 1024 → Fin 1536 → ℝ := fun _ j c => w.w j ⟨1536 * q.val + c.val, by omega⟩

theorem sum_four (f : Fin 6144 → ℝ) : ∑ j, f j = ∑ c : Fin 1536, f ⟨1536 * (0 : Fin 4).val + c.val, by simp; omega⟩
    + ∑ c : Fin 1536, f ⟨1536 * (1 : Fin 4).val + c.val, by simp; omega⟩ + ∑ c : Fin 1536, f ⟨1536 * (2 : Fin 4).val + c.val, by simp; omega⟩
    + ∑ c : Fin 1536, f ⟨1536 * (3 : Fin 4).val + c.val, by simp; omega⟩ := by
  rw [Fin.sum_univ_two_halves 3072 3072 rfl, Fin.sum_univ_two_halves 1536 1536 rfl, Fin.sum_univ_two_halves 1536 1536 rfl, ← add_assoc]
  have v1 : (1 : Fin 4).val = 1 := rfl
  have v2 : (2 : Fin 4).val = 2 := rfl
  have v3 : (3 : Fin 4).val = 3 := rfl
  refine congrArg₂ (· + ·) (congrArg₂ (· + ·) (congrArg₂ (· + ·) ?_ ?_) ?_) ?_ <;>
    refine Finset.sum_congr rfl fun c _ => congrArg f (Fin.ext ?_) <;> simp only [v1, v2, v3]
  · exact (zero_add c.val).symm
  all_goals omega

theorem pay6 : k0_pay6 (F := Ideal) (lift2 (pq R 0)) (lift3 (wq w 0)) (lift2 (pq R 1)) (lift3 (wq w 1)) (lift2 (pq R 2)) (lift3 (wq w 2))
    (lift2 (pq R 3)) (lift3 (wq w 3)) = lift2 fun i => dh w (R i) := by
  funext i; idx_vars i
  pointwise [k0_pay6, lift2_apply, lift3_apply]
  unfold dh
  rw [sum_four]
  unfold pq wq
  norm_cast

theorem pay7 : k0_pay7 (F := Ideal) (lift2 fun i => (R i).x) = lift2 fun i => (R i).x := by
  funext i; idx_vars i
  pointwise [k0_pay7, lift2_apply]

theorem pay8 : k0_pay8 (F := Ideal) (lift2 fun i => (R i).x) = lift2 fun i j => (R i).x j * (R i).x j := by
  simp only [k0_pay8, pay7]
  funext i; idx_vars i
  pointwise [lift2_apply]
  norm_cast

theorem pay1 : k0_pay1 (F := Ideal) (lift2 fun i j => (R i).x j * (R i).x j) = lift2 fun i _ => rs (R i) := by
  funext i; idx_vars i
  pointwise [k0_pay1, lift2_apply]
  rw [bits_1024, bits_eps]
  simp only [← coe_sum]
  rw [div_coe _ _ (by norm_num), ← EReal.coe_add]
  exact rsqrt_coe _ (ms_pos _)

theorem pay2 : k0_pay2 (F := Ideal) (lift2 fun i => (R i).x) (lift2 fun i j => (R i).x j * (R i).x j) = lift2 fun i => xn (R i) := by
  simp only [k0_pay2, pay1]
  funext i; idx_vars i
  pointwise [lift2_apply]
  unfold xn; norm_cast

theorem pay3 (v : Vec Ideal S1x1024 .f32) (q : Fin 1) (j : Fin 1024) :
    k0_pay3 (F := Ideal) (lift2 fun i => dh w (R i)) (lift2 fun i => (R i).x) (lift2 fun i j => (R i).x j * (R i).x j) v (ix2 q j)
    = v (ix2 q j) + ((∑ i, tg w (R i) j : ℝ) : EReal) := by
  simp only [k0_pay3, pay2]
  pointwise [lift2_apply]
  unfold tg; norm_cast

theorem pay4 (v : Vec Ideal S512x1024 .f32) (i : Fin 512) (j : Fin 1024) :
    k0_pay4 (F := Ideal) (lift2 fun i => dh w (R i)) (lift2 fun i => (R i).x) (lift2 fun i j => (R i).x j * (R i).x j) (lift2 fun _ => w.g) v (ix2 i j)
    = v (ix2 i j) + ((dx w (R i) j : ℝ) : EReal) := by
  simp only [k0_pay4, pay1, pay2]
  pointwise [lift2_apply]
  rw [bits_1024]
  simp only [← EReal.coe_mul, ← coe_sum]
  rw [div_coe _ _ (by norm_num)]
  norm_cast

theorem zero_bits : Ideal.ofBits .f32 0x00000000#32 = 0 := by simp [Ideal.ofBits, Ideal.ieee]

theorem pay5 : k0_pay5 (F := Ideal) = fun _ => 0 := funext fun _ => zero_bits

end Cert.XGradPay

end
-- ==== Proof.XGrad.Blocks.lean ====
/- The blocks of real arguments that a grid point of the kernel of the first norm's gradient loads. -/
module

public import proofs.«01_k».proof.Proof.XGrad.Pay
public import proofs.«01_k».proof.Proof.Gen.XGradIdeal.Value
public import Idealize.ShloMosaic.Lib.Pipeline.ValueKit

@[expose] public section

set_option maxRecDepth 16384

noncomputable section

namespace Cert.XGradBlocks

open Idealize.ShloMosaic Idealize.ShloMosaic.TcCoe Idealize.SL.Sem Cert.XGradIdeal Cert.XGradIdeal.Gen Cert.Lift Cert.XGradSpec Cert.XGradPay

/-- The arguments in memory are the real tokens and weights, and an array of extended reals. -/
structure Holds (m : (ℓ : Loc nD τ sig) → Buf (Elt Ideal) ℓ) (c : Dev nD) (R : Fin 8192 → Row) (w : Wts) (v : Vec Ideal S8192x1024 .f32) : Prop where
  x : m ((c : Thread nD τ).loc main_arg0) = lift2 fun i => (R i).x
  g : m ((c : Thread nD τ).loc main_arg1) = lift2 fun _ => w.g
  w : m ((c : Thread nD τ).loc main_arg2) = lift2 w.w
  v : m ((c : Thread nD τ).loc main_arg3) = v
  p : m ((c : Thread nD τ).loc main_arg4) = lift2 fun i => (R i).p

/-- the array's row at one row of a grid point's block -/
def at_ (t : Fin cfg0.N) (i : Fin 512) : Fin 8192 := ⟨512 * t.val + i.val, by have h : cfg0.N = 16 := N_0; have := t.isLt; omega⟩
theorem at_val (t : Fin cfg0.N) (i : Fin 512) : (at_ t i).val = 512 * t.val + i.val := rfl
/-- the tokens of one grid point's block -/
def rows (R : Fin 8192 → Row) (t : Fin cfg0.N) : Fin 512 → Row := fun i => R (tok (at_ t i))

/-- Every window's block index at every point. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

section
variable (m : (ℓ : Loc nD τ sig) → Buf (Elt Ideal) ℓ) (c : Dev nD)

theorem v5 (i q : Fin 8192) (j : Fin 6144) (h : q = tok i) : V m c main_v5 (ix2 i j) = m ((c : Thread nD τ).loc main_arg4) (ix2 q j) := by
  subst h
  unfold tok V
  after_results
  pointwise
theorem v8 (i q : Fin 8192) (j : Fin 1024) (h : q = tok i) : V m c main_v8 (ix2 i j) = m ((c : Thread nD τ).loc main_arg0) (ix2 q j) := by
  subst h
  unfold tok V
  after_results
  pointwise
theorem v11 (i q : Fin 8192) (j : Fin 1024) (h : q = tok i) : V m c main_v11 (ix2 i j) = m ((c : Thread nD τ).loc main_arg3) (ix2 q j) := by
  subst h
  unfold tok V
  after_results
  pointwise
theorem v2 (q : Fin 4) (i : Fin 1024) (j : Fin 1536) : V m c main_v2 (ix3 q i j) = m ((c : Thread nD τ).loc main_arg2) (ix2 i ⟨q.val * 1536 + j.val, by omega⟩) := by
  unfold V
  after_results
  pointwise

theorem rd0 (t : Fin cfg0.N) (i : Fin 512) (j : Fin 6144) (q : Fin 8192) (hq : q.val = 512 * t.val + i.val) :
    iblk m c 0 t (ix2 i j) = V m c main_v5 (ix2 q j) := by
  blk_ext [iblk, V, idx t]
theorem rd1 (t : Fin cfg0.N) (q : Fin 4) (i : Fin 1024) (j : Fin 1536) : iblk m c 1 t (ix3 q i j) = V m c main_v2 (ix3 q i j) := by
  blk_ext! [iblk, V, idx t]
theorem rd2 (t : Fin cfg0.N) (i : Fin 512) (j : Fin 1024) (q : Fin 8192) (hq : q.val = 512 * t.val + i.val) :
    iblk m c 2 t (ix2 i j) = V m c main_v8 (ix2 q j) := by
  blk_ext [iblk, V, idx t]
theorem rd3 (t : Fin cfg0.N) (i : Fin 512) (j : Fin 1024) (q : Fin 8192) (hq : q.val = 512 * t.val + i.val) :
    iblk m c 3 t (ix2 i j) = V m c main_v11 (ix2 q j) := by
  blk_ext [iblk, V, idx t]
theorem rd4 (t : Fin cfg0.N) (i : Fin 1) (j : Fin 1024) : iblk m c 4 t (ix2 i j) = m ((c : Thread nD τ).loc main_arg1) (ix2 i j) := by
  blk_ext! [iblk, V, idx t]
end

variable {m : (ℓ : Loc nD τ sig) → Buf (Elt Ideal) ℓ} {c : Dev nD} {R : Fin 8192 → Row} {w : Wts} {v : Vec Ideal S8192x1024 .f32} (H : Holds m c R w v)
include H

theorem blk0 (t : Fin cfg0.N) : iblk m c 0 t = lift2 fun i => (rows R t i).p := by
  funext i; idx_vars i; rw [rd0 m c t i0 i1 _ (at_val t i0), v5 m c _ _ _ rfl, H.p]; rfl
theorem blk1 (t : Fin cfg0.N) : iblk m c 1 t = lift3 fun q k j => wq w q 0 k j := by
  funext i; idx_vars i; rw [rd1, v2, H.w]; exact congrArg (fun k => ((w.w i1 k : ℝ) : EReal)) (Fin.ext (by show i0.val * 1536 + i2.val = 1536 * i0.val + i2.val; omega))
theorem blk2 (t : Fin cfg0.N) : iblk m c 2 t = lift2 fun i => (rows R t i).x := by
  funext i; idx_vars i; rw [rd2 m c t i0 i1 _ (at_val t i0), v8 m c _ _ _ rfl, H.x]; rfl
theorem blk3 (t : Fin cfg0.N) (i : Fin 512) (j : Fin 1024) : iblk m c 3 t (ix2 i j) = v (ix2 (tok (at_ t i)) j) := by
  rw [rd3 m c t i j _ (at_val t i), v11 m c _ _ _ rfl, H.v]
theorem blk4 (t : Fin cfg0.N) : iblk m c 4 t = lift2 fun _ => w.g := by
  funext i; idx_vars i; rw [rd4, H.g]

end Cert.XGradBlocks
end
-- ==== Proof.XGrad.Final.lean ====
/- The two arrays that the kernel of the first norm's gradient leaves. -/
module

public import proofs.«01_k».proof.Proof.XGrad.Blocks
public import Idealize.ShloMosaic.Lib.Pipeline.ReadBack

@[expose] public section

set_option maxRecDepth 16384

noncomputable section

namespace Cert.XGradFinal

open Idealize.ShloMosaic Idealize.ShloMosaic.TcCoe Idealize.SL.Sem Cert.XGradIdeal Cert.XGradIdeal.Gen Cert.Lift Cert.XGradSpec Cert.XGradPay Cert.XGradBlocks

/-- One block of columns of the gradient at the projection, loaded. -/
theorem ldp (R : Fin 512 → Row) (n : ℕ) (q : Fin 4) (hq : 1536 * q.val = n)
    (inb : ∀ a, (![0, n] : Fin 2 → ℕ) a + (![512, 1536] : Fin 2 → ℕ) a ≤ S512x6144.size a) :
    View.ld (Val := Elt Ideal) (S := S512x6144) (e' := .bf16) (lift2 fun i => (R i).p) (Rect.unit (s := S512x6144) ![0, n] ![512, 1536] inb)
    = lift2 (pq R q) := by
  funext i; idx_vars i
  rw [View.ld_unit_apply_of _ _ _ _ _ (ix2 i0 ⟨1536 * q.val + i1.val, by omega⟩) (by intro a; fin_cases a <;> simp [ix2, hq])]
  rfl

/-- One block of the projection's weight, loaded. -/
theorem ldw (w : Wts) (n : ℕ) (q : Fin 4) (hq : q.val = n)
    (inb : ∀ a, (![n, 0, 0] : Fin 3 → ℕ) a + (![1, 1024, 1536] : Fin 3 → ℕ) a ≤ S4x1024x1536.size a) :
    View.ld (Val := Elt Ideal) (S := S4x1024x1536) (e' := .bf16) (lift3 fun q k j => wq w q 0 k j) (Rect.unit (s := S4x1024x1536) ![n, 0, 0] ![1, 1024, 1536] inb)
    = lift3 (wq w q) := by
  funext i; idx_vars i
  obtain rfl : i0 = 0 := Subsingleton.elim _ _
  rw [View.ld_unit_apply_of _ _ _ _ _ (ix3 q i1 i2) (by intro a; fin_cases a <;> simp [ix3, hq])]
  rfl

variable {m : (ℓ : Loc nD τ sig) → Buf (Elt Ideal) ℓ} {c : Dev nD} {R : Fin 8192 → Row} {w : Wts} {v : Vec Ideal S8192x1024 .f32} (H : Holds m c R w v)
include H

theorem row_of (t : Fin cfg0.N) (i : Fin 512) (j : Fin 1024) :
    (outsAt0 m c t.val t.isLt).1 (ix2 i j) = v (ix2 (tok (at_ t i)) j) + ((dx w (R (tok (at_ t i))) j : ℝ) : EReal) := by
  rw [← blk3 H t]
  by_cases h : t.val % 16 = 0
  · rw [outsAt0_A m c t h]
    dsimp only
    frame_out
    simp only [blk0 H t, blk1 H t, blk2 H t, blk4 H t, ldp _ 0 0 rfl, ldp _ 1536 1 rfl, ldp _ 3072 2 rfl, ldp _ 4608 3 rfl,
      ldw _ 0 0 rfl, ldw _ 1 1 rfl, ldw _ 2 2 rfl, ldw _ 3 3 rfl, pay6, pay7, pay8]
    exact pay4 w (rows R t) _ i j
  · rw [outsAt0_B m c t h]
    dsimp only
    frame_out
    simp only [blk0 H t, blk1 H t, blk2 H t, blk4 H t, ldp _ 0 0 rfl, ldp _ 1536 1 rfl, ldp _ 3072 2 rfl, ldp _ 4608 3 rfl,
      ldw _ 0 0 rfl, ldw _ 1 1 rfl, ldw _ 2 2 rfl, ldw _ 3 3 rfl, pay6, pay7, pay8]
    exact pay4 w (rows R t) _ i j

theorem gain_first (t : Fin cfg0.N) (h : t.val % 16 = 0) (q : Fin 1) (j : Fin 1024) :
    (outsAt0 m c t.val t.isLt).2 (ix2 q j) = 0 + ((∑ i, tg w (rows R t i) j : ℝ) : EReal) := by
  rw [outsAt0_A m c t h]
  dsimp only
  frame_open
  simp (disch := decide) only [↓ View.readCov_skip, ↓ View.readCov_cons_toLoadRect, ↓ View.readCov_fill]
  frame_out
  simp only [blk0 H t, blk1 H t, blk2 H t, blk4 H t, ldp _ 0 0 rfl, ldp _ 1536 1 rfl, ldp _ 3072 2 rfl, ldp _ 4608 3 rfl,
    ldw _ 0 0 rfl, ldw _ 1 1 rfl, ldw _ 2 2 rfl, ldw _ 3 3 rfl, pay6, pay7, pay8, pay5]
  exact pay3 w (rows R t) _ q j

theorem gain_next (t : Fin cfg0.N) (h : ¬ t.val % 16 = 0) (h' : t.val - 1 < cfg0.N) (q : Fin 1) (j : Fin 1024) :
    (outsAt0 m c t.val t.isLt).2 (ix2 q j) = (outsAt0 m c (t.val - 1) h').2 (ix2 q j) + ((∑ i, tg w (rows R t i) j : ℝ) : EReal) := by
  rw [outsAt0_B m c t h]
  dsimp only
  frame_out
  simp only [blk0 H t, blk1 H t, blk2 H t, blk4 H t, ldp _ 0 0 rfl, ldp _ 1536 1 rfl, ldp _ 3072 2 rfl, ldp _ 4608 3 rfl,
    ldw _ 0 0 rfl, ldw _ 1 1 rfl, ldw _ 2 2 rfl, ldw _ 3 3 rfl, pay6, pay7, pay8]
  exact pay3 w (rows R t) _ q j

/-- the gradient at the input, its rows in the arrays' order -/
def gx (R : Fin 8192 → Row) (w : Wts) (v : Vec Ideal S8192x1024 .f32) : Vec Ideal S8192x1024 .f32 :=
  fun i => v (ix2 (tok (i 0)) (i 1)) + ((dx w (R (tok (i 0))) (i 1) : ℝ) : EReal)

omit H in
/-- A block of rows of window 5, read in its array. -/
theorem read5 (f : Vec Ideal S8192x1024 .f32) (t : Fin cfg0.N) (y0 : Fin 512) (y1 : Fin 1024) :
    f (ix2 (at_ t y0) y1) = f (((cfg0.win 5).blk t).view.emb (ix2 y0 y1)) := by
  refine congrArg f (?_ : ix2 (at_ t y0) y1 = _)
  blk_ext! [at_val, idx t]

theorem arr5 : (dats m 0 c).arrAt 5 cfg0.N = gx R w v := by
  refine (dats m 0 c).arrAt_eq_of_covers 5 _ (by decide +kernel) fun t hf y => ?_
  blk_simp
  rw [after0_5]
  idx_vars y
  exact (row_of H t y0 y1).trans (read5 (gx R w v) t y0 y1)

omit H in
/-- A sum over grid points and rows of a block is a sum over the array's rows. -/
theorem sum_rows (g : Fin 8192 → ℝ) : ∑ p : Fin cfg0.N, ∑ i : Fin 512, g (at_ p i) = ∑ n, g n := by
  have hN : cfg0.N = 16 := N_0
  rw [← Fintype.sum_prod_type']
  refine Fintype.sum_bijective (fun x : Fin cfg0.N × Fin 512 => at_ x.1 x.2) ⟨?_, ?_⟩ _ _ fun _ => rfl
  · rintro ⟨p, i⟩ ⟨p', i'⟩ h
    have h' : 512 * p.val + i.val = 512 * p'.val + i'.val := congrArg Fin.val h
    ext
    · dsimp only; omega
    · dsimp only; omega
  · intro n
    exact ⟨(⟨n.val / 512, by omega⟩, ⟨n.val % 512, by omega⟩), Fin.ext (by simp only [at_val]; omega)⟩

theorem arr6 : (dats m 0 c).arrAt 6 cfg0.N = lift2 fun _ j => ∑ n, tg w (R n) j := by
  refine (dats m 0 c).arrAt_eq_of_covers 6 _ (by decide +kernel) fun t hf y => ?_
  blk_simp
  rw [after0_6]
  idx_vars y
  have hN : cfg0.N = 16 := N_0
  have ht : t.val % 16 = 15 := (flush0_6 t).mp hf
  have e : (outsAt0 m c t.val t.isLt).2 (ix2 y0 y1) = ((∑ n, tg w (R n) y1 : ℝ) : EReal) := by
    rw [Pipeline.eq_sum_fin_of_reset_step_apply_last (fun n h (i : Fin 1 × Fin 1024) => (outsAt0 m c n h).2 (ix2 i.1 i.2)) 16 (fun _ => 0)
      (fun t i => ((∑ r, tg w (rows R t r) i.2 : ℝ) : EReal)) (fun t h i => gain_first H t h _ _) (fun t h i => gain_next H t h _ _ _) (le_of_eq hN) t
      (by have := lt_of_lt_of_eq t.isLt hN; omega) (y0, y1), zero_add, ← coe_sum]
    exact congrArg _ ((sum_rows fun n => tg w (R (tok n)) y1).trans (sum_tok fun n => tg w (R n) y1))
  refine e.trans (congrArg (lift2 fun (_ : Fin 1) j => ∑ n, tg w (R n) j) (?_ : ix2 y0 y1 = _))
  blk_ext! [idx t]

end Cert.XGradFinal
end
-- ==== Proof.XGrad.Claim.lean ====
/- The claims about the gradient of the step's input. -/
module

public import proofs.«01_k».proof.Proof.Real
public import proofs.«01_k».proof.Proof.XGrad.Ref
public import proofs.«01_k».proof.Proof.XGrad.Final
public import proofs.«01_k».proof.Proof.Gen.XGrad.Frame
public import proofs.«01_k».proof.Proof.Gen.XGradRefIdeal.Run
public import proofs.«01_k».proof.Proof.Gen.Pre_bounded
public import proofs.«01_k».proof.Defs

@[expose] public section

set_option maxRecDepth 16384

noncomputable section

namespace Cert.XGradClaim

open Idealize.ShloMosaic Idealize.ShloMosaic.TcCoe Idealize.SL.Sem Cert.Lift Cert.XGradSpec

variable {m : (ℓ : Loc Cert.XGradIdeal.nD Cert.XGradIdeal.τ Cert.XGradIdeal.sig) → Buf (Elt Ideal) ℓ}

theorem holds (hp : Cert.Pre_XGradIdeal_bounded m) (c : Dev Cert.XGradIdeal.nD) : ∃ R w v, Cert.XGradBlocks.Holds m c R w v := by
  obtain ⟨h0, h1, h2, h3⟩ := hp c
  unfold Cert.Pre_bounded.fn at h0 h1 h2 h3
  dsimp only at h0 h1 h2 h3
  obtain ⟨x, hx⟩ := exists_lift2 _ fun i => real_of _ (congrFun h0 i)
  obtain ⟨g, hg⟩ := exists_lift2 _ fun i => real_of _ (congrFun h1 i)
  obtain ⟨w, hw⟩ := exists_lift2 _ fun i => real_of _ (congrFun h2 i)
  obtain ⟨p, hq⟩ := exists_lift2 _ fun i => real_of _ (congrFun h3 i)
  refine ⟨fun i => ⟨x i, p i⟩, ⟨w, g 0⟩, _, ⟨hx, ?_, hw, rfl, hq⟩⟩
  rw [hg]
  congr 1
  funext i
  exact congrArg g (Subsingleton.elim i 0)

section Reference
open Cert.XGradRefIdeal.Value Cert.XGradRefIdeal.Read Cert.XGradRefValue

variable {m' : (ℓ : Loc Cert.XGradRefIdeal.nD Cert.XGradRefIdeal.τ Cert.XGradRefIdeal.sig) → Buf (Elt Ideal) ℓ} {c : Dev Cert.XGradRefIdeal.nD}
  {R : Fin 8192 → Row} {w : Wts} {v : Vec Ideal Cert.XGradIdeal.S8192x1024 .f32}
  (hx : m' (c.tc.loc Cert.XGradRefIdeal.main_arg0) = lift2 fun i => (R i).x) (hg : m' (c.tc.loc Cert.XGradRefIdeal.main_arg1) = lift2 fun _ => w.g)
  (hw : m' (c.tc.loc Cert.XGradRefIdeal.main_arg2) = lift2 w.w) (hv : m' (c.tc.loc Cert.XGradRefIdeal.main_arg3) = v)
  (hq : m' (c.tc.loc Cert.XGradRefIdeal.main_arg4) = lift2 fun i => (R i).p)

include hx hg hw hv hq in
theorem r0 : res_main_v42 m' c = Cert.XGradFinal.gx R w v := by
  rw [val_main_v42_eq, hx, hg, hw, hv, hq]
  funext i
  rw [eq_ix2 i]
  exact s42 w R v (i 0) (i 1)

include hx hw hq in
theorem r1 : val_main_v22 (F := Ideal) (m' (c.tc.loc Cert.XGradRefIdeal.main_arg0)) (m' (c.tc.loc Cert.XGradRefIdeal.main_arg2)) (m' (c.tc.loc Cert.XGradRefIdeal.main_arg4)) =
    lift2 fun _ j => ∑ n, tg w (R n) j := by
  rw [hx, hw, hq]
  exact s22 w R
end Reference

theorem algebraic : Cert.algebraic_XGradIdeal_XGradRefIdeal_pre_bounded := by
  intro m g m' g' hpre hagree
  refine ⟨fun c => (Cert.XGradIdeal.Gen.dats m 0 c).arrAt 5 Cert.XGradIdeal.cfg0.N, fun c => (Cert.XGradIdeal.Gen.dats m 0 c).arrAt 6 Cert.XGradIdeal.cfg0.N, ?_, ?_⟩
  · run_from Cert.XGradIdeal.Value.run_blocks m g
  · refine (θ_run Cert.XGradRefIdeal.defs _ _).mono (fun r h c => ?_) (Cert.XGradRefIdeal.Value.run (F := Ideal) m' g')
    obtain ⟨R, w, v, H⟩ := holds hpre c
    obtain ⟨a0, a1, a2, a3, a4⟩ := hagree c
    obtain ⟨e0, e1, ha⟩ := h c
    exact ⟨e0.trans ((r0 (a0.trans H.x) (a1.trans H.g) (a2.trans H.w) (a3.trans H.v) (a4.trans H.p)).trans (Cert.XGradFinal.arr5 H).symm),
      e1.trans ((r1 (a0.trans H.x) (a2.trans H.w) (a4.trans H.p)).trans (Cert.XGradFinal.arr6 H).symm), ha⟩

/-- The reference is a straight line of host operations that declares no semaphore: its arguments stay, and its counters end at zero. -/
theorem frame_ref : Cert.quiescent_XGradRefIdeal := fun m ρ _ =>
  (θ_run Cert.XGradRefIdeal.defs _ _).mono (fun r h => ⟨fun c => (h c).2.2, sem_eq_zero_of_no_sems (by decide) r.2⟩)
    (Cert.XGradRefIdeal.Value.run (F := Ideal) m ρ)

end Cert.XGradClaim

end
-- ==== Proof.Prep.Spec.lean ====
/- The first norm of the step, row by row, and the order in which a block's rows are put. -/
module

public import proofs.«01_k».proof.Proof.XGrad.Spec

@[expose] public section

noncomputable section

namespace Cert.PrepSpec

open Idealize.ShloMosaic Cert.Lift

/-- the mean square of a row plus the small constant -/
def ms (x : Fin 1024 → ℝ) : ℝ := (∑ k, x k * x k) / 1024 + eps
theorem ms_pos (x : Fin 1024 → ℝ) : 0 < ms x := by
  unfold ms
  have h : 0 ≤ (∑ k, x k * x k) / 1024 := div_nonneg (Finset.sum_nonneg fun k _ => mul_self_nonneg _) (by norm_num)
  linarith [eps_pos]
def rs (x : Fin 1024 → ℝ) : ℝ := (Real.sqrt (ms x))⁻¹

/-- A row normed and multiplied by a gain, which may hold anything. -/
def nrm (x : Fin 1024 → ℝ) (g : Fin 1024 → EReal) (j : Fin 1024) : EReal := ((x j * rs x : ℝ) : EReal) * g j
/-- A normed row's product with a weight, which may hold anything. -/
def prj (x : Fin 1024 → ℝ) (g : Fin 1024 → EReal) (w : Fin 1024 → Fin 1536 → EReal) (j : Fin 1536) : EReal := ∑ k, nrm x g k * w k j

/-- The row of a block that its reordering puts at row `i`. -/
def src (i : Fin 512) : Fin 512 := ⟨64 * (i.val % 8) + i.val / 8, by omega⟩
/-- The matrix that reorders a block's rows. -/
def pm : Fin 512 → Fin 512 → ℝ := fun i j => if j = src i then 1 else 0

/-- The matrix picks one entry of a column, whatever the others hold. -/
theorem pick (i : Fin 512) (f : Fin 512 → EReal) : ∑ k, ((pm i k : ℝ) : EReal) * f k = f (src i) := by
  rw [Finset.sum_eq_single (src i) (fun b _ h => by simp [pm, h]) (fun h => absurd (Finset.mem_univ _) h)]
  simp [pm]

end Cert.PrepSpec
end
-- ==== Proof.Prep.Ref.lean ====
/- What the reference of the first norm computes, on real tokens. -/
module

public import proofs.«01_k».proof.Proof.Prep.Spec
public import proofs.«01_k».proof.Proof.Gen.PrepRefIdeal.Read
public import Idealize.ShloMosaic.Lib.KernelVsHost

@[expose] public section

set_option maxRecDepth 16384

noncomputable section

namespace Cert.PrepRefValue

open Idealize.ShloMosaic Cert.PrepRefIdeal Cert.PrepRefIdeal.Gen Cert.PrepRefIdeal.Read Cert.Lift Cert.PrepSpec Cert.XGradSpec

variable (x : Fin 8192 → Fin 1024 → ℝ) (g : Vec Ideal S1x1024 .f32) (w : Vec Ideal S1024x1536 .f32)

theorem s7 : val_main_v7 (F := Ideal) (lift2 x) = lift2 fun n _ => rs (x n) := by
  simp only [val_main_v7, val_main_v6, val_main_v4, val_main_v2, val_main_v1, val_main_v0]
  funext i; idx_vars i
  pointwise [val_main_v3, val_main_v5, val_main_cst, val_main_cst_0, val_main_cst_1, lift2_apply]
  rw [bits_1024, bits_eps]
  simp only [← EReal.coe_mul, ← coe_sum]
  rw [div_coe _ _ (by norm_num), ← EReal.coe_add]
  exact rsqrt_coe (ms (x i0)) (ms_pos _)
theorem s11 (n : Fin 8192) (j : Fin 1024) : val_main_v11 (F := Ideal) (lift2 x) g (ix2 n j) = nrm (x n) (fun k => g (ix2 0 k)) j := by
  simp only [val_main_v11, val_main_v10, val_main_v9, val_main_v8, s7]
  pointwise [lift2_apply]
  rw [← EReal.coe_mul]
  rfl
theorem s12 (n : Fin 8192) (j : Fin 1536) :
    val_main_v12 (F := Ideal) (lift2 x) g w (ix2 n j) = prj (x n) (fun k => g (ix2 0 k)) (fun k l => w (ix2 k l)) j := by
  simp only [val_main_v12]
  pointwise
  unfold prj
  exact Finset.sum_congr rfl fun k _ => congrArg (· * w (ix2 k j)) (s11 x g n k)
theorem s16 (n : Fin 8192) (j : Fin 1024) :
    val_main_v16 (F := Ideal) (lift2 x) g (ix2 n j) = nrm (x (tok n)) (fun k => g (ix2 0 k)) j := by
  rw [← s11]
  simp only [val_main_v16, val_main_v15, val_main_v14, val_main_v13]
  generalize val_main_v11 (F := Ideal) (lift2 x) g = z
  pointwise
  rfl
theorem s19 (n : Fin 8192) (j : Fin 1024) : val_main_v19 (F := Ideal) (lift2 x) (ix2 n j) = ((x (tok n) j : ℝ) : EReal) := by
  simp only [val_main_v19, val_main_v18, val_main_v17]
  pointwise
  rfl
theorem s22 (n : Fin 8192) (j : Fin 1024) : val_main_v22 (F := Ideal) (lift2 x) (ix2 n j) = ((x (tok n) j : ℝ) : EReal) := by
  simp only [val_main_v22, val_main_v21, val_main_v20]
  pointwise
  rfl
theorem s26 (n : Fin 8192) (j : Fin 1536) :
    val_main_v26 (F := Ideal) (lift2 x) g w (ix2 n j) = prj (x (tok n)) (fun k => g (ix2 0 k)) (fun k l => w (ix2 k l)) j := by
  rw [← s12]
  simp only [val_main_v26, val_main_v25, val_main_v24, val_main_v23]
  generalize val_main_v12 (F := Ideal) (lift2 x) g w = z
  pointwise
  rfl
theorem s27 (n : Fin 8192) (j : Fin 6144) (hj : j.val < 1536) :
    val_main_v27 (F := Ideal) (lift2 x) g w (ix2 n j) = prj (x (tok n)) (fun k => g (ix2 0 k)) (fun k l => w (ix2 k l)) ⟨j.val, hj⟩ := by
  rw [← s26]
  simp only [val_main_v27]
  exact pad_apply_of_inside _ _ _ _ _ _ _ _ (ix2 n ⟨j.val, hj⟩) (by intro a; fin_cases a <;> simp [ix2])

end Cert.PrepRefValue

end
-- ==== Proof.Prep.Pay.lean ====
/- What each value that the kernel of the first norm computes is, on blocks of real entries. -/
module

public import proofs.«01_k».proof.Proof.Prep.Spec
public import proofs.«01_k».proof.Proof.Gen.PrepIdeal.Skeleton

@[expose] public section

set_option maxRecDepth 16384

noncomputable section

namespace Cert.PrepPay

open Idealize.ShloMosaic Cert.PrepIdeal Cert.PrepIdeal.Gen Cert.Lift Cert.PrepSpec

variable (x : Fin 512 → Fin 1024 → ℝ)

theorem zero_bits : Ideal.ofBits .f32 0x00000000#32 = 0 := by simp [Ideal.ofBits, Ideal.ieee]

theorem pay3 : k0_pay3 (F := Ideal) (lift2 pm) = lift2 pm := by
  funext i; idx_vars i
  pointwise [k0_pay3, lift2_apply]

theorem pay4 (g : Vec Ideal S1x1024 .f32) (i : Fin 512) (j : Fin 1024) :
    k0_pay4 (F := Ideal) (lift2 pm) (lift2 x) g (ix2 i j) = nrm (x (src i)) (fun k => g (ix2 0 k)) j := by
  simp only [k0_pay4, pay3]
  pointwise [lift2_apply]
  rw [bits_1024, bits_eps]
  rw [pick i fun k => ((x k j : ℝ) : EReal) * Ideal.rsqrt (Ideal.div (∑ l, ((x k l : ℝ) : EReal) * ((x k l : ℝ) : EReal)) ((1024 : ℝ) : EReal) + ((eps : ℝ) : EReal)) * g (ix2 0 j)]
  simp only [← EReal.coe_mul, ← coe_sum]
  rw [div_coe _ _ (by norm_num), ← EReal.coe_add]
  refine congrArg (· * g (ix2 0 j)) ((congrArg (((x (src i) j : ℝ) : EReal) * ·) (rsqrt_coe (ms (x (src i))) (ms_pos (x (src i))))).trans ?_)
  exact (EReal.coe_mul _ _).symm

theorem pay6 : k0_pay6 (F := Ideal) (lift2 x) = lift2 x := by
  funext i; idx_vars i
  pointwise [k0_pay6, lift2_apply]
theorem pay7 : k0_pay7 (F := Ideal) (lift2 x) = lift2 fun _ _ => 0 := by
  simp only [k0_pay7, pay6]
  funext i; idx_vars i
  pointwise [lift2_apply]
  rw [← EReal.coe_sub, sub_self]
theorem pay8 : k0_pay8 (F := Ideal) (lift2 x) = lift2 fun _ _ => 0 := by
  simp only [k0_pay8, pay7]
  funext i; idx_vars i
  pointwise [lift2_apply]
theorem pay9 : k0_pay9 (F := Ideal) (lift2 x) = lift2 fun _ _ => 0 := by
  simp only [k0_pay9, pay7, pay8]
  funext i; idx_vars i
  pointwise [lift2_apply]
  rw [← EReal.coe_sub, sub_self]
theorem pay10 : k0_pay10 (F := Ideal) (lift2 pm) (lift2 x) = lift2 fun i => x (src i) := by
  simp only [k0_pay10, pay3, pay6]
  funext i; idx_vars i
  pointwise [lift2_apply]
  exact pick i0 fun k => ((x k i1 : ℝ) : EReal)

theorem pay1 : k0_pay1 (F := Ideal) (lift2 pm) (lift2 fun _ _ => 0) (lift2 fun _ _ => 0) (lift2 fun i => x (src i)) (constant S512x1024 .f32 0x00000000#32)
    = lift2 fun i => x (src i) := by
  simp only [k0_pay1]
  funext i; idx_vars i
  pointwise [lift2_apply]
  simp
theorem pay2 : k0_pay2 (F := Ideal) (lift2 pm) (lift2 x) = lift2 fun i => x (src i) := by
  simp only [k0_pay2]
  funext i; idx_vars i
  pointwise [lift2_apply]
  simp only [← EReal.coe_sub, sub_self]
  rw [pick i0 fun k => ((x k i1 : ℝ) : EReal)]
  simp

theorem pay5 (g : Vec Ideal S1x1024 .f32) (w : Vec Ideal S1024x1536 .bf16) (i : Fin 512) (j : Fin 1536) :
    k0_pay5 (F := Ideal) (lift2 pm) (lift2 x) g w (ix2 i j) = prj (x (src i)) (fun k => g (ix2 0 k)) (fun k l => w (ix2 k l)) j := by
  simp only [k0_pay5]
  pointwise
  unfold prj
  exact Finset.sum_congr rfl fun k _ => congrArg (· * w (ix2 k j)) (pay4 x g i k)

end Cert.PrepPay
end
-- ==== Proof.Prep.Blocks.lean ====
/- The blocks that a grid point of the kernel of the first norm loads. -/
module

public import proofs.«01_k».proof.Proof.Prep.Pay
public import proofs.«01_k».proof.Proof.Gen.PrepIdeal.Value
public import Idealize.ShloMosaic.Lib.Pipeline.ValueKit

@[expose] public section

set_option maxRecDepth 16384

noncomputable section

namespace Cert.PrepBlocks

open Idealize.ShloMosaic Idealize.ShloMosaic.TcCoe Idealize.SL.Sem Cert.PrepIdeal Cert.PrepIdeal.Gen Cert.Lift Cert.PrepSpec Cert.XGradSpec Cert.PrepPay

/-- The arguments in memory are real tokens and targets, a gain and a weight. -/
structure Holds (m : (ℓ : Loc nD τ sig) → Buf (Elt Ideal) ℓ) (c : Dev nD) (x y : Fin 8192 → Fin 1024 → ℝ) (g : Vec Ideal S1x1024 .f32)
    (w : Vec Ideal S1024x1536 .f32) : Prop where
  x : m ((c : Thread nD τ).loc main_arg0) = lift2 x
  g : m ((c : Thread nD τ).loc main_arg1) = g
  w : m ((c : Thread nD τ).loc main_arg2) = w
  y : m ((c : Thread nD τ).loc main_arg3) = lift2 y

/-- the array's row at one row of a grid point's block -/
def at_ (t : Fin cfg0.N) (i : Fin 512) : Fin 8192 := ⟨512 * t.val + i.val, by have h : cfg0.N = 16 := N_0; have := t.isLt; omega⟩
theorem at_val (t : Fin cfg0.N) (i : Fin 512) : (at_ t i).val = 512 * t.val + i.val := rfl
/-- one grid point's rows -/
def rows (x : Fin 8192 → Fin 1024 → ℝ) (t : Fin cfg0.N) : Fin 512 → Fin 1024 → ℝ := fun i => x (at_ t i)

/-- Reordering within a block is reordering within the array. -/
theorem rows_src (x : Fin 8192 → Fin 1024 → ℝ) (t : Fin cfg0.N) (i : Fin 512) : rows x t (src i) = x (tok (at_ t i)) := by
  refine congrArg x (Fin.ext ?_)
  show 512 * t.val + (64 * (i.val % 8) + i.val / 8) = (512 * t.val + i.val) / 512 * 512 + (512 * t.val + i.val) % 8 * 64 + (512 * t.val + i.val) / 8 % 64
  omega

/-- Every window's block index at every point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

section
variable (m : (ℓ : Loc nD τ sig) → Buf (Elt Ideal) ℓ) (c : Dev nD)

theorem v0 (i : Fin 1024) (j : Fin 1536) : V m c main_v0 (ix2 i j) = m ((c : Thread nD τ).loc main_arg2) (ix2 i j) := by
  unfold V
  after_results
  pointwise
theorem v10 (i j : Fin 512) : V m c main_v10 (ix2 i j) = ((pm i j : ℝ) : EReal) := by
  unfold V
  after_results
  pointwise
  unfold pm src
  have a : IntOp.addi (BitVec.ofNat 32 (i.val % 8 * 64 + i.val / 8)) 0#32 = BitVec.ofNat 32 (i.val % 8 * 64 + i.val / 8) := BitVec.add_zero _
  rw [a]
  by_cases h : j.val = 64 * (i.val % 8) + i.val / 8
  · rw [if_pos (Fin.ext h), h, Nat.mul_comm]
    simp [IntOp.cmpi, FloatOps.uitofp]
  · rw [if_neg fun e => h (congrArg Fin.val e)]
    have e : (BitVec.ofNat 32 (i.val % 8 * 64 + i.val / 8) == BitVec.ofNat 32 j.val) = false := by
      rw [beq_eq_false_iff_ne]
      intro e
      have e' := congrArg BitVec.toNat e
      rw [BitVec.toNat_ofNat, BitVec.toNat_ofNat, Nat.mod_eq_of_lt (by omega), Nat.mod_eq_of_lt (by omega)] at e'
      omega
    simp [IntOp.cmpi, FloatOps.uitofp, e]

theorem rd0 (t : Fin cfg0.N) (i : Fin 512) (j : Fin 1024) (q : Fin 8192) (hq : q.val = 512 * t.val + i.val) :
    iblk m c 0 t (ix2 i j) = m ((c : Thread nD τ).loc main_arg0) (ix2 q j) := by
  blk_ext [iblk, V, idx t]
theorem rd1 (t : Fin cfg0.N) (i : Fin 512) (j : Fin 1024) (q : Fin 8192) (hq : q.val = 512 * t.val + i.val) :
    iblk m c 1 t (ix2 i j) = m ((c : Thread nD τ).loc main_arg3) (ix2 q j) := by
  blk_ext [iblk, V, idx t]
theorem rd2 (t : Fin cfg0.N) (i : Fin 1) (j : Fin 1024) : iblk m c 2 t (ix2 i j) = m ((c : Thread nD τ).loc main_arg1) (ix2 i j) := by
  blk_ext! [iblk, V, idx t]
theorem rd3 (t : Fin cfg0.N) (i : Fin 512) (j : Fin 512) : iblk m c 3 t (ix2 i j) = V m c main_v10 (ix2 i j) := by
  blk_ext! [iblk, V, idx t]

theorem blk3 (t : Fin cfg0.N) : iblk m c 3 t = lift2 pm := by
  funext i; idx_vars i; rw [rd3, v10]; rfl
end

variable {m : (ℓ : Loc nD τ sig) → Buf (Elt Ideal) ℓ} {c : Dev nD} {x y : Fin 8192 → Fin 1024 → ℝ} {g : Vec Ideal S1x1024 .f32} {w : Vec Ideal S1024x1536 .f32}
  (H : Holds m c x y g w)
include H

theorem blk0 (t : Fin cfg0.N) : iblk m c 0 t = lift2 (rows x t) := by
  funext i; idx_vars i; rw [rd0 m c t i0 i1 _ (at_val t i0), H.x]; rfl
theorem blk1 (t : Fin cfg0.N) : iblk m c 1 t = lift2 (rows y t) := by
  funext i; idx_vars i; rw [rd1 m c t i0 i1 _ (at_val t i0), H.y]; rfl
theorem blk2 (t : Fin cfg0.N) : iblk m c 2 t = g := by
  funext i; idx_vars i; rw [rd2, H.g]

end Cert.PrepBlocks
end
-- ==== Proof.Prep.Final.lean ====
/- The four arrays that the kernel of the first norm leaves. -/
module

public import proofs.«01_k».proof.Proof.Prep.Blocks
public import Idealize.ShloMosaic.Lib.Pipeline.ReadBack

@[expose] public section

set_option maxRecDepth 16384

noncomputable section

namespace Cert.PrepFinal

open Idealize.ShloMosaic Idealize.ShloMosaic.TcCoe Idealize.SL.Sem Cert.PrepIdeal Cert.PrepIdeal.Gen Cert.Lift Cert.PrepSpec Cert.XGradSpec Cert.PrepPay Cert.PrepBlocks

/-- One copy over a whole buffer leaves what it copied, -/
theorem canon_copy (W : Vec Ideal S1024x1536 .bf16) :
    View.canon (Val := Elt Ideal) (s := S1024x1536) (e := .bf16) [⟨Rect.whole S1024x1536, W⟩] = W := by
  funext y
  have e := View.canon_cons_emb (Val := Elt Ideal) (s := S1024x1536) (e := .bf16) (Rect.whole S1024x1536) W [] y
  rwa [Rect.emb_whole_apply] at e
/-- and a load of the whole buffer reads it. -/
theorem load_copy (b : View sig .tc .vmem S1024x1536 .bf16) (W : Vec Ideal S1024x1536 .bf16) (inb : ∀ a, (![0, 0] : Fin 2 → ℕ) a + (![1024, 1536] : Fin 2 → ℕ) a ≤ S1024x1536.size a) :
    b.readCov (Val := Elt Ideal) [⟨Rect.whole S1024x1536, W⟩] (Rect.unit (s := S1024x1536) ![0, 0] ![1024, 1536] inb).toLoadRect = W := by
  rw [View.readCov_eq_canon', canon_copy]
  exact View.ld_unit_lit (S := S1024x1536) inb W (by decide)

/-- The scratch's contents, read. -/
theorem held (h : scM0_0.IsWhole) (W : Vec Ideal S1024x1536 .bf16) : View.read (Elt Ideal) scM0_0.view (h.unread (Val := Elt Ideal) W) = W := h.read_unread W

section
variable (m : (ℓ : Loc nD τ sig) → Buf (Elt Ideal) ℓ) (c : Dev nD)

theorem stage_first (t : Fin cfg0.N) (h : t.val % 16 = 0) : (outsAt0 m c t.val t.isLt).2.2.2.2 = V m c main_v0 := by
  rw [outsAt0_A m c t h]
  dsimp only
  frame_out
  exact canon_copy _
theorem stage_next (t : Fin cfg0.N) (h : ¬ t.val % 16 = 0) (h' : t.val - 1 < cfg0.N) : (outsAt0 m c t.val t.isLt).2.2.2.2 = (outsAt0 m c (t.val - 1) h').2.2.2.2 := by
  rw [outsAt0_B m c t h]
  dsimp only
  rfl
/-- The scratch that holds the weight holds it after every point. -/
theorem stage (n : ℕ) : ∀ h : n < cfg0.N, (outsAt0 m c n h).2.2.2.2 = V m c main_v0 := by
  induction n with
  | zero => exact fun h => stage_first m c ⟨0, h⟩ rfl
  | succ n ih =>
    intro h
    by_cases e : (n + 1) % 16 = 0
    · exact stage_first m c ⟨n + 1, h⟩ e
    · exact (stage_next m c ⟨n + 1, h⟩ e (by show n + 1 - 1 < _; omega)).trans (ih _)
end

variable {m : (ℓ : Loc nD τ sig) → Buf (Elt Ideal) ℓ} {c : Dev nD} {x y : Fin 8192 → Fin 1024 → ℝ} {g : Vec Ideal S1x1024 .f32} {w : Vec Ideal S1024x1536 .f32}
  (H : Holds m c x y g w)
include H

theorem out4 (t : Fin cfg0.N) (i : Fin 512) (j : Fin 1024) :
    (outsAt0 m c t.val t.isLt).1 (ix2 i j) = nrm (x (tok (at_ t i))) (fun k => g (ix2 0 k)) j := by
  rw [← rows_src x t i]
  by_cases h : t.val % 16 = 0
  · rw [outsAt0_A m c t h]
    dsimp only
    frame_out
    simp only [blk0 H t, blk2 H t, blk3 m c t]
    exact pay4 (rows x t) g i j
  · rw [outsAt0_B m c t h]
    dsimp only
    frame_out
    simp only [blk0 H t, blk2 H t, blk3 m c t]
    exact pay4 (rows x t) g i j
theorem out5 (t : Fin cfg0.N) : (outsAt0 m c t.val t.isLt).2.1 = lift2 fun i => x (tok (at_ t i)) := by
  have e : (lift2 fun i => x (tok (at_ t i)) : Vec Ideal S512x1024 .f32) = lift2 fun i => rows x t (src i) := congrArg _ (funext fun i => (rows_src x t i).symm)
  rw [e]
  by_cases h : t.val % 16 = 0
  · rw [outsAt0_A m c t h]
    dsimp only
    frame_out
    simp only [blk0 H t, blk3 m c t, pay3, pay8, pay9, pay10]
    exact pay1 (rows x t)
  · rw [outsAt0_B m c t h]
    dsimp only
    frame_out
    simp only [blk0 H t, blk3 m c t, pay3, pay8, pay9, pay10]
    exact pay1 (rows x t)
theorem out6 (t : Fin cfg0.N) : (outsAt0 m c t.val t.isLt).2.2.1 = lift2 fun i => y (tok (at_ t i)) := by
  have e : (lift2 fun i => y (tok (at_ t i)) : Vec Ideal S512x1024 .f32) = lift2 fun i => rows y t (src i) := congrArg _ (funext fun i => (rows_src y t i).symm)
  rw [e]
  by_cases h : t.val % 16 = 0
  · rw [outsAt0_A m c t h]
    dsimp only
    frame_out
    simp only [blk1 H t, blk3 m c t, pay3]
    exact pay2 (rows y t)
  · rw [outsAt0_B m c t h]
    dsimp only
    frame_out
    simp only [blk1 H t, blk3 m c t, pay3]
    exact pay2 (rows y t)
theorem out7 (t : Fin cfg0.N) (i : Fin 512) (j : Fin 1536) :
    (outsAt0 m c t.val t.isLt).2.2.2.1 (ix2 i j) = prj (x (tok (at_ t i))) (fun k => g (ix2 0 k)) (fun k l => w (ix2 k l)) j := by
  have e : (V m c main_v0 : Vec Ideal S1024x1536 .bf16) = w := by funext i; idx_vars i; rw [v0, H.w]
  rw [← rows_src x t i]
  by_cases h : t.val % 16 = 0
  · rw [outsAt0_A m c t h]
    dsimp only
    frame_out
    simp only [blk0 H t, blk2 H t, blk3 m c t]
    exact (congrArg (fun W => k0_pay5 (F := Ideal) (lift2 pm) (lift2 (rows x t)) g W (ix2 i j)) ((load_copy _ _ _).trans e)).trans (pay5 (rows x t) g w i j)
  · rw [outsAt0_B m c t h]
    dsimp only
    frame_out
    simp only [blk0 H t, blk2 H t, blk3 m c t, stage]
    rw [e]
    exact (congrArg (fun W => k0_pay5 (F := Ideal) (lift2 pm) (lift2 (rows x t)) g W (ix2 i j)) (held _ w)).trans (pay5 (rows x t) g w i j)

omit H in
/-- A row of a grid point's block, read in the array. -/
theorem read4 (f : Vec Ideal S8192x1024 .bf16) (t : Fin cfg0.N) (y0 : Fin 512) (y1 : Fin 1024) :
    f (ix2 (at_ t y0) y1) = f (((cfg0.win 4).blk t).view.emb (ix2 y0 y1)) := by
  refine congrArg f (?_ : ix2 (at_ t y0) y1 = _)
  blk_ext! [at_val, idx t]
omit H in
theorem read5 (f : Vec Ideal S8192x1024 .f32) (t : Fin cfg0.N) (y0 : Fin 512) (y1 : Fin 1024) :
    f (ix2 (at_ t y0) y1) = f (((cfg0.win 5).blk t).view.emb (ix2 y0 y1)) := by
  refine congrArg f (?_ : ix2 (at_ t y0) y1 = _)
  blk_ext! [at_val, idx t]
omit H in
theorem read6 (f : Vec Ideal S8192x1024 .f32) (t : Fin cfg0.N) (y0 : Fin 512) (y1 : Fin 1024) :
    f (ix2 (at_ t y0) y1) = f (((cfg0.win 6).blk t).view.emb (ix2 y0 y1)) := by
  refine congrArg f (?_ : ix2 (at_ t y0) y1 = _)
  blk_ext! [at_val, idx t]
omit H in
theorem read7 (f : Vec Ideal S8192x6144 .bf16) (t : Fin cfg0.N) (y0 : Fin 512) (y1 : Fin 1536) :
    f (ix2 (at_ t y0) ⟨y1.val, by omega⟩) = f (((cfg0.win 7).blk t).view.emb (ix2 y0 y1)) := by
  refine congrArg f (?_ : ix2 (at_ t y0) ⟨y1.val, by omega⟩ = _)
  blk_ext! [at_val, idx t]

/-- the normed rows, in the order of the arrays that the call leaves -/
def hs (x : Fin 8192 → Fin 1024 → ℝ) (g : Vec Ideal S1x1024 .f32) : Vec Ideal S8192x1024 .bf16 :=
  fun i => nrm (x (tok (i 0))) (fun k => g (ix2 0 k)) (i 1)
/-- the normed rows' product with the weight, zero where no column of the weight is -/
def ps (x : Fin 8192 → Fin 1024 → ℝ) (g : Vec Ideal S1x1024 .f32) (w : Vec Ideal S1024x1536 .f32) : Vec Ideal S8192x6144 .bf16 :=
  fun i => if h : (i 1).val < 1536 then prj (x (tok (i 0))) (fun k => g (ix2 0 k)) (fun k l => w (ix2 k l)) ⟨(i 1).val, h⟩ else 0

theorem arr4 : (dats m 0 c).arrAt 4 cfg0.N = hs x g := by
  refine (dats m 0 c).arrAt_eq_of_covers 4 _ (by decide +kernel) fun t hf y => ?_
  blk_simp
  rw [after0_4]
  idx_vars y
  exact (out4 H t y0 y1).trans (read4 (hs x g) t y0 y1)
theorem arr5 : (dats m 0 c).arrAt 5 cfg0.N = lift2 fun n => x (tok n) := by
  refine (dats m 0 c).arrAt_eq_of_covers 5 _ (by decide +kernel) fun t hf y => ?_
  blk_simp
  rw [after0_5, out5 H t]
  idx_vars y
  exact read5 (lift2 fun n => x (tok n)) t y0 y1
theorem arr6 : (dats m 0 c).arrAt 6 cfg0.N = lift2 fun n => y (tok n) := by
  refine (dats m 0 c).arrAt_eq_of_covers 6 _ (by decide +kernel) fun t hf z => ?_
  blk_simp
  rw [after0_6, out6 H t]
  idx_vars z
  exact read6 (lift2 fun n => y (tok n)) t z0 z1
theorem arr7 (n : Fin 8192) (j : Fin 6144) (hj : j.val < 1536) :
    (dats m 0 c).arrAt 7 cfg0.N (ix2 n j) = prj (x (tok n)) (fun k => g (ix2 0 k)) (fun k l => w (ix2 k l)) ⟨j.val, hj⟩ := by
  have e : (dats m 0 c).arrAt 7 cfg0.N = fun i => if (i 1).val < 1536 then ps x g w i else (dats m 0 c).A 7 i := by
    refine (dats m 0 c).arrAt_eq_of_coversWhere 7 _ (fun β => β (1 : Fin 2) = 0) (by decide +kernel) (fun t hf y => ?_)
      (fun j => by blk_simp [Pipeline.Window.cell_apply]; omega)
    blk_simp
    rw [after0_7]
    idx_vars y
    refine (out7 H t y0 y1).trans (Eq.trans ?_ (read7 (ps x g w) t y0 y1))
    exact (dif_pos (c := y1.val < 1536) (t := fun h => prj (x (tok (at_ t y0))) (fun k => g (ix2 0 k)) (fun k l => w (ix2 k l)) ⟨y1.val, h⟩) (e := fun _ => 0) y1.isLt).symm
  rw [e]
  exact (if_pos hj).trans (dif_pos hj)

end Cert.PrepFinal
end
-- ==== Proof.Prep.Claim.lean ====
/- The claims about the first norm, its product and the order of its rows. -/
module

public import proofs.«01_k».proof.Proof.Real
public import proofs.«01_k».proof.Proof.Prep.Ref
public import proofs.«01_k».proof.Proof.Prep.Final
public import proofs.«01_k».proof.Proof.Gen.Prep.Frame
public import proofs.«01_k».proof.Proof.Gen.PrepRefIdeal.Run
public import proofs.«01_k».proof.Proof.Gen.Pre_whole
public import proofs.«01_k».proof.Proof.Gen.On_own_columns
public import proofs.«01_k».proof.Defs

@[expose] public section

set_option maxRecDepth 16384

noncomputable section

namespace Cert.PrepClaim

open Idealize.ShloMosaic Idealize.ShloMosaic.TcCoe Idealize.SL.Sem Cert.Lift Cert.PrepSpec Cert.XGradSpec

variable {m : (ℓ : Loc Cert.PrepIdeal.nD Cert.PrepIdeal.τ Cert.PrepIdeal.sig) → Buf (Elt Ideal) ℓ}

theorem holds (hp : Cert.Pre_PrepIdeal_whole m) (c : Dev Cert.PrepIdeal.nD) : ∃ x y g w, Cert.PrepBlocks.Holds m c x y g w := by
  obtain ⟨h0, h1⟩ := hp c
  unfold Cert.Pre_whole.fn at h0 h1
  dsimp only at h0 h1
  obtain ⟨x, hx⟩ := exists_lift2 _ fun i => real_of _ (congrFun h0 i)
  obtain ⟨y, hy⟩ := exists_lift2 _ fun i => real_of _ (congrFun h1 i)
  exact ⟨x, y, _, _, ⟨hx, rfl, rfl, hy⟩⟩

/-- The mask of the projection keeps the columns that this device computes. -/
theorem mask (x0 x1 x2 x3) (n : Fin 8192) (j : Fin 6144) (h : (Cert.On_own_columns.fn (F := Ideal) x0 x1 x2 x3).2.2.2 (ix2 n j) = 1#1) :
    j.val < 1536 := by
  unfold Cert.On_own_columns.fn at h
  dsimp only at h
  by_contra hj
  have h' : IntOp.cmpi .slt (BitVec.ofNat 32 j.val) 1536#32 = 1#1 := h
  exact (by decide +kernel : ∀ k : Fin 4608, IntOp.cmpi .slt (BitVec.ofNat 32 (1536 + k.val)) 1536#32 ≠ 1#1) ⟨j.val - 1536, by omega⟩
    (by rw [show 1536 + (j.val - 1536) = j.val by omega]; exact h')

section Reference
open Cert.PrepRefIdeal.Value Cert.PrepRefIdeal.Read Cert.PrepRefValue

theorem r0 (x : Fin 8192 → Fin 1024 → ℝ) (g : Vec Ideal Cert.PrepIdeal.S1x1024 .f32) : val_main_v16 (F := Ideal) (lift2 x) g = Cert.PrepFinal.hs x g := by
  funext i
  rw [eq_ix2 i]
  exact s16 x g (i 0) (i 1)
theorem r1 (x : Fin 8192 → Fin 1024 → ℝ) : val_main_v19 (F := Ideal) (lift2 x) = lift2 fun n => x (tok n) := by
  funext i
  rw [eq_ix2 i]
  exact s19 x (i 0) (i 1)
theorem r2 (x : Fin 8192 → Fin 1024 → ℝ) : val_main_v22 (F := Ideal) (lift2 x) = lift2 fun n => x (tok n) := by
  funext i
  rw [eq_ix2 i]
  exact s22 x (i 0) (i 1)
end Reference

open Cert.PrepRefIdeal.Read in
theorem algebraic : Cert.algebraic_PrepIdeal_PrepRefIdeal_on_own_columns_pre_whole := by
  intro m g m' g' hpre hagree
  refine ⟨fun c => (Cert.PrepIdeal.Gen.dats m 0 c).arrAt 4 Cert.PrepIdeal.cfg0.N, fun c => (Cert.PrepIdeal.Gen.dats m 0 c).arrAt 5 Cert.PrepIdeal.cfg0.N,
    fun c => (Cert.PrepIdeal.Gen.dats m 0 c).arrAt 6 Cert.PrepIdeal.cfg0.N, fun c => (Cert.PrepIdeal.Gen.dats m 0 c).arrAt 7 Cert.PrepIdeal.cfg0.N, ?_, ?_⟩
  · run_from Cert.PrepIdeal.Value.run_blocks m g
    all_goals exact fun i _ => trivial
  · refine (θ_run Cert.PrepRefIdeal.defs _ _).mono (fun r h c => ?_) (Cert.PrepRefIdeal.Value.run (F := Ideal) m' g')
    obtain ⟨x, y, gn, w, H⟩ := holds hpre c
    obtain ⟨a0, a1, a2, a3⟩ := hagree c
    obtain ⟨e0, e1, e2, e3, ha⟩ := h c
    have b0 := a0.trans H.x
    have b1 := a1.trans H.g
    have b2 := a2.trans H.w
    have b3 := a3.trans H.y
    have q0 : val_main_v16 (F := Ideal) (m' (c.tc.loc Cert.PrepRefIdeal.main_arg0)) (m' (c.tc.loc Cert.PrepRefIdeal.main_arg1)) = Cert.PrepFinal.hs x gn := by rw [b0, b1]; exact r0 x gn
    have q1 : val_main_v19 (F := Ideal) (m' (c.tc.loc Cert.PrepRefIdeal.main_arg0)) = lift2 fun n => x (tok n) := by rw [b0]; exact r1 x
    have q2 : val_main_v22 (F := Ideal) (m' (c.tc.loc Cert.PrepRefIdeal.main_arg3)) = lift2 fun n => y (tok n) := by rw [b3]; exact r2 y
    have q3 : val_main_v27 (F := Ideal) (m' (c.tc.loc Cert.PrepRefIdeal.main_arg0)) (m' (c.tc.loc Cert.PrepRefIdeal.main_arg1)) (m' (c.tc.loc Cert.PrepRefIdeal.main_arg2))
        = val_main_v27 (F := Ideal) (lift2 x) gn w := by rw [b0, b1, b2]
    refine ⟨fun i _ => congrFun (e0.trans (q0.trans (Cert.PrepFinal.arr4 H).symm)) i, fun i _ => congrFun (e1.trans (q1.trans (Cert.PrepFinal.arr5 H).symm)) i,
      fun i _ => congrFun (e2.trans (q2.trans (Cert.PrepFinal.arr6 H).symm)) i, fun i hi => ?_, ha⟩
    have e : i = ix2 (i 0) (i 1) := eq_ix2 i
    rw [e] at hi ⊢
    have hj := mask _ _ _ _ (i 0) (i 1) hi
    exact (congrFun (e3.trans q3) _).trans ((Cert.PrepRefValue.s27 x gn w (i 0) (i 1) hj).trans (Cert.PrepFinal.arr7 H (i 0) (i 1) hj).symm)

/-- The reference is a straight line of host operations that declares no semaphore: its arguments stay, and its counters end at zero. -/
theorem frame_ref : Cert.quiescent_PrepRefIdeal := fun m ρ _ =>
  (θ_run Cert.PrepRefIdeal.defs _ _).mono (fun r h => ⟨fun c => (h c).2.2.2.2, sem_eq_zero_of_no_sems (by decide) r.2⟩)
    (Cert.PrepRefIdeal.Value.run (F := Ideal) m ρ)

end Cert.PrepClaim

end
-- ==== Proof.WinGrad.Final.lean ====
/- The array that the kernel of the projection's weight gradient leaves. -/
module

public import proofs.«01_k».proof.Proof.XGrad.Spec
public import proofs.«01_k».proof.Proof.Gen.WinGradIdeal.Skeleton
public import proofs.«01_k».proof.Proof.Gen.WinGradIdeal.Value
public import proofs.«01_k».proof.Proof.Gen.WinGradRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.WinGradFinal

open Idealize.ShloMosaic Idealize.ShloMosaic.TcCoe Idealize.SL.Sem Cert.WinGradIdeal Cert.WinGradIdeal.Gen Cert.XGradSpec
open Cert.WinGradRefIdeal.Read (val_main_v1 val_main_v2 val_main_v3 val_main_v4 val_main_v5 val_main_v6 val_main_v7 val_main_v8 val_main_v9
  val_main_v10 val_main_v11 val_main_v12 val_main_cst_0 val_main_cst_1 val_main_cst_2)

/-- The normed rows, in the order of the tokens. -/
def nr (x : Vec Ideal S8192x1024 .f32) (g : Vec Ideal S1x1024 .f32) (n : Fin 8192) (j : Fin 1024) : EReal := val_main_v12 (F := Ideal) x g (ix2 n j)

/-- One token's share of the gradient of the weight at a row and a column of one of four blocks of columns. -/
def share (x : Vec Ideal S8192x1024 .f32) (g : Vec Ideal S1x1024 .f32) (p : Vec Ideal S8192x6144 .bf16) (q : Fin 4) (i : Fin 1024) (k : Fin 1536)
    (n : Fin 8192) : EReal := nr x g n i * p (ix2 n ⟨q.val * 1536 + k.val, by omega⟩)

/-- The gradient of the weight, cut into four blocks of columns. -/
def gw (x : Vec Ideal S8192x1024 .f32) (g : Vec Ideal S1x1024 .f32) (p : Vec Ideal S8192x6144 .bf16) : Vec Ideal S4x1024x1536 .bf16 :=
  fun i => ∑ n, share x g p (i 0) (i 1) (i 2) n

/-- the array's row at one row of a grid point's block -/
def at_ (s : Fin 4) (i : Fin 2048) : Fin 8192 := ⟨2048 * s.val + i.val, by omega⟩
/-- the block of rows of a grid point, and its block of columns -/
def sOf (t : Fin cfg0.N) : Fin 4 := ⟨t.val % 4, by omega⟩
def qOf (t : Fin cfg0.N) : Fin 4 := ⟨t.val / 4, by have h : cfg0.N = 16 := N_0; have := t.isLt; omega⟩

/-- Every window's block index at every point. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- A sum over the rows of a reordered array, block by block, is a sum over the tokens. -/
theorem sum_rows (f : Fin 8192 → EReal) : ∑ s : Fin 4, ∑ i : Fin 2048, f (tok (at_ s i)) = ∑ n, f n := by
  rw [← (Finite.injective_iff_bijective.mp tok_injective).sum_comp f, ← Fintype.sum_prod_type']
  refine Fintype.sum_bijective (fun x : Fin 4 × Fin 2048 => at_ x.1 x.2) ⟨?_, ?_⟩ _ _ fun _ => rfl
  · rintro ⟨p, i⟩ ⟨p', i'⟩ h
    have h' : 2048 * p.val + i.val = 2048 * p'.val + i'.val := congrArg Fin.val h
    ext
    · dsimp only; omega
    · dsimp only; omega
  · intro n
    exact ⟨(⟨n.val / 2048, by omega⟩, ⟨n.val % 2048, by omega⟩), Fin.ext (by show 2048 * (n.val / 2048) + n.val % 2048 = n.val; omega)⟩

/-- the product of a block of rows, transposed, with another -/
def dot (h : Vec Ideal S2048x1024 .bf16) (p : Vec Ideal S2048x1536 .bf16) (i : Fin 1024) (k : Fin 1536) : EReal := ∑ r : Fin 2048, h (ix2 r i) * p (ix2 r k)

theorem pay1 (i : Fin 1024) (k : Fin 1536) : k0_pay1 (F := Ideal) (ix2 i k) = 0 := by
  pointwise [k0_pay1]
theorem pay2 (a : Vec Ideal S1024x1536 .f32) (h : Vec Ideal S2048x1024 .bf16) (p : Vec Ideal S2048x1536 .bf16) (i : Fin 1024) (k : Fin 1536) :
    k0_pay2 (F := Ideal) a h p (ix2 i k) = a (ix2 i k) + dot h p i k := by
  unfold dot
  pointwise [k0_pay2]
theorem pay3 (a : Vec Ideal S1024x1536 .f32) (z : Fin 1) (i : Fin 1024) (k : Fin 1536) : k0_pay3 (F := Ideal) a (ix3 z i k) = a (ix2 i k) := by
  pointwise [k0_pay3]

section
variable (m : (ℓ : Loc nD τ sig) → Buf (Elt Ideal) ℓ) (c : Dev nD)

theorem v15 (i q : Fin 8192) (j : Fin 1024) (h : q = tok i) : V m c main_v15 (ix2 i j) =
    nr (m ((c : Thread nD τ).loc main_arg0)) (m ((c : Thread nD τ).loc main_arg1)) q j := by
  subst h
  unfold nr tok V
  after_results
  simp only [val_main_v1, val_main_v2, val_main_v3, val_main_v4, val_main_v5, val_main_v6, val_main_v7, val_main_v8, val_main_v9,
    val_main_v10, val_main_v11, val_main_v12, val_main_cst_0, val_main_cst_1, val_main_cst_2]
  pointwise
theorem v18 (i q : Fin 8192) (j : Fin 6144) (h : q = tok i) : V m c main_v18 (ix2 i j) = m ((c : Thread nD τ).loc main_arg2) (ix2 q j) := by
  subst h
  unfold tok V
  after_results
  pointwise

theorem rd0 (t : Fin cfg0.N) (i : Fin 2048) (j : Fin 1024) (q : Fin 8192) (hq : q.val = 2048 * (t.val % 4) + i.val) :
    iblk m c 0 t (ix2 i j) = V m c main_v15 (ix2 q j) := by
  blk_ext [iblk, V, idx t]
theorem rd1 (t : Fin cfg0.N) (i : Fin 2048) (j : Fin 1536) (q : Fin 8192) (k : Fin 6144) (hq : q.val = 2048 * (t.val % 4) + i.val)
    (hk : k.val = t.val / 4 * 1536 + j.val) : iblk m c 1 t (ix2 i j) = V m c main_v18 (ix2 q k) := by
  blk_ext [iblk, V, idx t]

/-- the tokens' shares at one grid point -/
def term (t : Fin cfg0.N) (y : Fin 1024 × Fin 1536) : EReal :=
  ∑ r : Fin 2048, share (m ((c : Thread nD τ).loc main_arg0)) (m ((c : Thread nD τ).loc main_arg1)) (m ((c : Thread nD τ).loc main_arg2)) (qOf t) y.1 y.2
    (tok (at_ (sOf t) r))

theorem part (t : Fin cfg0.N) (i : Fin 1024) (k : Fin 1536) :
    dot (iblk m c 0 t) (iblk m c 1 t) i k = term m c t (i, k) := by
  unfold dot
  refine Finset.sum_congr rfl fun r _ => ?_
  rw [rd0 m c t r i (at_ (sOf t) r) rfl, rd1 m c t r k (at_ (sOf t) r) ⟨(qOf t).val * 1536 + k.val, by omega⟩ rfl rfl, v15 m c _ _ _ rfl, v18 m c _ _ _ rfl]
  rfl

theorem acc_first (t : Fin cfg0.N) (h : t.val % 4 = 0) (i : Fin 1024) (k : Fin 1536) :
    (outsAt0 m c t.val t.isLt).2 (ix2 i k) = 0 + term m c t (i, k) := by
  rw [outsAt0_A m c t h (by omega)]
  dsimp only
  frame_open
  simp (disch := decide) only [↓ View.readCov_skip, ↓ View.readCov_cons_toLoadRect, ↓ View.readCov_fill]
  frame_out
  rw [pay2, pay1, part]

omit m c in
/-- The sums that the point before left in the scratch array, read back. -/
theorem held (h : scM0_0.IsWhole) (W : Vec Ideal S1024x1536 .f32) :
    View.read (Elt Ideal) (View.whole cc0_scratch0) (h.unread W) = W := h.read_unread W

theorem acc_next (t : Fin cfg0.N) (h : ¬ t.val % 4 = 0) (h' : t.val - 1 < cfg0.N) (i : Fin 1024) (k : Fin 1536) :
    (outsAt0 m c t.val t.isLt).2 (ix2 i k) = (outsAt0 m c (t.val - 1) h').2 (ix2 i k) + term m c t (i, k) := by
  by_cases h3 : t.val % 4 = 3
  · rw [outsAt0_C m c t h h3]
    dsimp only
    frame_out
    rw [pay2, part]
    exact congrArg (· + _) (congrFun (held _ _) _)
  · rw [outsAt0_B m c t h h3]
    dsimp only
    frame_out
    rw [pay2, part]
    exact congrArg (· + _) (congrFun (held _ _) _)

theorem out_last (t : Fin cfg0.N) (h : t.val % 4 = 3) (z : Fin 1) (i : Fin 1024) (k : Fin 1536) :
    (outsAt0 m c t.val t.isLt).1 (ix3 z i k) = (outsAt0 m c t.val t.isLt).2 (ix2 i k) := by
  rw [outsAt0_C m c t (by omega) h]
  dsimp only
  frame_open
  simp (disch := decide) only [↓ View.readCov_skip, ↓ View.readCov_cons_toLoadRect, ↓ View.readCov_fill]
  frame_out
  rw [pay3]

theorem arr2 : (dats m 0 c).arrAt 2 cfg0.N = gw (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  idx_vars y
  have ht : t.val % 4 = 3 := (flush0_2 t).mp hf
  have e : (outsAt0 m c t.val t.isLt).1 (ix3 y0 y1 y2) = gw (m ((c : Thread nD τ).loc main_arg0)) (m ((c : Thread nD τ).loc main_arg1))
      (m ((c : Thread nD τ).loc main_arg2)) (ix3 (qOf t) y1 y2) := by
    rw [out_last m c t ht, Pipeline.eq_sum_fin_of_reset_step_apply_of_flush (fun n h (i : Fin 1024 × Fin 1536) => (outsAt0 m c n h).2 (ix2 i.1 i.2)) 4 (fun _ => 0)
      (term m c) (fun t h i => acc_first m c t h _ _) (fun t h i => acc_next m c t h _ _ _) t ht (y1, y2), zero_add]
    refine Eq.trans (Finset.sum_congr rfl fun s _ => ?_) (sum_rows (share _ _ _ (qOf t) y1 y2))
    have e1 : (4 * (t.val / 4) + s.val) / 4 = t.val / 4 := by omega
    have e2 : (4 * (t.val / 4) + s.val) % 4 = s.val := by omega
    unfold term
    refine Finset.sum_congr rfl fun r _ => ?_
    exact congrArg₂ (fun q n => share _ _ _ q y1 y2 (tok (at_ n r))) (Fin.ext e1) (Fin.ext e2)
  refine e.trans (congrArg (gw _ _ _) (?_ : ix3 (qOf t) y1 y2 = _))
  unfold qOf
  blk_ext! [idx t]
end

end Cert.WinGradFinal
end
-- ==== Proof.WinGrad.Claim.lean ====
/- The claims about the gradient of the projection's weight. -/
module

public import proofs.«01_k».proof.Proof.WinGrad.Final
public import proofs.«01_k».proof.Proof.Gen.WinGradRefIdeal.Run
public import proofs.«01_k».proof.Defs

@[expose] public section

set_option maxRecDepth 16384

noncomputable section

namespace Cert.WinGradClaim

open Idealize.ShloMosaic Idealize.ShloMosaic.TcCoe Idealize.SL.Sem Cert.WinGradFinal Cert.WinGradRefIdeal.Read

/-- The reference's gradient, its columns cut into four blocks. -/
theorem ref (x : Vec Ideal Cert.WinGradIdeal.S8192x1024 .f32) (g : Vec Ideal Cert.WinGradIdeal.S1x1024 .f32) (p : Vec Ideal Cert.WinGradIdeal.S8192x6144 .bf16) :
    val_main_v19 (F := Ideal) x g p = gw x g p := by
  funext i; idx_vars i
  simp only [val_main_v19, val_main_v18, val_main_v17, val_main_v16, val_main_v15, val_main_v14]
  unfold gw share nr
  generalize val_main_v12 (F := Ideal) x g = z
  pointwise
  exact Finset.sum_congr rfl fun n _ => mul_comm _ _

theorem algebraic : Cert.algebraic_WinGradIdeal_WinGradRefIdeal := by
  intro m g m' g' _ hagree
  refine ⟨fun c => (Cert.WinGradIdeal.Gen.dats m 0 c).arrAt 2 Cert.WinGradIdeal.cfg0.N, ?_, ?_⟩
  · run_from Cert.WinGradIdeal.Value.run_blocks m g
  · refine (θ_run Cert.WinGradRefIdeal.defs _ _).mono (fun r h c => ?_) (Cert.WinGradRefIdeal.Value.run (F := Ideal) m' g')
    obtain ⟨a0, a1, a2⟩ := hagree c
    obtain ⟨e, ha⟩ := h c
    rw [a0, a1, a2] at e
    exact ⟨e.trans ((ref _ _ _).trans (arr2 m c).symm), ha⟩

/-- The reference is a straight line of host operations that declares no semaphore: its arguments stay, and its counters end at zero. -/
theorem frame_ref : Cert.quiescent_WinGradRefIdeal := fun m ρ _ =>
  (θ_run Cert.WinGradRefIdeal.defs _ _).mono (fun r h => ⟨fun c => (h c).2, sem_eq_zero_of_no_sems (by decide) r.2⟩)
    (Cert.WinGradRefIdeal.Value.run (F := Ideal) m ρ)

end Cert.WinGradClaim

end
-- ==== Proof.Adam.Claim.lean ====
/- The claims about the optimiser's step on one device's part of the projection's weight. -/
module

public import proofs.«01_k».proof.Proof.Gen.AdamIdeal.Value
public import proofs.«01_k».proof.Proof.Gen.AdamRefIdeal.Run
public import proofs.«01_k».proof.Defs
public import Idealize.ShloMosaic.Lib.Tactic.ValueTie

@[expose] public section

set_option maxRecDepth 16384

noncomputable section

namespace Cert.AdamClaim

open Idealize.ShloMosaic Idealize.ShloMosaic.TcCoe Idealize.SL.Sem

theorem algebraic : Cert.algebraic_AdamIdeal_AdamRefIdeal := by
  intro m g m' g' _ hagree
  refine ⟨_, _, _, Cert.AdamIdeal.Value.run (F := Ideal) m g, ?_⟩
  refine (θ_run Cert.AdamRefIdeal.defs _ _).mono (fun r h c => ?_) (Cert.AdamRefIdeal.Value.run (F := Ideal) m' g')
  obtain ⟨a0, a1, a2, a3⟩ := hagree c
  obtain ⟨e0, e1, e2, ha⟩ := h c
  rw [a0, a1, a2, a3] at e0
  rw [a1, a2] at e1
  rw [a1, a3] at e2
  exact ⟨e0.trans rfl, e1.trans rfl, e2.trans rfl, ha⟩

/-- The reference is a straight line of host operations that declares no semaphore: its arguments stay, and its counters end at zero. -/
theorem frame_ref : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

end Cert.AdamClaim

end
-- ==== Proof.ChipSum.Final.lean ====
/- The arrays that the sum of the chips' parts leaves. -/
module

public import proofs.«01_k».proof.Proof.Gen.ChipSumIdeal.Value
public import proofs.«01_k».proof.Proof.Gen.ChipSumRefIdeal.Read
public import Idealize.ShloMosaic.Lib.Pipeline.ReadBack
public import Idealize.ShloMosaic.Lib.Pointwise
public import Idealize.ShloMosaic.Lib.Pipeline.ValueKit

@[expose] public section

set_option maxRecDepth 16384

noncomputable section

namespace Cert.ChipSumFinal

open Idealize.ShloMosaic Idealize.ShloMosaic.TcCoe Idealize.SL.Sem Cert.ChipSumIdeal Cert.ChipSumIdeal.Gen Cert.ChipSumIdeal.Value Cert.ChipSumRefIdeal.Read

variable (m : (ℓ : Loc nD τ sig) → Buf (Elt Ideal) ℓ) (c : Dev nD)

/-- Every window's block index at every point. -/
theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧
    win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

theorem zero_bits : Ideal.ofBits .f32 0x00000000#32 = 0 := by simp [Ideal.ofBits, Ideal.ieee]

/-- Four equal parts have equal sums, one of them begun at zero. -/
theorem add4 {z a b d e a' b' d' e' : EReal} (hz : z = 0) (ha : a = a') (hb : b = b') (hd : d = d') (he : e = e') :
    a + b + d + e = z + (a' + b' + d' + e') := by rw [hz, zero_add, ha, hb, hd, he]

set_option maxHeartbeats 1000000 in
/-- The array that each window leaves is the sum of its argument's four parts. -/
theorem arrs :
    (dats m 0 c).arrAt 7 cfg0.N = val_main_v1 (F := Ideal) (m ((c : Thread nD τ).loc main_arg0)) ∧
    (dats m 0 c).arrAt 8 cfg0.N = val_main_v3 (F := Ideal) (m ((c : Thread nD τ).loc main_arg1)) ∧
    (dats m 0 c).arrAt 9 cfg0.N = val_main_v5 (F := Ideal) (m ((c : Thread nD τ).loc main_arg2)) ∧
    (dats m 0 c).arrAt 10 cfg0.N = val_main_v7 (F := Ideal) (m ((c : Thread nD τ).loc main_arg3)) ∧
    (dats m 0 c).arrAt 11 cfg0.N = val_main_v9 (F := Ideal) (m ((c : Thread nD τ).loc main_arg4)) ∧
    (dats m 0 c).arrAt 12 cfg0.N = val_main_v11 (F := Ideal) (m ((c : Thread nD τ).loc main_arg5)) ∧
    (dats m 0 c).arrAt 13 cfg0.N = val_main_v12 (F := Ideal) (m ((c : Thread nD τ).loc main_arg6)) := by
  refine ⟨(dats m 0 c).arrAt_eq_of_covers 7 _ (by decide +kernel) fun t hf y => ?_,
    (dats m 0 c).arrAt_eq_of_covers 8 _ (by decide +kernel) fun t hf y => ?_,
    (dats m 0 c).arrAt_eq_of_covers 9 _ (by decide +kernel) fun t hf y => ?_,
    (dats m 0 c).arrAt_eq_of_covers 10 _ (by decide +kernel) fun t hf y => ?_,
    (dats m 0 c).arrAt_eq_of_covers 11 _ (by decide +kernel) fun t hf y => ?_,
    (dats m 0 c).arrAt_eq_of_covers 12 _ (by decide +kernel) fun t hf y => ?_,
    (dats m 0 c).arrAt_eq_of_covers 13 _ (by decide +kernel) fun t hf y => ?_⟩
  all_goals
    blk_simp
    idx_vars y
  · rw [after0_7]
    refine (canon7_eq _ _ _ _ _).trans ((add4 zero_bits ?_ ?_ ?_ ?_).trans ((val_main_v1_apply _ _).trans (congrArg _ (Fin.sum_univ_four _))).symm)
    all_goals
      refine (congrFun (V_main_arg0 m c) _).trans (congrArg (m ((c : Thread nD τ).loc main_arg0)) ?_)
      blk_ext! [idx t]
      all_goals first | rfl | (change _ + (0 + 1 * y0.val) = _; omega) | (change 0 + 1 * y1.val = _; omega)
  · rw [after0_8]
    refine (canon8_eq _ _ _ _ _).trans ((add4 zero_bits ?_ ?_ ?_ ?_).trans ((val_main_v3_apply _ _).trans (congrArg _ (Fin.sum_univ_four _))).symm)
    all_goals
      refine (congrFun (V_main_arg1 m c) _).trans (congrArg (m ((c : Thread nD τ).loc main_arg1)) ?_)
      blk_ext! [idx t]
      all_goals first | rfl | (change _ + (0 + 1 * y0.val) = _; omega) | (change 0 + 1 * y1.val = _; omega)
  · rw [after0_9]
    refine (canon9_eq _ _ _ _ _).trans ((add4 zero_bits ?_ ?_ ?_ ?_).trans ((val_main_v5_apply _ _).trans (congrArg _ (Fin.sum_univ_four _))).symm)
    all_goals
      refine (congrFun (V_main_arg2 m c) _).trans (congrArg (m ((c : Thread nD τ).loc main_arg2)) ?_)
      blk_ext! [idx t]
      all_goals first | rfl | (change _ + (0 + 1 * y0.val) = _; omega) | (change 0 + 1 * y1.val = _; omega)
  · rw [after0_10]
    refine (canon10_eq _ _ _ _ _).trans ((add4 zero_bits ?_ ?_ ?_ ?_).trans ((val_main_v7_apply _ _).trans (congrArg _ (Fin.sum_univ_four _))).symm)
    all_goals
      refine (congrFun (V_main_arg3 m c) _).trans (congrArg (m ((c : Thread nD τ).loc main_arg3)) ?_)
      blk_ext! [idx t]
      all_goals first | rfl | (change _ + (0 + 1 * y0.val) = _; omega) | (change 0 + 1 * y1.val = _; omega)
  · rw [after0_11]
    refine (canon11_eq _ _ _ _ _).trans ((add4 zero_bits ?_ ?_ ?_ ?_).trans ((val_main_v9_apply _ _).trans (congrArg _ (Fin.sum_univ_four _))).symm)
    all_goals
      refine (congrFun (V_main_arg4 m c) _).trans (congrArg (m ((c : Thread nD τ).loc main_arg4)) ?_)
      blk_ext! [idx t]
      all_goals first | rfl | (change _ + (0 + 1 * y0.val) = _; omega) | (change 0 + 1 * y1.val = _; omega)
  · rw [after0_12]
    refine (canon12_eq _ _ _ _ _).trans ((add4 zero_bits ?_ ?_ ?_ ?_).trans ((val_main_v11_apply _ _).trans (congrArg _ (Fin.sum_univ_four _))).symm)
    all_goals
      refine (congrFun (V_main_arg5 m c) _).trans (congrArg (m ((c : Thread nD τ).loc main_arg5)) ?_)
      blk_ext! [idx t]
      all_goals first | rfl | (change _ + (0 + 1 * y0.val) = _; omega) | (change 0 + 1 * y1.val = _; omega)
  · rw [after0_13]
    refine (canon13_eq _ _ _ _ _).trans ((add4 zero_bits ?_ ?_ ?_ ?_).trans ((val_main_v12_apply _ _).trans (congrArg _ (Fin.sum_univ_four _))).symm)
    all_goals
      refine (congrFun (V_main_arg6 m c) _).trans (congrArg (m ((c : Thread nD τ).loc main_arg6)) ?_)
      blk_ext! [idx t]
      all_goals first | rfl | (change _ + (0 + 1 * y0.val) = _; omega) | (change 0 + 1 * y1.val = _; omega)

end Cert.ChipSumFinal
end
-- ==== Proof.ChipSum.Claim.lean ====
/- The claims about the sum of the chips' parts. -/
module

public import proofs.«01_k».proof.Proof.ChipSum.Final
public import proofs.«01_k».proof.Proof.Gen.ChipSumRefIdeal.Run
public import proofs.«01_k».proof.Defs

@[expose] public section

set_option maxRecDepth 16384

noncomputable section

namespace Cert.ChipSumClaim

open Idealize.ShloMosaic Idealize.ShloMosaic.TcCoe Idealize.SL.Sem Cert.ChipSumFinal

theorem algebraic : Cert.algebraic_ChipSumIdeal_ChipSumRefIdeal := by
  intro m g m' g' _ hagree
  refine ⟨fun c => (Cert.ChipSumIdeal.Gen.dats m 0 c).arrAt 7 Cert.ChipSumIdeal.cfg0.N, fun c => (Cert.ChipSumIdeal.Gen.dats m 0 c).arrAt 8 Cert.ChipSumIdeal.cfg0.N, fun c => (Cert.ChipSumIdeal.Gen.dats m 0 c).arrAt 9 Cert.ChipSumIdeal.cfg0.N, fun c => (Cert.ChipSumIdeal.Gen.dats m 0 c).arrAt 10 Cert.ChipSumIdeal.cfg0.N, fun c => (Cert.ChipSumIdeal.Gen.dats m 0 c).arrAt 11 Cert.ChipSumIdeal.cfg0.N, fun c => (Cert.ChipSumIdeal.Gen.dats m 0 c).arrAt 12 Cert.ChipSumIdeal.cfg0.N, fun c => (Cert.ChipSumIdeal.Gen.dats m 0 c).arrAt 13 Cert.ChipSumIdeal.cfg0.N, ?_, ?_⟩
  · run_from Cert.ChipSumIdeal.Value.run_blocks m g
  · refine (θ_run Cert.ChipSumRefIdeal.defs _ _).mono (fun r h c => ?_) (Cert.ChipSumRefIdeal.Value.run (F := Ideal) m' g')
    obtain ⟨a0, a1, a2, a3, a4, a5, a6⟩ := hagree c
    obtain ⟨e0, e1, e2, e3, e4, e5, e6, ha⟩ := h c
    obtain ⟨k0, k1, k2, k3, k4, k5, k6⟩ := arrs m c
    rw [a0] at e0; rw [a1] at e1; rw [a2] at e2; rw [a3] at e3; rw [a4] at e4; rw [a5] at e5; rw [a6] at e6
    exact ⟨e0.trans k0.symm, e1.trans k1.symm, e2.trans k2.symm, e3.trans k3.symm, e4.trans k4.symm, e5.trans k5.symm, e6.trans k6.symm, ha⟩

/-- The reference is a straight line of host operations that declares no semaphore: its arguments stay, and its counters end at zero. -/
theorem frame_ref : Cert.quiescent_ChipSumRefIdeal := fun m ρ _ =>
  (θ_run Cert.ChipSumRefIdeal.defs _ _).mono (fun r h => ⟨fun c => (h c).2.2.2.2.2.2.2, sem_eq_zero_of_no_sems (by decide) r.2⟩)
    (Cert.ChipSumRefIdeal.Value.run (F := Ideal) m ρ)

end Cert.ChipSumClaim

end
-- ==== Proof.Proj.Final.lean ====
/- The columns that the kernel of the projection's product leaves. -/
module

public import proofs.«01_k».proof.Proof.XGrad.Spec
public import proofs.«01_k».proof.Proof.Gen.ProjIdeal.Skeleton
public import proofs.«01_k».proof.Proof.Gen.ProjIdeal.Value
public import proofs.«01_k».proof.Proof.Gen.ProjRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjFinal

open Idealize.ShloMosaic Idealize.ShloMosaic.TcCoe Idealize.SL.Sem Cert.ProjIdeal Cert.ProjIdeal.Gen Cert.XGradSpec
open Cert.ProjRefIdeal.Read (val_main_v0 val_main_v1 val_main_v2 val_main_v3 val_main_v4 val_main_v5 val_main_v6 val_main_v7 val_main_v8 val_main_v9
  val_main_v10 val_main_v11 val_main_cst val_main_cst_0 val_main_cst_1)

/-- The product of a token's normed row with the weight, the tokens in the order of the array that the call leaves. -/
def prod (x : Vec Ideal S8192x1024 .f32) (g : Vec Ideal S1x1024 .f32) (w : Vec Ideal S1024x6144 .f32) : Vec Ideal S8192x6144 .bf16 :=
  fun i => ∑ k : Fin 1024, val_main_v11 (F := Ideal) x g (ix2 (tok (i 0)) k) * w (ix2 k (i 1))

/-- Every window's block index at every point. -/
theorem idx : ∀ t : Fin cfg0.N, win0_0.index t = ![t.val % 8, 0] ∧ win0_1.index t = ![t.val / 8 + 1, 0, 0] ∧ win0_2.index t = ![t.val % 8, t.val / 8 + 1] :=
  (by decide +kernel : ∀ t : Fin grid0.N, _)

/-- the array's row of a row of a grid point's block, its block of columns, and the array's column of a column there -/
def rowOf (t : Fin cfg0.N) (i : Fin 1024) : Fin 8192 := ⟨t.val % 8 * 1024 + i.val, by omega⟩
def blockOf (t : Fin cfg0.N) : Fin 4 := ⟨t.val / 8 + 1, by have h : cfg0.N = 24 := N_0; have := t.isLt; omega⟩
def colOf (t : Fin cfg0.N) (j : Fin 1536) : Fin 6144 := ⟨(t.val / 8 + 1) * 1536 + j.val, by have h : cfg0.N = 24 := N_0; have := t.isLt; omega⟩

/-- the product of a block of rows with a block of columns -/
def dot (h : Vec Ideal S1024x1024 .bf16) (w : Vec Ideal S1x1024x1536 .bf16) (i : Fin 1024) (j : Fin 1536) : EReal := ∑ k : Fin 1024, h (ix2 i k) * w (ix3 0 k j)

theorem pay1 (h : Vec Ideal S1024x1024 .bf16) (w : Vec Ideal S1x1024x1536 .bf16) (i : Fin 1024) (j : Fin 1536) :
    k0_pay1 (F := Ideal) h w (ix2 i j) = dot h w i j := by
  unfold dot
  pointwise [k0_pay1]

variable (m : (ℓ : Loc nD τ sig) → Buf (Elt Ideal) ℓ) (c : Dev nD)

theorem v15 (i : Fin 8192) (j : Fin 1024) : V m c main_v15 (ix2 i j) =
    val_main_v11 (F := Ideal) (m ((c : Thread nD τ).loc main_arg0)) (m ((c : Thread nD τ).loc main_arg1)) (ix2 (tok i) j) := by
  unfold tok V
  after_results
  simp only [val_main_v0, val_main_v1, val_main_v2, val_main_v3, val_main_v4, val_main_v5, val_main_v6, val_main_v7, val_main_v8, val_main_v9,
    val_main_v10, val_main_v11, val_main_cst, val_main_cst_0, val_main_cst_1]
  pointwise
theorem v18 (q : Fin 4) (k : Fin 1024) (j : Fin 1536) : V m c main_v18 (ix3 q k j) = m ((c : Thread nD τ).loc main_arg2) (ix2 k ⟨q.val * 1536 + j.val, by omega⟩) := by
  unfold V
  after_results
  pointwise

theorem rd0 (t : Fin cfg0.N) (i : Fin 1024) (k : Fin 1024) : iblk m c 0 t (ix2 i k) = V m c main_v15 (ix2 (rowOf t i) k) := by
  unfold rowOf
  blk_ext [iblk, V, idx t]
theorem rd1 (t : Fin cfg0.N) (z : Fin 1) (k : Fin 1024) (j : Fin 1536) : iblk m c 1 t (ix3 z k j) = V m c main_v18 (ix3 (blockOf t) k j) := by
  unfold blockOf
  blk_ext [iblk, V, idx t]

theorem out (t : Fin cfg0.N) (i : Fin 1024) (j : Fin 1536) : outsAt0 m c t (ix2 i j) =
    prod (m ((c : Thread nD τ).loc main_arg0)) (m ((c : Thread nD τ).loc main_arg1)) (m ((c : Thread nD τ).loc main_arg2)) (ix2 (rowOf t i) (colOf t j)) := by
  unfold outsAt0 out0_A_2
  frame_out
  rw [pay1]
  unfold dot
  refine Finset.sum_congr rfl fun k _ => ?_
  rw [rd0, rd1, v15, v18]
  rfl

omit m c in
theorem read2 (f : Vec Ideal S8192x6144 .bf16) (t : Fin cfg0.N) (y0 : Fin 1024) (y1 : Fin 1536) :
    f (ix2 (rowOf t y0) (colOf t y1)) = f (((cfg0.win 2).blk t).view.emb (ix2 y0 y1)) := by
  refine congrArg f (?_ : ix2 (rowOf t y0) (colOf t y1) = _)
  unfold rowOf colOf
  blk_ext! [idx t]

theorem arr2 (n : Fin 8192) (j : Fin 6144) (hj : 1536 ≤ j.val) : (dats m 0 c).arrAt 2 cfg0.N (ix2 n j) =
    prod (m ((c : Thread nD τ).loc main_arg0)) (m ((c : Thread nD τ).loc main_arg1)) (m ((c : Thread nD τ).loc main_arg2)) (ix2 n j) := by
  have e : (dats m 0 c).arrAt 2 cfg0.N = fun i => if 1536 ≤ (i 1).val then prod (m ((c : Thread nD τ).loc main_arg0)) (m ((c : Thread nD τ).loc main_arg1))
      (m ((c : Thread nD τ).loc main_arg2)) i else (dats m 0 c).A 2 i := by
    refine (dats m 0 c).arrAt_eq_of_coversWhere 2 _ (fun β => 1 ≤ β (1 : Fin 2)) (by decide +kernel) (fun t hf y => ?_)
      (fun j => by blk_simp [Pipeline.Window.cell_apply]; omega)
    blk_simp
    rw [after0_2]
    idx_vars y
    exact (out m c t y0 y1).trans (read2 _ t y0 y1)
  rw [e]
  exact if_pos hj

end Cert.ProjFinal
end
-- ==== Proof.Proj.Claim.lean ====
/- The claims about the projection's product with the columns of the other devices. -/
module

public import proofs.«01_k».proof.Proof.Proj.Final
public import proofs.«01_k».proof.Proof.Gen.ProjRefIdeal.Run
public import proofs.«01_k».proof.Proof.Gen.On_other_columns
public import proofs.«01_k».proof.Defs

@[expose] public section

set_option maxRecDepth 16384

noncomputable section

namespace Cert.ProjClaim

open Idealize.ShloMosaic Idealize.ShloMosaic.TcCoe Idealize.SL.Sem Cert.ProjFinal Cert.ProjRefIdeal.Read Cert.XGradSpec

/-- The reference's product, its rows reordered. -/
theorem ref (x : Vec Ideal Cert.ProjIdeal.S8192x1024 .f32) (g : Vec Ideal Cert.ProjIdeal.S1x1024 .f32) (w : Vec Ideal Cert.ProjIdeal.S1024x6144 .f32) :
    val_main_v16 (F := Ideal) x g w = prod x g w := by
  funext i; idx_vars i
  simp only [val_main_v16, val_main_v15, val_main_v14, val_main_v13, val_main_v12]
  unfold prod tok
  generalize val_main_v11 (F := Ideal) x g = z
  pointwise

/-- The mask keeps the columns that this device does not hold. -/
theorem mask (x0 x1 x2 x3) (n : Fin 8192) (j : Fin 6144) (h : Cert.On_other_columns.fn (F := Ideal) x0 x1 x2 x3 (ix2 n j) = 1#1) : 1536 ≤ j.val := by
  unfold Cert.On_other_columns.fn at h
  dsimp only at h
  by_contra hj
  have h' : IntOp.cmpi .sge (BitVec.ofNat 32 j.val) 1536#32 = 1#1 := h
  exact (by decide +kernel : ∀ k : Fin 1536, IntOp.cmpi .sge (BitVec.ofNat 32 k.val) 1536#32 ≠ 1#1) ⟨j.val, by omega⟩ h'

theorem algebraic : Cert.algebraic_ProjIdeal_ProjRefIdeal_on_other_columns := by
  intro m g m' g' _ hagree
  refine ⟨fun c => (Cert.ProjIdeal.Gen.dats m 0 c).arrAt 2 Cert.ProjIdeal.cfg0.N, ?_, ?_⟩
  · run_from Cert.ProjIdeal.Value.run_blocks m g
    all_goals exact fun i _ => trivial
  · refine (θ_run Cert.ProjRefIdeal.defs _ _).mono (fun r h c => ?_) (Cert.ProjRefIdeal.Value.run (F := Ideal) m' g')
    obtain ⟨a0, a1, a2, a3⟩ := hagree c
    obtain ⟨e, ha⟩ := h c
    rw [a0, a1, a2] at e
    refine ⟨fun i hi => ?_, ha⟩
    have ei : i = ix2 (i 0) (i 1) := eq_ix2 i
    rw [ei] at hi ⊢
    exact (congrFun (e.trans (ref _ _ _)) _).trans (arr2 m c (i 0) (i 1) (mask _ _ _ _ (i 0) (i 1) hi)).symm

/-- The reference is a straight line of host operations that declares no semaphore: its arguments stay, and its counters end at zero. -/
theorem frame_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

end Cert.ProjClaim

end
-- ==== Proof.SsmBwd.Run.lean ====
/- One run of the body of the state-space layer's backward call, at any grid point: from any contents of its outputs and
   of its scratch it ends without a fault and leaves its inputs as they were. -/
module

public import proofs.«01_k».proof.Proof.Gen.SsmBwdIdeal.Frame.Runs

@[expose] public section

set_option maxRecDepth 16384

noncomputable section

namespace Cert.SsmBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SsmBwdIdeal Cert.SsmBwdIdeal.Gen

variable {F : FTy → Type} [FloatOps F]

local notation "𝕄" => MT nD τ sig Unit (Elt F) ℕ (UR sig nD τ) ℕ

/-- A buffer at some contents. -/
def held (c : Dev nD) {s : Shape} {e : EltTy} (M : Memref sig .tc .vmem s e) : sProp 𝕄 :=
  iprop(∃ d, owns (c : Thread nD τ) M fullShare d)

/-- The inputs at their contents, the outputs and the scratch at some contents. -/
def kept (c : Dev nD) (arg1 : Memref sig .tc .vmem S512x512 .bf16) (arg2 : Memref sig .tc .vmem S512x512 .f32) (arg3 : Memref sig .tc
    .vmem S512x512 .bf16) (arg4 : Memref sig .tc .vmem S512x512 .bf16) (arg5 : Memref sig .tc .vmem S512x2048 .f32)
    (arg6 : Memref sig .tc .vmem S512x2048 .f32) (arg7 : Memref sig .tc .vmem S8x2048 .f32) (arg8 : Memref sig .tc
    .vmem S8x2048 .f32) (arg9 : Memref sig .tc .vmem S4x128x512 .bf16) (arg10 : Memref sig .tc .vmem S4x128x512
    .bf16) (arg11 : Memref sig .tc .vmem S4x512x128 .bf16) (arg12 : Memref sig .tc .vmem S4x512x128 .bf16) (arg13 :
    Memref sig .tc .vmem S1x2048 .f32) (arg14 : Memref sig .tc .vmem S1x2048 .f32) (arg15 : Memref sig .tc .vmem
    S64x2048 .f32) (arg16 : Memref sig .tc .vmem S64x2048 .f32) (arg17 : Memref sig .tc .vmem S1x512 .f32) (arg18 :
    Memref sig .tc .vmem S512x512 .bf16) (arg19 : Memref sig .tc .vmem S1x512 .f32) (arg21 : Memref sig .tc .vmem
    S512x1024 .bf16) (arg22 : Memref sig .tc .vmem S4x128x512 .f32) (arg23 : Memref sig .tc .vmem S4x128x512 .f32)
    (arg24 : Memref sig .tc .vmem S4x128x512 .f32) (arg25 : Memref sig .tc .vmem S4x128x512 .f32) (arg26 : Memref
    sig .tc .vmem S1x512 .f32) (arg27 : Memref sig .tc .vmem S8x2048 .f32) (arg28 : Memref sig .tc .vmem S8x2048
    .f32) (arg29 : Memref sig .tc .vmem S512x512 .f32) (arg30 : Memref sig .tc .vmem S1x512 .f32) (arg31 : Memref
    sig .tc .vmem S512x2048 .f32) (arg32 : Memref sig .tc .vmem S512x2048 .f32) (arg33 : Memref sig .tc .vmem
    S8x2048 .f32) (arg34 : Memref sig .tc .vmem S8x2048 .f32) (arg35 : Memref sig .tc .vmem S8x2048 .f32) (arg36 :
    Memref sig .tc .vmem S8x2048 .f32)
    (x0 : Vec F S512x512 .bf16) (x1 : Vec F S512x512 .f32) (x2 : Vec F S512x512 .bf16) (x3 : Vec F S512x512 .bf16)
    (x4 : Vec F S512x2048 .f32) (x5 : Vec F S512x2048 .f32) (x6 : Vec F S8x2048 .f32) (x7 : Vec F S8x2048 .f32) (x8
    : Vec F S4x128x512 .bf16) (x9 : Vec F S4x128x512 .bf16) (x10 : Vec F S4x512x128 .bf16) (x11 : Vec F S4x512x128
    .bf16) (x12 : Vec F S1x2048 .f32) (x13 : Vec F S1x2048 .f32) (x14 : Vec F S64x2048 .f32) (x15 : Vec F S64x2048
    .f32) (x16 : Vec F S1x512 .f32) (x17 : Vec F S512x512 .bf16) (x18 : Vec F S1x512 .f32) : sProp 𝕄 :=
  iprop(owns (c : Thread nD τ) arg1 fullShare x0 ∗ owns (c : Thread nD τ) arg2 fullShare x1 ∗ owns (c : Thread nD τ)
      arg3 fullShare x2 ∗ owns (c : Thread nD τ) arg4 fullShare x3 ∗ owns (c : Thread nD τ) arg5 fullShare x4 ∗ owns
      (c : Thread nD τ) arg6 fullShare x5 ∗ owns (c : Thread nD τ) arg7 fullShare x6 ∗ owns (c : Thread nD τ) arg8
      fullShare x7 ∗ owns (c : Thread nD τ) arg9 fullShare x8 ∗ owns (c : Thread nD τ) arg10 fullShare x9 ∗ owns (c :
      Thread nD τ) arg11 fullShare x10 ∗ owns (c : Thread nD τ) arg12 fullShare x11 ∗ owns (c : Thread nD τ) arg13
      fullShare x12 ∗ owns (c : Thread nD τ) arg14 fullShare x13 ∗ owns (c : Thread nD τ) arg15 fullShare x14 ∗ owns
      (c : Thread nD τ) arg16 fullShare x15 ∗ owns (c : Thread nD τ) arg17 fullShare x16 ∗ owns (c : Thread nD τ)
      arg18 fullShare x17 ∗ owns (c : Thread nD τ) arg19 fullShare x18 ∗ held c arg21 ∗ held c arg22 ∗ held c arg23 ∗
      held c arg24 ∗ held c arg25 ∗ held c arg26 ∗ held c arg27 ∗ held c arg28 ∗ held c arg29 ∗ held c arg30 ∗ held c
      arg31 ∗ held c arg32 ∗ held c arg33 ∗ held c arg34 ∗ held c arg35 ∗ held c arg36)

set_option maxHeartbeats 8000000 in
theorem run_body (c : Dev nD) (i : grid0.Coords)
    {arg1 : Memref sig .tc .vmem S512x512 .bf16} (harg1 : arg1.IsWhole) {arg2 : Memref sig .tc .vmem S512x512 .f32}
    (harg2 : arg2.IsWhole) {arg3 : Memref sig .tc .vmem S512x512 .bf16} (harg3 : arg3.IsWhole) {arg4 : Memref sig
    .tc .vmem S512x512 .bf16} (harg4 : arg4.IsWhole) {arg5 : Memref sig .tc .vmem S512x2048 .f32} (harg5 :
    arg5.IsWhole) {arg6 : Memref sig .tc .vmem S512x2048 .f32} (harg6 : arg6.IsWhole) {arg7 : Memref sig .tc .vmem
    S8x2048 .f32} (harg7 : arg7.IsWhole) {arg8 : Memref sig .tc .vmem S8x2048 .f32} (harg8 : arg8.IsWhole) {arg9 :
    Memref sig .tc .vmem S4x128x512 .bf16} (harg9 : arg9.IsWhole) {arg10 : Memref sig .tc .vmem S4x128x512 .bf16}
    (harg10 : arg10.IsWhole) {arg11 : Memref sig .tc .vmem S4x512x128 .bf16} (harg11 : arg11.IsWhole) {arg12 :
    Memref sig .tc .vmem S4x512x128 .bf16} (harg12 : arg12.IsWhole) {arg13 : Memref sig .tc .vmem S1x2048 .f32}
    (harg13 : arg13.IsWhole) {arg14 : Memref sig .tc .vmem S1x2048 .f32} (harg14 : arg14.IsWhole) {arg15 : Memref
    sig .tc .vmem S64x2048 .f32} (harg15 : arg15.IsWhole) {arg16 : Memref sig .tc .vmem S64x2048 .f32} (harg16 :
    arg16.IsWhole) {arg17 : Memref sig .tc .vmem S1x512 .f32} (harg17 : arg17.IsWhole) {arg18 : Memref sig .tc .vmem
    S512x512 .bf16} (harg18 : arg18.IsWhole) {arg19 : Memref sig .tc .vmem S1x512 .f32} (harg19 : arg19.IsWhole)
    {arg21 : Memref sig .tc .vmem S512x1024 .bf16} (harg21 : arg21.IsWhole) {arg22 : Memref sig .tc .vmem S4x128x512
    .f32} (harg22 : arg22.IsWhole) {arg23 : Memref sig .tc .vmem S4x128x512 .f32} (harg23 : arg23.IsWhole) {arg24 :
    Memref sig .tc .vmem S4x128x512 .f32} (harg24 : arg24.IsWhole) {arg25 : Memref sig .tc .vmem S4x128x512 .f32}
    (harg25 : arg25.IsWhole) {arg26 : Memref sig .tc .vmem S1x512 .f32} (harg26 : arg26.IsWhole) {arg27 : Memref sig
    .tc .vmem S8x2048 .f32} (harg27 : arg27.IsWhole) {arg28 : Memref sig .tc .vmem S8x2048 .f32} (harg28 :
    arg28.IsWhole) {arg29 : Memref sig .tc .vmem S512x512 .f32} (harg29 : arg29.IsWhole) {arg30 : Memref sig .tc
    .vmem S1x512 .f32} (harg30 : arg30.IsWhole) {arg31 : Memref sig .tc .vmem S512x2048 .f32} (harg31 :
    arg31.IsWhole) {arg32 : Memref sig .tc .vmem S512x2048 .f32} (harg32 : arg32.IsWhole) {arg33 : Memref sig .tc
    .vmem S8x2048 .f32} (harg33 : arg33.IsWhole) {arg34 : Memref sig .tc .vmem S8x2048 .f32} (harg34 :
    arg34.IsWhole) {arg35 : Memref sig .tc .vmem S8x2048 .f32} (harg35 : arg35.IsWhole) {arg36 : Memref sig .tc
    .vmem S8x2048 .f32} (harg36 : arg36.IsWhole)
    (x0 : Vec F S512x512 .bf16) (x1 : Vec F S512x512 .f32) (x2 : Vec F S512x512 .bf16) (x3 : Vec F S512x512 .bf16)
    (x4 : Vec F S512x2048 .f32) (x5 : Vec F S512x2048 .f32) (x6 : Vec F S8x2048 .f32) (x7 : Vec F S8x2048 .f32) (x8
    : Vec F S4x128x512 .bf16) (x9 : Vec F S4x128x512 .bf16) (x10 : Vec F S4x512x128 .bf16) (x11 : Vec F S4x512x128
    .bf16) (x12 : Vec F S1x2048 .f32) (x13 : Vec F S1x2048 .f32) (x14 : Vec F S64x2048 .f32) (x15 : Vec F S64x2048
    .f32) (x16 : Vec F S1x512 .f32) (x17 : Vec F S512x512 .bf16) (x18 : Vec F S1x512 .f32) :
    kept c arg1 arg2 arg3 arg4 arg5 arg6 arg7 arg8 arg9 arg10 arg11 arg12 arg13 arg14 arg15 arg16 arg17 arg18 arg19 arg21
      arg22 arg23 arg24 arg25 arg26 arg27 arg28 arg29 arg30 arg31 arg32 arg33 arg34 arg35 arg36
      x0 x1 x2 x3 x4 x5 x6 x7 x8 x9 x10 x11 x12 x13 x14 x15 x16 x17 x18 ⊢
    wp frame (wpE (defs₀ (F := F)) Variants.none c none) Set.univ
      (cc0_ssm_bwd i arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 (Memref.whole main_arg17) (Memref.isWhole_whole _) arg21 harg21 arg22 harg22 arg23
        harg23 arg24 harg24 arg25 harg25 arg26 harg26 arg27 harg27 arg28 harg28 arg29 harg29 arg30 harg30 arg31 harg31
        arg32 harg32 arg33 harg33 arg34 harg34 arg35 harg35 arg36 harg36)
      (fun _ => kept c arg1 arg2 arg3 arg4 arg5 arg6 arg7 arg8 arg9 arg10 arg11 arg12 arg13 arg14 arg15 arg16 arg17 arg18 arg19 arg21
      arg22 arg23 arg24 arg25 arg26 arg27 arg28 arg29 arg30 arg31 arg32 arg33 arg34 arg35 arg36
        x0 x1 x2 x3 x4 x5 x6 x7 x8 x9 x10 x11 x12 x13 x14 x15 x16 x17 x18) := by
  simp only [cc0_ssm_bwd_eq_skeleton]; unfold cc0_ssm_bwd_skel
  simp only [k0_part22_eq_skeleton, k0_part4_eq_skeleton, k0_part1_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton,
    k0_part19_eq_skeleton, k0_part20_eq_skeleton, k0_part21_eq_skeleton]
  unfold kept held owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%f7, %hf7, H7⟩, ⟨%f8, %hf8, H8⟩, ⟨%f9, %hf9, H9⟩, ⟨%f10, %hf10, H10⟩, ⟨%f11, %hf11, H11⟩, ⟨%f12,
    %hf12, H12⟩, ⟨%f13, %hf13, H13⟩, ⟨%f14, %hf14, H14⟩, ⟨%f15, %hf15, H15⟩, ⟨%f16, %hf16, H16⟩, ⟨%f17, %hf17, H17⟩,
    ⟨%f18, %hf18, H18⟩, ⟨%d19, %f19, -, H19⟩, ⟨%d20, %f20, -, H20⟩, ⟨%d21, %f21, -, H21⟩, ⟨%d22, %f22, -, H22⟩,
    ⟨%d23, %f23, -, H23⟩, ⟨%d24, %f24, -, H24⟩, ⟨%d25, %f25, -, H25⟩, ⟨%d26, %f26, -, H26⟩, ⟨%d27, %f27, -, H27⟩,
    ⟨%d28, %f28, -, H28⟩, ⟨%d29, %f29, -, H29⟩, ⟨%d30, %f30, -, H30⟩, ⟨%d31, %f31, -, H31⟩, ⟨%d32, %f32, -, H32⟩,
    ⟨%d33, %f33, -, H33⟩, ⟨%d34, %f34, -, H34⟩⟩
  obtain rfl := harg1.eq_unread hf0; obtain rfl := harg2.eq_unread hf1; obtain rfl := harg3.eq_unread hf2; obtain
  rfl := harg4.eq_unread hf3; obtain rfl := harg5.eq_unread hf4; obtain rfl := harg6.eq_unread hf5; obtain rfl :=
  harg7.eq_unread hf6; obtain rfl := harg8.eq_unread hf7; obtain rfl := harg9.eq_unread hf8; obtain rfl :=
  harg10.eq_unread hf9; obtain rfl := harg11.eq_unread hf10; obtain rfl := harg12.eq_unread hf11; obtain rfl :=
  harg13.eq_unread hf12; obtain rfl := harg14.eq_unread hf13; obtain rfl := harg15.eq_unread hf14; obtain rfl :=
  harg16.eq_unread hf15; obtain rfl := harg17.eq_unread hf16; obtain rfl := harg18.eq_unread hf17; obtain rfl :=
  harg19.eq_unread hf18
  have e0 := harg1.read_unread (Val := Elt F) x0; have e1 := harg2.read_unread (Val := Elt F) x1; have e2 :=
  harg3.read_unread (Val := Elt F) x2; have e3 := harg4.read_unread (Val := Elt F) x3; have e4 :=
  harg5.read_unread (Val := Elt F) x4; have e5 := harg6.read_unread (Val := Elt F) x5; have e6 :=
  harg7.read_unread (Val := Elt F) x6; have e7 := harg8.read_unread (Val := Elt F) x7; have e8 :=
  harg9.read_unread (Val := Elt F) x8; have e9 := harg10.read_unread (Val := Elt F) x9; have e10 :=
  harg11.read_unread (Val := Elt F) x10; have e11 := harg12.read_unread (Val := Elt F) x11; have e12 :=
  harg13.read_unread (Val := Elt F) x12; have e13 := harg14.read_unread (Val := Elt F) x13; have e14 :=
  harg15.read_unread (Val := Elt F) x14; have e15 := harg16.read_unread (Val := Elt F) x15; have e16 :=
  harg17.read_unread (Val := Elt F) x16; have e17 := harg18.read_unread (Val := Elt F) x17; have e18 :=
  harg19.read_unread (Val := Elt F) x18
  by_cases h : cond0_0 i
  all_goals
    sl_exec (disch := first | sl_exact h)
    sl_step
    sl_close

end Cert.SsmBwdRun

end
-- ==== Proof.SsmBwd.Frame.lean ====
/- The frame of the state-space layer's backward call: the program ends without a fault, with its arguments as they were
   and every semaphore counter at zero. The body's run at one grid point is `run_body`; nothing is stated of the outputs
   or of what the scratch carries from one point to the next. -/
module

public import proofs.«01_k».proof.Proof.SsmBwd.Run
public import Idealize.ShloMosaic.Lib.Claim

@[expose] public section

set_option maxRecDepth 16384

noncomputable section

namespace Cert.SsmBwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SsmBwdIdeal Cert.SsmBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the outputs, of whose contents nothing is stated. -/
def unnamedOut : Fin 29 → Bool := fun w => Nat.ble 19 w.val

/-- The launch's data: the inputs stay at their blocks, the scratch is at some contents at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]

/-- What the body is called with at point `t`. -/
def bodyPre (c : Dev nD) (t : Fin cfg0.N) : sProp 𝕄 :=
  iprop((dats m 0 c).Φ t.castSucc ∗ (dats m 0 c).owesAt () t.castSucc ∗
    (∃ d, owns (c : Thread nD τ) (ms0_0 t) fullShare ((dats m 0 c).before 0 t d)) ∗ (∃ d, owns (c : Thread nD τ)
    (ms0_1 t) fullShare ((dats m 0 c).before 1 t d)) ∗ (∃ d, owns (c : Thread nD τ) (ms0_2 t) fullShare ((dats m
    0 c).before 2 t d)) ∗ (∃ d, owns (c : Thread nD τ) (ms0_3 t) fullShare ((dats m 0 c).before 3 t d)) ∗ (∃ d,
    owns (c : Thread nD τ) (ms0_4 t) fullShare ((dats m 0 c).before 4 t d)) ∗ (∃ d, owns (c : Thread nD τ)
    (ms0_5 t) fullShare ((dats m 0 c).before 5 t d)) ∗ (∃ d, owns (c : Thread nD τ) (ms0_6 t) fullShare ((dats m
    0 c).before 6 t d)) ∗ (∃ d, owns (c : Thread nD τ) (ms0_7 t) fullShare ((dats m 0 c).before 7 t d)) ∗ (∃ d,
    owns (c : Thread nD τ) (ms0_8 t) fullShare ((dats m 0 c).before 8 t d)) ∗ (∃ d, owns (c : Thread nD τ)
    (ms0_9 t) fullShare ((dats m 0 c).before 9 t d)) ∗ (∃ d, owns (c : Thread nD τ) (ms0_10 t) fullShare ((dats
    m 0 c).before 10 t d)) ∗ (∃ d, owns (c : Thread nD τ) (ms0_11 t) fullShare ((dats m 0 c).before 11 t d)) ∗
    (∃ d, owns (c : Thread nD τ) (ms0_12 t) fullShare ((dats m 0 c).before 12 t d)) ∗ (∃ d, owns (c : Thread nD
    τ) (ms0_13 t) fullShare ((dats m 0 c).before 13 t d)) ∗ (∃ d, owns (c : Thread nD τ) (ms0_14 t) fullShare
    ((dats m 0 c).before 14 t d)) ∗ (∃ d, owns (c : Thread nD τ) (ms0_15 t) fullShare ((dats m 0 c).before 15 t
    d)) ∗ (∃ d, owns (c : Thread nD τ) (ms0_16 t) fullShare ((dats m 0 c).before 16 t d)) ∗ (∃ d, owns (c :
    Thread nD τ) (ms0_17 t) fullShare ((dats m 0 c).before 17 t d)) ∗ (∃ d, owns (c : Thread nD τ) (ms0_18 t)
    fullShare ((dats m 0 c).before 18 t d)) ∗ (∃ d, owns (c : Thread nD τ) (ms0_19 t) fullShare d) ∗ (∃ d, owns
    (c : Thread nD τ) (ms0_20 t) fullShare d) ∗ (∃ d, owns (c : Thread nD τ) (ms0_21 t) fullShare d) ∗ (∃ d,
    owns (c : Thread nD τ) (ms0_22 t) fullShare d) ∗ (∃ d, owns (c : Thread nD τ) (ms0_23 t) fullShare d) ∗ (∃
    d, owns (c : Thread nD τ) (ms0_24 t) fullShare d) ∗ (∃ d, owns (c : Thread nD τ) (ms0_25 t) fullShare d) ∗
    (∃ d, owns (c : Thread nD τ) (ms0_26 t) fullShare d) ∗ (∃ d, owns (c : Thread nD τ) (ms0_27 t) fullShare d)
    ∗ (∃ d, owns (c : Thread nD τ) (ms0_28 t) fullShare d))

/-- What it gives back. -/
def bodyPost (c : Dev nD) (t : Fin cfg0.N) : sProp 𝕄 :=
  iprop((dats m 0 c).Φ t.succ ∗ (dats m 0 c).owesAt () t.succ ∗
    owns (c : Thread nD τ) (ms0_0 t) fullShare ((dats m 0 c).after 0 t) ∗ owns (c : Thread nD τ) (ms0_1 t)
    fullShare ((dats m 0 c).after 1 t) ∗ owns (c : Thread nD τ) (ms0_2 t) fullShare ((dats m 0 c).after 2 t) ∗
    owns (c : Thread nD τ) (ms0_3 t) fullShare ((dats m 0 c).after 3 t) ∗ owns (c : Thread nD τ) (ms0_4 t)
    fullShare ((dats m 0 c).after 4 t) ∗ owns (c : Thread nD τ) (ms0_5 t) fullShare ((dats m 0 c).after 5 t) ∗
    owns (c : Thread nD τ) (ms0_6 t) fullShare ((dats m 0 c).after 6 t) ∗ owns (c : Thread nD τ) (ms0_7 t)
    fullShare ((dats m 0 c).after 7 t) ∗ owns (c : Thread nD τ) (ms0_8 t) fullShare ((dats m 0 c).after 8 t) ∗
    owns (c : Thread nD τ) (ms0_9 t) fullShare ((dats m 0 c).after 9 t) ∗ owns (c : Thread nD τ) (ms0_10 t)
    fullShare ((dats m 0 c).after 10 t) ∗ owns (c : Thread nD τ) (ms0_11 t) fullShare ((dats m 0 c).after 11 t)
    ∗ owns (c : Thread nD τ) (ms0_12 t) fullShare ((dats m 0 c).after 12 t) ∗ owns (c : Thread nD τ) (ms0_13 t)
    fullShare ((dats m 0 c).after 13 t) ∗ owns (c : Thread nD τ) (ms0_14 t) fullShare ((dats m 0 c).after 14 t)
    ∗ owns (c : Thread nD τ) (ms0_15 t) fullShare ((dats m 0 c).after 15 t) ∗ owns (c : Thread nD τ) (ms0_16 t)
    fullShare ((dats m 0 c).after 16 t) ∗ owns (c : Thread nD τ) (ms0_17 t) fullShare ((dats m 0 c).after 17 t)
    ∗ owns (c : Thread nD τ) (ms0_18 t) fullShare ((dats m 0 c).after 18 t) ∗ (∃ d, owns (c : Thread nD τ)
    (ms0_19 t) fullShare d) ∗ (∃ d, owns (c : Thread nD τ) (ms0_20 t) fullShare d) ∗ (∃ d, owns (c : Thread nD
    τ) (ms0_21 t) fullShare d) ∗ (∃ d, owns (c : Thread nD τ) (ms0_22 t) fullShare d) ∗ (∃ d, owns (c : Thread
    nD τ) (ms0_23 t) fullShare d) ∗ (∃ d, owns (c : Thread nD τ) (ms0_24 t) fullShare d) ∗ (∃ d, owns (c :
    Thread nD τ) (ms0_25 t) fullShare d) ∗ (∃ d, owns (c : Thread nD τ) (ms0_26 t) fullShare d) ∗ (∃ d, owns (c
    : Thread nD τ) (ms0_27 t) fullShare d) ∗ (∃ d, owns (c : Thread nD τ) (ms0_28 t) fullShare d))

/-- Every buffer of the body at point `t`. -/
def bufs (c : Dev nD) (t : Fin cfg0.N) : sProp 𝕄 :=
  kept c (ms0_0 t) (ms0_1 t) (ms0_2 t) (ms0_3 t) (ms0_4 t) (ms0_5 t) (ms0_6 t) (ms0_7 t) (ms0_8 t) (ms0_9 t) (ms0_10
    t) (ms0_11 t) (ms0_12 t) (ms0_13 t) (ms0_14 t) (ms0_15 t) (ms0_16 t) (ms0_17 t) (ms0_18 t) (ms0_19 t)
    (ms0_20 t) (ms0_21 t) (ms0_22 t) (ms0_23 t) (ms0_24 t) (ms0_25 t) (ms0_26 t) (ms0_27 t) (ms0_28 t)
    scM0_0 scM0_1 scM0_2 scM0_3 scM0_4 scM0_5
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t)

/-- What the body does not touch. -/
def rest (c : Dev nD) (t : Fin cfg0.N) : sProp 𝕄 :=
  iprop((∃ r, prngReg c r) ∗ (dats m 0 c).owesAt () t.castSucc)

set_option maxHeartbeats 1000000 in
theorem pre_bufs (c : Dev nD) (t : Fin cfg0.N) : bodyPre m c t ⊢ iprop(bufs m c t ∗ rest m c t) := by
    have b0 := before0_0_of m (dats m 0 c) (A_eq m c 0) (after_0 m c) t
    have b1 := before0_1_of m (dats m 0 c) (A_eq m c 1) (after_1 m c) t
    have b2 := before0_2_of m (dats m 0 c) (A_eq m c 2) (after_2 m c) t
    have b3 := before0_3_of m (dats m 0 c) (A_eq m c 3) (after_3 m c) t
    have b4 := before0_4_of m (dats m 0 c) (A_eq m c 4) (after_4 m c) t
    have b5 := before0_5_of m (dats m 0 c) (A_eq m c 5) (after_5 m c) t
    have b6 := before0_6_of m (dats m 0 c) (A_eq m c 6) (after_6 m c) t
    have b7 := before0_7_of m (dats m 0 c) (A_eq m c 7) (after_7 m c) t
    have b8 := before0_8_of m (dats m 0 c) (A_eq m c 8) (after_8 m c) t
    have b9 := before0_9_of m (dats m 0 c) (A_eq m c 9) (after_9 m c) t
    have b10 := before0_10_of m (dats m 0 c) (A_eq m c 10) (after_10 m c) t
    have b11 := before0_11_of m (dats m 0 c) (A_eq m c 11) (after_11 m c) t
    have b12 := before0_12_of m (dats m 0 c) (A_eq m c 12) (after_12 m c) t
    have b13 := before0_13_of m (dats m 0 c) (A_eq m c 13) (after_13 m c) t
    have b14 := before0_14_of m (dats m 0 c) (A_eq m c 14) (after_14 m c) t
    have b15 := before0_15_of m (dats m 0 c) (A_eq m c 15) (after_15 m c) t
    have b16 := before0_16_of m (dats m 0 c) (A_eq m c 16) (after_16 m c) t
    have b17 := before0_17_of m (dats m 0 c) (A_eq m c 17) (after_17 m c) t
    have b18 := before0_18_of m (dats m 0 c) (A_eq m c 18) (after_18 m c) t
    unfold bodyPre bufs rest kept held
    simp only [b0, b1, b2, b3, b4, b5, b6, b7, b8, b9, b10, b11, b12, b13, b14, b15, b16, b17, b18]
    rw [show (dats m 0 c).Φ t.castSucc = Pipeline.ΦA spec0 c from rfl, PhiA0_eq]
    iintro ⟨⟨⟨H29, H30, H31, H32, H33, H34⟩, Hg⟩, Ho,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9,
      H9⟩, ⟨%d10, H10⟩, ⟨%d11, H11⟩, ⟨%d12, H12⟩, ⟨%d13, H13⟩, ⟨%d14, H14⟩, ⟨%d15, H15⟩, ⟨%d16, H16⟩, ⟨%d17, H17⟩,
      ⟨%d18, H18⟩, H19, H20, H21, H22, H23, H24, H25, H26, H27, H28⟩
    isplitr [Hg Ho]
    swap
    · isplitl [Hg]; · iexact Hg
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34

set_option maxHeartbeats 1000000 in
theorem bufs_post (c : Dev nD) (t : Fin cfg0.N) : iprop(bufs m c t ∗ rest m c t) ⊢ bodyPost m c t := by
    unfold bodyPost bufs rest kept held
    rw [after_0, after_1, after_2, after_3, after_4, after_5, after_6, after_7, after_8, after_9, after_10,
      after_11, after_12, after_13, after_14, after_15, after_16, after_17, after_18]
    rw [show (dats m 0 c).owesAt () t.succ = (dats m 0 c).owesAt () t.castSucc from rfl,
      show (dats m 0 c).Φ t.succ = Pipeline.ΦA spec0 c from rfl, PhiA0_eq]
    iintro ⟨⟨H0, H1, H2, H3, H4, H5, H6, H7, H8, H9, H10, H11, H12, H13, H14, H15, H16, H17, H18, H19, H20, H21, H22,
      H23, H24, H25, H26, H27, H28, H29, H30, H31, H32, H33, H34⟩, Hg, Ho⟩
    isplitl [H29 H30 H31 H32 H33 H34 Hg]
    · isplitr [Hg]
      swap
      · iexact Hg
      isplitl [H29]; · iexact H29
      isplitl [H30]; · iexact H30
      isplitl [H31]; · iexact H31
      isplitl [H32]; · iexact H32
      isplitl [H33]; · iexact H33
      iexact H34
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28

theorem sound_body (c : Dev nD) (t : Fin cfg0.N) :
    bodyPre m c t ⊢
      wp frame (wpE (defs₀ (F := F)) Variants.none c none) Set.univ (bodyAt0 t) (fun _ => bodyPost m c t) :=
  (pre_bufs m c t).trans <|
    (BI.sep_mono (run_body c (grid0.coords t) (hs0_0 t) (hs0_1 t) (hs0_2 t) (hs0_3 t) (hs0_4 t) (hs0_5 t) (hs0_6 t) (hs0_7 t) (hs0_8 t) (hs0_9 t) (hs0_10
      t) (hs0_11 t) (hs0_12 t) (hs0_13 t) (hs0_14 t) (hs0_15 t) (hs0_16 t) (hs0_17 t) (hs0_18 t) (hs0_19 t)
      (hs0_20 t) (hs0_21 t) (hs0_22 t) (hs0_23 t) (hs0_24 t) (hs0_25 t) (hs0_26 t) (hs0_27 t) (hs0_28 t)
      (Memref.isWhole_whole _) (Memref.isWhole_whole _) (Memref.isWhole_whole _) (Memref.isWhole_whole _)
      (Memref.isWhole_whole _) (Memref.isWhole_whole _)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t)) (Entails.refl _)).trans <|
      (wp_frame_r _ _ _).trans (wp_mono _ _ _ fun _ => bufs_post m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unnamedOut := fun t => by
  rw [bigSep_W0, bigSep_W0, defs₀_row]
  exact triple_restated (sound_body m c t) rfl .rfl fun _ => .rfl

set_option backward.isDefEq.respectTransparency.types false in
/-- The launch: the inputs' arrays end as the region found them, and every counter at zero. -/
theorem run_main : θ_run defs (onTc (τ := τ) (main (F := F))) (s₀ m ρ)
    (fun r => (Pipeline.RDat.FramePost (cfgs 0) (fun c => (dats m 0 c).toRForget unnamedOut) (V m)) r
      ∧ r.2.sem = fun _ => 0) :=
  Pipeline.θ_run_frame_forget_shared (Q' := _) cfgs (dats m) (0 : Fin 1) launch₀0 defs₀ Variants.none unnamedOut m ρ
    main (hbody := fun c => (body_obligation m c).loose) (hq := fun _ _ _ => rfl)
    (howed := fun _ _ => rfl) (V := V m) (hmain := hmain m Variants.none) (hA := A_eq m) (hΦ := fun _ _ => rfl)

/-- The array of an input window ends as launched. -/
theorem staged {r : PUnit × MemSt nD τ sig (Elt F)}
    (h : Pipeline.RDat.FramePost (cfgs 0) (fun c => (dats m 0 c).toRForget unnamedOut) (V m) r) (c : Dev nD)
    (w : Fin 29) (hw : (spec0 w).isOut = false) {v : _} (hv : V m c (Pipeline.arrRef spec0 w) = v) :
    r.2.mem ((c.tc : Thread nD τ).loc (Pipeline.arrRef spec0 w)) = v :=
  (Pipeline.RDat.FramePost.arr_in h c w hw).trans ((A_eq m c w).trans hv)

/-- Nothing but the outputs changes. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨staged m h.1 c 0 rfl (V_main_arg0 m c),
    staged m h.1 c 1 rfl (V_main_arg1 m c),
    staged m h.1 c 3 rfl (V_main_arg2 m c),
    staged m h.1 c 4 rfl (V_main_arg3 m c),
    staged m h.1 c 5 rfl (V_main_arg4 m c),
    staged m h.1 c 6 rfl (V_main_arg5 m c),
    staged m h.1 c 7 rfl (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c),
    ((h.1 c).2 main_arg15 (Pipeline.mem_restRefs_of main_arg15 (by decide) (by decide))).trans (V_main_arg15 m c),
    staged m h.1 c 18 rfl (V_main_arg16 m c),
    ((h.1 c).2 main_arg17 (Pipeline.mem_restRefs_of main_arg17 (by decide) (by decide))).trans (V_main_arg17 m c)⟩, h.2⟩) (run_main m ρ)

end Cert.SsmBwdRun

end
-- ==== Proof.SsmBwd.Claim.lean ====
/- The frame of the state-space layer's backward call over its own bits. The program and its ideal reading are the same
   text, so the one run serves both. -/
module

public import proofs.«01_k».proof.Defs
public import proofs.«01_k».proof.Proof.Gen.SsmBwd
public import proofs.«01_k».proof.Proof.Gen.SsmBwdIdeal
public import proofs.«01_k».proof.Proof.SsmBwd.Frame

@[expose] public section

namespace Cert.SsmBwdRun

open Idealize.ShloMosaic Idealize.ShloMosaic.Tactic

set_option maxRecDepth 16384 in
theorem frame_kernel : Cert.quiescent_SsmBwd := fun m ρ _ =>
  Eq.mp (by sl_kernel_rfl) (frame_run (F := Bits) m ρ)

end Cert.SsmBwdRun

end
-- ==== Proof.lean ====
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.Pre_finite
public import proofs.«01_k».proof.Proof.Gen.On_gates
public import proofs.«01_k».proof.Proof.Gen.TailIdeal.Value
public import proofs.«01_k».proof.Proof.Gen.TailRefIdeal.Run
public import proofs.«01_k».proof.Proof.Gen.TailRefIdeal.Read
public import proofs.«01_k».proof.Proof.Tail.Claim
public import proofs.«01_k».proof.Proof.Gen.Ssm
public import proofs.«01_k».proof.Proof.Gen.Ssm.Skeleton
public import proofs.«01_k».proof.Proof.Gen.Ssm.Launch
public import proofs.«01_k».proof.Proof.Gen.Ssm.Points
public import proofs.«01_k».proof.Proof.Gen.Ssm.Loops
public import proofs.«01_k».proof.Proof.Gen.Ssm.Frame
public import proofs.«01_k».proof.Proof.Gen.SsmIdeal
public import proofs.«01_k».proof.Proof.Gen.SsmIdeal.Skeleton
public import proofs.«01_k».proof.Proof.Gen.SsmIdeal.Launch
public import proofs.«01_k».proof.Proof.Gen.SsmIdeal.Points
public import proofs.«01_k».proof.Proof.Gen.SsmIdeal.Loops
public import proofs.«01_k».proof.Proof.Gen.SsmIdeal.Frame
public import proofs.«01_k».proof.Proof.Gen.SsmRefIdeal
public import proofs.«01_k».proof.Proof.Gen.Pre_stable
public import proofs.«01_k».proof.Proof.Gen.SsmIdeal.Value
public import proofs.«01_k».proof.Proof.Gen.SsmRefIdeal.Run
public import proofs.«01_k».proof.Proof.Gen.SsmRefIdeal.Step
public import proofs.«01_k».proof.Proof.Ssm.Claim
public import proofs.«01_k».proof.Proof.Gen.XGrad
public import proofs.«01_k».proof.Proof.Gen.XGrad.Skeleton
public import proofs.«01_k».proof.Proof.Gen.XGrad.Launch
public import proofs.«01_k».proof.Proof.Gen.XGrad.Points
public import proofs.«01_k».proof.Proof.Gen.XGrad.Frame
public import proofs.«01_k».proof.Proof.Gen.XGradIdeal
public import proofs.«01_k».proof.Proof.Gen.XGradIdeal.Skeleton
public import proofs.«01_k».proof.Proof.Gen.XGradIdeal.Launch
public import proofs.«01_k».proof.Proof.Gen.XGradIdeal.Points
public import proofs.«01_k».proof.Proof.Gen.XGradIdeal.Frame
public import proofs.«01_k».proof.Proof.Gen.XGradRefIdeal
public import proofs.«01_k».proof.Proof.Gen.Pre_bounded
public import proofs.«01_k».proof.Proof.Gen.XGradIdeal.Value
public import proofs.«01_k».proof.Proof.Gen.XGradRefIdeal.Run
public import proofs.«01_k».proof.Proof.Gen.XGradRefIdeal.Read
public import proofs.«01_k».proof.Proof.XGrad.Claim
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Pre_whole
public import proofs.«01_k».proof.Proof.Gen.On_own_columns
public import proofs.«01_k».proof.Proof.Gen.PrepIdeal.Value
public import proofs.«01_k».proof.Proof.Gen.PrepRefIdeal.Run
public import proofs.«01_k».proof.Proof.Gen.PrepRefIdeal.Read
public import proofs.«01_k».proof.Proof.Prep.Claim
public import proofs.«01_k».proof.Proof.Gen.WinGrad
public import proofs.«01_k».proof.Proof.Gen.WinGrad.Skeleton
public import proofs.«01_k».proof.Proof.Gen.WinGrad.Launch
public import proofs.«01_k».proof.Proof.Gen.WinGrad.Points
public import proofs.«01_k».proof.Proof.Gen.WinGrad.Frame
public import proofs.«01_k».proof.Proof.Gen.WinGradIdeal
public import proofs.«01_k».proof.Proof.Gen.WinGradIdeal.Skeleton
public import proofs.«01_k».proof.Proof.Gen.WinGradIdeal.Launch
public import proofs.«01_k».proof.Proof.Gen.WinGradIdeal.Points
public import proofs.«01_k».proof.Proof.Gen.WinGradIdeal.Frame
public import proofs.«01_k».proof.Proof.Gen.WinGradRefIdeal
public import proofs.«01_k».proof.Proof.Gen.WinGradIdeal.Value
public import proofs.«01_k».proof.Proof.Gen.WinGradRefIdeal.Run
public import proofs.«01_k».proof.Proof.Gen.WinGradRefIdeal.Read
public import proofs.«01_k».proof.Proof.WinGrad.Claim
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam.Claim
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumRefIdeal
public import proofs.«01_k».proof.Proof.Gen.ChipSumIdeal.Value
public import proofs.«01_k».proof.Proof.Gen.ChipSumRefIdeal.Run
public import proofs.«01_k».proof.Proof.Gen.ChipSumRefIdeal.Read
public import proofs.«01_k».proof.Proof.ChipSum.Claim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.On_other_columns
public import proofs.«01_k».proof.Proof.Gen.ProjIdeal.Value
public import proofs.«01_k».proof.Proof.Gen.ProjRefIdeal.Run
public import proofs.«01_k».proof.Proof.Gen.ProjRefIdeal.Read
public import proofs.«01_k».proof.Proof.Proj.Claim
public import proofs.«01_k».proof.Proof.Gen.SsmBwd
public import proofs.«01_k».proof.Proof.Gen.SsmBwdIdeal
public import proofs.«01_k».proof.Proof.SsmBwd.Claim
public import Idealize.ShloMosaic.Adequacy
public import Idealize.ShloMosaic.Init

@[expose] public section

noncomputable section

namespace Cert.Proof

open Idealize.ShloMosaic Idealize.SL.Sem Cert.Tail

theorem claim : Cert.Claim := ⟨Cert.Tail.Gen.facts, Cert.TailIdeal.Gen.facts, Cert.TailRefIdeal.Gen.facts, Cert.Ssm.Gen.facts, Cert.SsmIdeal.Gen.facts, Cert.SsmRefIdeal.Gen.facts,
  Cert.XGrad.Gen.facts, Cert.XGradIdeal.Gen.facts, Cert.XGradRefIdeal.Gen.facts,
  Cert.Prep.Gen.facts, Cert.PrepIdeal.Gen.facts, Cert.PrepRefIdeal.Gen.facts,
  Cert.WinGrad.Gen.facts, Cert.WinGradIdeal.Gen.facts, Cert.WinGradRefIdeal.Gen.facts,
  Cert.Adam.Gen.facts, Cert.AdamIdeal.Gen.facts, Cert.AdamRefIdeal.Gen.facts,
  Cert.ChipSum.Gen.facts, Cert.ChipSumIdeal.Gen.facts, Cert.ChipSumRefIdeal.Gen.facts,
  Cert.Proj.Gen.facts, Cert.ProjIdeal.Gen.facts, Cert.ProjRefIdeal.Gen.facts,
  Cert.SsmBwd.Gen.facts, Cert.SsmBwdIdeal.Gen.facts,
  Cert.Pre_finite.Gen.facts, Cert.Pre_stable.Gen.facts, Cert.Pre_bounded.Gen.facts, Cert.Pre_whole.Gen.facts, Cert.On_gates.Gen.facts, Cert.On_own_columns.Gen.facts, Cert.On_other_columns.Gen.facts,
  fun m ρ _ => Cert.Tail.Gen.frame m ρ, fun m ρ _ => Cert.TailIdeal.Gen.frame m ρ, fun m ρ _ => Cert.TailIdeal.Gen.frame m ρ,
  Cert.TailClaim.frame_ref, fun m ρ _ => Cert.TailClaim.frame_ref m ρ trivial,
  fun m ρ _ => Cert.Ssm.Gen.frame m ρ, fun m ρ _ => Cert.SsmIdeal.Gen.frame m ρ, fun m ρ _ => Cert.SsmIdeal.Gen.frame m ρ,
  Cert.SsmClaim.frame_ref, fun m ρ _ => Cert.SsmClaim.frame_ref m ρ trivial,
  fun m ρ _ => Cert.XGrad.Gen.frame m ρ, fun m ρ _ => Cert.XGradIdeal.Gen.frame m ρ, fun m ρ _ => Cert.XGradIdeal.Gen.frame m ρ,
  Cert.XGradClaim.frame_ref, fun m ρ _ => Cert.XGradClaim.frame_ref m ρ trivial,
  fun m ρ _ => Cert.Prep.Gen.frame m ρ, fun m ρ _ => Cert.PrepIdeal.Gen.frame m ρ, fun m ρ _ => Cert.PrepIdeal.Gen.frame m ρ,
  Cert.PrepClaim.frame_ref, fun m ρ _ => Cert.PrepClaim.frame_ref m ρ trivial,
  fun m ρ _ => Cert.WinGrad.Gen.frame m ρ, fun m ρ _ => Cert.WinGradIdeal.Gen.frame m ρ, Cert.WinGradClaim.frame_ref,
  fun m ρ _ => Cert.Adam.Gen.frame m ρ, fun m ρ _ => Cert.AdamIdeal.Gen.frame m ρ, Cert.AdamClaim.frame_ref,
  fun m ρ _ => Cert.ChipSum.Gen.frame m ρ, fun m ρ _ => Cert.ChipSumIdeal.Gen.frame m ρ, Cert.ChipSumClaim.frame_ref,
  fun m ρ _ => Cert.Proj.Gen.frame m ρ, fun m ρ _ => Cert.ProjIdeal.Gen.frame m ρ, Cert.ProjClaim.frame_ref,
  Cert.SsmBwdRun.frame_kernel, fun m ρ _ => Cert.SsmBwdRun.frame_run m ρ,
  trivial, Cert.TailClaim.algebraic, trivial, Cert.SsmClaim.algebraic, trivial, Cert.XGradClaim.algebraic, trivial, Cert.PrepClaim.algebraic,
  trivial, Cert.WinGradClaim.algebraic, trivial, Cert.AdamClaim.algebraic, trivial, Cert.ChipSumClaim.algebraic, trivial, Cert.ProjClaim.algebraic, trivial⟩

end Cert.Proof

end
